-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scores [hPre_finite_scores : Cert.Pre_finite_scores.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scores [hPre_finite_scores : Cert.Pre_finite_scores.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_mem [hPre_finite_mem : Cert.Pre_finite_mem.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_mem.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite_mem.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_mem [hPre_finite_mem : Cert.Pre_finite_mem.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_mem.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite_mem.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_sample [hPre_finite_sample : Cert.Pre_finite_sample.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_sample.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).1 = (fun _ => 1#1)
    ∧ (Cert.Pre_finite_sample.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_sample [hPre_finite_sample : Cert.Pre_finite_sample.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_sample.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).1 = (fun _ => 1#1)
    ∧ (Cert.Pre_finite_sample.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_sample_scores [hPre_finite_sample_scores : Cert.Pre_finite_sample_scores.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_sample_scores.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).1 = (fun _ => 1#1)
    ∧ (Cert.Pre_finite_sample_scores.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_sample_scores [hPre_finite_sample_scores : Cert.Pre_finite_sample_scores.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_sample_scores.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).1 = (fun _ => 1#1)
    ∧ (Cert.Pre_finite_sample_scores.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_sample_inputs [hPre_finite_sample_inputs : Cert.Pre_finite_sample_inputs.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_sample_inputs.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).1 = (fun _ => 1#1)
    ∧ (Cert.Pre_finite_sample_inputs.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_sample_inputs [hPre_finite_sample_inputs : Cert.Pre_finite_sample_inputs.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_sample_inputs.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).1 = (fun _ => 1#1)
    ∧ (Cert.Pre_finite_sample_inputs.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_scores [hKernel3Ideal : Cert.Kernel3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scores m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_scores [hReference3Ideal : Cert.Reference3Ideal.Facts] [hPre_finite_scores : Cert.Pre_finite_scores.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scores m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_mem [hKernel6Ideal : Cert.Kernel6Ideal.Facts] [hPre_finite_mem : Cert.Pre_finite_mem.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_mem m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_mem [hReference6Ideal : Cert.Reference6Ideal.Facts] [hPre_finite_mem : Cert.Pre_finite_mem.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_mem m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_sample [hKernel7Ideal : Cert.Kernel7Ideal.Facts] [hPre_finite_sample : Cert.Pre_finite_sample.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_sample m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_sample [hReference7Ideal : Cert.Reference7Ideal.Facts] [hPre_finite_sample : Cert.Pre_finite_sample.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_sample m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_sample_scores [hKernel8Ideal : Cert.Kernel8Ideal.Facts] [hPre_finite_sample_scores : Cert.Pre_finite_sample_scores.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_sample_scores m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_sample_scores [hReference8Ideal : Cert.Reference8Ideal.Facts] [hPre_finite_sample_scores : Cert.Pre_finite_sample_scores.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_sample_scores m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite_sample_inputs [hKernel9Ideal : Cert.Kernel9Ideal.Facts] [hPre_finite_sample_inputs : Cert.Pre_finite_sample_inputs.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_sample_inputs m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite_sample_inputs [hReference9Ideal : Cert.Reference9Ideal.Facts] [hPre_finite_sample_inputs : Cert.Pre_finite_sample_inputs.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_sample_inputs m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v145) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal_pre_finite_scores [hKernel3Ideal : Cert.Kernel3Ideal.Facts] [hReference3Ideal : Cert.Reference3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scores m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)) (v4 : (c : Dev Cert.Kernel4Ideal.nD) → Buf (Elt Ideal) ((c.tc : Thread Cert.Kernel4Ideal.nD Cert.Kernel4Ideal.τ).loc Cert.Kernel4Ideal.main_v1_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_v1_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v120) = v0 c
          ∧ r.2.mem ((c.tc : Thread Cert.Reference4Ideal.nD Cert.Reference4Ideal.τ).loc Cert.Reference4Ideal.main_v121) = v1 c
          ∧ r.2.mem ((c.tc : Thread Cert.Reference4Ideal.nD Cert.Reference4Ideal.τ).loc Cert.Reference4Ideal.main_v122) = v2 c
          ∧ r.2.mem ((c.tc : Thread Cert.Reference4Ideal.nD Cert.Reference4Ideal.τ).loc Cert.Reference4Ideal.main_v123) = v3 c
          ∧ r.2.mem ((c.tc : Thread Cert.Reference4Ideal.nD Cert.Reference4Ideal.τ).loc Cert.Reference4Ideal.main_v124) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v145) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15))

def preserves_Kernel6_Kernel6Ideal : Prop :=
  True

def algebraic_Kernel6Ideal_Reference6Ideal_pre_finite_mem [hKernel6Ideal : Cert.Kernel6Ideal.Facts] [hReference6Ideal : Cert.Reference6Ideal.Facts] [hPre_finite_mem : Cert.Pre_finite_mem.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_mem m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_sample [hKernel7Ideal : Cert.Kernel7Ideal.Facts] [hReference7Ideal : Cert.Reference7Ideal.Facts] [hPre_finite_sample : Cert.Pre_finite_sample.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_sample m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite_sample_scores [hKernel8Ideal : Cert.Kernel8Ideal.Facts] [hReference8Ideal : Cert.Reference8Ideal.Facts] [hPre_finite_sample_scores : Cert.Pre_finite_sample_scores.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_sample_scores m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite_sample_inputs [hKernel9Ideal : Cert.Kernel9Ideal.Facts] [hReference9Ideal : Cert.Reference9Ideal.Facts] [hPre_finite_sample_inputs : Cert.Pre_finite_sample_inputs.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_sample_inputs m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v87) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_inputs : Cert.Pre_finite_inputs.Facts) (hPre_finite_scores : Cert.Pre_finite_scores.Facts) (hPre_finite_mem : Cert.Pre_finite_mem.Facts) (hPre_finite_sample : Cert.Pre_finite_sample.Facts) (hPre_finite_sample_scores : Cert.Pre_finite_sample_scores.Facts) (hPre_finite_sample_inputs : Cert.Pre_finite_sample_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_scores (hKernel3Ideal := hKernel3Ideal) (hPre_finite_scores := hPre_finite_scores)
    ∧ quiescent_Reference3Ideal (hReference3Ideal := hReference3Ideal)
    ∧ quiescent_Reference3Ideal_pre_finite_scores (hReference3Ideal := hReference3Ideal) (hPre_finite_scores := hPre_finite_scores)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_mem (hKernel6Ideal := hKernel6Ideal) (hPre_finite_mem := hPre_finite_mem)
    ∧ quiescent_Reference6Ideal (hReference6Ideal := hReference6Ideal)
    ∧ quiescent_Reference6Ideal_pre_finite_mem (hReference6Ideal := hReference6Ideal) (hPre_finite_mem := hPre_finite_mem)
    ∧ quiescent_Kernel7 (hKernel7 := hKernel7)
    ∧ quiescent_Kernel7Ideal (hKernel7Ideal := hKernel7Ideal)
    ∧ quiescent_Kernel7Ideal_pre_finite_sample (hKernel7Ideal := hKernel7Ideal) (hPre_finite_sample := hPre_finite_sample)
    ∧ quiescent_Reference7Ideal (hReference7Ideal := hReference7Ideal)
    ∧ quiescent_Reference7Ideal_pre_finite_sample (hReference7Ideal := hReference7Ideal) (hPre_finite_sample := hPre_finite_sample)
    ∧ quiescent_Kernel8 (hKernel8 := hKernel8)
    ∧ quiescent_Kernel8Ideal (hKernel8Ideal := hKernel8Ideal)
    ∧ quiescent_Kernel8Ideal_pre_finite_sample_scores (hKernel8Ideal := hKernel8Ideal) (hPre_finite_sample_scores := hPre_finite_sample_scores)
    ∧ quiescent_Reference8Ideal (hReference8Ideal := hReference8Ideal)
    ∧ quiescent_Reference8Ideal_pre_finite_sample_scores (hReference8Ideal := hReference8Ideal) (hPre_finite_sample_scores := hPre_finite_sample_scores)
    ∧ quiescent_Kernel9 (hKernel9 := hKernel9)
    ∧ quiescent_Kernel9Ideal (hKernel9Ideal := hKernel9Ideal)
    ∧ quiescent_Kernel9Ideal_pre_finite_sample_inputs (hKernel9Ideal := hKernel9Ideal) (hPre_finite_sample_inputs := hPre_finite_sample_inputs)
    ∧ quiescent_Reference9Ideal (hReference9Ideal := hReference9Ideal)
    ∧ quiescent_Reference9Ideal_pre_finite_sample_inputs (hReference9Ideal := hReference9Ideal) (hPre_finite_sample_inputs := hPre_finite_sample_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_scores (hKernel3Ideal := hKernel3Ideal) (hReference3Ideal := hReference3Ideal) (hPre_finite_scores := hPre_finite_scores)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_mem (hKernel6Ideal := hKernel6Ideal) (hReference6Ideal := hReference6Ideal) (hPre_finite_mem := hPre_finite_mem)
    ∧ preserves_Kernel7_Kernel7Ideal
    ∧ algebraic_Kernel7Ideal_Reference7Ideal_pre_finite_sample (hKernel7Ideal := hKernel7Ideal) (hReference7Ideal := hReference7Ideal) (hPre_finite_sample := hPre_finite_sample)
    ∧ preserves_Kernel8_Kernel8Ideal
    ∧ algebraic_Kernel8Ideal_Reference8Ideal_pre_finite_sample_scores (hKernel8Ideal := hKernel8Ideal) (hReference8Ideal := hReference8Ideal) (hPre_finite_sample_scores := hPre_finite_sample_scores)
    ∧ preserves_Kernel9_Kernel9Ideal
    ∧ algebraic_Kernel9Ideal_Reference9Ideal_pre_finite_sample_inputs (hKernel9Ideal := hKernel9Ideal) (hReference9Ideal := hReference9Ideal) (hPre_finite_sample_inputs := hPre_finite_sample_inputs)
-- ==== Pre_finite_inputs.lean ====
abbrev S16384x1536 : Shape := ⟨2, ![16384, 1536]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S16384x1536 : S_.BroadcastsInDim S16384x1536 (![] : Fin 0 → Fin S16384x1536.rank)
  bcast_S_S4x64 : S_.BroadcastsInDim S4x64 (![] : Fin 0 → Fin S4x64.rank)

variable [Facts]

def fn {F : FTy → Type} [FloatOps F] (main_arg0 : FVec F S16384x1536 .bf16) (main_arg1 : FVec F S4x64 .f32) (main_arg2 : FVec F S128 .f32) : IVec S16384x1536 1 × IVec S4x64 1 :=
  let main_v0 : FVec F S16384x1536 .f32 := (extf .f32 · bitsLt_bf16_f32) main_arg0
  let main_v1 : FVec F S16384x1536 .f32 := Host.absf main_v0
  let main_cst : FVec F S_ .f32 := constant S_ .f32 0x7F800000#32
  let main_v2 : FVec F S16384x1536 .f32 := broadcastInDim S16384x1536 ![] bcast_S_S16384x1536 main_cst
  let main_v3 : IVec S16384x1536 1 := cmpf .olt main_v1 main_v2
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  (main_v3, main_v6)
-- ==== Pre_finite_mem.lean ====
abbrev S16384x512 : Shape := ⟨2, ![16384, 512]⟩
abbrev S1024x512 : Shape := ⟨2, ![1024, 512]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S1024x512 : S_.BroadcastsInDim S1024x512 (![] : Fin 0 → Fin S1024x512.rank)

variable [Facts]

def fn {F : FTy → Type} [FloatOps F] (main_arg0 : FVec F S16384x512 .bf16) (main_arg1 : FVec F S1024x512 .bf16) (main_arg2 : FVec F S1024x512 .bf16) : IVec S16384x512 1 × IVec S1024x512 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S1024x512 .f32 := (extf .f32 · bitsLt_bf16_f32) main_arg1
  let main_v5 : FVec F S1024x512 .f32 := Host.absf main_v4
  let main_cst_0 : FVec F S_ .f32 := constant S_ .f32 0x7F800000#32
  let main_v6 : FVec F S1024x512 .f32 := broadcastInDim S1024x512 ![] bcast_S_S1024x512 main_cst_0
  let main_v7 : IVec S1024x512 1 := cmpf .olt main_v5 main_v6
  (main_v3, main_v7)
-- ==== Pre_finite_sample.lean ====
abbrev S32768x512 : Shape := ⟨2, ![32768, 512]⟩
abbrev S1024x512 : Shape := ⟨2, ![1024, 512]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  bcast_S_S1024x512 : S_.BroadcastsInDim S1024x512 (![] : Fin 0 → Fin S1024x512.rank)

variable [Facts]

def fn {F : FTy → Type} [FloatOps F] (main_arg0 : FVec F S32768x512 .bf16) (main_arg1 : FVec F S1024x512 .bf16) (main_arg2 : FVec F S1024x512 .bf16) : IVec S32768x512 1 × IVec S1024x512 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_v4 : FVec F S1024x512 .f32 := (extf .f32 · bitsLt_bf16_f32) main_arg1
  let main_v5 : FVec F S1024x512 .f32 := Host.absf main_v4
  let main_cst_0 : FVec F S_ .f32 := constant S_ .f32 0x7F800000#32
  let main_v6 : FVec F S1024x512 .f32 := broadcastInDim S1024x512 ![] bcast_S_S1024x512 main_cst_0
  let main_v7 : IVec S1024x512 1 := cmpf .olt main_v5 main_v6
  (main_v3, main_v7)
-- ==== Pre_finite_sample_inputs.lean ====
abbrev S32768x1536 : Shape := ⟨2, ![32768, 1536]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S32768x1536 : S_.BroadcastsInDim S32768x1536 (![] : Fin 0 → Fin S32768x1536.rank)
  bcast_S_S4x64 : S_.BroadcastsInDim S4x64 (![] : Fin 0 → Fin S4x64.rank)

variable [Facts]

def fn {F : FTy → Type} [FloatOps F] (main_arg0 : FVec F S32768x1536 .bf16) (main_arg1 : FVec F S4x64 .f32) (main_arg2 : FVec F S128 .f32) : IVec S32768x1536 1 × IVec S4x64 1 :=
  let main_v0 : FVec F S32768x1536 .f32 := (extf .f32 · bitsLt_bf16_f32) main_arg0
  let main_v1 : FVec F S32768x1536 .f32 := Host.absf main_v0
  let main_cst : FVec F S_ .f32 := constant S_ .f32 0x7F800000#32
  let main_v2 : FVec F S32768x1536 .f32 := broadcastInDim S32768x1536 ![] bcast_S_S32768x1536 main_cst
  let main_v3 : IVec S32768x1536 1 := cmpf .olt main_v1 main_v2
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  (main_v3, main_v6)
-- ==== Pre_finite_sample_scores.lean ====
abbrev S32768x512 : Shape := ⟨2, ![32768, 512]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)

variable [Facts]

def fn {F : FTy → Type} [FloatOps F] (main_arg0 : FVec F S32768x512 .bf16) (main_arg1 : FVec F S32768x512 .bf16) (main_arg2 : FVec F S32768x512 .bf16) : IVec S32768x512 1 × IVec S32768x512 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_v4 : FVec F S32768x512 .f32 := (extf .f32 · bitsLt_bf16_f32) main_arg1
  let main_v5 : FVec F S32768x512 .f32 := Host.absf main_v4
  let main_cst_0 : FVec F S_ .f32 := constant S_ .f32 0x7F800000#32
  let main_v6 : FVec F S32768x512 .f32 := broadcastInDim S32768x512 ![] bcast_S_S32768x512 main_cst_0
  let main_v7 : IVec S32768x512 1 := cmpf .olt main_v5 main_v6
  (main_v3, main_v7)
-- ==== Pre_finite_scores.lean ====
abbrev S16384x512 : Shape := ⟨2, ![16384, 512]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)

variable [Facts]

def fn {F : FTy → Type} [FloatOps F] (main_arg0 : FVec F S16384x512 .bf16) (main_arg1 : FVec F S16384x512 .bf16) (main_arg2 : FVec F S16384x512 .bf16) : IVec S16384x512 1 × IVec S16384x512 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := (extf .f32 · bitsLt_bf16_f32) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  (main_v3, main_v7)
-- ==== Kernel.lean ====
abbrev S16384x1536 : Shape := ⟨2, ![16384, 1536]⟩
abbrev S4x64 : Shape := ⟨2, ![4, 64]⟩
abbrev S128 : Shape := ⟨1, ![128]⟩
abbrev S4 : Shape := ⟨1, ![4]⟩
abbrev S1x128 : Shape := ⟨2, ![1, 128]⟩
abbrev S16384x512 : Shape := ⟨2, ![16384, 512]⟩
abbrev S256x128 : Shape := ⟨2, ![256, 128]⟩
abbrev S4096x128 : Shape := ⟨2, ![4096, 128]⟩
abbrev S2x256x1 : Shape := ⟨3, ![2, 256, 1]⟩
abbrev S2x256x128 : Shape := ⟨3, ![2, 256, 128]⟩
abbrev S1 : Shape := ⟨1, ![1]⟩
abbrev S256x512 : Shape := ⟨2, ![256, 512]⟩
abbrev S512x128 : Shape := ⟨2, ![512, 128]⟩
abbrev S1x256x1 : Shape := ⟨3, ![1, 256, 1]⟩
abbrev S256x1 : Shape := ⟨2, ![256, 1]⟩
abbrev S256 : Shape := ⟨1, ![256]⟩
abbrev S1x256x128 : Shape := ⟨3, ![1, 256, 128]⟩
abbrev S1x64 : Shape := ⟨2, ![1, 64]⟩
abbrev S1x1 : Shape := ⟨2, ![1, 1]⟩

abbrev nBuf : Space → Nat
  | .hbm => 6
  | .vmem => 13
  | .smem => 1
  | _ => 0

abbrev bufTy : (tb : Table) → Fin (tcTables nBuf tb) → BufTy
  | .hbm, ⟨0, _⟩ => ⟨S16384x1536, .bf16⟩
  | .hbm, ⟨1, _⟩ => ⟨S4x64, .f32⟩
  | .hbm, ⟨2, _⟩ => ⟨S128, .f32⟩
  | .hbm, ⟨3, _⟩ => ⟨S4, .f32⟩
  | .hbm, ⟨4, _⟩ => ⟨S1x128, .f32⟩
  | .hbm, ⟨5, _⟩ => ⟨S16384x512, .bf16⟩
  | .local _ .vmem, ⟨0, _⟩ => ⟨S4x64, .f32⟩
  | .local _ .vmem, ⟨1, _⟩ => ⟨S1x128, .f32⟩
  | .local _ .vmem, ⟨2, _⟩ => ⟨S256x128, .bf16⟩
  | .local _ .vmem, ⟨3, _⟩ => ⟨S256x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S2x256x1, .f32⟩
  | .local _ .vmem, ⟨11, _⟩ => ⟨S2x256x1, .f32⟩
  | .local _ .vmem, ⟨12, _⟩ => ⟨S2x256x128, .f32⟩
  | .local _ .smem, ⟨0, _⟩ => ⟨S4, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 4, 16], ![false, false, false]⟩

def k0_off1 (i : grid0.Coords) : Fin 1 → Nat :=
  let arg1 : BitVec 32 := BitVec.ofNat 32 (i 1).val
  let v23 : Index := Scalar.indexCast arg1
  ![v23.toNat]
@[reducible] def k0_t1_loop : Scf.Loop 32 :=
  let c0_i32 : BitVec 32 := 0#32
  let c8_i32 : BitVec 32 := 8#32
  let v29 : BitVec 32 := Scalar.addi c0_i32 c8_i32
  let c1_i32 : BitVec 32 := 1#32
  ⟨c0_i32, v29, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v79 : BitVec 32 := Scalar.muli arg13 c512_i32
  v79
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v79 : BitVec 32 := Scalar.muli arg13 c512_i32
  let v80 : BitVec 32 := v79
  let v81 : Index := Scalar.indexCast v80
  let c0_40 : Index := 0#32
  ![v81.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
abbrev S16384x1536 : Shape := ⟨2, ![16384, 1536]⟩
abbrev S4x64 : Shape := ⟨2, ![4, 64]⟩
abbrev S128 : Shape := ⟨1, ![128]⟩
abbrev S4 : Shape := ⟨1, ![4]⟩
abbrev S1x128 : Shape := ⟨2, ![1, 128]⟩
abbrev S16384x512 : Shape := ⟨2, ![16384, 512]⟩
abbrev S256x128 : Shape := ⟨2, ![256, 128]⟩
abbrev S4096x128 : Shape := ⟨2, ![4096, 128]⟩
abbrev S2x256x1 : Shape := ⟨3, ![2, 256, 1]⟩
abbrev S2x256x128 : Shape := ⟨3, ![2, 256, 128]⟩
abbrev S1 : Shape := ⟨1, ![1]⟩
abbrev S256x512 : Shape := ⟨2, ![256, 512]⟩
abbrev S512x128 : Shape := ⟨2, ![512, 128]⟩
abbrev S1x256x1 : Shape := ⟨3, ![1, 256, 1]⟩
abbrev S256x1 : Shape := ⟨2, ![256, 1]⟩
abbrev S256 : Shape := ⟨1, ![256]⟩
abbrev S1x256x128 : Shape := ⟨3, ![1, 256, 128]⟩
abbrev S1x64 : Shape := ⟨2, ![1, 64]⟩
abbrev S1x1 : Shape := ⟨2, ![1, 1]⟩

abbrev nBuf : Space → Nat
  | .hbm => 6
  | .vmem => 13
  | .smem => 1
  | _ => 0

abbrev bufTy : (tb : Table) → Fin (tcTables nBuf tb) → BufTy
  | .hbm, ⟨0, _⟩ => ⟨S16384x1536, .bf16⟩
  | .hbm, ⟨1, _⟩ => ⟨S4x64, .f32⟩
  | .hbm, ⟨2, _⟩ => ⟨S128, .f32⟩
  | .hbm, ⟨3, _⟩ => ⟨S4, .f32⟩
  | .hbm, ⟨4, _⟩ => ⟨S1x128, .f32⟩
  | .hbm, ⟨5, _⟩ => ⟨S16384x512, .bf16⟩
  | .local _ .vmem, ⟨0, _⟩ => ⟨S4x64, .f32⟩
  | .local _ .vmem, ⟨1, _⟩ => ⟨S1x128, .f32⟩
  | .local _ .vmem, ⟨2, _⟩ => ⟨S256x128, .bf16⟩
  | .local _ .vmem, ⟨3, _⟩ => ⟨S256x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S2x256x1, .f32⟩
  | .local _ .vmem, ⟨11, _⟩ => ⟨S2x256x1, .f32⟩
  | .local _ .vmem, ⟨12, _⟩ => ⟨S2x256x128, .f32⟩
  | .local _ .smem, ⟨0, _⟩ => ⟨S4, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 4, 16], ![false, false, false]⟩

def k0_off1 (i : grid0.Coords) : Fin 1 → Nat :=
  let arg1 : BitVec 32 := BitVec.ofNat 32 (i 1).val
  let v23 : Index := Scalar.indexCast arg1
  ![v23.toNat]
@[reducible] def k0_t1_loop : Scf.Loop 32 :=
  let c0_i32 : BitVec 32 := 0#32
  let c8_i32 : BitVec 32 := 8#32
  let v29 : BitVec 32 := Scalar.addi c0_i32 c8_i32
  let c1_i32 : BitVec 32 := 1#32
  ⟨c0_i32, v29, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v79 : BitVec 32 := Scalar.muli arg13 c512_i32
  v79
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v79 : BitVec 32 := Scalar.muli arg13 c512_i32
  let v80 : BitVec 32 := v79
  let v81 : Index := Scalar.indexCast v80
  let c0_40 : Index := 0#32
  ![v81.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S16384x1536 : Shape := ⟨2, ![16384, 1536]⟩
abbrev S4x64 : Shape := ⟨2, ![4, 64]⟩
abbrev S128 : Shape := ⟨1, ![128]⟩
abbrev S4x4096x1536 : Shape := ⟨3, ![4, 4096, 1536]⟩
abbrev S4x4096x512 : Shape := ⟨3, ![4, 4096, 512]⟩
abbrev S4x4096x4x2x64 : Shape := ⟨5, ![4, 4096, 4, 2, 64]⟩
abbrev S4x4096x4x128 : Shape := ⟨4, ![4, 4096, 4, 128]⟩
abbrev S1x64 : Shape := ⟨2, ![1, 64]⟩
abbrev S64 : Shape := ⟨1, ![64]⟩
abbrev S_ : Shape := ⟨0, ![]⟩
abbrev S4 : Shape := ⟨1, ![4]⟩
abbrev S4096 : Shape := ⟨1, ![4096]⟩
abbrev S4x2x4x4096x4096 : Shape := ⟨5, ![4, 2, 4, 4096, 4096]⟩
abbrev S4x1x1 : Shape := ⟨3, ![4, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S4x4096x4096 : Shape := ⟨3, ![4, 4096, 4096]⟩
abbrev S1x1x4x4096x4096 : Shape := ⟨5, ![1, 1, 4, 4096, 4096]⟩
abbrev S4x2x4x4096 : Shape := ⟨4, ![4, 2, 4, 4096]⟩
abbrev S4x2x4x4096x1 : Shape := ⟨5, ![4, 2, 4, 4096, 1]⟩
abbrev S4x1x4x4096x4096 : Shape := ⟨5, ![4, 1, 4, 4096, 4096]⟩
abbrev S4x4x4096x4096 : Shape := ⟨4, ![4, 4, 4096, 4096]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S16384x512 : Shape := ⟨2, ![16384, 512]⟩

abbrev nBuf : Space → Nat
  | .hbm => 105
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S4x64, .f32⟩
  | .hbm, ⟨2, _⟩ => ⟨S128, .f32⟩
  | .hbm, ⟨3, _⟩ => ⟨S16384x1536, .f32⟩
  | .hbm, ⟨4, _⟩ => ⟨S4x4096x1536, .f32⟩
  | .hbm, ⟨5, _⟩ => ⟨S4x4096x512, .f32⟩
  | .hbm, ⟨6, _⟩ => ⟨S4x4096x4x2x64, .f32⟩
  | .hbm, ⟨7, _⟩ => ⟨S4x4096x512, .f32⟩
  | .hbm, ⟨8, _⟩ => ⟨S4x4096x4x2x64, .f32⟩
  | .hbm, ⟨9, _⟩ => ⟨S4x4096x512, .f32⟩
  | .hbm, ⟨10, _⟩ => ⟨S4x4096x4x128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S4096, .i32⟩
  | .hbm, ⟨44, _⟩ => ⟨S4x2x4x4096x4096, .f32⟩
  | .hbm, ⟨45, _⟩ => ⟨S4x1x1, .f32⟩
  | .hbm, ⟨46, _⟩ => ⟨S4x1x1, .f32⟩
  | .hbm, ⟨47, _⟩ => ⟨S4096x1, .i32⟩
  | .hbm, ⟨48, _⟩ => ⟨S1x4096, .i32⟩
  | .hbm, ⟨49, _⟩ => ⟨S4096x4096, .i32⟩
  | .hbm, ⟨50, _⟩ => ⟨S4096x4096, .i32⟩
  | .hbm, ⟨51, _⟩ => ⟨S4096x4096, .i32⟩
  | .hbm, ⟨52, _⟩ => ⟨S4096x4096, .i32⟩
  | .hbm, ⟨53, _⟩ => ⟨S4096x4096, .f32⟩
  | .hbm, ⟨54, _⟩ => ⟨S1x4096x4096, .f32⟩
  | .hbm, ⟨55, _⟩ => ⟨S4x4096x4096, .f32⟩
  | .hbm, ⟨56, _⟩ => ⟨S4x4096x4096, .f32⟩
  | .hbm, ⟨57, _⟩ => ⟨S4x4096x4096, .f32⟩
  | .hbm, ⟨58, _⟩ => ⟨S1x1x4x4096x4096, .f32⟩
  | .hbm, ⟨59, _⟩ => ⟨S4x2x4x4096x4096, .f32⟩
  | .hbm, ⟨60, _⟩ => ⟨S4x2x4x4096x4096, .f32⟩
  | .hbm, ⟨61, _⟩ => ⟨S_, .f32⟩
  | .hbm, ⟨62, _⟩ => ⟨S4x2x4x4096, .f32⟩
  | .hbm, ⟨63, _⟩ => ⟨S_, .f32⟩
  | .hbm, ⟨64, _⟩ => ⟨S4x2x4x4096, .f32⟩
  | .hbm, ⟨65, _⟩ => ⟨S4x2x4x4096, .f32⟩
  | .hbm, ⟨66, _⟩ => ⟨S4x2x4x4096x1, .f32⟩
  | .hbm, ⟨67, _⟩ => ⟨S4x2x4x4096x4096, .f32⟩
  | .hbm, ⟨68, _⟩ => ⟨S4x2x4x4096x4096, .f32⟩
  | .hbm, ⟨69, _⟩ => ⟨S4x2x4x4096x4096, .f32⟩
  | .hbm, ⟨70, _⟩ => ⟨S_, .f32⟩
  | .hbm, ⟨71, _⟩ => ⟨S4x2x4x4096, .f32⟩
  | .hbm, ⟨72, _⟩ => ⟨S4x2x4x4096x1, .f32⟩
  | .hbm, ⟨73, _⟩ => ⟨S4x2x4x4096x4096, .f32⟩
  | .hbm, ⟨74, _⟩ => ⟨S4x2x4x4096x4096, .f32⟩
  | .hbm, ⟨75, _⟩ => ⟨S4x1x4x4096x4096, .f32⟩
  | .hbm, ⟨76, _⟩ => ⟨S4x4x4096x4096, .f32⟩
  | .hbm, ⟨77, _⟩ => ⟨S4x1x4x4096x4096, .f32⟩
  | .hbm, ⟨78, _⟩ => ⟨S4x4x4096x4096, .f32⟩
  | .hbm, ⟨79, _⟩ => ⟨S4x4x4096x4096, .f32⟩
  | .hbm, ⟨80, _⟩ => ⟨S4x4x4096x4096, .f32⟩
  | .hbm, ⟨81, _⟩ => ⟨S4x4x4096x4096, .f32⟩
  | .hbm, ⟨82, _⟩ => ⟨S4x4x128x4096, .f32⟩
  | .hbm, ⟨83, _⟩ => ⟨S4x4096x4x128, .f32⟩
  | .hbm, ⟨84, _⟩ => ⟨S4x4096x4x128, .f32⟩
  | .hbm, ⟨85, _⟩ => ⟨S_, .f32⟩
  | .hbm, ⟨86, _⟩ => ⟨S4x4096x4, .f32⟩
  | .hbm, ⟨87, _⟩ => ⟨S4x4096x4x1, .f32⟩
  | .hbm, ⟨88, _⟩ => ⟨S_, .f32⟩
  | .hbm, ⟨89, _⟩ => ⟨S4x4096x4x1, .f32⟩
  | .hbm, ⟨90, _⟩ => ⟨S4x4096x4x1, .f32⟩
  | .hbm, ⟨91, _⟩ => ⟨S_, .f32⟩
  | .hbm, ⟨92, _⟩ => ⟨S4x4096x4x1, .f32⟩
  | .hbm, ⟨93, _⟩ => ⟨S4x4096x4x1, .f32⟩
  | .hbm, ⟨94, _⟩ => ⟨S4x4096x4x1, .f32⟩
  | .hbm, ⟨95, _⟩ => ⟨S4x4096x4x128, .f32⟩
  | .hbm, ⟨96, _⟩ => ⟨S4x4096x4x128, .f32⟩
  | .hbm, ⟨97, _⟩ => ⟨S1x1x1x128, .f32⟩
  | .hbm, ⟨98, _⟩ => ⟨S4x4096x4x128, .f32⟩
  | .hbm, ⟨99, _⟩ => ⟨S4x4096x4x128, .f32⟩
  | .hbm, ⟨100, _⟩ => ⟨S_, .f32⟩
  | .hbm, ⟨101, _⟩ => ⟨S4x4096x4x128, .f32⟩
  | .hbm, ⟨102, _⟩ => ⟨S4x4096x4x128, .f32⟩
  | .hbm, ⟨103, _⟩ => ⟨S16384x512, .f32⟩
  | .hbm, ⟨104, _⟩ => ⟨S16384x512, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_8 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_9 : Ref sig .tc := ⟨.hbm, 85, rfl⟩
abbrev main_v72 : Ref sig .tc := ⟨.hbm, 86, rfl⟩
abbrev main_v73 : Ref sig .tc := ⟨.hbm, 87, rfl⟩
abbrev main_cst_10 : Ref sig .tc := ⟨.hbm, 88, rfl⟩
abbrev main_v74 : Ref sig .tc := ⟨.hbm, 89, rfl⟩
abbrev main_v75 : Ref sig .tc := ⟨.hbm, 90, rfl⟩
abbrev main_cst_11 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_12 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x15520 : Shape := ⟨2, ![1024, 15520]⟩
abbrev S5x1024 : Shape := ⟨2, ![5, 1024]⟩
abbrev S5x512x1024 : Shape := ⟨3, ![5, 512, 1024]⟩
abbrev S1024x1024 : Shape := ⟨2, ![1024, 1024]⟩
abbrev S16384x512 : Shape := ⟨2, ![16384, 512]⟩
abbrev S1024x2560 : Shape := ⟨2, ![1024, 2560]⟩
abbrev S1024x5120 : Shape := ⟨2, ![1024, 5120]⟩
abbrev S1x1024 : Shape := ⟨2, ![1, 1024]⟩
abbrev S5x1x1024 : Shape := ⟨3, ![5, 1, 1024]⟩
abbrev S512x1024 : Shape := ⟨2, ![512, 1024]⟩
abbrev S1024x512 : Shape := ⟨2, ![1024, 512]⟩
abbrev S1x1x1024 : Shape := ⟨3, ![1, 1, 1024]⟩
abbrev S1x512x1024 : Shape := ⟨3, ![1, 512, 1024]⟩
abbrev S512x512 : Shape := ⟨2, ![512, 512]⟩
abbrev S512 : Shape := ⟨1, ![512]⟩
abbrev S512x1 : Shape := ⟨2, ![512, 1]⟩

abbrev nBuf : Space → Nat
  | .hbm => 25
  | .vmem => 37
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x15520, .f32⟩
  | .hbm, ⟨3, _⟩ => ⟨S5x1024, .f32⟩
  | .hbm, ⟨4, _⟩ => ⟨S5x512x1024, .f32⟩
  | .hbm, ⟨5, _⟩ => ⟨S1024x1024, .f32⟩
  | .hbm, ⟨6, _⟩ => ⟨S16384x512, .bf16⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S16384x512, .bf16⟩
  | .hbm, ⟨11, _⟩ => ⟨S16384x512, .bf16⟩
  | .hbm, ⟨12, _⟩ => ⟨S16384x512, .bf16⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S1024x2560, .f32⟩
  | .hbm, ⟨17, _⟩ => ⟨S1024x2560, .bf16⟩
  | .hbm, ⟨18, _⟩ => ⟨S1024x5120, .f32⟩
  | .hbm, ⟨19, _⟩ => ⟨S1024x5120, .bf16⟩
  | .hbm, ⟨20, _⟩ => ⟨S1x1024, .f32⟩
  | .hbm, ⟨21, _⟩ => ⟨S5x1x1024, .f32⟩
  | .hbm, ⟨22, _⟩ => ⟨S5x512x1024, .bf16⟩
  | .hbm, ⟨23, _⟩ => ⟨S1024x1024, .bf16⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1024x1024, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x1024, .f32⟩
  | .local _ .vmem, ⟨33, _⟩ => ⟨S512x1024, .f32⟩
  | .local _ .vmem, ⟨34, _⟩ => ⟨S512x1024, .bf16⟩
  | .local _ .vmem, ⟨35, _⟩ => ⟨S512x1024, .f32⟩
  | .local _ .vmem, ⟨36, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨2, ![32, 5], ![false, false]⟩

def k0_cond6 (i : grid0.Coords) : BitVec 1 :=
  let arg1 : BitVec 32 := BitVec.ofNat 32 (i 1).val
  let c4_i32_28 : BitVec 32 := 4#32
  let v49 : BitVec 1 := Scalar.cmpi .eq arg1 c4_i32_28
  let v50 : BitVec 32 := Scalar.extui v49
  let c0_i32_29 : BitVec 32 := 0#32
  let v51 : BitVec 1 := Scalar.cmpi .ne v50 c0_i32_29
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Kernel2Ideal.lean ====
abbrev S16384x1024 : Shape := ⟨2, ![16384, 1024]⟩
abbrev S1024 : Shape := ⟨1, ![1024]⟩
abbrev S1024x15520 : Shape := ⟨2, ![1024, 15520]⟩
abbrev S5x1024 : Shape := ⟨2, ![5, 1024]⟩
abbrev S5x512x1024 : Shape := ⟨3, ![5, 512, 1024]⟩
abbrev S1024x1024 : Shape := ⟨2, ![1024, 1024]⟩
abbrev S16384x512 : Shape := ⟨2, ![16384, 512]⟩
abbrev S1024x2560 : Shape := ⟨2, ![1024, 2560]⟩
abbrev S1024x5120 : Shape := ⟨2, ![1024, 5120]⟩
abbrev S1x1024 : Shape := ⟨2, ![1, 1024]⟩
abbrev S5x1x1024 : Shape := ⟨3, ![5, 1, 1024]⟩
abbrev S512x1024 : Shape := ⟨2, ![512, 1024]⟩
abbrev S1024x512 : Shape := ⟨2, ![1024, 512]⟩
abbrev S1x1x1024 : Shape := ⟨3, ![1, 1, 1024]⟩
abbrev S1x512x1024 : Shape := ⟨3, ![1, 512, 1024]⟩
abbrev S512x512 : Shape := ⟨2, ![512, 512]⟩
abbrev S512 : Shape := ⟨1, ![512]⟩
abbrev S512x1 : Shape := ⟨2, ![512, 1]⟩

abbrev nBuf : Space → Nat
  | .hbm => 25
  | .vmem => 37
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x15520, .f32⟩
  | .hbm, ⟨3, _⟩ => ⟨S5x1024, .f32⟩
  | .hbm, ⟨4, _⟩ => ⟨S5x512x1024, .f32⟩
  | .hbm, ⟨5, _⟩ => ⟨S1024x1024, .f32⟩
  | .hbm, ⟨6, _⟩ => ⟨S16384x512, .bf16⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S16384x512, .bf16⟩
  | .hbm, ⟨11, _⟩ => ⟨S16384x512, .bf16⟩
  | .hbm, ⟨12, _⟩ => ⟨S16384x512, .bf16⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S1024x2560, .f32⟩
  | .hbm, ⟨17, _⟩ => ⟨S1024x2560, .bf16⟩
  | .hbm, ⟨18, _⟩ => ⟨S1024x5120, .f32⟩
  | .hbm, ⟨19, _⟩ => ⟨S1024x5120, .bf16⟩
  | .hbm, ⟨20, _⟩ => ⟨S1x1024, .f32⟩
  | .hbm, ⟨21, _⟩ => ⟨S5x1x1024, .f32⟩
  | .hbm, ⟨22, _⟩ => ⟨S5x512x1024, .bf16⟩
  | .hbm, ⟨23, _⟩ => ⟨S1024x1024, .bf16⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1024x1024, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x1024, .f32⟩
  | .local _ .vmem, ⟨33, _⟩ => ⟨S512x1024, .f32⟩
  | .local _ .vmem, ⟨34, _⟩ => ⟨S512x1024, .bf16⟩
  | .local _ .vmem, ⟨35, _⟩ => ⟨S512x1024, .f32⟩
  | .local _ .vmem, ⟨36, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨2, ![32, 5], ![false, false]⟩

def k0_cond6 (i : grid0.Coords) : BitVec 1 :=
  let arg1 : BitVec 32 := BitVec.ofNat 32 (i 1).val
  let c4_i32_28 : BitVec 32 := 4#32
  let v49 : BitVec 1 := Scalar.cmpi .eq arg1 c4_i32_28
  let v50 : BitVec 32 := Scalar.extui v49
  let c0_i32_29 : BitVec 32 := 0#32
  let v51 : BitVec 1 := Scalar.cmpi .ne v50 c0_i32_29
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Reference2Ideal.lean ====
abbrev S16384x1024 : Shape := ⟨2, ![16384, 1024]⟩
abbrev S1024 : Shape := ⟨1, ![1024]⟩
abbrev S1024x15520 : Shape := ⟨2, ![1024, 15520]⟩
abbrev S5x1024 : Shape := ⟨2, ![5, 1024]⟩
abbrev S5x512x1024 : Shape := ⟨3, ![5, 512, 1024]⟩
abbrev S1024x1024 : Shape := ⟨2, ![1024, 1024]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x2560 : Shape := ⟨2, ![1024, 2560]⟩
abbrev S16384x2560 : Shape := ⟨2, ![16384, 2560]⟩
abbrev S1024x5120 : Shape := ⟨2, ![1024, 5120]⟩
abbrev S16384x5120 : Shape := ⟨2, ![16384, 5120]⟩
abbrev S1x16384x512 : Shape := ⟨3, ![1, 16384, 512]⟩
abbrev S3x16384x512 : Shape := ⟨3, ![3, 16384, 512]⟩
abbrev S1x512x1024 : Shape := ⟨3, ![1, 512, 1024]⟩
abbrev S512x1024 : Shape := ⟨2, ![512, 1024]⟩

abbrev nBuf : Space → Nat
  | .hbm => 220
  | .vmem => 0
  | .smem => 0
  | _ => 0

abbrev hbmTy0_0 (i : Nat) : BufTy := match i % 128 with
  | 0 => ⟨S16384x1024, .f32⟩
  | 1 => ⟨S1024, .f32⟩
  | 2 => ⟨S1024x15520, .f32⟩
  | 3 => ⟨S5x1024, .f32⟩
  | 4 => ⟨S5x512x1024, .f32⟩
  | 5 => ⟨S1024x1024, .f32⟩
  | 6 => ⟨S16384x512, .bf16⟩
  | 7 => ⟨S16384x512, .bf16⟩
  | 8 => ⟨S16384x512, .bf16⟩
  | 9 => ⟨S16384x512, .bf16⟩
  | 10 => ⟨S16384x512, .bf16⟩
  | 11 => ⟨S16384x512, .bf16⟩
  | 12 => ⟨S16384x512, .bf16⟩
  | 13 => ⟨S16384x512, .f32⟩
  | 14 => ⟨S16384x512, .f32⟩
  | 15 => ⟨S16384x512, .f32⟩
  | 16 => ⟨S16384x1024, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x1, .f32⟩
  | 27 => ⟨S16384x1024, .f32⟩
  | 28 => ⟨S16384x1024, .f32⟩
  | 29 => ⟨S1x1024, .f32⟩
  | 30 => ⟨S16384x1024, .f32⟩
  | 31 => ⟨S16384x1024, .f32⟩
  | 32 => ⟨S1024x2560, .f32⟩
  | 33 => ⟨S16384x2560, .f32⟩
  | 34 => ⟨S1024x5120, .f32⟩
  | 35 => ⟨S16384x5120, .f32⟩
  | 36 => ⟨S1x16384x512, .f32⟩
  | 37 => ⟨S1x16384x512, .f32⟩
  | 38 => ⟨S1x16384x512, .f32⟩
  | 39 => ⟨S3x16384x512, .f32⟩
  | 40 => ⟨S_, .f32⟩
  | 41 => ⟨S16384x512, .f32⟩
  | 42 => ⟨S_, .f32⟩
  | 43 => ⟨S16384x512, .f32⟩
  | 44 => ⟨S16384x512, .f32⟩
  | 45 => ⟨S1x16384x512, .f32⟩
  | 46 => ⟨S3x16384x512, .f32⟩
  | 47 => ⟨S3x16384x512, .f32⟩
  | 48 => ⟨S3x16384x512, .f32⟩
  | 49 => ⟨S_, .f32⟩
  | 50 => ⟨S16384x512, .f32⟩
  | 51 => ⟨S1x16384x512, .f32⟩
  | 52 => ⟨S3x16384x512, .f32⟩
  | 53 => ⟨S3x16384x512, .f32⟩
  | 54 => ⟨S1x16384x512, .bf16⟩
  | 55 => ⟨S1x16384x512, .bf16⟩
  | 56 => ⟨S1x16384x512, .bf16⟩
  | 57 => ⟨S3x16384x512, .bf16⟩
  | 58 => ⟨S3x16384x512, .f32⟩
  | 59 => ⟨S3x16384x512, .f32⟩
  | 60 => ⟨S_, .f32⟩
  | 61 => ⟨S16384x512, .f32⟩
  | 62 => ⟨S_, .f32⟩
  | 63 => ⟨S16384x1024, .f32⟩
  | 64 => ⟨S16384x512, .f32⟩
  | 65 => ⟨S16384x512, .f32⟩
  | 66 => ⟨S16384x512, .f32⟩
  | 67 => ⟨S16384x512, .f32⟩
  | 68 => ⟨S16384x512, .f32⟩
  | 69 => ⟨S16384x512, .f32⟩
  | 70 => ⟨S16384x512, .f32⟩
  | 71 => ⟨S_, .f32⟩
  | 72 => ⟨S16384x512, .f32⟩
  | 73 => ⟨S16384x512, .f32⟩
  | 74 => ⟨S_, .f32⟩
  | 75 => ⟨S16384x512, .f32⟩
  | 76 => ⟨S16384x512, .f32⟩
  | 77 => ⟨S16384x512, .f32⟩
  | 78 => ⟨S16384x1024, .f32⟩
  | 79 => ⟨S1x1024, .f32⟩
  | 80 => ⟨S1024, .f32⟩
  | 81 => ⟨S1x1024, .f32⟩
  | 82 => ⟨S16384x1024, .f32⟩
  | 83 => ⟨S16384x1024, .f32⟩
  | 84 => ⟨S16384x1024, .f32⟩
  | 85 => ⟨S16384x1024, .f32⟩
  | 86 => ⟨S_, .f32⟩
  | 87 => ⟨S16384x1024, .f32⟩
  | 88 => ⟨S16384x1024, .f32⟩
  | 89 => ⟨S_, .f32⟩
  | 90 => ⟨S16384x1024, .f32⟩
  | 91 => ⟨S16384x1024, .f32⟩
  | 92 => ⟨S16384x512, .f32⟩
  | 93 => ⟨S1x512x1024, .f32⟩
  | 94 => ⟨S512x1024, .f32⟩
  | 95 => ⟨S16384x1024, .f32⟩
  | 96 => ⟨S16384x1024, .f32⟩
  | 97 => ⟨S16384x1024, .f32⟩
  | 98 => ⟨S16384x512, .f32⟩
  | 99 => ⟨S16384x512, .f32⟩
  | 100 => ⟨S16384x512, .f32⟩
  | 101 => ⟨S_, .f32⟩
  | 102 => ⟨S16384x512, .f32⟩
  | 103 => ⟨S16384x512, .f32⟩
  | 104 => ⟨S_, .f32⟩
  | 105 => ⟨S16384x512, .f32⟩
  | 106 => ⟨S16384x512, .f32⟩
  | 107 => ⟨S16384x512, .f32⟩
  | 108 => ⟨S16384x1024, .f32⟩
  | 109 => ⟨S1x1024, .f32⟩
  | 110 => ⟨S1024, .f32⟩
  | 111 => ⟨S1x1024, .f32⟩
  | 112 => ⟨S16384x1024, .f32⟩
  | 113 => ⟨S16384x1024, .f32⟩
  | 114 => ⟨S16384x1024, .f32⟩
  | 115 => ⟨S16384x1024, .f32⟩
  | 116 => ⟨S_, .f32⟩
  | 117 => ⟨S16384x1024, .f32⟩
  | 118 => ⟨S16384x1024, .f32⟩
  | 119 => ⟨S_, .f32⟩
  | 120 => ⟨S16384x1024, .f32⟩
  | 121 => ⟨S16384x1024, .f32⟩
  | 122 => ⟨S16384x512, .f32⟩
  | 123 => ⟨S1x512x1024, .f32⟩
  | 124 => ⟨S512x1024, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x512, .f32⟩
  | 1 => ⟨S16384x512, .f32⟩
  | 2 => ⟨S16384x512, .f32⟩
  | 3 => ⟨S_, .f32⟩
  | 4 => ⟨S16384x512, .f32⟩
  | 5 => ⟨S16384x512, .f32⟩
  | 6 => ⟨S_, .f32⟩
  | 7 => ⟨S16384x512, .f32⟩
  | 8 => ⟨S16384x512, .f32⟩
  | 9 => ⟨S16384x512, .f32⟩
  | 10 => ⟨S16384x1024, .f32⟩
  | 11 => ⟨S1x1024, .f32⟩
  | 12 => ⟨S1024, .f32⟩
  | 13 => ⟨S1x1024, .f32⟩
  | 14 => ⟨S16384x1024, .f32⟩
  | 15 => ⟨S16384x1024, .f32⟩
  | 16 => ⟨S16384x1024, .f32⟩
  | 17 => ⟨S16384x1024, .f32⟩
  | 18 => ⟨S_, .f32⟩
  | 19 => ⟨S16384x1024, .f32⟩
  | 20 => ⟨S16384x1024, .f32⟩
  | 21 => ⟨S_, .f32⟩
  | 22 => ⟨S16384x1024, .f32⟩
  | 23 => ⟨S16384x1024, .f32⟩
  | 24 => ⟨S16384x512, .f32⟩
  | 25 => ⟨S1x512x1024, .f32⟩
  | 26 => ⟨S512x1024, .f32⟩
  | 27 => ⟨S16384x1024, .f32⟩
  | 28 => ⟨S16384x1024, .f32⟩
  | 29 => ⟨S16384x1024, .f32⟩
  | 30 => ⟨S16384x512, .f32⟩
  | 31 => ⟨S16384x512, .f32⟩
  | 32 => ⟨S16384x512, .f32⟩
  | 33 => ⟨S_, .f32⟩
  | 34 => ⟨S16384x512, .f32⟩
  | 35 => ⟨S16384x512, .f32⟩
  | 36 => ⟨S_, .f32⟩
  | 37 => ⟨S16384x512, .f32⟩
  | 38 => ⟨S16384x512, .f32⟩
  | 39 => ⟨S16384x512, .f32⟩
  | 40 => ⟨S16384x1024, .f32⟩
  | 41 => ⟨S1x1024, .f32⟩
  | 42 => ⟨S1024, .f32⟩
  | 43 => ⟨S1x1024, .f32⟩
  | 44 => ⟨S16384x1024, .f32⟩
  | 45 => ⟨S16384x1024, .f32⟩
  | 46 => ⟨S16384x1024, .f32⟩
  | 47 => ⟨S16384x1024, .f32⟩
  | 48 => ⟨S_, .f32⟩
  | 49 => ⟨S16384x1024, .f32⟩
  | 50 => ⟨S16384x1024, .f32⟩
  | 51 => ⟨S_, .f32⟩
  | 52 => ⟨S16384x1024, .f32⟩
  | 53 => ⟨S16384x1024, .f32⟩
  | 54 => ⟨S16384x512, .f32⟩
  | 55 => ⟨S1x512x1024, .f32⟩
  | 56 => ⟨S512x1024, .f32⟩
  | 57 => ⟨S16384x1024, .f32⟩
  | 58 => ⟨S16384x1024, .f32⟩
  | 59 => ⟨S16384x1024, .f32⟩
  | 60 => ⟨S16384x512, .f32⟩
  | 61 => ⟨S16384x512, .f32⟩
  | 62 => ⟨S16384x512, .f32⟩
  | 63 => ⟨S_, .f32⟩
  | 64 => ⟨S16384x512, .f32⟩
  | 65 => ⟨S16384x512, .f32⟩
  | 66 => ⟨S_, .f32⟩
  | 67 => ⟨S16384x512, .f32⟩
  | 68 => ⟨S16384x512, .f32⟩
  | 69 => ⟨S16384x512, .f32⟩
  | 70 => ⟨S16384x1024, .f32⟩
  | 71 => ⟨S1x1024, .f32⟩
  | 72 => ⟨S1024, .f32⟩
  | 73 => ⟨S1x1024, .f32⟩
  | 74 => ⟨S16384x1024, .f32⟩
  | 75 => ⟨S16384x1024, .f32⟩
  | 76 => ⟨S16384x1024, .f32⟩
  | 77 => ⟨S16384x1024, .f32⟩
  | 78 => ⟨S_, .f32⟩
  | 79 => ⟨S16384x1024, .f32⟩
  | 80 => ⟨S16384x1024, .f32⟩
  | 81 => ⟨S_, .f32⟩
  | 82 => ⟨S16384x1024, .f32⟩
  | 83 => ⟨S16384x1024, .f32⟩
  | 84 => ⟨S16384x512, .f32⟩
  | 85 => ⟨S1x512x1024, .f32⟩
  | 86 => ⟨S512x1024, .f32⟩
  | 87 => ⟨S16384x1024, .f32⟩
  | 88 => ⟨S16384x1024, .f32⟩
  | 89 => ⟨S16384x1024, .f32⟩
  | 90 => ⟨S16384x1024, .f32⟩
  | 91 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_7 : Ref sig .tc := ⟨.hbm, 86, rfl⟩
abbrev main_v54 : Ref sig .tc := ⟨.hbm, 87, rfl⟩
abbrev main_v55 : Ref sig .tc := ⟨.hbm, 88, rfl⟩
abbrev main_cst_8 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_9 : Ref sig .tc := ⟨.hbm, 116, rfl⟩
abbrev main_v74 : Ref sig .tc := ⟨.hbm, 117, rfl⟩
abbrev main_v75 : Ref sig .tc := ⟨.hbm, 118, rfl⟩
abbrev main_cst_10 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_call2_v0 : Ref sig .tc := ⟨.hbm, 129, rfl⟩
abbrev main_call2_v1 : Ref sig .tc := ⟨.hbm, 130, rfl⟩
abbrev main_call2_cst : Ref sig .tc := ⟨.hbm, 131, rfl⟩
abbrev main_call2_v2 : Ref sig .tc := ⟨.hbm, 132, rfl⟩
abbrev main_call2_v3 : Ref sig .tc := ⟨.hbm, 133, rfl⟩
abbrev main_call2_cst_0 : Ref sig .tc := ⟨.hbm, 134, rfl⟩
abbrev main_call2_v4 : Ref sig .tc := ⟨.hbm, 135, rfl⟩
abbrev main_call2_v5 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_cst_11 : Ref sig .tc := ⟨.hbm, 146, rfl⟩
abbrev main_v94 : Ref sig .tc := ⟨.hbm, 147, rfl⟩
abbrev main_v95 : Ref sig .tc := ⟨.hbm, 148, rfl⟩
abbrev main_cst_12 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_call3_v0 : Ref sig .tc := ⟨.hbm, 159, rfl⟩
abbrev main_call3_v1 : Ref sig .tc := ⟨.hbm, 160, rfl⟩
abbrev main_call3_cst : Ref sig .tc := ⟨.hbm, 161, rfl⟩
abbrev main_call3_v2 : Ref sig .tc := ⟨.hbm, 162, rfl⟩
abbrev main_call3_v3 : Ref sig .tc := ⟨.hbm, 163, rfl⟩
abbrev main_call3_cst_0 : Ref sig .tc := ⟨.hbm, 164, rfl⟩
abbrev main_call3_v4 : Ref sig .tc := ⟨.hbm, 165, rfl⟩
abbrev main_call3_v5 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_13 : Ref sig .tc := ⟨.hbm, 176, rfl⟩
abbrev main_v114 : Ref sig .tc := ⟨.hbm, 177, rfl⟩
abbrev main_v115 : Ref sig .tc := ⟨.hbm, 178, rfl⟩
abbrev main_cst_14 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_call4_v0 : Ref sig .tc := ⟨.hbm, 189, rfl⟩
abbrev main_call4_v1 : Ref sig .tc := ⟨.hbm, 190, rfl⟩
abbrev main_call4_cst : Ref sig .tc := ⟨.hbm, 191, rfl⟩
abbrev main_call4_v2 : Ref sig .tc := ⟨.hbm, 192, rfl⟩
abbrev main_call4_v3 : Ref sig .tc := ⟨.hbm, 193, rfl⟩
abbrev main_call4_cst_0 : Ref sig .tc := ⟨.hbm, 194, rfl⟩
abbrev main_call4_v4 : Ref sig .tc := ⟨.hbm, 195, rfl⟩
abbrev main_call4_v5 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_cst_15 : Ref sig .tc := ⟨.hbm, 206, rfl⟩
abbrev main_v134 : Ref sig .tc := ⟨.hbm, 207, rfl⟩
abbrev main_v135 : Ref sig .tc := ⟨.hbm, 208, rfl⟩
abbrev main_cst_16 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩

abbrev nD : Nat := 1
abbrev τ : Topo := Topo.v7x

variable {F : FTy → Type} [FloatOps F]
-- ==== Kernel3.lean ====
abbrev S16384x512 : Shape := ⟨2, ![16384, 512]⟩
abbrev S4 : Shape := ⟨1, ![4]⟩
abbrev S_ : Shape := ⟨0, ![]⟩
abbrev S4x64 : Shape := ⟨2, ![4, 64]⟩
abbrev S1x128 : Shape := ⟨2, ![1, 128]⟩
abbrev S256x128 : Shape := ⟨2, ![256, 128]⟩
abbrev S4096x128 : Shape := ⟨2, ![4096, 128]⟩
abbrev S1x256x1 : Shape := ⟨3, ![1, 256, 1]⟩
abbrev S1x256x128 : Shape := ⟨3, ![1, 256, 128]⟩
abbrev S512x128 : Shape := ⟨2, ![512, 128]⟩
abbrev S256x512 : Shape := ⟨2, ![256, 512]⟩
abbrev S256x1 : Shape := ⟨2, ![256, 1]⟩
abbrev S256 : Shape := ⟨1, ![256]⟩

abbrev nBuf : Space → Nat
  | .hbm => 9
  | .vmem => 13
  | .smem => 1
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S4, .f32⟩
  | .hbm, ⟨4, _⟩ => ⟨S_, .f32⟩
  | .hbm, ⟨5, _⟩ => ⟨S4x64, .f32⟩
  | .hbm, ⟨6, _⟩ => ⟨S_, .f32⟩
  | .hbm, ⟨7, _⟩ => ⟨S1x128, .f32⟩
  | .hbm, ⟨8, _⟩ => ⟨S16384x512, .bf16⟩
  | .local _ .vmem, ⟨0, _⟩ => ⟨S4x64, .f32⟩
  | .local _ .vmem, ⟨1, _⟩ => ⟨S1x128, .f32⟩
  | .local _ .vmem, ⟨2, _⟩ => ⟨S256x128, .bf16⟩
  | .local _ .vmem, ⟨3, _⟩ => ⟨S256x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S1x256x1, .f32⟩
  | .local _ .vmem, ⟨11, _⟩ => ⟨S1x256x1, .f32⟩
  | .local _ .vmem, ⟨12, _⟩ => ⟨S1x256x128, .f32⟩
  | .local _ .smem, ⟨0, _⟩ => ⟨S4, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 4, 16], ![false, false, false]⟩

@[reducible] def k0_t1_loop : Scf.Loop 32 :=
  let c0_i32 : BitVec 32 := 0#32
  let c8_i32 : BitVec 32 := 8#32
  let v13 : BitVec 32 := Scalar.addi c0_i32 c8_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v22 : BitVec 32 := Scalar.muli arg13 c512_i32
  v22
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v22 : BitVec 32 := Scalar.muli arg13 c512_i32
  let v23 : BitVec 32 := v22
  let v24 : Index := Scalar.indexCast v23
  let c0_21 : Index := 0#32
  ![v24.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel3Ideal.lean ====
abbrev S16384x512 : Shape := ⟨2, ![16384, 512]⟩
abbrev S4 : Shape := ⟨1, ![4]⟩
abbrev S_ : Shape := ⟨0, ![]⟩
abbrev S4x64 : Shape := ⟨2, ![4, 64]⟩
abbrev S1x128 : Shape := ⟨2, ![1, 128]⟩
abbrev S256x128 : Shape := ⟨2, ![256, 128]⟩
abbrev S4096x128 : Shape := ⟨2, ![4096, 128]⟩
abbrev S1x256x1 : Shape := ⟨3, ![1, 256, 1]⟩
abbrev S1x256x128 : Shape := ⟨3, ![1, 256, 128]⟩
abbrev S512x128 : Shape := ⟨2, ![512, 128]⟩
abbrev S256x512 : Shape := ⟨2, ![256, 512]⟩
abbrev S256x1 : Shape := ⟨2, ![256, 1]⟩
abbrev S256 : Shape := ⟨1, ![256]⟩

abbrev nBuf : Space → Nat
  | .hbm => 9
  | .vmem => 13
  | .smem => 1
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S4, .f32⟩
  | .hbm, ⟨4, _⟩ => ⟨S_, .f32⟩
  | .hbm, ⟨5, _⟩ => ⟨S4x64, .f32⟩
  | .hbm, ⟨6, _⟩ => ⟨S_, .f32⟩
  | .hbm, ⟨7, _⟩ => ⟨S1x128, .f32⟩
  | .hbm, ⟨8, _⟩ => ⟨S16384x512, .bf16⟩
  | .local _ .vmem, ⟨0, _⟩ => ⟨S4x64, .f32⟩
  | .local _ .vmem, ⟨1, _⟩ => ⟨S1x128, .f32⟩
  | .local _ .vmem, ⟨2, _⟩ => ⟨S256x128, .bf16⟩
  | .local _ .vmem, ⟨3, _⟩ => ⟨S256x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S1x256x1, .f32⟩
  | .local _ .vmem, ⟨11, _⟩ => ⟨S1x256x1, .f32⟩
  | .local _ .vmem, ⟨12, _⟩ => ⟨S1x256x128, .f32⟩
  | .local _ .smem, ⟨0, _⟩ => ⟨S4, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 4, 16], ![false, false, false]⟩

@[reducible] def k0_t1_loop : Scf.Loop 32 :=
  let c0_i32 : BitVec 32 := 0#32
  let c8_i32 : BitVec 32 := 8#32
  let v13 : BitVec 32 := Scalar.addi c0_i32 c8_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v22 : BitVec 32 := Scalar.muli arg13 c512_i32
  v22
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v22 : BitVec 32 := Scalar.muli arg13 c512_i32
  let v23 : BitVec 32 := v22
  let v24 : Index := Scalar.indexCast v23
  let c0_21 : Index := 0#32
  ![v24.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference3Ideal.lean ====
abbrev S16384x512 : Shape := ⟨2, ![16384, 512]⟩
abbrev S4x4096x4x128 : Shape := ⟨4, ![4, 4096, 4, 128]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S4x4096x4x128, .f32⟩
  | .hbm, ⟨5, _⟩ => ⟨S16384x512, .f32⟩
  | .hbm, ⟨6, _⟩ => ⟨S4x4096x4x128, .f32⟩
  | .hbm, ⟨7, _⟩ => ⟨S16384x512, .f32⟩
  | .hbm, ⟨8, _⟩ => ⟨S4x4096x4x128, .f32⟩
  | .hbm, ⟨9, _⟩ => ⟨S4x4x4096x4096, .f32⟩
  | .hbm, ⟨10, _⟩ => ⟨S_, .f32⟩
  | .hbm, ⟨11, _⟩ => ⟨S4x4x4096, .f32⟩
  | .hbm, ⟨12, _⟩ => ⟨S_, .f32⟩
  | .hbm, ⟨13, _⟩ => ⟨S4x4x4096, .f32⟩
  | .hbm, ⟨14, _⟩ => ⟨S4x4x4096, .f32⟩
  | .hbm, ⟨15, _⟩ => ⟨S4x4x4096x1, .f32⟩
  | .hbm, ⟨16, _⟩ => ⟨S4x4x4096x4096, .f32⟩
  | .hbm, ⟨17, _⟩ => ⟨S4x4x4096x4096, .f32⟩
  | .hbm, ⟨18, _⟩ => ⟨S4x4x4096x4096, .f32⟩
  | .hbm, ⟨19, _⟩ => ⟨S_, .f32⟩
  | .hbm, ⟨20, _⟩ => ⟨S4x4x4096, .f32⟩
  | .hbm, ⟨21, _⟩ => ⟨S4x4x4096x1, .f32⟩
  | .hbm, ⟨22, _⟩ => ⟨S4x4x4096x4096, .f32⟩
  | .hbm, ⟨23, _⟩ => ⟨S4x4x4096x4096, .f32⟩
  | .hbm, ⟨24, _⟩ => ⟨S4x4x128x4096, .f32⟩
  | .hbm, ⟨25, _⟩ => ⟨S4x4096x4x128, .f32⟩
  | .hbm, ⟨26, _⟩ => ⟨S16384x512, .f32⟩
  | .hbm, ⟨27, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x8192 : Shape := ⟨2, ![1024, 8192]⟩
abbrev S1x8192 : Shape := ⟨2, ![1, 8192]⟩
abbrev S2x256x256 : Shape := ⟨3, ![2, 256, 256]⟩
abbrev S1x1024 : Shape := ⟨2, ![1, 1024]⟩
abbrev S16384x1536 : Shape := ⟨2, ![16384, 1536]⟩
abbrev S16384x512 : Shape := ⟨2, ![16384, 512]⟩
abbrev S16384x4608 : Shape := ⟨2, ![16384, 4608]⟩
abbrev S512x1024 : Shape := ⟨2, ![512, 1024]⟩
abbrev S512x1536 : Shape := ⟨2, ![512, 1536]⟩
abbrev S512x512 : Shape := ⟨2, ![512, 512]⟩
abbrev S512x4608 : Shape := ⟨2, ![512, 4608]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 11
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8192, .bf16⟩
  | .hbm, ⟨3, _⟩ => ⟨S1x8192, .f32⟩
  | .hbm, ⟨4, _⟩ => ⟨S2x256x256, .bf16⟩
  | .hbm, ⟨5, _⟩ => ⟨S1x1024, .f32⟩
  | .hbm, ⟨6, _⟩ => ⟨S16384x1536, .bf16⟩
  | .hbm, ⟨7, _⟩ => ⟨S16384x512, .bf16⟩
  | .hbm, ⟨8, _⟩ => ⟨S16384x1024, .bf16⟩
  | .hbm, ⟨9, _⟩ => ⟨S16384x4608, .bf16⟩
  | .hbm, ⟨10, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x8192, .bf16⟩
  | .local _ .vmem, ⟨4, _⟩ => ⟨S1x8192, .f32⟩
  | .local _ .vmem, ⟨5, _⟩ => ⟨S2x256x256, .bf16⟩
  | .local _ .vmem, ⟨6, _⟩ => ⟨S512x1536, .bf16⟩
  | .local _ .vmem, ⟨7, _⟩ => ⟨S512x1536, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x4608, .bf16⟩
  | .local _ .vmem, ⟨13, _⟩ => ⟨S512x4608, .bf16⟩
  | .local _ .vmem, ⟨14, _⟩ => ⟨S512x512, .bf16⟩
  | .local _ .vmem, ⟨15, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4608 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x1024 : Shape := ⟨2, ![16384, 1024]⟩
abbrev S1024 : Shape := ⟨1, ![1024]⟩
abbrev S1024x8192 : Shape := ⟨2, ![1024, 8192]⟩
abbrev S1x8192 : Shape := ⟨2, ![1, 8192]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8192 : Shape := ⟨2, ![16384, 8192]⟩
abbrev S16384x16x64 : Shape := ⟨3, ![16384, 16, 64]⟩
abbrev S16384x16 : Shape := ⟨2, ![16384, 16]⟩
abbrev S16384x16x1 : Shape := ⟨3, ![16384, 16, 1]⟩
abbrev S16384x512 : Shape := ⟨2, ![16384, 512]⟩
abbrev S16384x1536 : Shape := ⟨2, ![16384, 1536]⟩
abbrev S16384x768 : Shape := ⟨2, ![16384, 768]⟩
abbrev S16384x12x64 : Shape := ⟨3, ![16384, 12, 64]⟩
abbrev S16384x12 : Shape := ⟨2, ![16384, 12]⟩
abbrev S16384x12x1 : Shape := ⟨3, ![16384, 12, 1]⟩
abbrev S1x768 : Shape := ⟨2, ![1, 768]⟩
abbrev S16384x256 : Shape := ⟨2, ![16384, 256]⟩
abbrev S16384x4608 : Shape := ⟨2, ![16384, 4608]⟩
abbrev S16384x4x128 : Shape := ⟨3, ![16384, 4, 128]⟩
abbrev S16384x4 : Shape := ⟨2, ![16384, 4]⟩
abbrev S16384x4x1 : Shape := ⟨3, ![16384, 4, 1]⟩
abbrev S1x512 : Shape := ⟨2, ![1, 512]⟩

abbrev nBuf : Space → Nat
  | .hbm => 150
  | .vmem => 0
  | .smem => 0
  | _ => 0

abbrev hbmTy0_0 (i : Nat) : BufTy := match i % 128 with
  | 0 => ⟨S16384x1024, .f32⟩
  | 1 => ⟨S1024, .f32⟩
  | 2 => ⟨S1024x8192, .bf16⟩
  | 3 => ⟨S1x8192, .f32⟩
  | 4 => ⟨S16384x1024, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S_, .f32⟩
  | 12 => ⟨S16384x1, .f32⟩
  | 13 => ⟨S16384x1, .f32⟩
  | 14 => ⟨S16384x1, .f32⟩
  | 15 => ⟨S16384x1024, .f32⟩
  | 16 => ⟨S16384x1024, .f32⟩
  | 17 => ⟨S1x1024, .f32⟩
  | 18 => ⟨S16384x1024, .f32⟩
  | 19 => ⟨S16384x1024, .f32⟩
  | 20 => ⟨S1024x8192, .f32⟩
  | 21 => ⟨S16384x8192, .f32⟩
  | 22 => ⟨S16384x1024, .f32⟩
  | 23 => ⟨S16384x16x64, .f32⟩
  | 24 => ⟨S16384x16x64, .f32⟩
  | 25 => ⟨S_, .f32⟩
  | 26 => ⟨S16384x16, .f32⟩
  | 27 => ⟨S16384x16x1, .f32⟩
  | 28 => ⟨S_, .f32⟩
  | 29 => ⟨S16384x16x1, .f32⟩
  | 30 => ⟨S16384x16x1, .f32⟩
  | 31 => ⟨S_, .f32⟩
  | 32 => ⟨S16384x16x1, .f32⟩
  | 33 => ⟨S16384x16x1, .f32⟩
  | 34 => ⟨S16384x16x1, .f32⟩
  | 35 => ⟨S16384x16x64, .f32⟩
  | 36 => ⟨S16384x16x64, .f32⟩
  | 37 => ⟨S16384x1024, .f32⟩
  | 38 => ⟨S1x1024, .f32⟩
  | 39 => ⟨S16384x1024, .f32⟩
  | 40 => ⟨S16384x1024, .f32⟩
  | 41 => ⟨S16384x512, .f32⟩
  | 42 => ⟨S16384x1536, .f32⟩
  | 43 => ⟨S16384x512, .f32⟩
  | 44 => ⟨S16384x768, .f32⟩
  | 45 => ⟨S16384x12x64, .f32⟩
  | 46 => ⟨S16384x12x64, .f32⟩
  | 47 => ⟨S_, .f32⟩
  | 48 => ⟨S16384x12, .f32⟩
  | 49 => ⟨S16384x12x1, .f32⟩
  | 50 => ⟨S_, .f32⟩
  | 51 => ⟨S16384x12x1, .f32⟩
  | 52 => ⟨S16384x12x1, .f32⟩
  | 53 => ⟨S_, .f32⟩
  | 54 => ⟨S16384x12x1, .f32⟩
  | 55 => ⟨S16384x12x1, .f32⟩
  | 56 => ⟨S16384x12x1, .f32⟩
  | 57 => ⟨S16384x12x64, .f32⟩
  | 58 => ⟨S16384x12x64, .f32⟩
  | 59 => ⟨S16384x768, .f32⟩
  | 60 => ⟨S1x768, .f32⟩
  | 61 => ⟨S16384x768, .f32⟩
  | 62 => ⟨S16384x768, .f32⟩
  | 63 => ⟨S16384x256, .f32⟩
  | 64 => ⟨S16384x1024, .f32⟩
  | 65 => ⟨S16384x1024, .f32⟩
  | 66 => ⟨S16384x16x64, .f32⟩
  | 67 => ⟨S16384x16x64, .f32⟩
  | 68 => ⟨S_, .f32⟩
  | 69 => ⟨S16384x16, .f32⟩
  | 70 => ⟨S16384x16x1, .f32⟩
  | 71 => ⟨S_, .f32⟩
  | 72 => ⟨S16384x16x1, .f32⟩
  | 73 => ⟨S16384x16x1, .f32⟩
  | 74 => ⟨S_, .f32⟩
  | 75 => ⟨S16384x16x1, .f32⟩
  | 76 => ⟨S16384x16x1, .f32⟩
  | 77 => ⟨S16384x16x1, .f32⟩
  | 78 => ⟨S16384x16x64, .f32⟩
  | 79 => ⟨S16384x16x64, .f32⟩
  | 80 => ⟨S16384x1024, .f32⟩
  | 81 => ⟨S1x1024, .f32⟩
  | 82 => ⟨S16384x1024, .f32⟩
  | 83 => ⟨S16384x1024, .f32⟩
  | 84 => ⟨S16384x512, .f32⟩
  | 85 => ⟨S16384x1024, .f32⟩
  | 86 => ⟨S16384x16x64, .f32⟩
  | 87 => ⟨S16384x16x64, .f32⟩
  | 88 => ⟨S_, .f32⟩
  | 89 => ⟨S16384x16, .f32⟩
  | 90 => ⟨S16384x16x1, .f32⟩
  | 91 => ⟨S_, .f32⟩
  | 92 => ⟨S16384x16x1, .f32⟩
  | 93 => ⟨S16384x16x1, .f32⟩
  | 94 => ⟨S_, .f32⟩
  | 95 => ⟨S16384x16x1, .f32⟩
  | 96 => ⟨S16384x16x1, .f32⟩
  | 97 => ⟨S16384x16x1, .f32⟩
  | 98 => ⟨S16384x16x64, .f32⟩
  | 99 => ⟨S16384x16x64, .f32⟩
  | 100 => ⟨S16384x1024, .f32⟩
  | 101 => ⟨S1x1024, .f32⟩
  | 102 => ⟨S16384x1024, .f32⟩
  | 103 => ⟨S16384x1024, .f32⟩
  | 104 => ⟨S16384x512, .f32⟩
  | 105 => ⟨S16384x1024, .f32⟩
  | 106 => ⟨S16384x16x64, .f32⟩
  | 107 => ⟨S16384x16x64, .f32⟩
  | 108 => ⟨S_, .f32⟩
  | 109 => ⟨S16384x16, .f32⟩
  | 110 => ⟨S16384x16x1, .f32⟩
  | 111 => ⟨S_, .f32⟩
  | 112 => ⟨S16384x16x1, .f32⟩
  | 113 => ⟨S16384x16x1, .f32⟩
  | 114 => ⟨S_, .f32⟩
  | 115 => ⟨S16384x16x1, .f32⟩
  | 116 => ⟨S16384x16x1, .f32⟩
  | 117 => ⟨S16384x16x1, .f32⟩
  | 118 => ⟨S16384x16x64, .f32⟩
  | 119 => ⟨S16384x16x64, .f32⟩
  | 120 => ⟨S16384x1024, .f32⟩
  | 121 => ⟨S1x1024, .f32⟩
  | 122 => ⟨S16384x1024, .f32⟩
  | 123 => ⟨S16384x1024, .f32⟩
  | 124 => ⟨S16384x512, .f32⟩
  | 125 => ⟨S16384x4608, .f32⟩
  | 126 => ⟨S16384x512, .f32⟩
  | 127 => ⟨S16384x4x128, .f32⟩
  | _ => ⟨S16384x1024, .f32⟩

abbrev hbmTy0_1 (i : Nat) : BufTy := match i % 128 with
  | 0 => ⟨S16384x4x128, .f32⟩
  | 1 => ⟨S_, .f32⟩
  | 2 => ⟨S16384x4, .f32⟩
  | 3 => ⟨S16384x4x1, .f32⟩
  | 4 => ⟨S_, .f32⟩
  | 5 => ⟨S16384x4x1, .f32⟩
  | 6 => ⟨S16384x4x1, .f32⟩
  | 7 => ⟨S_, .f32⟩
  | 8 => ⟨S16384x4x1, .f32⟩
  | 9 => ⟨S16384x4x1, .f32⟩
  | 10 => ⟨S16384x4x1, .f32⟩
  | 11 => ⟨S16384x4x128, .f32⟩
  | 12 => ⟨S16384x4x128, .f32⟩
  | 13 => ⟨S16384x512, .f32⟩
  | 14 => ⟨S1x512, .f32⟩
  | 15 => ⟨S16384x512, .f32⟩
  | 16 => ⟨S16384x512, .f32⟩
  | 17 => ⟨S16384x1536, .bf16⟩
  | 18 => ⟨S16384x512, .bf16⟩
  | 19 => ⟨S16384x1024, .bf16⟩
  | 20 => ⟨S16384x4608, .bf16⟩
  | 21 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_11 : Ref sig .tc := ⟨.hbm, 88, rfl⟩
abbrev main_v72 : Ref sig .tc := ⟨.hbm, 89, rfl⟩
abbrev main_v73 : Ref sig .tc := ⟨.hbm, 90, rfl⟩
abbrev main_cst_12 : Ref sig .tc := ⟨.hbm, 91, rfl⟩
abbrev main_v74 : Ref sig .tc := ⟨.hbm, 92, rfl⟩
abbrev main_v75 : Ref sig .tc := ⟨.hbm, 93, rfl⟩
abbrev main_cst_13 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_14 : Ref sig .tc := ⟨.hbm, 108, rfl⟩
abbrev main_v89 : Ref sig .tc := ⟨.hbm, 109, rfl⟩
abbrev main_v90 : Ref sig .tc := ⟨.hbm, 110, rfl⟩
abbrev main_cst_15 : Ref sig .tc := ⟨.hbm, 111, rfl⟩
abbrev main_v91 : Ref sig .tc := ⟨.hbm, 112, rfl⟩
abbrev main_v92 : Ref sig .tc := ⟨.hbm, 113, rfl⟩
abbrev main_cst_16 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_17 : Ref sig .tc := ⟨.hbm, 129, rfl⟩
abbrev main_v107 : Ref sig .tc := ⟨.hbm, 130, rfl⟩
abbrev main_v108 : Ref sig .tc := ⟨.hbm, 131, rfl⟩
abbrev main_cst_18 : Ref sig .tc := ⟨.hbm, 132, rfl⟩
abbrev main_v109 : Ref sig .tc := ⟨.hbm, 133, rfl⟩
abbrev main_v110 : Ref sig .tc := ⟨.hbm, 134, rfl⟩
abbrev main_cst_19 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1024x15520 : Shape := ⟨2, ![1024, 15520]⟩
abbrev S5x1024 : Shape := ⟨2, ![5, 1024]⟩
abbrev S5x512x1024 : Shape := ⟨3, ![5, 512, 1024]⟩
abbrev S1024x1024 : Shape := ⟨2, ![1024, 1024]⟩
abbrev S32768x512 : Shape := ⟨2, ![32768, 512]⟩
abbrev S1024x2560 : Shape := ⟨2, ![1024, 2560]⟩
abbrev S1024x5120 : Shape := ⟨2, ![1024, 5120]⟩
abbrev S1x1024 : Shape := ⟨2, ![1, 1024]⟩
abbrev S5x1x1024 : Shape := ⟨3, ![5, 1, 1024]⟩
abbrev S512x1024 : Shape := ⟨2, ![512, 1024]⟩
abbrev S1024x512 : Shape := ⟨2, ![1024, 512]⟩
abbrev S1x1x1024 : Shape := ⟨3, ![1, 1, 1024]⟩
abbrev S1x512x1024 : Shape := ⟨3, ![1, 512, 1024]⟩
abbrev S512x512 : Shape := ⟨2, ![512, 512]⟩
abbrev S512 : Shape := ⟨1, ![512]⟩
abbrev S512x1 : Shape := ⟨2, ![512, 1]⟩

abbrev nBuf : Space → Nat
  | .hbm => 25
  | .vmem => 37
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x15520, .f32⟩
  | .hbm, ⟨3, _⟩ => ⟨S5x1024, .f32⟩
  | .hbm, ⟨4, _⟩ => ⟨S5x512x1024, .f32⟩
  | .hbm, ⟨5, _⟩ => ⟨S1024x1024, .f32⟩
  | .hbm, ⟨6, _⟩ => ⟨S32768x512, .bf16⟩
  | .hbm, ⟨7, _⟩ => ⟨S32768x512, .bf16⟩
  | .hbm, ⟨8, _⟩ => ⟨S32768x512, .bf16⟩
  | .hbm, ⟨9, _⟩ => ⟨S32768x512, .bf16⟩
  | .hbm, ⟨10, _⟩ => ⟨S32768x512, .bf16⟩
  | .hbm, ⟨11, _⟩ => ⟨S32768x512, .bf16⟩
  | .hbm, ⟨12, _⟩ => ⟨S32768x512, .bf16⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S1024x2560, .f32⟩
  | .hbm, ⟨17, _⟩ => ⟨S1024x2560, .bf16⟩
  | .hbm, ⟨18, _⟩ => ⟨S1024x5120, .f32⟩
  | .hbm, ⟨19, _⟩ => ⟨S1024x5120, .bf16⟩
  | .hbm, ⟨20, _⟩ => ⟨S1x1024, .f32⟩
  | .hbm, ⟨21, _⟩ => ⟨S5x1x1024, .f32⟩
  | .hbm, ⟨22, _⟩ => ⟨S5x512x1024, .bf16⟩
  | .hbm, ⟨23, _⟩ => ⟨S1024x1024, .bf16⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1024x1024, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x1024, .f32⟩
  | .local _ .vmem, ⟨33, _⟩ => ⟨S512x1024, .f32⟩
  | .local _ .vmem, ⟨34, _⟩ => ⟨S512x1024, .bf16⟩
  | .local _ .vmem, ⟨35, _⟩ => ⟨S512x1024, .f32⟩
  | .local _ .vmem, ⟨36, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨2, ![64, 5], ![false, false]⟩

def k0_cond6 (i : grid0.Coords) : BitVec 1 :=
  let arg1 : BitVec 32 := BitVec.ofNat 32 (i 1).val
  let c4_i32_28 : BitVec 32 := 4#32
  let v49 : BitVec 1 := Scalar.cmpi .eq arg1 c4_i32_28
  let v50 : BitVec 32 := Scalar.extui v49
  let c0_i32_29 : BitVec 32 := 0#32
  let v51 : BitVec 1 := Scalar.cmpi .ne v50 c0_i32_29
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Reference5Ideal.lean ====
abbrev S32768x1024 : Shape := ⟨2, ![32768, 1024]⟩
abbrev S1024 : Shape := ⟨1, ![1024]⟩
abbrev S1024x15520 : Shape := ⟨2, ![1024, 15520]⟩
abbrev S5x1024 : Shape := ⟨2, ![5, 1024]⟩
abbrev S5x512x1024 : Shape := ⟨3, ![5, 512, 1024]⟩
abbrev S1024x1024 : Shape := ⟨2, ![1024, 1024]⟩
abbrev S32768x512 : Shape := ⟨2, ![32768, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x2560 : Shape := ⟨2, ![1024, 2560]⟩
abbrev S32768x2560 : Shape := ⟨2, ![32768, 2560]⟩
abbrev S1024x5120 : Shape := ⟨2, ![1024, 5120]⟩
abbrev S32768x5120 : Shape := ⟨2, ![32768, 5120]⟩
abbrev S1x32768x512 : Shape := ⟨3, ![1, 32768, 512]⟩
abbrev S3x32768x512 : Shape := ⟨3, ![3, 32768, 512]⟩
abbrev S1x512x1024 : Shape := ⟨3, ![1, 512, 1024]⟩
abbrev S512x1024 : Shape := ⟨2, ![512, 1024]⟩

abbrev nBuf : Space → Nat
  | .hbm => 220
  | .vmem => 0
  | .smem => 0
  | _ => 0

abbrev hbmTy0_0 (i : Nat) : BufTy := match i % 128 with
  | 0 => ⟨S32768x1024, .f32⟩
  | 1 => ⟨S1024, .f32⟩
  | 2 => ⟨S1024x15520, .f32⟩
  | 3 => ⟨S5x1024, .f32⟩
  | 4 => ⟨S5x512x1024, .f32⟩
  | 5 => ⟨S1024x1024, .f32⟩
  | 6 => ⟨S32768x512, .bf16⟩
  | 7 => ⟨S32768x512, .bf16⟩
  | 8 => ⟨S32768x512, .bf16⟩
  | 9 => ⟨S32768x512, .bf16⟩
  | 10 => ⟨S32768x512, .bf16⟩
  | 11 => ⟨S32768x512, .bf16⟩
  | 12 => ⟨S32768x512, .bf16⟩
  | 13 => ⟨S32768x512, .f32⟩
  | 14 => ⟨S32768x512, .f32⟩
  | 15 => ⟨S32768x512, .f32⟩
  | 16 => ⟨S32768x1024, .f32⟩
  | 17 => ⟨S_, .f32⟩
  | 18 => ⟨S32768, .f32⟩
  | 19 => ⟨S32768x1, .f32⟩
  | 20 => ⟨S_, .f32⟩
  | 21 => ⟨S32768x1, .f32⟩
  | 22 => ⟨S32768x1, .f32⟩
  | 23 => ⟨S_, .f32⟩
  | 24 => ⟨S32768x1, .f32⟩
  | 25 => ⟨S32768x1, .f32⟩
  | 26 => ⟨S32768x1, .f32⟩
  | 27 => ⟨S32768x1024, .f32⟩
  | 28 => ⟨S32768x1024, .f32⟩
  | 29 => ⟨S1x1024, .f32⟩
  | 30 => ⟨S32768x1024, .f32⟩
  | 31 => ⟨S32768x1024, .f32⟩
  | 32 => ⟨S1024x2560, .f32⟩
  | 33 => ⟨S32768x2560, .f32⟩
  | 34 => ⟨S1024x5120, .f32⟩
  | 35 => ⟨S32768x5120, .f32⟩
  | 36 => ⟨S1x32768x512, .f32⟩
  | 37 => ⟨S1x32768x512, .f32⟩
  | 38 => ⟨S1x32768x512, .f32⟩
  | 39 => ⟨S3x32768x512, .f32⟩
  | 40 => ⟨S_, .f32⟩
  | 41 => ⟨S32768x512, .f32⟩
  | 42 => ⟨S_, .f32⟩
  | 43 => ⟨S32768x512, .f32⟩
  | 44 => ⟨S32768x512, .f32⟩
  | 45 => ⟨S1x32768x512, .f32⟩
  | 46 => ⟨S3x32768x512, .f32⟩
  | 47 => ⟨S3x32768x512, .f32⟩
  | 48 => ⟨S3x32768x512, .f32⟩
  | 49 => ⟨S_, .f32⟩
  | 50 => ⟨S32768x512, .f32⟩
  | 51 => ⟨S1x32768x512, .f32⟩
  | 52 => ⟨S3x32768x512, .f32⟩
  | 53 => ⟨S3x32768x512, .f32⟩
  | 54 => ⟨S1x32768x512, .bf16⟩
  | 55 => ⟨S1x32768x512, .bf16⟩
  | 56 => ⟨S1x32768x512, .bf16⟩
  | 57 => ⟨S3x32768x512, .bf16⟩
  | 58 => ⟨S3x32768x512, .f32⟩
  | 59 => ⟨S3x32768x512, .f32⟩
  | 60 => ⟨S_, .f32⟩
  | 61 => ⟨S32768x512, .f32⟩
  | 62 => ⟨S_, .f32⟩
  | 63 => ⟨S32768x1024, .f32⟩
  | 64 => ⟨S32768x512, .f32⟩
  | 65 => ⟨S32768x512, .f32⟩
  | 66 => ⟨S32768x512, .f32⟩
  | 67 => ⟨S32768x512, .f32⟩
  | 68 => ⟨S32768x512, .f32⟩
  | 69 => ⟨S32768x512, .f32⟩
  | 70 => ⟨S32768x512, .f32⟩
  | 71 => ⟨S_, .f32⟩
  | 72 => ⟨S32768x512, .f32⟩
  | 73 => ⟨S32768x512, .f32⟩
  | 74 => ⟨S_, .f32⟩
  | 75 => ⟨S32768x512, .f32⟩
  | 76 => ⟨S32768x512, .f32⟩
  | 77 => ⟨S32768x512, .f32⟩
  | 78 => ⟨S32768x1024, .f32⟩
  | 79 => ⟨S1x1024, .f32⟩
  | 80 => ⟨S1024, .f32⟩
  | 81 => ⟨S1x1024, .f32⟩
  | 82 => ⟨S32768x1024, .f32⟩
  | 83 => ⟨S32768x1024, .f32⟩
  | 84 => ⟨S32768x1024, .f32⟩
  | 85 => ⟨S32768x1024, .f32⟩
  | 86 => ⟨S_, .f32⟩
  | 87 => ⟨S32768x1024, .f32⟩
  | 88 => ⟨S32768x1024, .f32⟩
  | 89 => ⟨S_, .f32⟩
  | 90 => ⟨S32768x1024, .f32⟩
  | 91 => ⟨S32768x1024, .f32⟩
  | 92 => ⟨S32768x512, .f32⟩
  | 93 => ⟨S1x512x1024, .f32⟩
  | 94 => ⟨S512x1024, .f32⟩
  | 95 => ⟨S32768x1024, .f32⟩
  | 96 => ⟨S32768x1024, .f32⟩
  | 97 => ⟨S32768x1024, .f32⟩
  | 98 => ⟨S32768x512, .f32⟩
  | 99 => ⟨S32768x512, .f32⟩
  | 100 => ⟨S32768x512, .f32⟩
  | 101 => ⟨S_, .f32⟩
  | 102 => ⟨S32768x512, .f32⟩
  | 103 => ⟨S32768x512, .f32⟩
  | 104 => ⟨S_, .f32⟩
  | 105 => ⟨S32768x512, .f32⟩
  | 106 => ⟨S32768x512, .f32⟩
  | 107 => ⟨S32768x512, .f32⟩
  | 108 => ⟨S32768x1024, .f32⟩
  | 109 => ⟨S1x1024, .f32⟩
  | 110 => ⟨S1024, .f32⟩
  | 111 => ⟨S1x1024, .f32⟩
  | 112 => ⟨S32768x1024, .f32⟩
  | 113 => ⟨S32768x1024, .f32⟩
  | 114 => ⟨S32768x1024, .f32⟩
  | 115 => ⟨S32768x1024, .f32⟩
  | 116 => ⟨S_, .f32⟩
  | 117 => ⟨S32768x1024, .f32⟩
  | 118 => ⟨S32768x1024, .f32⟩
  | 119 => ⟨S_, .f32⟩
  | 120 => ⟨S32768x1024, .f32⟩
  | 121 => ⟨S32768x1024, .f32⟩
  | 122 => ⟨S32768x512, .f32⟩
  | 123 => ⟨S1x512x1024, .f32⟩
  | 124 => ⟨S512x1024, .f32⟩
  | 125 => ⟨S32768x1024, .f32⟩
  | 126 => ⟨S32768x1024, .f32⟩
  | 127 => ⟨S32768x1024, .f32⟩
  | _ => ⟨S32768x1024, .f32⟩

abbrev hbmTy0_1 (i : Nat) : BufTy := match i % 128 with
  | 0 => ⟨S32768x512, .f32⟩
  | 1 => ⟨S32768x512, .f32⟩
  | 2 => ⟨S32768x512, .f32⟩
  | 3 => ⟨S_, .f32⟩
  | 4 => ⟨S32768x512, .f32⟩
  | 5 => ⟨S32768x512, .f32⟩
  | 6 => ⟨S_, .f32⟩
  | 7 => ⟨S32768x512, .f32⟩
  | 8 => ⟨S32768x512, .f32⟩
  | 9 => ⟨S32768x512, .f32⟩
  | 10 => ⟨S32768x1024, .f32⟩
  | 11 => ⟨S1x1024, .f32⟩
  | 12 => ⟨S1024, .f32⟩
  | 13 => ⟨S1x1024, .f32⟩
  | 14 => ⟨S32768x1024, .f32⟩
  | 15 => ⟨S32768x1024, .f32⟩
  | 16 => ⟨S32768x1024, .f32⟩
  | 17 => ⟨S32768x1024, .f32⟩
  | 18 => ⟨S_, .f32⟩
  | 19 => ⟨S32768x1024, .f32⟩
  | 20 => ⟨S32768x1024, .f32⟩
  | 21 => ⟨S_, .f32⟩
  | 22 => ⟨S32768x1024, .f32⟩
  | 23 => ⟨S32768x1024, .f32⟩
  | 24 => ⟨S32768x512, .f32⟩
  | 25 => ⟨S1x512x1024, .f32⟩
  | 26 => ⟨S512x1024, .f32⟩
  | 27 => ⟨S32768x1024, .f32⟩
  | 28 => ⟨S32768x1024, .f32⟩
  | 29 => ⟨S32768x1024, .f32⟩
  | 30 => ⟨S32768x512, .f32⟩
  | 31 => ⟨S32768x512, .f32⟩
  | 32 => ⟨S32768x512, .f32⟩
  | 33 => ⟨S_, .f32⟩
  | 34 => ⟨S32768x512, .f32⟩
  | 35 => ⟨S32768x512, .f32⟩
  | 36 => ⟨S_, .f32⟩
  | 37 => ⟨S32768x512, .f32⟩
  | 38 => ⟨S32768x512, .f32⟩
  | 39 => ⟨S32768x512, .f32⟩
  | 40 => ⟨S32768x1024, .f32⟩
  | 41 => ⟨S1x1024, .f32⟩
  | 42 => ⟨S1024, .f32⟩
  | 43 => ⟨S1x1024, .f32⟩
  | 44 => ⟨S32768x1024, .f32⟩
  | 45 => ⟨S32768x1024, .f32⟩
  | 46 => ⟨S32768x1024, .f32⟩
  | 47 => ⟨S32768x1024, .f32⟩
  | 48 => ⟨S_, .f32⟩
  | 49 => ⟨S32768x1024, .f32⟩
  | 50 => ⟨S32768x1024, .f32⟩
  | 51 => ⟨S_, .f32⟩
  | 52 => ⟨S32768x1024, .f32⟩
  | 53 => ⟨S32768x1024, .f32⟩
  | 54 => ⟨S32768x512, .f32⟩
  | 55 => ⟨S1x512x1024, .f32⟩
  | 56 => ⟨S512x1024, .f32⟩
  | 57 => ⟨S32768x1024, .f32⟩
  | 58 => ⟨S32768x1024, .f32⟩
  | 59 => ⟨S32768x1024, .f32⟩
  | 60 => ⟨S32768x512, .f32⟩
  | 61 => ⟨S32768x512, .f32⟩
  | 62 => ⟨S32768x512, .f32⟩
  | 63 => ⟨S_, .f32⟩
  | 64 => ⟨S32768x512, .f32⟩
  | 65 => ⟨S32768x512, .f32⟩
  | 66 => ⟨S_, .f32⟩
  | 67 => ⟨S32768x512, .f32⟩
  | 68 => ⟨S32768x512, .f32⟩
  | 69 => ⟨S32768x512, .f32⟩
  | 70 => ⟨S32768x1024, .f32⟩
  | 71 => ⟨S1x1024, .f32⟩
  | 72 => ⟨S1024, .f32⟩
  | 73 => ⟨S1x1024, .f32⟩
  | 74 => ⟨S32768x1024, .f32⟩
  | 75 => ⟨S32768x1024, .f32⟩
  | 76 => ⟨S32768x1024, .f32⟩
  | 77 => ⟨S32768x1024, .f32⟩
  | 78 => ⟨S_, .f32⟩
  | 79 => ⟨S32768x1024, .f32⟩
  | 80 => ⟨S32768x1024, .f32⟩
  | 81 => ⟨S_, .f32⟩
  | 82 => ⟨S32768x1024, .f32⟩
  | 83 => ⟨S32768x1024, .f32⟩
  | 84 => ⟨S32768x512, .f32⟩
  | 85 => ⟨S1x512x1024, .f32⟩
  | 86 => ⟨S512x1024, .f32⟩
  | 87 => ⟨S32768x1024, .f32⟩
  | 88 => ⟨S32768x1024, .f32⟩
  | 89 => ⟨S32768x1024, .f32⟩
  | 90 => ⟨S32768x1024, .f32⟩
  | 91 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_7 : Ref sig .tc := ⟨.hbm, 86, rfl⟩
abbrev main_v54 : Ref sig .tc := ⟨.hbm, 87, rfl⟩
abbrev main_v55 : Ref sig .tc := ⟨.hbm, 88, rfl⟩
abbrev main_cst_8 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_9 : Ref sig .tc := ⟨.hbm, 116, rfl⟩
abbrev main_v74 : Ref sig .tc := ⟨.hbm, 117, rfl⟩
abbrev main_v75 : Ref sig .tc := ⟨.hbm, 118, rfl⟩
abbrev main_cst_10 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_call2_v0 : Ref sig .tc := ⟨.hbm, 129, rfl⟩
abbrev main_call2_v1 : Ref sig .tc := ⟨.hbm, 130, rfl⟩
abbrev main_call2_cst : Ref sig .tc := ⟨.hbm, 131, rfl⟩
abbrev main_call2_v2 : Ref sig .tc := ⟨.hbm, 132, rfl⟩
abbrev main_call2_v3 : Ref sig .tc := ⟨.hbm, 133, rfl⟩
abbrev main_call2_cst_0 : Ref sig .tc := ⟨.hbm, 134, rfl⟩
abbrev main_call2_v4 : Ref sig .tc := ⟨.hbm, 135, rfl⟩
abbrev main_call2_v5 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_cst_11 : Ref sig .tc := ⟨.hbm, 146, rfl⟩
abbrev main_v94 : Ref sig .tc := ⟨.hbm, 147, rfl⟩
abbrev main_v95 : Ref sig .tc := ⟨.hbm, 148, rfl⟩
abbrev main_cst_12 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_call3_v0 : Ref sig .tc := ⟨.hbm, 159, rfl⟩
abbrev main_call3_v1 : Ref sig .tc := ⟨.hbm, 160, rfl⟩
abbrev main_call3_cst : Ref sig .tc := ⟨.hbm, 161, rfl⟩
abbrev main_call3_v2 : Ref sig .tc := ⟨.hbm, 162, rfl⟩
abbrev main_call3_v3 : Ref sig .tc := ⟨.hbm, 163, rfl⟩
abbrev main_call3_cst_0 : Ref sig .tc := ⟨.hbm, 164, rfl⟩
abbrev main_call3_v4 : Ref sig .tc := ⟨.hbm, 165, rfl⟩
abbrev main_call3_v5 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_13 : Ref sig .tc := ⟨.hbm, 176, rfl⟩
abbrev main_v114 : Ref sig .tc := ⟨.hbm, 177, rfl⟩
abbrev main_v115 : Ref sig .tc := ⟨.hbm, 178, rfl⟩
abbrev main_cst_14 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_call4_v0 : Ref sig .tc := ⟨.hbm, 189, rfl⟩
abbrev main_call4_v1 : Ref sig .tc := ⟨.hbm, 190, rfl⟩
abbrev main_call4_cst : Ref sig .tc := ⟨.hbm, 191, rfl⟩
abbrev main_call4_v2 : Ref sig .tc := ⟨.hbm, 192, rfl⟩
abbrev main_call4_v3 : Ref sig .tc := ⟨.hbm, 193, rfl⟩
abbrev main_call4_cst_0 : Ref sig .tc := ⟨.hbm, 194, rfl⟩
abbrev main_call4_v4 : Ref sig .tc := ⟨.hbm, 195, rfl⟩
abbrev main_call4_v5 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_cst_15 : Ref sig .tc := ⟨.hbm, 206, rfl⟩
abbrev main_v134 : Ref sig .tc := ⟨.hbm, 207, rfl⟩
abbrev main_v135 : Ref sig .tc := ⟨.hbm, 208, rfl⟩
abbrev main_cst_16 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩

abbrev nD : Nat := 1
abbrev τ : Topo := Topo.v7x

variable {F : FTy → Type} [FloatOps F]
-- ==== Kernel6.lean ====
abbrev S16384x512 : Shape := ⟨2, ![16384, 512]⟩
abbrev S1024x512 : Shape := ⟨2, ![1024, 512]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x512, .bf16⟩
  | .hbm, ⟨1, _⟩ => ⟨S1024x512, .bf16⟩
  | .hbm, ⟨2, _⟩ => ⟨S1024x512, .bf16⟩
  | .hbm, ⟨3, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel6Ideal.lean ====
abbrev S16384x512 : Shape := ⟨2, ![16384, 512]⟩
abbrev S1024x512 : Shape := ⟨2, ![1024, 512]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x512, .bf16⟩
  | .hbm, ⟨1, _⟩ => ⟨S1024x512, .bf16⟩
  | .hbm, ⟨2, _⟩ => ⟨S1024x512, .bf16⟩
  | .hbm, ⟨3, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16384x512 : Shape := ⟨2, ![16384, 512]⟩
abbrev S1024x512 : Shape := ⟨2, ![1024, 512]⟩
abbrev S4x4096x4x128 : Shape := ⟨4, ![4, 4096, 4, 128]⟩
abbrev S4x256x4x128 : Shape := ⟨4, ![4, 256, 4, 128]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S1024x512, .bf16⟩
  | .hbm, ⟨2, _⟩ => ⟨S1024x512, .bf16⟩
  | .hbm, ⟨3, _⟩ => ⟨S16384x512, .f32⟩
  | .hbm, ⟨4, _⟩ => ⟨S4x4096x4x128, .f32⟩
  | .hbm, ⟨5, _⟩ => ⟨S1024x512, .f32⟩
  | .hbm, ⟨6, _⟩ => ⟨S4x256x4x128, .f32⟩
  | .hbm, ⟨7, _⟩ => ⟨S1024x512, .f32⟩
  | .hbm, ⟨8, _⟩ => ⟨S4x256x4x128, .f32⟩
  | .hbm, ⟨9, _⟩ => ⟨S4x4x4096x256, .f32⟩
  | .hbm, ⟨10, _⟩ => ⟨S_, .f32⟩
  | .hbm, ⟨11, _⟩ => ⟨S4x4x4096, .f32⟩
  | .hbm, ⟨12, _⟩ => ⟨S_, .f32⟩
  | .hbm, ⟨13, _⟩ => ⟨S4x4x4096, .f32⟩
  | .hbm, ⟨14, _⟩ => ⟨S4x4x4096, .f32⟩
  | .hbm, ⟨15, _⟩ => ⟨S4x4x4096x1, .f32⟩
  | .hbm, ⟨16, _⟩ => ⟨S4x4x4096x256, .f32⟩
  | .hbm, ⟨17, _⟩ => ⟨S4x4x4096x256, .f32⟩
  | .hbm, ⟨18, _⟩ => ⟨S4x4x4096x256, .f32⟩
  | .hbm, ⟨19, _⟩ => ⟨S_, .f32⟩
  | .hbm, ⟨20, _⟩ => ⟨S4x4x4096, .f32⟩
  | .hbm, ⟨21, _⟩ => ⟨S4x4x4096x1, .f32⟩
  | .hbm, ⟨22, _⟩ => ⟨S4x4x4096x256, .f32⟩
  | .hbm, ⟨23, _⟩ => ⟨S4x4x4096x256, .f32⟩
  | .hbm, ⟨24, _⟩ => ⟨S4x4x128x4096, .f32⟩
  | .hbm, ⟨25, _⟩ => ⟨S4x4096x4x128, .f32⟩
  | .hbm, ⟨26, _⟩ => ⟨S16384x512, .f32⟩
  | .hbm, ⟨27, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel7.lean ====
abbrev S32768x512 : Shape := ⟨2, ![32768, 512]⟩
abbrev S1024x512 : Shape := ⟨2, ![1024, 512]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S32768x512, .bf16⟩
  | .hbm, ⟨1, _⟩ => ⟨S1024x512, .bf16⟩
  | .hbm, ⟨2, _⟩ => ⟨S1024x512, .bf16⟩
  | .hbm, ⟨3, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S32768x512 : Shape := ⟨2, ![32768, 512]⟩
abbrev S1024x512 : Shape := ⟨2, ![1024, 512]⟩
abbrev S4x8192x4x128 : Shape := ⟨4, ![4, 8192, 4, 128]⟩
abbrev S4x256x4x128 : Shape := ⟨4, ![4, 256, 4, 128]⟩
abbrev S4x4x8192x256 : Shape := ⟨4, ![4, 4, 8192, 256]⟩
abbrev S_ : Shape := ⟨0, ![]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩

abbrev nBuf : Space → Nat
  | .hbm => 28
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S1024x512, .bf16⟩
  | .hbm, ⟨2, _⟩ => ⟨S1024x512, .bf16⟩
  | .hbm, ⟨3, _⟩ => ⟨S32768x512, .f32⟩
  | .hbm, ⟨4, _⟩ => ⟨S4x8192x4x128, .f32⟩
  | .hbm, ⟨5, _⟩ => ⟨S1024x512, .f32⟩
  | .hbm, ⟨6, _⟩ => ⟨S4x256x4x128, .f32⟩
  | .hbm, ⟨7, _⟩ => ⟨S1024x512, .f32⟩
  | .hbm, ⟨8, _⟩ => ⟨S4x256x4x128, .f32⟩
  | .hbm, ⟨9, _⟩ => ⟨S4x4x8192x256, .f32⟩
  | .hbm, ⟨10, _⟩ => ⟨S_, .f32⟩
  | .hbm, ⟨11, _⟩ => ⟨S4x4x8192, .f32⟩
  | .hbm, ⟨12, _⟩ => ⟨S_, .f32⟩
  | .hbm, ⟨13, _⟩ => ⟨S4x4x8192, .f32⟩
  | .hbm, ⟨14, _⟩ => ⟨S4x4x8192, .f32⟩
  | .hbm, ⟨15, _⟩ => ⟨S4x4x8192x1, .f32⟩
  | .hbm, ⟨16, _⟩ => ⟨S4x4x8192x256, .f32⟩
  | .hbm, ⟨17, _⟩ => ⟨S4x4x8192x256, .f32⟩
  | .hbm, ⟨18, _⟩ => ⟨S4x4x8192x256, .f32⟩
  | .hbm, ⟨19, _⟩ => ⟨S_, .f32⟩
  | .hbm, ⟨20, _⟩ => ⟨S4x4x8192, .f32⟩
  | .hbm, ⟨21, _⟩ => ⟨S4x4x8192x1, .f32⟩
  | .hbm, ⟨22, _⟩ => ⟨S4x4x8192x256, .f32⟩
  | .hbm, ⟨23, _⟩ => ⟨S4x4x8192x256, .f32⟩
  | .hbm, ⟨24, _⟩ => ⟨S4x4x128x8192, .f32⟩
  | .hbm, ⟨25, _⟩ => ⟨S4x8192x4x128, .f32⟩
  | .hbm, ⟨26, _⟩ => ⟨S32768x512, .f32⟩
  | .hbm, ⟨27, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel8.lean ====
abbrev S32768x512 : Shape := ⟨2, ![32768, 512]⟩
abbrev S4 : Shape := ⟨1, ![4]⟩
abbrev S_ : Shape := ⟨0, ![]⟩
abbrev S4x64 : Shape := ⟨2, ![4, 64]⟩
abbrev S1x128 : Shape := ⟨2, ![1, 128]⟩
abbrev S256x128 : Shape := ⟨2, ![256, 128]⟩
abbrev S8192x128 : Shape := ⟨2, ![8192, 128]⟩
abbrev S1x256x1 : Shape := ⟨3, ![1, 256, 1]⟩
abbrev S1x256x128 : Shape := ⟨3, ![1, 256, 128]⟩
abbrev S512x128 : Shape := ⟨2, ![512, 128]⟩
abbrev S256x512 : Shape := ⟨2, ![256, 512]⟩
abbrev S256x1 : Shape := ⟨2, ![256, 1]⟩
abbrev S256 : Shape := ⟨1, ![256]⟩

abbrev nBuf : Space → Nat
  | .hbm => 9
  | .vmem => 13
  | .smem => 1
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S4, .f32⟩
  | .hbm, ⟨4, _⟩ => ⟨S_, .f32⟩
  | .hbm, ⟨5, _⟩ => ⟨S4x64, .f32⟩
  | .hbm, ⟨6, _⟩ => ⟨S_, .f32⟩
  | .hbm, ⟨7, _⟩ => ⟨S1x128, .f32⟩
  | .hbm, ⟨8, _⟩ => ⟨S32768x512, .bf16⟩
  | .local _ .vmem, ⟨0, _⟩ => ⟨S4x64, .f32⟩
  | .local _ .vmem, ⟨1, _⟩ => ⟨S1x128, .f32⟩
  | .local _ .vmem, ⟨2, _⟩ => ⟨S256x128, .bf16⟩
  | .local _ .vmem, ⟨3, _⟩ => ⟨S256x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S256x128, .bf16⟩
  | .local _ .vmem, ⟨9, _⟩ => ⟨S256x128, .bf16⟩
  | .local _ .vmem, ⟨10, _⟩ => ⟨S1x256x1, .f32⟩
  | .local _ .vmem, ⟨11, _⟩ => ⟨S1x256x1, .f32⟩
  | .local _ .vmem, ⟨12, _⟩ => ⟨S1x256x128, .f32⟩
  | .local _ .smem, ⟨0, _⟩ => ⟨S4, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 4, 32], ![false, false, false]⟩

@[reducible] def k0_t1_loop : Scf.Loop 32 :=
  let c0_i32 : BitVec 32 := 0#32
  let c16_i32 : BitVec 32 := 16#32
  let v13 : BitVec 32 := Scalar.addi c0_i32 c16_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v22 : BitVec 32 := Scalar.muli arg13 c512_i32
  v22
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v22 : BitVec 32 := Scalar.muli arg13 c512_i32
  let v23 : BitVec 32 := v22
  let v24 : Index := Scalar.indexCast v23
  let c0_21 : Index := 0#32
  ![v24.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference8Ideal.lean ====
abbrev S32768x512 : Shape := ⟨2, ![32768, 512]⟩
abbrev S4x8192x4x128 : Shape := ⟨4, ![4, 8192, 4, 128]⟩
abbrev S4x4x8192x8192 : Shape := ⟨4, ![4, 4, 8192, 8192]⟩
abbrev S_ : Shape := ⟨0, ![]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩

abbrev nBuf : Space → Nat
  | .hbm => 28
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .f32⟩
  | .hbm, ⟨4, _⟩ => ⟨S4x8192x4x128, .f32⟩
  | .hbm, ⟨5, _⟩ => ⟨S32768x512, .f32⟩
  | .hbm, ⟨6, _⟩ => ⟨S4x8192x4x128, .f32⟩
  | .hbm, ⟨7, _⟩ => ⟨S32768x512, .f32⟩
  | .hbm, ⟨8, _⟩ => ⟨S4x8192x4x128, .f32⟩
  | .hbm, ⟨9, _⟩ => ⟨S4x4x8192x8192, .f32⟩
  | .hbm, ⟨10, _⟩ => ⟨S_, .f32⟩
  | .hbm, ⟨11, _⟩ => ⟨S4x4x8192, .f32⟩
  | .hbm, ⟨12, _⟩ => ⟨S_, .f32⟩
  | .hbm, ⟨13, _⟩ => ⟨S4x4x8192, .f32⟩
  | .hbm, ⟨14, _⟩ => ⟨S4x4x8192, .f32⟩
  | .hbm, ⟨15, _⟩ => ⟨S4x4x8192x1, .f32⟩
  | .hbm, ⟨16, _⟩ => ⟨S4x4x8192x8192, .f32⟩
  | .hbm, ⟨17, _⟩ => ⟨S4x4x8192x8192, .f32⟩
  | .hbm, ⟨18, _⟩ => ⟨S4x4x8192x8192, .f32⟩
  | .hbm, ⟨19, _⟩ => ⟨S_, .f32⟩
  | .hbm, ⟨20, _⟩ => ⟨S4x4x8192, .f32⟩
  | .hbm, ⟨21, _⟩ => ⟨S4x4x8192x1, .f32⟩
  | .hbm, ⟨22, _⟩ => ⟨S4x4x8192x8192, .f32⟩
  | .hbm, ⟨23, _⟩ => ⟨S4x4x8192x8192, .f32⟩
  | .hbm, ⟨24, _⟩ => ⟨S4x4x128x8192, .f32⟩
  | .hbm, ⟨25, _⟩ => ⟨S4x8192x4x128, .f32⟩
  | .hbm, ⟨26, _⟩ => ⟨S32768x512, .f32⟩
  | .hbm, ⟨27, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel9.lean ====
abbrev S32768x1536 : Shape := ⟨2, ![32768, 1536]⟩
abbrev S4x64 : Shape := ⟨2, ![4, 64]⟩
abbrev S128 : Shape := ⟨1, ![128]⟩
abbrev S4 : Shape := ⟨1, ![4]⟩
abbrev S1x128 : Shape := ⟨2, ![1, 128]⟩
abbrev S32768x512 : Shape := ⟨2, ![32768, 512]⟩
abbrev S256x128 : Shape := ⟨2, ![256, 128]⟩
abbrev S8192x128 : Shape := ⟨2, ![8192, 128]⟩
abbrev S2x256x1 : Shape := ⟨3, ![2, 256, 1]⟩
abbrev S2x256x128 : Shape := ⟨3, ![2, 256, 128]⟩
abbrev S1 : Shape := ⟨1, ![1]⟩
abbrev S256x512 : Shape := ⟨2, ![256, 512]⟩
abbrev S512x128 : Shape := ⟨2, ![512, 128]⟩
abbrev S1x256x1 : Shape := ⟨3, ![1, 256, 1]⟩
abbrev S256x1 : Shape := ⟨2, ![256, 1]⟩
abbrev S256 : Shape := ⟨1, ![256]⟩
abbrev S1x256x128 : Shape := ⟨3, ![1, 256, 128]⟩
abbrev S1x64 : Shape := ⟨2, ![1, 64]⟩
abbrev S1x1 : Shape := ⟨2, ![1, 1]⟩

abbrev nBuf : Space → Nat
  | .hbm => 6
  | .vmem => 13
  | .smem => 1
  | _ => 0

abbrev bufTy : (tb : Table) → Fin (tcTables nBuf tb) → BufTy
  | .hbm, ⟨0, _⟩ => ⟨S32768x1536, .bf16⟩
  | .hbm, ⟨1, _⟩ => ⟨S4x64, .f32⟩
  | .hbm, ⟨2, _⟩ => ⟨S128, .f32⟩
  | .hbm, ⟨3, _⟩ => ⟨S4, .f32⟩
  | .hbm, ⟨4, _⟩ => ⟨S1x128, .f32⟩
  | .hbm, ⟨5, _⟩ => ⟨S32768x512, .bf16⟩
  | .local _ .vmem, ⟨0, _⟩ => ⟨S4x64, .f32⟩
  | .local _ .vmem, ⟨1, _⟩ => ⟨S1x128, .f32⟩
  | .local _ .vmem, ⟨2, _⟩ => ⟨S256x128, .bf16⟩
  | .local _ .vmem, ⟨3, _⟩ => ⟨S256x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S256x128, .bf16⟩
  | .local _ .vmem, ⟨9, _⟩ => ⟨S256x128, .bf16⟩
  | .local _ .vmem, ⟨10, _⟩ => ⟨S2x256x1, .f32⟩
  | .local _ .vmem, ⟨11, _⟩ => ⟨S2x256x1, .f32⟩
  | .local _ .vmem, ⟨12, _⟩ => ⟨S2x256x128, .f32⟩
  | .local _ .smem, ⟨0, _⟩ => ⟨S4, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 4, 32], ![false, false, false]⟩

def k0_off1 (i : grid0.Coords) : Fin 1 → Nat :=
  let arg1 : BitVec 32 := BitVec.ofNat 32 (i 1).val
  let v23 : Index := Scalar.indexCast arg1
  ![v23.toNat]
@[reducible] def k0_t1_loop : Scf.Loop 32 :=
  let c0_i32 : BitVec 32 := 0#32
  let c16_i32 : BitVec 32 := 16#32
  let v29 : BitVec 32 := Scalar.addi c0_i32 c16_i32
  let c1_i32 : BitVec 32 := 1#32
  ⟨c0_i32, v29, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v79 : BitVec 32 := Scalar.muli arg13 c512_i32
  v79
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v79 : BitVec 32 := Scalar.muli arg13 c512_i32
  let v80 : BitVec 32 := v79
  let v81 : Index := Scalar.indexCast v80
  let c0_40 : Index := 0#32
  ![v81.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference9Ideal.lean ====
abbrev S32768x1536 : Shape := ⟨2, ![32768, 1536]⟩
abbrev S4x64 : Shape := ⟨2, ![4, 64]⟩
abbrev S128 : Shape := ⟨1, ![128]⟩
abbrev S4x8192x1536 : Shape := ⟨3, ![4, 8192, 1536]⟩
abbrev S4x8192x512 : Shape := ⟨3, ![4, 8192, 512]⟩
abbrev S4x8192x4x2x64 : Shape := ⟨5, ![4, 8192, 4, 2, 64]⟩
abbrev S4x8192x4x128 : Shape := ⟨4, ![4, 8192, 4, 128]⟩
abbrev S1x64 : Shape := ⟨2, ![1, 64]⟩
abbrev S64 : Shape := ⟨1, ![64]⟩
abbrev S_ : Shape := ⟨0, ![]⟩
abbrev S4 : Shape := ⟨1, ![4]⟩
abbrev S8192 : Shape := ⟨1, ![8192]⟩
abbrev S4x2x4x8192x8192 : Shape := ⟨5, ![4, 2, 4, 8192, 8192]⟩
abbrev S4x1x1 : Shape := ⟨3, ![4, 1, 1]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S4x8192x8192 : Shape := ⟨3, ![4, 8192, 8192]⟩
abbrev S1x1x4x8192x8192 : Shape := ⟨5, ![1, 1, 4, 8192, 8192]⟩
abbrev S4x2x4x8192 : Shape := ⟨4, ![4, 2, 4, 8192]⟩
abbrev S4x2x4x8192x1 : Shape := ⟨5, ![4, 2, 4, 8192, 1]⟩
abbrev S4x1x4x8192x8192 : Shape := ⟨5, ![4, 1, 4, 8192, 8192]⟩
abbrev S4x4x8192x8192 : Shape := ⟨4, ![4, 4, 8192, 8192]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S32768x512 : Shape := ⟨2, ![32768, 512]⟩

abbrev nBuf : Space → Nat
  | .hbm => 105
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S4x64, .f32⟩
  | .hbm, ⟨2, _⟩ => ⟨S128, .f32⟩
  | .hbm, ⟨3, _⟩ => ⟨S32768x1536, .f32⟩
  | .hbm, ⟨4, _⟩ => ⟨S4x8192x1536, .f32⟩
  | .hbm, ⟨5, _⟩ => ⟨S4x8192x512, .f32⟩
  | .hbm, ⟨6, _⟩ => ⟨S4x8192x4x2x64, .f32⟩
  | .hbm, ⟨7, _⟩ => ⟨S4x8192x512, .f32⟩
  | .hbm, ⟨8, _⟩ => ⟨S4x8192x4x2x64, .f32⟩
  | .hbm, ⟨9, _⟩ => ⟨S4x8192x512, .f32⟩
  | .hbm, ⟨10, _⟩ => ⟨S4x8192x4x128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S8192, .i32⟩
  | .hbm, ⟨44, _⟩ => ⟨S4x2x4x8192x8192, .f32⟩
  | .hbm, ⟨45, _⟩ => ⟨S4x1x1, .f32⟩
  | .hbm, ⟨46, _⟩ => ⟨S4x1x1, .f32⟩
  | .hbm, ⟨47, _⟩ => ⟨S8192x1, .i32⟩
  | .hbm, ⟨48, _⟩ => ⟨S1x8192, .i32⟩
  | .hbm, ⟨49, _⟩ => ⟨S8192x8192, .i32⟩
  | .hbm, ⟨50, _⟩ => ⟨S8192x8192, .i32⟩
  | .hbm, ⟨51, _⟩ => ⟨S8192x8192, .i32⟩
  | .hbm, ⟨52, _⟩ => ⟨S8192x8192, .i32⟩
  | .hbm, ⟨53, _⟩ => ⟨S8192x8192, .f32⟩
  | .hbm, ⟨54, _⟩ => ⟨S1x8192x8192, .f32⟩
  | .hbm, ⟨55, _⟩ => ⟨S4x8192x8192, .f32⟩
  | .hbm, ⟨56, _⟩ => ⟨S4x8192x8192, .f32⟩
  | .hbm, ⟨57, _⟩ => ⟨S4x8192x8192, .f32⟩
  | .hbm, ⟨58, _⟩ => ⟨S1x1x4x8192x8192, .f32⟩
  | .hbm, ⟨59, _⟩ => ⟨S4x2x4x8192x8192, .f32⟩
  | .hbm, ⟨60, _⟩ => ⟨S4x2x4x8192x8192, .f32⟩
  | .hbm, ⟨61, _⟩ => ⟨S_, .f32⟩
  | .hbm, ⟨62, _⟩ => ⟨S4x2x4x8192, .f32⟩
  | .hbm, ⟨63, _⟩ => ⟨S_, .f32⟩
  | .hbm, ⟨64, _⟩ => ⟨S4x2x4x8192, .f32⟩
  | .hbm, ⟨65, _⟩ => ⟨S4x2x4x8192, .f32⟩
  | .hbm, ⟨66, _⟩ => ⟨S4x2x4x8192x1, .f32⟩
  | .hbm, ⟨67, _⟩ => ⟨S4x2x4x8192x8192, .f32⟩
  | .hbm, ⟨68, _⟩ => ⟨S4x2x4x8192x8192, .f32⟩
  | .hbm, ⟨69, _⟩ => ⟨S4x2x4x8192x8192, .f32⟩
  | .hbm, ⟨70, _⟩ => ⟨S_, .f32⟩
  | .hbm, ⟨71, _⟩ => ⟨S4x2x4x8192, .f32⟩
  | .hbm, ⟨72, _⟩ => ⟨S4x2x4x8192x1, .f32⟩
  | .hbm, ⟨73, _⟩ => ⟨S4x2x4x8192x8192, .f32⟩
  | .hbm, ⟨74, _⟩ => ⟨S4x2x4x8192x8192, .f32⟩
  | .hbm, ⟨75, _⟩ => ⟨S4x1x4x8192x8192, .f32⟩
  | .hbm, ⟨76, _⟩ => ⟨S4x4x8192x8192, .f32⟩
  | .hbm, ⟨77, _⟩ => ⟨S4x1x4x8192x8192, .f32⟩
  | .hbm, ⟨78, _⟩ => ⟨S4x4x8192x8192, .f32⟩
  | .hbm, ⟨79, _⟩ => ⟨S4x4x8192x8192, .f32⟩
  | .hbm, ⟨80, _⟩ => ⟨S4x4x8192x8192, .f32⟩
  | .hbm, ⟨81, _⟩ => ⟨S4x4x8192x8192, .f32⟩
  | .hbm, ⟨82, _⟩ => ⟨S4x4x128x8192, .f32⟩
  | .hbm, ⟨83, _⟩ => ⟨S4x8192x4x128, .f32⟩
  | .hbm, ⟨84, _⟩ => ⟨S4x8192x4x128, .f32⟩
  | .hbm, ⟨85, _⟩ => ⟨S_, .f32⟩
  | .hbm, ⟨86, _⟩ => ⟨S4x8192x4, .f32⟩
  | .hbm, ⟨87, _⟩ => ⟨S4x8192x4x1, .f32⟩
  | .hbm, ⟨88, _⟩ => ⟨S_, .f32⟩
  | .hbm, ⟨89, _⟩ => ⟨S4x8192x4x1, .f32⟩
  | .hbm, ⟨90, _⟩ => ⟨S4x8192x4x1, .f32⟩
  | .hbm, ⟨91, _⟩ => ⟨S_, .f32⟩
  | .hbm, ⟨92, _⟩ => ⟨S4x8192x4x1, .f32⟩
  | .hbm, ⟨93, _⟩ => ⟨S4x8192x4x1, .f32⟩
  | .hbm, ⟨94, _⟩ => ⟨S4x8192x4x1, .f32⟩
  | .hbm, ⟨95, _⟩ => ⟨S4x8192x4x128, .f32⟩
  | .hbm, ⟨96, _⟩ => ⟨S4x8192x4x128, .f32⟩
  | .hbm, ⟨97, _⟩ => ⟨S1x1x1x128, .f32⟩
  | .hbm, ⟨98, _⟩ => ⟨S4x8192x4x128, .f32⟩
  | .hbm, ⟨99, _⟩ => ⟨S4x8192x4x128, .f32⟩
  | .hbm, ⟨100, _⟩ => ⟨S_, .f32⟩
  | .hbm, ⟨101, _⟩ => ⟨S4x8192x4x128, .f32⟩
  | .hbm, ⟨102, _⟩ => ⟨S4x8192x4x128, .f32⟩
  | .hbm, ⟨103, _⟩ => ⟨S32768x512, .f32⟩
  | .hbm, ⟨104, _⟩ => ⟨S32768x512, .bf16⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_8 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_9 : Ref sig .tc := ⟨.hbm, 85, rfl⟩
abbrev main_v72 : Ref sig .tc := ⟨.hbm, 86, rfl⟩
abbrev main_v73 : Ref sig .tc := ⟨.hbm, 87, rfl⟩
abbrev main_cst_10 : Ref sig .tc := ⟨.hbm, 88, rfl⟩
abbrev main_v74 : Ref sig .tc := ⟨.hbm, 89, rfl⟩
abbrev main_v75 : Ref sig .tc := ⟨.hbm, 90, rfl⟩
abbrev main_cst_11 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_12 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩

abbrev nD : Nat := 1
abbrev τ : Topo := Topo.v7x

variable {F : FTy → Type} [FloatOps F]
-- ==== Proof.Trip.lean ====
module

public import proofs.«01_k».proof.Proof.Gen.KernelIdeal.Loops
public import Idealize.ShloMosaic.Lib.Pointwise.Tactic
public import Idealize.ShloMosaic.Lib.Pointwise
public import Idealize.ShloMosaic.Lib.Pipeline.Value
public import Idealize.ShloMosaic.Lib.WritesUnit

@[expose] public section
set_option maxRecDepth 16384
noncomputable section
namespace Cert.KernelIdeal.Flash
open Idealize.ShloMosaic Cert.KernelIdeal Cert.KernelIdeal.Gen Idealize.ShloMosaic.TcCoe Idealize.ShloMosaic.Tactic

variable (𝒱 : Variants) (c : Dev nD) (bd : Option 𝒱.V) (i : grid0.Coords) (arg3 : Memref sig .tc .smem S4 .f32) (harg3 : arg3.IsWhole) (arg4 : Memref sig .tc .vmem S4x64 .f32) (harg4 : arg4.IsWhole) (arg5 : Memref sig .tc .vmem S1x128 .f32) (harg5 : arg5.IsWhole) (arg6 : Memref sig .tc .vmem S256x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S256x128 .bf16) (harg9 : arg9.IsWhole) (arg10 : Memref sig .tc .vmem S2x256x1 .f32) (harg10 : arg10.IsWhole) (arg11 : Memref sig .tc .vmem S2x256x1 .f32) (harg11 : arg11.IsWhole) (arg12 : Memref sig .tc .vmem S2x256x128 .f32) (harg12 : arg12.IsWhole) (v0 : BitVec 32) (v1 : Vec Ideal S256x128 .bf16) (v24 : Elt Ideal .f32) (X_arg7 : BufTy.Contents (Elt Ideal) arg7.view.ty) (X_arg8 : BufTy.Contents (Elt Ideal) arg8.view.ty) (k : Fin k0_t1_loop.trips) (f_arg10 : BufTy.Contents (Elt Ideal) arg10.view.ty) (f_arg11 : BufTy.Contents (Elt Ideal) arg11.view.ty) (f_arg12 : BufTy.Contents (Elt Ideal) arg12.view.ty)

/-- The trip's tile of a whole array of keys or values: rows `512 k …`. -/
def tile (X : Vec Ideal S4096x128 .bf16) (k : Fin k0_t1_loop.trips) : Vec Ideal S512x128 .bf16 := fun j =>
  X (ix2 ⟨512 * k.val + (j 0).val, by
    have h : (j 0).val < 512 := (j 0).isLt
    have hk : k.val < 8 := Nat.lt_of_lt_of_le k.isLt k0_t1_abs.2.1
    omega⟩ (j 1))

/-- The slab `h` of a scratch array: the part that map `h` of the attention uses. -/
def slab {D : ℕ} (h : Fin 2) (X : Vec Ideal (⟨3, ![2, 256, D]⟩ : Shape) .f32) : Vec Ideal (⟨3, ![1, 256, D]⟩ : Shape) .f32 :=
  fun j => X (ix3 h (j 1) (j 2))

/-- The queries of map `h`: the other map's lanes are zero. -/
def maskq (h : Fin 2) (q : Vec Ideal S256x128 .bf16) : Vec Ideal S256x128 .bf16 := if h = 0 then k0_pay20 q else k0_pay21 q

/-- A load of the trip's rows of keys or values reads the trip's tile. -/
theorem ld_tile (X : Vec Ideal S4096x128 .bf16) (k : Fin k0_t1_loop.trips) :
    View.ld X (Rect.unit (s := S4096x128) (k0_off2 k) S512x128.size (k0_off2_inb k)) = tile X k := by
  funext j
  unfold tile
  refine congrArg X (funext fun a => Fin.ext ?_)
  match a with
  | ⟨0, _⟩ =>
    show k0_off2 k 0 + 1 * (j 0).val = 512 * k.val + (j 0).val
    rw [show k0_off2 k 0 = 512 * k.val from congrFun (k0_off2_eq k) 0, Nat.one_mul]
  | ⟨1, _⟩ =>
    show k0_off2 k 1 + 1 * (j 1).val = (j 1).val
    rw [show k0_off2 k 1 = 0 from congrFun (k0_off2_eq k) 1, Nat.one_mul, Nat.zero_add]

/-- A load of one map's slab of a scratch array reads that slab. -/
theorem ld_slab (D n : ℕ) (h : Fin 2) (hn : n = h.val) (X : Vec Ideal (⟨3, ![2, 256, D]⟩ : Shape) .f32) (inb) :
    View.ld (e' := .f32) X (Rect.unit (s := (⟨3, ![2, 256, D]⟩ : Shape)) ![n, 0, 0] (![1, 256, D]) inb) = slab h X := by
  subst hn
  funext j
  unfold slab
  refine congrArg X (funext fun a => Fin.ext ?_)
  match a with
  | ⟨0, _⟩ =>
    show h.val + 1 * (j 0).val = h.val
    have : (j 0).val < 1 := (j 0).isLt
    omega
  | ⟨1, _⟩ => show 0 + 1 * (j 1).val = (j 1).val; omega
  | ⟨2, _⟩ => show 0 + 1 * (j 2).val = (j 2).val; omega

/-- After the trip, the running maximum of map 0 in row `r`. -/
theorem trip_m0 (r : Fin 256) :
    arg10.view.read (Elt Ideal) (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 k).1 f_arg10 f_arg11 f_arg12)) (ix3 0 r 0)
      = k0_pay14 (maskq 0 v1) (tile (arg7.view.read (Elt Ideal) X_arg7) k) (k0_pay2 v0 v24 k0_pay25 0#32 1#32 k) (slab 0 (arg10.view.read (Elt Ideal) f_arg10)) (ix2 r 0) := by
  unfold trip_k0_t1
  dsimp only
  sl_unfold_words
  rw [View.read_writes_cons_unit_of_not_mem _ _ _ _ _ _ rfl 0 (Or.inl (Nat.zero_lt_one)),
    View.read_writes_cons_unit_of_mem _ _ _ _ _ _ (ix3 0 r 0) rfl (by intro a; fin_cases a <;> simp)]
  show k0_pay11 (k0_pay14 (k0_pay20 v1) (View.ld (arg7.view.read (Elt Ideal) X_arg7) (Rect.unit (s := S4096x128) (k0_off2 k) S512x128.size (k0_off2_inb k))) (k0_pay2 v0 v24 k0_pay25 0#32 1#32 k) (View.ld (arg10.view.read (Elt Ideal) f_arg10) (Rect.unit (s := S2x256x1) ![0, 0, 0] ![1, 256, 1] inb_S2x256x1_S1x256x1_0_0_0))) (ix3 0 r 0) = _
  rw [ld_tile, ld_slab 1 0 0 rfl]
  unfold maskq
  rw [if_pos rfl]
  unfold k0_pay11
  pointwise

/-- After the trip, the running sum of map 0 in row `r`. -/
theorem trip_l0 (r : Fin 256) :
    arg11.view.read (Elt Ideal) (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 k).2.1 f_arg10 f_arg11 f_arg12)) (ix3 0 r 0)
      = k0_pay17 (maskq 0 v1) (tile (arg7.view.read (Elt Ideal) X_arg7) k) (k0_pay2 v0 v24 k0_pay25 0#32 1#32 k) (slab 0 (arg10.view.read (Elt Ideal) f_arg10)) (slab 0 (arg11.view.read (Elt Ideal) f_arg11)) (ix3 0 r 0) := by
  unfold trip_k0_t1
  dsimp only
  sl_unfold_words
  rw [View.read_writes_cons_unit_of_not_mem _ _ _ _ _ _ rfl 0 (Or.inl (Nat.zero_lt_one)),
    View.read_writes_cons_unit_of_mem _ _ _ _ _ _ (ix3 0 r 0) rfl (by intro a; fin_cases a <;> simp)]
  show k0_pay17 (k0_pay20 v1) (View.ld (arg7.view.read (Elt Ideal) X_arg7) (Rect.unit (s := S4096x128) (k0_off2 k) S512x128.size (k0_off2_inb k))) (k0_pay2 v0 v24 k0_pay25 0#32 1#32 k) (View.ld (arg10.view.read (Elt Ideal) f_arg10) (Rect.unit (s := S2x256x1) ![0, 0, 0] ![1, 256, 1] inb_S2x256x1_S1x256x1_0_0_0)) (View.ld (arg11.view.read (Elt Ideal) f_arg11) (Rect.unit (s := S2x256x1) ![0, 0, 0] ![1, 256, 1] inb_S2x256x1_S1x256x1_0_0_0)) (ix3 0 r 0) = _
  rw [ld_tile, ld_slab 1 0 0 rfl, ld_slab 1 0 0 rfl]
  unfold maskq
  rw [if_pos rfl]

/-- After the trip, the running weighted sum of map 0 in row `r`. -/
theorem trip_a0 (r : Fin 256) (d : Fin 128) :
    arg12.view.read (Elt Ideal) (arg12.view.writes (Elt Ideal) f_arg12 ((trip_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 k).2.2.1 f_arg10 f_arg11 f_arg12)) (ix3 0 r d)
      = k0_pay26 (tile (arg8.view.read (Elt Ideal) X_arg8) k) (k0_pay18 (maskq 0 v1) (tile (arg7.view.read (Elt Ideal) X_arg7) k) (k0_pay2 v0 v24 k0_pay25 0#32 1#32 k) (slab 0 (arg10.view.read (Elt Ideal) f_arg10)) (slab 0 (arg12.view.read (Elt Ideal) f_arg12))) (k0_pay19 (maskq 0 v1) (tile (arg7.view.read (Elt Ideal) X_arg7) k) (k0_pay2 v0 v24 k0_pay25 0#32 1#32 k) (slab 0 (arg10.view.read (Elt Ideal) f_arg10))) (ix3 0 r d) := by
  unfold trip_k0_t1
  dsimp only
  sl_unfold_words
  rw [View.read_writes_cons_unit_of_not_mem _ _ _ _ _ _ rfl 0 (Or.inl (Nat.zero_lt_one)),
    View.read_writes_cons_unit_of_mem _ _ _ _ _ _ (ix3 0 r d) rfl (by intro a; fin_cases a <;> simp)]
  show k0_pay26 (View.ld (arg8.view.read (Elt Ideal) X_arg8) (Rect.unit (s := S4096x128) (k0_off2 k) S512x128.size (k0_off2_inb k))) (k0_pay18 (k0_pay20 v1) (View.ld (arg7.view.read (Elt Ideal) X_arg7) (Rect.unit (s := S4096x128) (k0_off2 k) S512x128.size (k0_off2_inb k))) (k0_pay2 v0 v24 k0_pay25 0#32 1#32 k) (View.ld (arg10.view.read (Elt Ideal) f_arg10) (Rect.unit (s := S2x256x1) ![0, 0, 0] ![1, 256, 1] inb_S2x256x1_S1x256x1_0_0_0)) (View.ld (arg12.view.read (Elt Ideal) f_arg12) (Rect.unit (s := S2x256x128) ![0, 0, 0] ![1, 256, 128] inb_S2x256x128_S1x256x128_0_0_0))) (k0_pay19 (k0_pay20 v1) (View.ld (arg7.view.read (Elt Ideal) X_arg7) (Rect.unit (s := S4096x128) (k0_off2 k) S512x128.size (k0_off2_inb k))) (k0_pay2 v0 v24 k0_pay25 0#32 1#32 k) (View.ld (arg10.view.read (Elt Ideal) f_arg10) (Rect.unit (s := S2x256x1) ![0, 0, 0] ![1, 256, 1] inb_S2x256x1_S1x256x1_0_0_0))) (ix3 0 r d) = _
  rw [ld_tile, ld_tile, ld_slab 1 0 0 rfl, ld_slab 128 0 0 rfl]
  unfold maskq
  rw [if_pos rfl]

/-- After the trip, the running maximum of map 1 in row `r`. -/
theorem trip_m1 (r : Fin 256) :
    arg10.view.read (Elt Ideal) (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 k).1 f_arg10 f_arg11 f_arg12)) (ix3 1 r 0)
      = k0_pay14 (maskq 1 v1) (tile (arg7.view.read (Elt Ideal) X_arg7) k) (k0_pay2 v0 v24 k0_pay25 0#32 1#32 k) (slab 1 (arg10.view.read (Elt Ideal) f_arg10)) (ix2 r 0) := by
  unfold trip_k0_t1
  dsimp only
  sl_unfold_words
  rw [View.read_writes_cons_unit_of_mem _ _ _ _ _ _ (ix3 0 r 0) rfl (by intro a; fin_cases a <;> simp)]
  show k0_pay27 (k0_pay14 (k0_pay21 v1) (View.ld (arg7.view.read (Elt Ideal) X_arg7) (Rect.unit (s := S4096x128) (k0_off2 k) S512x128.size (k0_off2_inb k))) (k0_pay2 v0 v24 k0_pay25 0#32 1#32 k) (View.ld (arg10.view.read (Elt Ideal) f_arg10) (Rect.unit (s := S2x256x1) ![1, 0, 0] ![1, 256, 1] inb_S2x256x1_S1x256x1_1_0_0))) (ix3 0 r 0) = _
  rw [ld_tile, ld_slab 1 1 1 rfl]
  unfold maskq
  rw [if_neg (by decide)]
  unfold k0_pay27
  pointwise

/-- After the trip, the running sum of map 1 in row `r`. -/
theorem trip_l1 (r : Fin 256) :
    arg11.view.read (Elt Ideal) (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 k).2.1 f_arg10 f_arg11 f_arg12)) (ix3 1 r 0)
      = k0_pay17 (maskq 1 v1) (tile (arg7.view.read (Elt Ideal) X_arg7) k) (k0_pay2 v0 v24 k0_pay25 0#32 1#32 k) (slab 1 (arg10.view.read (Elt Ideal) f_arg10)) (slab 1 (arg11.view.read (Elt Ideal) f_arg11)) (ix3 0 r 0) := by
  unfold trip_k0_t1
  dsimp only
  sl_unfold_words
  rw [View.read_writes_cons_unit_of_mem _ _ _ _ _ _ (ix3 0 r 0) rfl (by intro a; fin_cases a <;> simp)]
  show k0_pay17 (k0_pay21 v1) (View.ld (arg7.view.read (Elt Ideal) X_arg7) (Rect.unit (s := S4096x128) (k0_off2 k) S512x128.size (k0_off2_inb k))) (k0_pay2 v0 v24 k0_pay25 0#32 1#32 k) (View.ld (arg10.view.read (Elt Ideal) f_arg10) (Rect.unit (s := S2x256x1) ![1, 0, 0] ![1, 256, 1] inb_S2x256x1_S1x256x1_1_0_0)) (View.ld (arg11.view.read (Elt Ideal) f_arg11) (Rect.unit (s := S2x256x1) ![1, 0, 0] ![1, 256, 1] inb_S2x256x1_S1x256x1_1_0_0)) (ix3 0 r 0) = _
  rw [ld_tile, ld_slab 1 1 1 rfl, ld_slab 1 1 1 rfl]
  unfold maskq
  rw [if_neg (by decide)]

/-- After the trip, the running weighted sum of map 1 in row `r`. -/
theorem trip_a1 (r : Fin 256) (d : Fin 128) :
    arg12.view.read (Elt Ideal) (arg12.view.writes (Elt Ideal) f_arg12 ((trip_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 k).2.2.1 f_arg10 f_arg11 f_arg12)) (ix3 1 r d)
      = k0_pay26 (tile (arg8.view.read (Elt Ideal) X_arg8) k) (k0_pay18 (maskq 1 v1) (tile (arg7.view.read (Elt Ideal) X_arg7) k) (k0_pay2 v0 v24 k0_pay25 0#32 1#32 k) (slab 1 (arg10.view.read (Elt Ideal) f_arg10)) (slab 1 (arg12.view.read (Elt Ideal) f_arg12))) (k0_pay19 (maskq 1 v1) (tile (arg7.view.read (Elt Ideal) X_arg7) k) (k0_pay2 v0 v24 k0_pay25 0#32 1#32 k) (slab 1 (arg10.view.read (Elt Ideal) f_arg10))) (ix3 0 r d) := by
  unfold trip_k0_t1
  dsimp only
  sl_unfold_words
  rw [View.read_writes_cons_unit_of_mem _ _ _ _ _ _ (ix3 0 r d) rfl (by intro a; fin_cases a <;> simp)]
  show k0_pay26 (View.ld (arg8.view.read (Elt Ideal) X_arg8) (Rect.unit (s := S4096x128) (k0_off2 k) S512x128.size (k0_off2_inb k))) (k0_pay18 (k0_pay21 v1) (View.ld (arg7.view.read (Elt Ideal) X_arg7) (Rect.unit (s := S4096x128) (k0_off2 k) S512x128.size (k0_off2_inb k))) (k0_pay2 v0 v24 k0_pay25 0#32 1#32 k) (View.ld (arg10.view.read (Elt Ideal) f_arg10) (Rect.unit (s := S2x256x1) ![1, 0, 0] ![1, 256, 1] inb_S2x256x1_S1x256x1_1_0_0)) (View.ld (arg12.view.read (Elt Ideal) f_arg12) (Rect.unit (s := S2x256x128) ![1, 0, 0] ![1, 256, 128] inb_S2x256x128_S1x256x128_1_0_0))) (k0_pay19 (k0_pay21 v1) (View.ld (arg7.view.read (Elt Ideal) X_arg7) (Rect.unit (s := S4096x128) (k0_off2 k) S512x128.size (k0_off2_inb k))) (k0_pay2 v0 v24 k0_pay25 0#32 1#32 k) (View.ld (arg10.view.read (Elt Ideal) f_arg10) (Rect.unit (s := S2x256x1) ![1, 0, 0] ![1, 256, 1] inb_S2x256x1_S1x256x1_1_0_0))) (ix3 0 r d) = _
  rw [ld_tile, ld_tile, ld_slab 1 1 1 rfl, ld_slab 128 1 1 rfl]
  unfold maskq
  rw [if_neg (by decide)]

end Cert.KernelIdeal.Flash

end
-- ==== Proof.Softmax.lean ====
/-
  Softmax over the extended reals, taken at once and taken tile by tile.

  Everything is about one row of scores `s j` (real numbers) and the rows `v j` of values that the row's weights
  multiply. `wavg s v n d` is the softmax-weighted average of the first `n` values. A shift of all scores by one real
  number changes nothing in it, so neither the running maximum of the tiled form nor the maximum of the whole row
  occurs in it, and the two forms meet there.
-/
module

public import Idealize.ShloMosaic.PureOps.Ideal
public import Idealize.ShloMosaic.PureOps.Ideal.Laws

@[expose] public section

noncomputable section

namespace Cert.Softmax

open Idealize.ShloMosaic Finset

/-- The softmax-weighted average of the values `v j d` over the first `n` scores. -/
def wavg {D : Type} (s : ℕ → ℝ) (v : ℕ → D → ℝ) (n : ℕ) (d : D) : ℝ :=
  (∑ j ∈ range n, Real.exp (s j) * v j d) / ∑ j ∈ range n, Real.exp (s j)

/-- A sum of reals, read in the extended reals. -/
theorem coe_sum {ι : Type} (t : Finset ι) (f : ι → ℝ) : ((∑ i ∈ t, f i : ℝ) : EReal) = ∑ i ∈ t, (f i : EReal) :=
  map_sum (⟨⟨Real.toEReal, rfl⟩, EReal.coe_add⟩ : ℝ →+ EReal) f t

/-- The difference of two reals, read in the extended reals. -/
theorem exp_sub_coe (a b : ℝ) : Ideal.exp ((a : EReal) - (b : EReal)) = (Real.exp (a - b) : EReal) := by
  rw [← EReal.coe_sub, Ideal.exp_coe]

/-- A quotient of reals with a nonzero divisor, read in the extended reals. -/
theorem div_coe_coe (a : ℝ) {b : ℝ} (hb : b ≠ 0) : Ideal.div (a : EReal) (b : EReal) = ((a / b : ℝ) : EReal) := by
  rw [Ideal.div_coe hb, ← EReal.coe_mul, mul_one_div]

/-- The maximum of finitely many reals, from a start below `⊤`, stays below `⊤`. -/
theorem fold_max_lt_top {ι : Type} (t : Finset ι) (f : ι → EReal) (b : EReal) (hb : b < ⊤) (hf : ∀ i ∈ t, f i < ⊤) :
    t.fold max b f < ⊤ := by
  rw [Finset.fold_max_lt]
  exact ⟨hb, hf⟩

/-- The maximum of a real and of finitely many reals is a real. -/
theorem exists_coe_max_fold {ι : Type} (t : Finset ι) (f : ι → ℝ) (μ : ℝ) :
    ∃ ν : ℝ, max (μ : EReal) (t.fold max ⊥ fun i => (f i : EReal)) = (ν : EReal) := by
  have h1 : max (μ : EReal) (t.fold max ⊥ fun i => (f i : EReal)) < ⊤ :=
    max_lt (EReal.coe_lt_top _) (fold_max_lt_top _ _ _ bot_lt_top fun i _ => EReal.coe_lt_top _)
  have h2 : ⊥ < max (μ : EReal) (t.fold max ⊥ fun i => (f i : EReal)) :=
    lt_of_lt_of_le (EReal.bot_lt_coe μ) (le_max_left _ _)
  exact ⟨_, (EReal.coe_toReal h1.ne h2.ne').symm⟩

/-- The maximum of a nonempty row of reals is a real. -/
theorem exists_coe_fold {n : ℕ} (hn : 0 < n) (f : Fin n → ℝ) :
    ∃ ν : ℝ, (Finset.univ : Finset (Fin n)).fold max ⊥ (fun i => (f i : EReal)) = (ν : EReal) := by
  have h1 : (Finset.univ : Finset (Fin n)).fold max ⊥ (fun i => (f i : EReal)) < ⊤ :=
    fold_max_lt_top _ _ _ bot_lt_top fun i _ => EReal.coe_lt_top _
  have h2 : ⊥ < (Finset.univ : Finset (Fin n)).fold max ⊥ (fun i => (f i : EReal)) := by
    rw [Finset.lt_fold_max]
    exact Or.inr ⟨⟨0, hn⟩, Finset.mem_univ _, EReal.bot_lt_coe _⟩
  exact ⟨_, (EReal.coe_toReal h1.ne h2.ne').symm⟩

/-- A shift of the scores changes no weighted average. -/
theorem wavg_shift {D : Type} (s : ℕ → ℝ) (v : ℕ → D → ℝ) (n : ℕ) (d : D) (μ : ℝ) :
    (∑ j ∈ range n, Real.exp (s j - μ) * v j d) / (∑ j ∈ range n, Real.exp (s j - μ)) = wavg s v n d := by
  have h1 : ∑ j ∈ range n, Real.exp (s j - μ) * v j d = Real.exp (-μ) * ∑ j ∈ range n, Real.exp (s j) * v j d := by
    rw [Finset.mul_sum]
    refine Finset.sum_congr rfl fun j _ => ?_
    rw [sub_eq_neg_add, Real.exp_add]; ring
  have h2 : ∑ j ∈ range n, Real.exp (s j - μ) = Real.exp (-μ) * ∑ j ∈ range n, Real.exp (s j) := by
    rw [Finset.mul_sum]
    refine Finset.sum_congr rfl fun j _ => ?_
    rw [sub_eq_neg_add, Real.exp_add]
  rw [h1, h2, mul_div_mul_left _ _ (Real.exp_ne_zero _)]
  rfl

/-- What the tiled form holds for one row after its first `n` scores: some real `μ` as the shift, the sum of the shifted
    exponentials, and the sums of the values they multiply. -/
def Online {D : Type} (s : ℕ → ℝ) (v : ℕ → D → ℝ) (n : ℕ) (m l : EReal) (a : D → EReal) : Prop :=
  ∃ μ : ℝ, m = (μ : EReal) ∧ l = ((∑ j ∈ range n, Real.exp (s j - μ) : ℝ) : EReal)
    ∧ ∀ d, a d = ((∑ j ∈ range n, Real.exp (s j - μ) * v j d : ℝ) : EReal)

/-- Before any score: any real shift and zero sums. -/
theorem Online.zero {D : Type} (s : ℕ → ℝ) (v : ℕ → D → ℝ) (μ : ℝ) {m l : EReal} {a : D → EReal}
    (hm : m = (μ : EReal)) (hl : l = 0) (ha : ∀ d, a d = 0) : Online s v 0 m l a :=
  ⟨μ, hm, by rw [hl, Finset.range_zero, Finset.sum_empty, EReal.coe_zero],
    fun d => by rw [ha d, Finset.range_zero, Finset.sum_empty, EReal.coe_zero]⟩

/-- One tile of `W` further scores: the shift moves to the maximum, the old sums are rescaled to it and the tile's terms
    are added. -/
theorem Online.step {D : Type} {s : ℕ → ℝ} {v : ℕ → D → ℝ} {n W : ℕ} {m l : EReal} {a : D → EReal}
    (h : Online s v n m l a) (x : Fin W → EReal) (y : Fin W → D → EReal)
    (hx : ∀ j, x j = (s (n + j.val) : EReal)) (hy : ∀ j d, y j d = (v (n + j.val) d : EReal)) {m' l' : EReal}
    {a' : D → EReal} (hm' : m' = max m (Finset.univ.fold max ⊥ x))
    (hl' : l' = Ideal.exp (m - m') * l + ∑ j, Ideal.exp (x j - m'))
    (ha' : ∀ d, a' d = Ideal.exp (m - m') * a d + ∑ j, Ideal.exp (x j - m') * y j d) :
    Online s v (n + W) m' l' a' := by
  obtain ⟨μ, hm, hl, ha⟩ := h
  obtain ⟨ν, hν⟩ := exists_coe_max_fold Finset.univ (fun j : Fin W => s (n + j.val)) μ
  have hx' : x = fun j => (s (n + j.val) : EReal) := funext hx
  have e : m' = (ν : EReal) := by rw [hm', hm, hx', hν]
  have hresc : ∀ j, Real.exp (μ - ν) * Real.exp (s j - μ) = Real.exp (s j - ν) := fun j => by
    rw [← Real.exp_add]; congr 1; ring
  refine ⟨ν, e, ?_, fun d => ?_⟩
  · rw [hl', hl, hm, e, exp_sub_coe, Finset.sum_congr (s₁ := (univ : Finset (Fin W))) rfl fun j _ => by rw [hx j, exp_sub_coe], ← coe_sum, ← EReal.coe_mul,
      ← EReal.coe_add, Finset.sum_range_add, Finset.mul_sum, Finset.sum_congr rfl fun j _ => hresc j,
      ← Fin.sum_univ_eq_sum_range (fun j => Real.exp (s (n + j) - ν)) W]
  · rw [ha' d, ha d, hm, e, exp_sub_coe,
      Finset.sum_congr (s₁ := (univ : Finset (Fin W))) rfl fun j _ => by rw [hx j, hy j d, exp_sub_coe, ← EReal.coe_mul], ← coe_sum, ← EReal.coe_mul,
      ← EReal.coe_add, Finset.sum_range_add, Finset.mul_sum,
      Finset.sum_congr rfl fun j _ => by rw [← mul_assoc, hresc j],
      ← Fin.sum_univ_eq_sum_range (fun j => Real.exp (s (n + j) - ν) * v (n + j) d) W]

/-- A nonempty sum of exponentials is not zero. -/
theorem sum_exp_ne_zero {n : ℕ} (hn : 0 < n) (f : ℕ → ℝ) : ∑ j ∈ range n, Real.exp (f j) ≠ 0 :=
  (Finset.sum_pos (fun j _ => Real.exp_pos (f j)) ⟨0, Finset.mem_range.mpr hn⟩).ne'

/-- The tiled form's quotient at the end: the weighted average. -/
theorem Online.final {D : Type} {s : ℕ → ℝ} {v : ℕ → D → ℝ} {n : ℕ} (hn : 0 < n) {m l : EReal} {a : D → EReal}
    (h : Online s v n m l a) (d : D) : Ideal.div (a d) l = (wavg s v n d : EReal) := by
  obtain ⟨μ, -, hl, ha⟩ := h
  rw [ha d, hl, div_coe_coe _ (sum_exp_ne_zero hn _), wavg_shift]

/-- The softmax taken at once: the weight of score `j`, shifted by any real, is a real, and the weights' sum with the
    values is the weighted average. -/
theorem softmax_weight {n : ℕ} (hn : 0 < n) (s : ℕ → ℝ) (x : Fin n → EReal) (hx : ∀ j, x j = (s j.val : EReal)) (M : EReal) (ν : ℝ)
    (hM : M = (ν : EReal)) (j : Fin n) :
    Ideal.div (Ideal.exp (x j - M)) (∑ k, Ideal.exp (x k - M))
      = ((Real.exp (s j.val - ν) / ∑ k ∈ range n, Real.exp (s k - ν) : ℝ) : EReal) := by
  rw [hM, hx j, exp_sub_coe, Finset.sum_congr rfl fun k _ => by rw [hx k, exp_sub_coe], ← coe_sum,
    Fin.sum_univ_eq_sum_range (fun k => Real.exp (s k - ν)) n, div_coe_coe _ (sum_exp_ne_zero hn _)]

/-- The shifted weights, summed with the values, are the weighted average. -/
theorem sum_weight {D : Type} {n : ℕ} (s : ℕ → ℝ) (v : ℕ → D → ℝ) (ν : ℝ) (d : D) :
    ∑ j : Fin n, Real.exp (s j.val - ν) / (∑ k ∈ range n, Real.exp (s k - ν)) * v j.val d = wavg s v n d := by
  rw [← wavg_shift s v n d ν, Fin.sum_univ_eq_sum_range (fun j => Real.exp (s j - ν) / (∑ k ∈ range n, Real.exp (s k - ν)) * v j d) n,
    Finset.sum_div]
  exact Finset.sum_congr rfl fun j _ => by ring

end Cert.Softmax
-- ==== Proof.Rows.lean ====
module

public import proofs.«01_k».proof.Proof.Trip
public import proofs.«01_k».proof.Proof.Softmax

@[expose] public section

set_option maxRecDepth 16384

noncomputable section

namespace Cert.KernelIdeal.Flash

open Idealize.ShloMosaic Cert.KernelIdeal Cert.KernelIdeal.Gen Idealize.ShloMosaic.TcCoe Idealize.ShloMosaic.Tactic Cert.Softmax

/-- The word of `-∞`, the start of a row's maximum. -/
theorem negInf : Ideal.ofBits FTy.f32 0xFF800000#32 = ⊥ := by simp [Ideal.ofBits, Ideal.ieee]

section Payloads

variable (q : Vec Ideal S256x128 .bf16) (k : Vec Ideal S512x128 .bf16) (b : FVec Ideal S256x512 .f32) (r : Fin 256)

/-- A score: the product of the query row with the key row, and the bias. -/
theorem pay12_apply (j : Fin 512) : k0_pay12 q k b (ix2 r j) = ∑ x, q (ix2 r x) * k (ix2 j x) + b (ix2 r j) := by
  unfold k0_pay12
  pointwise [dot_S256x128_S512x128_S256x512_1_1_0_0_n_n]

/-- The new maximum of a row. -/
theorem pay14_apply (m : Vec Ideal S1x256x1 .f32) :
    k0_pay14 q k b m (ix2 r 0) = max (m (ix3 0 r 0)) (Finset.univ.fold max ⊥ fun x => k0_pay12 q k b (ix2 r x)) := by
  unfold k0_pay14 k0_pay13
  pointwise
  rw [negInf]

/-- The new sum of a row. -/
theorem pay17_apply (m l : Vec Ideal S1x256x1 .f32) :
    k0_pay17 q k b m l (ix3 0 r 0) = Ideal.exp (m (ix3 0 r 0) - k0_pay14 q k b m (ix2 r 0)) * l (ix3 0 r 0)
      + ∑ x, Ideal.exp (k0_pay12 q k b (ix2 r x) - k0_pay14 q k b m (ix2 r 0)) := by
  unfold k0_pay17 k0_pay15 k0_pay16 k0_pay13
  pointwise

/-- The new weighted sum of a row. -/
theorem pay26_apply (v : Vec Ideal S512x128 .bf16) (m : Vec Ideal S1x256x1 .f32) (a : Vec Ideal S1x256x128 .f32) (d : Fin 128) :
    k0_pay26 v (k0_pay18 q k b m a) (k0_pay19 q k b m) (ix3 0 r d)
      = Ideal.exp (m (ix3 0 r 0) - k0_pay14 q k b m (ix2 r 0)) * a (ix3 0 r d)
      + ∑ x, Ideal.exp (k0_pay12 q k b (ix2 r x) - k0_pay14 q k b m (ix2 r 0)) * v (ix2 x d) := by
  unfold k0_pay26 k0_pay18 k0_pay19 k0_pay15 k0_pay16 k0_pay13
  pointwise [dot_S256x512_S512x128_S256x128_1_0_0_1_n_n]

end Payloads

variable (𝒱 : Variants) (c : Dev nD) (bd : Option 𝒱.V) (i : grid0.Coords) (arg3 : Memref sig .tc .smem S4 .f32) (harg3 : arg3.IsWhole) (arg4 : Memref sig .tc .vmem S4x64 .f32) (harg4 : arg4.IsWhole) (arg5 : Memref sig .tc .vmem S1x128 .f32) (harg5 : arg5.IsWhole) (arg6 : Memref sig .tc .vmem S256x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S256x128 .bf16) (harg9 : arg9.IsWhole) (arg10 : Memref sig .tc .vmem S2x256x1 .f32) (harg10 : arg10.IsWhole) (arg11 : Memref sig .tc .vmem S2x256x1 .f32) (harg11 : arg11.IsWhole) (arg12 : Memref sig .tc .vmem S2x256x128 .f32) (harg12 : arg12.IsWhole) (v0 : BitVec 32) (v1 : Vec Ideal S256x128 .bf16) (v24 : Elt Ideal .f32) (X_arg7 : BufTy.Contents (Elt Ideal) arg7.view.ty) (X_arg8 : BufTy.Contents (Elt Ideal) arg8.view.ty) (G_arg10 : BufTy.Contents (Elt Ideal) arg10.view.ty) (G_arg11 : BufTy.Contents (Elt Ideal) arg11.view.ty) (G_arg12 : BufTy.Contents (Elt Ideal) arg12.view.ty)

/-- The state of the three scratch arrays before trip `n`, in row `r` of map `h`: that of the tiled softmax over the first
    `512 n` keys. -/
theorem pb_online (s : Fin 2 → Fin 256 → ℕ → ℝ) (v : ℕ → Fin 128 → ℝ) (μ : ℝ)
    (hs : ∀ h r (k : Fin k0_t1_loop.trips) j, k0_pay12 (maskq h v1) (tile (arg7.view.read (Elt Ideal) X_arg7) k) (k0_pay2 v0 v24 k0_pay25 0#32 1#32 k) (ix2 r j)
      = (s h r (512 * k.val + j.val) : EReal))
    (hv : ∀ (k : Fin k0_t1_loop.trips) (j : Fin 512) d, tile (arg8.view.read (Elt Ideal) X_arg8) k (ix2 j d) = (v (512 * k.val + j.val) d : EReal))
    (h10 : ∀ h r, arg10.view.read (Elt Ideal) G_arg10 (ix3 h r 0) = (μ : EReal))
    (h11 : ∀ h r, arg11.view.read (Elt Ideal) G_arg11 (ix3 h r 0) = (0 : EReal))
    (h12 : ∀ h r d, arg12.view.read (Elt Ideal) G_arg12 (ix3 h r d) = (0 : EReal)) :
    ∀ (n : ℕ) (hn : n ≤ k0_t1_loop.trips) (h : Fin 2) (r : Fin 256),
      Online (s h r) v (512 * n)
        (arg10.view.read (Elt Ideal) (arg10.view.writes (Elt Ideal) G_arg10 (pb_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 G_arg10 G_arg11 G_arg12 n).1) (ix3 h r 0))
        (arg11.view.read (Elt Ideal) (arg11.view.writes (Elt Ideal) G_arg11 (pb_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 G_arg10 G_arg11 G_arg12 n).2.1) (ix3 h r 0))
        (fun d => arg12.view.read (Elt Ideal) (arg12.view.writes (Elt Ideal) G_arg12 (pb_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 G_arg10 G_arg11 G_arg12 n).2.2) (ix3 h r d)) := by
  intro n
  induction n with
  | zero => exact fun _ h r => Online.zero _ _ μ (h10 h r) (h11 h r) (h12 h r)
  | succ n ih =>
    intro hn h r
    have hlt : n < k0_t1_loop.trips := hn
    have hih := ih hlt.le h r
    have hsucc := pb_k0_t1_succ (F := Ideal) 𝒱 c bd i arg3 harg3 arg4 harg4 arg5 harg5 arg6 harg6 arg7 harg7 arg8 harg8 arg9 harg9 arg10 harg10 arg11 harg11 arg12 harg12 v0 v1 v24 X_arg7 X_arg8 G_arg10 G_arg11 G_arg12 ⟨n, hlt⟩
    dsimp only at hsucc
    rw [hsucc]
    clear hsucc ih
    dsimp only
    rw [View.writes_append, View.writes_append, View.writes_append]
    generalize hf10 : arg10.view.writes (Elt Ideal) G_arg10 (pb_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 G_arg10 G_arg11 G_arg12 n).1 = f10 at hih ⊢
    generalize hf11 : arg11.view.writes (Elt Ideal) G_arg11 (pb_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 G_arg10 G_arg11 G_arg12 n).2.1 = f11 at hih ⊢
    generalize hf12 : arg12.view.writes (Elt Ideal) G_arg12 (pb_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 G_arg10 G_arg11 G_arg12 n).2.2 = f12 at hih ⊢
    rw [show 512 * (n + 1) = 512 * n + 512 from rfl]
    refine hih.step (fun j => k0_pay12 (maskq h v1) (tile (arg7.view.read (Elt Ideal) X_arg7) ⟨n, hlt⟩) (k0_pay2 v0 v24 k0_pay25 0#32 1#32 ⟨n, hlt⟩) (ix2 r j))
      (fun j d => tile (arg8.view.read (Elt Ideal) X_arg8) ⟨n, hlt⟩ (ix2 j d)) (fun j => hs h r ⟨n, hlt⟩ j) (fun j d => hv ⟨n, hlt⟩ j d) ?_ ?_ ?_
    · fin_cases h
      · exact (trip_m0 ..).trans (pay14_apply ..)
      · exact (trip_m1 ..).trans (pay14_apply ..)
    · fin_cases h
      · refine (trip_l0 ..).trans ((pay17_apply ..).trans ?_)
        rw [← trip_m0]; rfl
      · refine (trip_l1 ..).trans ((pay17_apply ..).trans ?_)
        rw [← trip_m1]; rfl
    · intro d
      fin_cases h
      · refine (trip_a0 ..).trans ((pay26_apply ..).trans ?_)
        rw [← trip_m0]; rfl
      · refine (trip_a1 ..).trans ((pay26_apply ..).trans ?_)
        rw [← trip_m1]; rfl

end Cert.KernelIdeal.Flash

end
-- ==== Proof.Scores.lean ====
module

public import proofs.«01_k».proof.Proof.Rows

@[expose] public section

set_option maxRecDepth 16384

noncomputable section

namespace Cert.KernelIdeal.Flash

open Idealize.ShloMosaic Cert.KernelIdeal Cert.KernelIdeal.Gen Idealize.ShloMosaic.TcCoe Idealize.ShloMosaic.Tactic Cert.Softmax

theorem lane_slt : ∀ x : Fin 128, IntOp.cmpi .slt (BitVec.ofNat 32 x.val) 64#32 = if x.val / 64 = 0 then 1#1 else 0#1 := by decide
theorem lane_sge : ∀ x : Fin 128, IntOp.cmpi .sge (BitVec.ofNat 32 x.val) 64#32 = if x.val / 64 = 1 then 1#1 else 0#1 := by decide

/-- The query block of map `h`: the lanes of the other map are zero. -/
theorem maskq_apply (h : Fin 2) (q : Vec Ideal S256x128 .bf16) (r : Fin 256) (x : Fin 128) :
    maskq h q (ix2 r x) = if x.val / 64 = h.val then q (ix2 r x) else 0 := by
  fin_cases h
  · show k0_pay20 q (ix2 r x) = _
    unfold k0_pay20
    pointwise
    rw [lane_slt]
    by_cases hx : x.val / 64 = 0 <;> simp [Scalar.select, hx]
  · show k0_pay21 q (ix2 r x) = _
    unfold k0_pay21
    pointwise
    rw [lane_sge]
    by_cases hx : x.val / 64 = 1 <;> simp [Scalar.select, hx]

theorem toInt_diff (r : Fin 256) (j : Fin 512) : (IntOp.subi (BitVec.ofNat 32 r.val) (BitVec.ofNat 32 j.val)).toInt = (r.val : ℤ) - j.val := by
  have := r.isLt; have := j.isLt
  unfold IntOp.subi
  rw [BitVec.toInt_sub, BitVec.toInt_eq_toNat_bmod, BitVec.toInt_eq_toNat_bmod, BitVec.toNat_ofNat, BitVec.toNat_ofNat]
  simp only [Int.bmod_def]
  omega

theorem toInt_base (a : Fin 16) : ∀ k : Fin 8, (Scalar.subi (Scalar.muli (BitVec.ofNat 32 a.val) 256#32) (Scalar.muli (Scf.iv 0#32 1#32 k.val) 512#32)).toInt = 256 * (a.val : ℤ) - 512 * k.val := by
  revert a; decide

/-- The bias of query `256 a + r` and key `512 k + j`: minus the slope times their distance. -/
theorem pay2_apply (a : Fin 16) (sl : ℝ) (k : Fin k0_t1_loop.trips) (r : Fin 256) (j : Fin 512) :
    k0_pay2 (F := Ideal) (Scalar.muli (BitVec.ofNat 32 a.val) 256#32) (sl : EReal) k0_pay25 0#32 1#32 k (ix2 r j)
      = ((-sl * |((256 * a.val + r.val : ℕ) : ℝ) - ((512 * k.val + j.val : ℕ) : ℝ)| : ℝ) : EReal) := by
  unfold k0_pay2 k0_pay25
  pointwise
  have e1 : FloatOps.sitofp (F := Ideal) .f32 (IntOp.subi (BitVec.ofNat 32 r.val) (BitVec.ofNat 32 j.val)) = (((r.val : ℤ) - j.val : ℤ) : ℝ) := by
    rw [← toInt_diff]; rfl
  have e2 := toInt_base a ⟨k.val, k.isLt⟩
  dsimp only at e2
  rw [e1, e2, ← EReal.coe_add, Ideal.absf_def, ← EReal.coe_neg, ← EReal.coe_strictMono.monotone.map_max, ← EReal.coe_zero, ← EReal.coe_sub, ← EReal.coe_mul]
  congr 1
  rw [max_comm]
  push_cast
  rw [show max (-((r.val:ℝ) - j.val + (256 * a.val - 512 * k.val))) ((r.val:ℝ) - j.val + (256 * a.val - 512 * k.val)) = |((r.val:ℝ) - j.val + (256 * a.val - 512 * k.val))| from max_comm _ _]
  rw [zero_sub]
  congr 2
  ring

/-- The sum over the lanes of map `h`. -/
theorem sum_lanes (h : Fin 2) (f : Fin 128 → ℝ) :
    ∑ x, (if x.val / 64 = h.val then f x else 0) = ∑ x : Fin 64, f ⟨64 * h.val + x.val, by omega⟩ := by
  rw [show (Finset.univ : Finset (Fin 128)) = (Finset.univ : Finset (Fin (64 + 64))) from rfl, Fin.sum_univ_add (a := 64) (b := 64)]
  have hL : ∀ i : Fin 64, (Fin.castAdd 64 i).val / 64 = 0 := fun i => by show i.val / 64 = 0; omega
  have hR : ∀ i : Fin 64, (Fin.natAdd 64 i).val / 64 = 1 := fun i => by show (64 + i.val) / 64 = 1; omega
  simp only [hL, hR]
  fin_cases h
  · simp only [if_true, if_neg one_ne_zero, Finset.sum_const_zero, add_zero]
    refine Finset.sum_congr rfl fun x _ => congrArg f (Fin.ext ?_)
    show x.val = 64 * 0 + x.val
    omega
  · simp only [if_true, if_neg zero_ne_one, Finset.sum_const_zero, zero_add]
    rfl

/-- The score of query row `r` of block `a` and key `n` in map `h`. -/
def score (Q : Fin 256 → Fin 128 → ℝ) (K : ℕ → Fin 128 → ℝ) (sl : ℝ) (a : Fin 16) (h : Fin 2) (r : Fin 256) (n : ℕ) : ℝ :=
  ∑ x : Fin 64, Q r ⟨64 * h.val + x.val, by omega⟩ * K n ⟨64 * h.val + x.val, by omega⟩ + -sl * |((256 * a.val + r.val : ℕ) : ℝ) - (n : ℝ)|

/-- What a trip computes as a score is that score. -/
theorem pay12_score (Q : Fin 256 → Fin 128 → ℝ) (K : ℕ → Fin 128 → ℝ) (sl : ℝ) (a : Fin 16) (h : Fin 2) (r : Fin 256)
    (q : Vec Ideal S256x128 .bf16) (hq : ∀ r x, q (ix2 r x) = (Q r x : EReal)) (k : Fin k0_t1_loop.trips)
    (kk : Vec Ideal S512x128 .bf16) (hk : ∀ j x, kk (ix2 j x) = (K (512 * k.val + j.val) x : EReal)) (j : Fin 512) :
    k0_pay12 (maskq h q) kk (k0_pay2 (F := Ideal) (Scalar.muli (BitVec.ofNat 32 a.val) 256#32) (sl : EReal) k0_pay25 0#32 1#32 k) (ix2 r j)
      = (score Q K sl a h r (512 * k.val + j.val) : EReal) := by
  rw [pay12_apply, pay2_apply, score, EReal.coe_add, ← sum_lanes h fun x => Q r x * K (512 * k.val + j.val) x, coe_sum]
  congr 1
  refine Finset.sum_congr rfl fun x _ => ?_
  rw [maskq_apply, hk, hq]
  by_cases hx : x.val / 64 = h.val
  · rw [if_pos hx, if_pos hx, EReal.coe_mul]
  · rw [if_neg hx, if_neg hx, zero_mul, EReal.coe_zero]

end Cert.KernelIdeal.Flash

end
-- ==== Proof.Block.lean ====
module

public import proofs.«01_k».proof.Proof.Scores
public import proofs.«01_k».proof.Proof.Gen.KernelIdeal.Frame

@[expose] public section

set_option maxRecDepth 16384

noncomputable section

namespace Cert.KernelIdeal.Flash

open Idealize.ShloMosaic Cert.KernelIdeal Cert.KernelIdeal.Gen Idealize.ShloMosaic.TcCoe Idealize.ShloMosaic.Tactic Cert.Softmax

/-- The weight of the second map. -/
def lamOf (lam : Vec Ideal S4x64 .f32) : EReal :=
  Ideal.exp (∑ x, lam (ix2 0 x) * lam (ix2 1 x)) - Ideal.exp (∑ x, lam (ix2 2 x) * lam (ix2 3 x)) + Ideal.ofBits .f32 1045220557#32

/-- A row divided by its root mean square, scaled by `g` and the constant that closes the attention. -/
def normed (o g : Fin 128 → EReal) (d : Fin 128) : EReal :=
  o d * Ideal.rsqrt (Ideal.div (∑ x, o x * o x) (Ideal.ofBits .f32 1124073472#32) + Ideal.ofBits .f32 897988541#32) * g d
    * Ideal.ofBits .f32 1061997773#32

/-- Equal rows are normalised to equal rows. -/
theorem normed_congr {o o' g g' : Fin 128 → EReal} (ho : ∀ x, o x = o' x) (hg : ∀ x, g x = g' x) (d : Fin 128) : normed o g d = normed o' g' d := by
  rw [funext ho, funext hg]

/-- What the body stores: the difference of the two maps' quotients, normalised. -/
theorem pay1_apply (lam : Vec Ideal S4x64 .f32) (a0 : Vec Ideal S1x256x128 .f32) (l0 : Vec Ideal S1x256x1 .f32) (a1 : Vec Ideal S1x256x128 .f32) (l1 : Vec Ideal S1x256x1 .f32)
    (g : Vec Ideal S1x128 .f32) (r : Fin 256) (d : Fin 128) :
    k0_pay1 (F := Ideal) (k0_pay28 lam a0 l0 a1 l1) (k0_pay29 lam a0 l0 a1 l1) g (ix2 r d)
      = normed (fun x => Ideal.div (a0 (ix3 0 r x)) (l0 (ix3 0 r 0)) - lamOf lam * Ideal.div (a1 (ix3 0 r x)) (l1 (ix3 0 r 0))) (fun x => g (ix2 0 x)) d := by
  have h28 : ∀ x, k0_pay28 (F := Ideal) lam a0 l0 a1 l1 (ix2 r x) = Ideal.div (a0 (ix3 0 r x)) (l0 (ix3 0 r 0)) - lamOf lam * Ideal.div (a1 (ix3 0 r x)) (l1 (ix3 0 r 0)) := by
    intro x
    unfold k0_pay28
    pointwise
    rfl
  unfold k0_pay29 k0_pay1
  pointwise
  simp only [h28]
  rfl

/-- The finite stand-in for the first maximum is a real. -/
theorem exists_start : ∃ μ : ℝ, Ideal.ofBits FTy.f32 0xF149F2CA#32 = (μ : EReal) := ⟨_, by simp [Ideal.ofBits, Ideal.ieee, -EReal.coe_mul]; rfl⟩

/-- A load of one map's slab, after the writes `L` over a first one `p`. -/
theorem readCov_slab {D n : ℕ} {sp : Space} (h : Fin 2) (hn : n = h.val) (v : View sig .tc sp (⟨3, ![2, 256, D]⟩ : Shape) .f32)
    (L : List (View.Piece (Elt Ideal) (⟨3, ![2, 256, D]⟩ : Shape) .f32)) (p) (inb) :
    v.readCov (L ++ [p]) (Rect.unit (s := (⟨3, ![2, 256, D]⟩ : Shape)) ![n, 0, 0] (![1, 256, D]) inb).toLoadRect
      = slab h (v.read (Elt Ideal) (v.writes (Elt Ideal) (v.writes (Elt Ideal) v.junk [p]) L)) := by
  unfold View.readCov
  rw [View.writes_append]
  exact ld_slab D n h hn _ inb

variable (c : Dev nD) (i : grid0.Coords) (arg3 : Memref sig .tc .smem S4 .f32) (harg3 : arg3.IsWhole) (arg4 : Memref sig .tc .vmem S4x64 .f32) (harg4 : arg4.IsWhole) (arg5 : Memref sig .tc .vmem S1x128 .f32) (harg5 : arg5.IsWhole) (arg6 : Memref sig .tc .vmem S256x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S256x128 .bf16) (harg9 : arg9.IsWhole) (arg10 : Memref sig .tc .vmem S2x256x1 .f32) (harg10 : arg10.IsWhole) (arg11 : Memref sig .tc .vmem S2x256x1 .f32) (harg11 : arg11.IsWhole) (arg12 : Memref sig .tc .vmem S2x256x128 .f32) (harg12 : arg12.IsWhole)
    (x0 : Vec Ideal S4 .f32) (x1 : Vec Ideal S4x64 .f32) (x2 : Vec Ideal S1x128 .f32) (x3 : Vec Ideal S256x128 .bf16) (x4 : Vec Ideal S4096x128 .bf16) (x5 : Vec Ideal S4096x128 .bf16)

/-- The block a grid point leaves, from real queries, keys and values: each row's two weighted averages, subtracted and
    normalised. -/
theorem out_apply (Q : Fin 256 → Fin 128 → ℝ) (K V : ℕ → Fin 128 → ℝ) (sl : ℝ) (hsl : x0 (ix1 (i 1)) = (sl : EReal))
    (hQ : ∀ r x, x3 (ix2 r x) = (Q r x : EReal)) (hK : ∀ (n : Fin 4096) x, x4 (ix2 n x) = (K n.val x : EReal))
    (hV : ∀ (n : Fin 4096) x, x5 (ix2 n x) = (V n.val x : EReal)) (r : Fin 256) (d : Fin 128) :
    out0_A_6 (F := Ideal) c i arg3 harg3 arg4 harg4 arg5 harg5 arg6 harg6 arg7 harg7 arg8 harg8 arg9 harg9 arg10 harg10 arg11 harg11 arg12 harg12 x0 x1 x2 x3 x4 x5 (ix2 r d)
      = normed (fun x => (wavg (score Q K sl (i 2) 0 r) V 4096 x : EReal) - lamOf x1 * (wavg (score Q K sl (i 2) 1 r) V 4096 x : EReal)) (fun x => x2 (ix2 0 x)) d := by
  unfold out0_A_6
  rw [View.read_writes_eq_canon _ _ _ (cover0_A_6 c i arg3 harg3 arg4 harg4 arg5 harg5 arg6 harg6 arg7 harg7 arg8 harg8 arg9 harg9 arg10 harg10 arg11 harg11 arg12 harg12 x0 x1 x2 x3 x4 x5)]
  unfold kernelRun0_A
  dsimp only
  sl_unfold_words
  have z2 : (![0, 0] : Fin 2 → ℕ) = fun _ => 0 := by funext a; fin_cases a <;> rfl
  have e1 : View.readAt (Elt Ideal) arg4.view (Rect.unit (s := S4x64) ![0, 0] S4x64.size inb_S4x64_S4x64_0_0).toLoadRect (harg4.unread x1) = x1 :=
    (View.ld_unit_zero z2 _ _).trans (harg4.read_unread x1)
  have e2 : View.readAt (Elt Ideal) arg5.view (Rect.unit (s := S1x128) ![0, 0] S1x128.size inb_S1x128_S1x128_0_0).toLoadRect (harg5.unread x2) = x2 :=
    (View.ld_unit_zero z2 _ _).trans (harg5.read_unread x2)
  have e3 : View.readAt (Elt Ideal) arg6.view (Rect.unit (s := S256x128) ![0, 0] S256x128.size inb_S256x128_S256x128_0_0).toLoadRect (harg6.unread x3) = x3 :=
    (View.ld_unit_zero z2 _ _).trans (harg6.read_unread x3)
  have e0 : ∀ (off : Fin 1 → ℕ) (inb : ∀ a, off a + S1.size a ≤ S4.size a) (j : S1.Idx), off = ![(i 1).val] →
      View.readAt (Elt Ideal) arg3.view (Rect.unit (s := S4) off S1.size inb).toLoadRect (harg3.unread x0) j = (sl : EReal) := by
    intro off inb j hoff
    subst hoff
    have h0 : View.readAt (Elt Ideal) arg3.view (Rect.unit (s := S4) ![(i 1).val] S1.size inb).toLoadRect (harg3.unread x0) j
        = View.ld x0 (Rect.unit (s := S4) ![(i 1).val] S1.size inb) j := by
      rw [View.readAt_eq_ld, harg3.read_unread]
    rw [h0, ← hsl]
    refine congrArg x0 (funext fun a => Fin.ext ?_)
    match a with
    | ⟨0, _⟩ =>
      show (i 1).val + 1 * (j 0).val = (i 1).val
      have : (j 0).val < 1 := (j 0).isLt
      omega
  obtain ⟨μ, hμ⟩ := exists_start
  have htile : ∀ (X : Vec Ideal S4096x128 .bf16) (W : ℕ → Fin 128 → ℝ) (hX : ∀ (n : Fin 4096) x, X (ix2 n x) = (W n.val x : EReal)) (k : Fin k0_t1_loop.trips)
      (j : Fin 512) (x : Fin 128), tile X k (ix2 j x) = (W (512 * k.val + j.val) x : EReal) := fun X W hX k j x => hX ⟨_, _⟩ x
  have hO := fun (v1 : Vec Ideal S256x128 .bf16) (hv1 : v1 = x3) (v24 : Elt Ideal .f32) (hv24 : v24 = (sl : EReal)) =>
    pb_online Variants.none c none i arg3 harg3 arg4 harg4 arg5 harg5 arg6 harg6 arg7 harg7 arg8 harg8 arg9 harg9 arg10 harg10 arg11 harg11 arg12 harg12
      (Scalar.muli (BitVec.ofNat 32 (i 2).val) 256#32) v1 v24 (harg7.unread x4) (harg8.unread x5)
      (arg10.view.writes (Elt Ideal) arg10.view.junk [⟨Rect.unit ![0, 0, 0] S2x256x1.size inb_S2x256x1_S2x256x1_0_0_0, k0_pay22 (F := Ideal)⟩])
      (arg11.view.writes (Elt Ideal) arg11.view.junk [⟨Rect.unit ![0, 0, 0] S2x256x1.size inb_S2x256x1_S2x256x1_0_0_0, k0_pay23 (F := Ideal)⟩])
      (arg12.view.writes (Elt Ideal) arg12.view.junk [⟨Rect.unit ![0, 0, 0] S2x256x128.size inb_S2x256x128_S2x256x128_0_0_0, k0_pay24 (F := Ideal)⟩])
      (fun h r => score Q K sl (i 2) h r) V μ
      (fun h r k j => by
        rw [hv1, hv24, harg7.read_unread]
        exact pay12_score Q K sl (i 2) h r x3 hQ k _ (htile x4 K hK k) j)
      (fun k j d => by rw [harg8.read_unread]; exact htile x5 V hV k j d)
      (fun h r => by
        rw [View.read_writes_cons_unit_of_mem _ _ _ _ _ _ (ix3 h r 0) rfl (by intro a; fin_cases a <;> simp)]
        exact hμ)
      (fun h r => by
        rw [View.read_writes_cons_unit_of_mem _ _ _ _ _ _ (ix3 h r 0) rfl (by intro a; fin_cases a <;> simp)]
        exact Ideal.ofBits_zero_f32)
      (fun h r d => by
        rw [View.read_writes_cons_unit_of_mem _ _ _ _ _ _ (ix3 h r d) rfl (by intro a; fin_cases a <;> simp)]
        exact Ideal.ofBits_zero_f32)
      8 (by decide)
  refine (congrFun (View.canon_unit_zero z2 _ _) _).trans ((pay1_apply ..).trans ?_)
  refine normed_congr (fun x => ?_) (fun x => congrFun e2 (ix2 0 x)) d
  exact congrArg₂ (fun u v : EReal => u - v)
    ((congrArg₂ Ideal.div (congrFun (readCov_slab 0 rfl _ _ _ _) (ix3 0 r x)) (congrFun (readCov_slab 0 rfl _ _ _ _) (ix3 0 r 0))).trans
      (Online.final (n := 4096) (by norm_num) (hO _ e3 _ (e0 _ _ _ (k0_off1_eq i)) 0 r) x))
    (congrArg₂ (fun u v : EReal => u * v) (congrArg lamOf e1)
    ((congrArg₂ Ideal.div (congrFun (readCov_slab 1 rfl _ _ _ _) (ix3 0 r x)) (congrFun (readCov_slab 1 rfl _ _ _ _) (ix3 0 r 0))).trans
      (Online.final (n := 4096) (by norm_num) (hO _ e3 _ (e0 _ _ _ (k0_off1_eq i)) 1 r) x)))

end Cert.KernelIdeal.Flash

end
-- ==== Proof.Array.lean ====
module

public import proofs.«01_k».proof.Proof.Block
public import proofs.«01_k».proof.Proof.Gen.KernelIdeal.Value
public import Idealize.ShloMosaic.Lib.Pipeline.ValueKit

@[expose] public section

set_option maxRecDepth 16384

noncomputable section

namespace Cert.KernelIdeal.Flash

open Idealize.ShloMosaic Cert.KernelIdeal Cert.KernelIdeal.Gen Idealize.ShloMosaic.TcCoe Idealize.ShloMosaic.Tactic Cert.Softmax

/-- The slope of a head: `2 ^ (-2 (head + 1))`. -/
def slope (h : ℕ) : ℝ := (1 / 4 : ℝ) ^ (h + 1)

/-- The host's constant of slopes is the slopes. -/
theorem slopes_lit : ∀ h : Fin 4, Ideal.ofBits .f32 (lit0 h) = (slope h.val : EReal) := by
  intro h
  fin_cases h <;> simp [Ideal.ofBits, Ideal.ieee, slope, lit0, -EReal.coe_mul] <;> norm_num

/-- The score of query `n` and key `k` in batch `b`, head `h` and map `j`, from the projected tokens `P`: 64 lanes of
    queries and of keys multiplied, and minus the slope times the distance. -/
def rscore (P : ℕ → ℕ → ℝ) (b h j n k : ℕ) : ℝ :=
  ∑ x : Fin 64, P (4096 * b + n) (128 * h + 64 * j + x.val) * P (4096 * b + k) (512 + 128 * h + 64 * j + x.val) + -slope h * |(n : ℝ) - (k : ℝ)|

/-- The weighted average of the values with the softmax of the scores. -/
def rmap (P : ℕ → ℕ → ℝ) (b h j n d : ℕ) : ℝ :=
  wavg (rscore P b h j n) (fun k (_ : Unit) => P (4096 * b + k) (1024 + 128 * h + d)) 4096 ()

/-- The attention's result at batch `b`, query `n`, head `h` and lane `d`. -/
def rout (P : ℕ → ℕ → ℝ) (lam : Vec Ideal S4x64 .f32) (g : Fin 128 → EReal) (b h n : ℕ) (d : Fin 128) : EReal :=
  normed (fun x => (rmap P b h 0 n x.val : EReal) - lamOf lam * (rmap P b h 1 n x.val : EReal)) g d

variable (m : (ℓ : Loc nD τ sig) → Buf (Elt Ideal) ℓ)

theorem V_cst (c : Dev nD) (h : Fin 4) : V m c main_cst (ix1 h) = (slope h.val : EReal) := by
  have e : V m c main_cst = fun i : S4.Idx => FloatOps.ofBits (F := Ideal) .f32 (lit0 (S4.rowMajor i)) := by
    unfold V
    simp only [StableHlo.after_cons, StableHlo.after_nil]
    rw [StableHlo.reshape_result_ne', StableHlo.nullary_result']
    rfl
    decide
  rw [e, ← slopes_lit]
  fin_cases h <;> rfl

theorem V_v0 (c : Dev nD) (x : Fin 128) : V m c main_v0 (ix2 0 x) = m ((c.tc : Thread nD τ).loc main_arg2) (ix1 x) := by
  unfold V
  simp only [StableHlo.after_cons, StableHlo.after_nil]
  rw [StableHlo.reshape_result']
  show shapeCast S1x128 (fun i : S128.Idx => _) shapeCasts_S128_S1x128 (ix2 0 x) = _
  pointwise
  rw [StableHlo.nullary_result_ne' (r := main_arg2) (h := by decide)]

theorem idx0 : ∀ t : Fin cfg0.N, win0_0.index t = ![0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![16 * (grid0.coords t 0).val + (grid0.coords t 2).val, (grid0.coords t 1).val] := (by decide +kernel : ∀ t : Fin grid0.N, _)
theorem idx4 : ∀ t : Fin cfg0.N, win0_4.index t = ![(grid0.coords t 0).val, 4 + (grid0.coords t 1).val] := (by decide +kernel : ∀ t : Fin grid0.N, _)
theorem idx5 : ∀ t : Fin cfg0.N, win0_5.index t = ![(grid0.coords t 0).val, 8 + (grid0.coords t 1).val] := (by decide +kernel : ∀ t : Fin grid0.N, _)
theorem idx6 : ∀ t : Fin cfg0.N, win0_6.index t = ![16 * (grid0.coords t 0).val + (grid0.coords t 2).val, (grid0.coords t 1).val] := (by decide +kernel : ∀ t : Fin grid0.N, _)

/-- The result array. -/
def G (P : ℕ → ℕ → ℝ) (lam : Vec Ideal S4x64 .f32) (g : Fin 128 → EReal) : S16384x512.Idx → EReal := fun i =>
  rout P lam g ((i 0).val / 4096) ((i 1).val / 128) ((i 0).val % 4096) ⟨(i 1).val % 128, Nat.mod_lt _ (by decide)⟩

/-- After the run the result array is `G` of the arguments. -/
theorem arr_eq (c : Dev nD) (P : ℕ → ℕ → ℝ)
    (hP : ∀ (t : Fin 16384) (x : Fin 1536), m ((c.tc : Thread nD τ).loc main_arg0) (ix2 t x) = (P t.val x.val : EReal)) :
    (dats m 0 c).arrAt 6 cfg0.N = G P (m ((c.tc : Thread nD τ).loc main_arg1)) (fun x => m ((c.tc : Thread nD τ).loc main_arg2) (ix1 x)) := by
  refine (dats m 0 c).arrAt_eq_of_covers 6 _ (by decide +kernel) fun t hf y => ?_
  blk_simp
  rw [after0_6]
  unfold outsAt0
  have hP' : ∀ i : S16384x1536.Idx, m ((c.tc : Thread nD τ).loc main_arg0) i = (P (i 0).val (i 1).val : EReal) := fun i =>
    (congrArg (m ((c.tc : Thread nD τ).loc main_arg0)) (by funext k; fin_cases k <;> rfl)).trans (hP (i 0) (i 1))
  have e6 := idx6 t
  have c0 : (grid0.coords t 0).val < 4 := (grid0.coords t 0).isLt
  have c1 : (grid0.coords t 1).val < 4 := (grid0.coords t 1).isLt
  have c2 : (grid0.coords t 2).val < 16 := (grid0.coords t 2).isLt
  have y0 : (y 0).val < 256 := (y 0).isLt
  have y1 : (y 1).val < 128 := (y 1).isLt
  obtain ⟨r, d, rfl⟩ : ∃ (r : Fin 256) (d : Fin 128), y = ix2 r d := ⟨y 0, y 1, by funext a; fin_cases a <;> rfl⟩
  generalize hb : (grid0.coords t 0).val = b at *
  generalize hh : (grid0.coords t 1).val = h at *
  generalize ha : (grid0.coords t 2).val = a at *
  have E : G P (m ((c.tc : Thread nD τ).loc main_arg1)) (fun x => m ((c.tc : Thread nD τ).loc main_arg2) (ix1 x)) ((win0_6.blk t).view.emb (ix2 r d))
      = rout P (m ((c.tc : Thread nD τ).loc main_arg1)) (fun x => m ((c.tc : Thread nD τ).loc main_arg2) (ix1 x)) b h (256 * a + r.val) d := by
    have f0 : (((win0_6.blk t).view.emb (ix2 r d)) 0).val = (16 * b + a) * 256 + r.val := by blk_simp [e6]
    have f1 : (((win0_6.blk t).view.emb (ix2 r d)) 1).val = h * 128 + d.val := by blk_simp [e6]
    unfold G
    have hr := r.isLt
    have hd := d.isLt
    congr 1
    · rw [f0]; omega
    · rw [f1]; omega
    · rw [f0]; omega
    · exact Fin.ext (by show _ % 128 = _; rw [f1]; omega)
  rw [E]
  refine (out_apply _ _ _ _ _ _ _ _ _ _ _ _ _ _ _ _ _ _ _ _ _ _ _ _ _ _ _ _
    (fun r x => P (4096 * b + (256 * a + r.val)) (128 * h + x.val)) (fun n x => P (4096 * b + n) (512 + 128 * h + x.val))
    (fun n x => P (4096 * b + n) (1024 + 128 * h + x.val)) (slope h) ?_ ?_ ?_ ?_ r d).trans ?_
  · unfold iblk
    blk_simp
    rw [← hh, ← V_cst m c (grid0.coords t 1)]
    refine congrArg (V m c main_cst) (funext fun k => Fin.ext ?_)
    fin_cases k
    blk_simp [idx0 t]
  · intro r x
    unfold iblk
    blk_simp
    rw [V_main_arg0, hP']
    blk_simp [idx3 t]
    rw [hb, hh, ha]
    congr 2 <;> omega
  · intro r x
    unfold iblk
    blk_simp
    rw [V_main_arg0, hP']
    blk_simp [idx4 t]
    rw [hb, hh]
    congr 2 <;> omega
  · intro r x
    unfold iblk
    blk_simp
    rw [V_main_arg0, hP']
    blk_simp [idx5 t]
    rw [hb, hh]
    congr 2 <;> omega
  · have b1 : iblk m c 1 t = m ((c.tc : Thread nD τ).loc main_arg1) := by
      funext j
      unfold iblk
      blk_simp
      rw [V_main_arg1]
      refine congrArg (m ((c.tc : Thread nD τ).loc main_arg1)) (funext fun k => Fin.ext ?_)
      fin_cases k <;> blk_simp [idx1 t]
    have b2 : ∀ x, iblk m c 2 t (ix2 0 x) = m ((c.tc : Thread nD τ).loc main_arg2) (ix1 x) := by
      intro x
      rw [← V_v0 m c x]
      unfold iblk
      blk_simp
      refine congrArg (V m c main_v0) (funext fun k => Fin.ext ?_)
      fin_cases k <;> blk_simp [idx2 t]
    have hs : ∀ j : Fin 2, score (fun r x => P (4096 * b + (256 * a + r.val)) (128 * h + x.val))
        (fun n x => P (4096 * b + n) (512 + 128 * h + x.val)) (slope h) (grid0.coords t 2) j r = rscore P b h j.val (256 * a + r.val) := by
      intro j
      funext n
      unfold score rscore
      rw [ha]
      simp only [Nat.add_assoc]
    unfold rout rmap
    rw [b1, hs 0, hs 1]
    exact normed_congr (fun x => rfl) b2 d

end Cert.KernelIdeal.Flash

end
-- ==== Proof.RefRead.lean ====
module

public import proofs.«01_k».proof.Proof.Softmax
public import proofs.«01_k».proof.Proof.Array
public import proofs.«01_k».proof.Proof.Gen.ReferenceIdeal.Read
public import Idealize.ShloMosaic.Lib.Pointwise.Tactic
public import Idealize.ShloMosaic.Lib.Pointwise

@[expose] public section

set_option maxRecDepth 16384

noncomputable section

namespace Cert.ReferenceIdeal.Flash

open Idealize.ShloMosaic Cert.ReferenceIdeal Cert.ReferenceIdeal.Gen Cert.ReferenceIdeal.Read Idealize.ShloMosaic.Tactic Cert.Softmax
open Cert.KernelIdeal.Flash (slope rscore rmap rout lamOf normed normed_congr negInf)

variable (x0 : (⟨S16384x1536, .bf16⟩ : BufTy).Contents (Elt Ideal)) (x1 : (⟨S4x64, .f32⟩ : BufTy).Contents (Elt Ideal))
  (x2 : (⟨S128, .f32⟩ : BufTy).Contents (Elt Ideal)) (P : ℕ → ℕ → ℝ)
  (hP : ∀ (t : Fin 16384) (x : Fin 1536), x0 (ix2 t x) = (P t.val x.val : EReal))

include hP

theorem read_P (i : S16384x1536.Idx) (t x : ℕ) (ht : (i 0).val = t) (hx : (i 1).val = x) : x0 i = (P t x : EReal) := by
  subst ht hx
  exact (congrArg x0 (show i = ix2 (i 0) (i 1) from by funext a; fin_cases a <;> rfl)).trans (hP (i 0) (i 1))

/-- The queries. -/
theorem q_read (i : S4x4096x4x2x64.Idx) :
    val_main_v3 x0 i = (P (4096 * (i 0).val + (i 1).val) (128 * (i 2).val + 64 * (i 3).val + (i 4).val) : EReal) := by
  rw [val_main_v3_apply, val_main_v2_apply, val_main_v1_apply, val_main_v0_apply]
  have h0 : (i 0).val < 4 := (i 0).isLt
  have h1 : (i 1).val < 4096 := (i 1).isLt
  have h2 : (i 2).val < 4 := (i 2).isLt
  have h3 : (i 3).val < 2 := (i 3).isLt
  have h4 : (i 4).val < 64 := (i 4).isLt
  refine read_P x0 P hP _ _ _ ?_ ?_
  · simp only [idx_main_v1, idx_main_v2, idx_main_v3]
    omega
  · simp only [idx_main_v1, idx_main_v2, idx_main_v3]
    omega

/-- The keys. -/
theorem k_read (i : S4x4096x4x2x64.Idx) :
    val_main_v5 x0 i = (P (4096 * (i 0).val + (i 1).val) (512 + 128 * (i 2).val + 64 * (i 3).val + (i 4).val) : EReal) := by
  rw [val_main_v5_apply, val_main_v4_apply, val_main_v1_apply, val_main_v0_apply]
  have h0 : (i 0).val < 4 := (i 0).isLt
  have h1 : (i 1).val < 4096 := (i 1).isLt
  have h2 : (i 2).val < 4 := (i 2).isLt
  have h3 : (i 3).val < 2 := (i 3).isLt
  have h4 : (i 4).val < 64 := (i 4).isLt
  refine read_P x0 P hP _ _ _ ?_ ?_
  · simp only [idx_main_v1, idx_main_v4, idx_main_v5]
    omega
  · simp only [idx_main_v1, idx_main_v4, idx_main_v5]
    omega

/-- The values. -/
theorem v_read (i : S4x4096x4x128.Idx) :
    val_main_v7 x0 i = (P (4096 * (i 0).val + (i 1).val) (1024 + 128 * (i 2).val + (i 3).val) : EReal) := by
  rw [val_main_v7_apply, val_main_v6_apply, val_main_v1_apply, val_main_v0_apply]
  have h0 : (i 0).val < 4 := (i 0).isLt
  have h1 : (i 1).val < 4096 := (i 1).isLt
  have h2 : (i 2).val < 4 := (i 2).isLt
  have h3 : (i 3).val < 128 := (i 3).isLt
  refine read_P x0 P hP _ _ _ ?_ ?_
  · simp only [idx_main_v1, idx_main_v6, idx_main_v7]
    omega
  · simp only [idx_main_v1, idx_main_v6, idx_main_v7]
    omega

omit hP in
/-- The slopes: two to the power `-8 (head + 1) / 4`. -/
theorem slope_read (i : S4.Idx) : val_main_v32 (F := Ideal) i = (slope (i 0).val : EReal) := by
  rw [val_main_v32_apply, val_main_v31_apply, val_main_v30_apply, val_main_v28_apply, val_main_v29_apply, val_main_v27_apply,
    val_main_v26_apply, val_main_v25_apply]
  have e2 : val_main_cst_2 (F := Ideal) (idx_main_v25 i) = ((1 : ℝ) : EReal) := by
    show Ideal.ofBits .f32 0x3F800000#32 = _
    simp [Ideal.ofBits, Ideal.ieee, -EReal.coe_mul]
    norm_num
  have e3 : val_main_cst_3 (F := Ideal) (idx_main_v27 i) = ((-8 : ℝ) : EReal) := by
    show Ideal.ofBits .f32 0xC1000000#32 = _
    simp [Ideal.ofBits, Ideal.ieee, -EReal.coe_mul]
    norm_num
  have e4 : val_main_cst_4 (F := Ideal) (idx_main_v29 i) = ((4 : ℝ) : EReal) := by
    show Ideal.ofBits .f32 0x40800000#32 = _
    simp [Ideal.ofBits, Ideal.ieee, -EReal.coe_mul]
    norm_num
  have e5 : val_main_cst_5 (F := Ideal) (idx_main_v31 i) = ((2 : ℝ) : EReal) := by
    show Ideal.ofBits .f32 0x40000000#32 = _
    simp [Ideal.ofBits, Ideal.ieee, -EReal.coe_mul]
    norm_num
  have e24 : val_main_v24 (F := Ideal) i = (((i 0).val : ℝ) : EReal) := by
    show (((BitVec.ofNat 32 (i 0).val).toInt : ℝ) : EReal) = _
    have h0 : (i 0).val < 4 := (i 0).isLt
    rw [show (BitVec.ofNat 32 (i 0).val).toInt = ((i 0).val : ℤ) from by
      rw [BitVec.toInt_eq_toNat_bmod, BitVec.toNat_ofNat, Int.bmod_def]; omega, Int.cast_natCast]
  rw [e2, e3, e4, e5, e24]
  show Ideal.pow ((2 : ℝ) : EReal) (Ideal.div (((-8 : ℝ) : EReal) * (((1 : ℝ) : EReal) + (((i 0).val : ℝ) : EReal))) ((4 : ℝ) : EReal)) = _
  rw [← EReal.coe_add, ← EReal.coe_mul, div_coe_coe _ (by norm_num), Ideal.pow_coe_coe]
  refine congrArg _ ?_
  show (2 : ℝ) ^ ((-8 * (1 + ((i 0).val : ℝ)) / 4 : ℝ)) = (1 / 4 : ℝ) ^ ((i 0).val + 1)
  rw [show (-8 * (1 + ((i 0).val : ℝ)) / 4 : ℝ) = (-2 : ℝ) * (((i 0).val + 1 : ℕ) : ℝ) from by push_cast; ring,
    Real.rpow_mul (by norm_num), Real.rpow_natCast]
  congr 1
  rw [Real.rpow_neg (by norm_num)]
  norm_num

omit hP in
/-- The distance of two positions, as the machine's integers have it. -/
theorem dist_read (n k : ℕ) (hn : n < 4096) (hk : k < 4096) :
    (IntOp.absi (IntOp.subi (BitVec.ofNat 32 n) (BitVec.ofNat 32 k))).toInt = |(n : ℤ) - (k : ℤ)| := by
  have e : (IntOp.subi (BitVec.ofNat 32 n) (BitVec.ofNat 32 k)).toInt = (n : ℤ) - k := by
    show (BitVec.ofNat 32 n - BitVec.ofNat 32 k).toInt = _
    rw [BitVec.toInt_sub, BitVec.toInt_eq_toNat_bmod, BitVec.toInt_eq_toNat_bmod, BitVec.toNat_ofNat, BitVec.toNat_ofNat,
      Int.bmod_def, Int.bmod_def, Int.bmod_def]
    omega
  unfold IntOp.absi
  rw [BitVec.msb_eq_toInt, e]
  split_ifs with h
  · have h' : (n : ℤ) - k < 0 := of_decide_eq_true h
    rw [BitVec.toInt_neg, e, abs_of_neg h', Int.bmod_def]
    omega
  · have h' : ¬ (n : ℤ) - k < 0 := fun c => h (decide_eq_true c)
    rw [e, abs_of_nonneg (by omega)]

omit hP in
/-- The bias: minus the slope times the distance. -/
theorem bias_read (i : S4x2x4x4096x4096.Idx) :
    val_main_v49 (F := Ideal) i = ((-slope (i 2).val * |((i 3).val : ℝ) - ((i 4).val : ℝ)| : ℝ) : EReal) := by
  rw [val_main_v49_apply, val_main_v48_apply, val_main_v47_apply, val_main_v45_apply, val_main_v36_apply, val_main_v35_apply,
    val_main_v46_apply, val_main_v44_apply, val_main_v43_apply, val_main_v42_apply, val_main_v41_apply, val_main_v39_apply,
    val_main_v40_apply, val_main_v37_apply, val_main_v38_apply, val_main_v33_apply, val_main_v33_apply, slope_read]
  have h3 : (i 3).val < 4096 := (i 3).isLt
  have h4 : (i 4).val < 4096 := (i 4).isLt
  refine Eq.trans (b := ((-slope (i 2).val : ℝ) : EReal) * ((|((i 3).val : ℝ) - ((i 4).val : ℝ)| : ℝ) : EReal)) ?_ (EReal.coe_mul _ _).symm
  refine congrArg (((-slope (i 2).val : ℝ) : EReal) * ·) ?_
  show (((IntOp.absi (IntOp.subi (BitVec.ofNat 32 (i 3).val) (BitVec.ofNat 32 (i 4).val))).toInt : ℝ) : EReal) = _
  rw [dist_read _ _ h3 h4]
  push_cast
  rfl

/-- The scores. -/
theorem score_read (i : S4x2x4x4096x4096.Idx) :
    val_main_v50 x0 i = (rscore P (i 0).val (i 2).val (i 1).val (i 3).val (i 4).val : EReal) := by
  rw [val_main_v50_apply, val_main_v34_apply, bias_read, rscore, EReal.coe_add, coe_sum]
  refine congrArg (· + _) (Finset.sum_congr rfl fun k _ => ?_)
  rw [q_read x0 P hP, k_read x0 P hP, EReal.coe_mul]

/-- A row's maximum is a real number. -/
theorem max_read (i : S4x2x4x4096.Idx) : ∃ ν : ℝ, val_main_v53 x0 i = (ν : EReal) := by
  obtain ⟨ν, hν⟩ := exists_coe_fold (n := 4096) (by norm_num) fun k => rscore P (i 0).val (i 2).val (i 1).val (i 3).val k.val
  refine ⟨ν, ?_⟩
  rw [val_main_v53_apply, val_main_v52_apply, ← hν]
  unfold val_main_v51
  have e : val_main_v50 x0 = fun i => (rscore P (i 0).val (i 2).val (i 1).val (i 3).val (i 4).val : EReal) := funext fun i => score_read x0 P hP i
  rw [e]
  pointwise
  rw [show val_main_cst_7 (F := Ideal) (idx_main_v52 i) = ⊥ from negInf, show val_main_cst_6 (F := Ideal) (Shape.Idx.first h_S_) = ⊥ from negInf]
  exact max_eq_right bot_le

/-- A row's softmax weights: the shifted exponentials over their sum. -/
theorem weight_read (b : Fin 4) (j : Fin 2) (h : Fin 4) (n : Fin 4096) :
    ∃ ν : ℝ, ∀ i : S4x2x4x4096x4096.Idx, (i 0).val = b.val → (i 1).val = j.val → (i 2).val = h.val → (i 3).val = n.val → val_main_v61 x0 i
      = ((Real.exp (rscore P b h j n (i 4).val - ν) / ∑ k ∈ Finset.range 4096, Real.exp (rscore P b h j n k - ν) : ℝ) : EReal) := by
  obtain ⟨ν, hν⟩ := max_read x0 P hP (ix4 b j h n)
  refine ⟨ν, fun i e0 e1 e2 e3 => ?_⟩
  have hM : ∀ i : S4x2x4x4096x4096.Idx, (i 0).val = b.val → (i 1).val = j.val → (i 2).val = h.val → (i 3).val = n.val →
      val_main_v57 x0 i = Ideal.exp ((rscore P b h j n (i 4).val : EReal) - (ν : EReal)) := by
    intro i e0 e1 e2 e3
    rw [val_main_v57_apply, val_main_v56_apply, val_main_v55_apply, val_main_v54_apply, score_read x0 P hP, e0, e1, e2, e3,
      show idx_main_v54 (idx_main_v55 i) = ix4 b j h n from by
        funext a
        fin_cases a
        · exact Fin.ext e0
        · exact Fin.ext e1
        · exact Fin.ext e2
        · exact Fin.ext e3, hν]
    rfl
  rw [val_main_v61_apply, val_main_v60_apply, val_main_v59_apply, val_main_v58_apply, hM i e0 e1 e2 e3,
    show val_main_cst_8 (F := Ideal) (Shape.Idx.first h_S_) = 0 from Ideal.ofBits_zero_f32, zero_add,
    Finset.sum_congr rfl fun k _ => hM (idx_main_v58 (idx_main_v59 (idx_main_v60 i)) k) e0 e1 e2 e3]
  exact softmax_weight (n := 4096) (by norm_num) (rscore P b h j n) (fun k => (rscore P b h j n k.val : EReal)) (fun _ => rfl) ν ν rfl ⟨(i 4).val, (i 4).isLt⟩

omit hP in
/-- The weight of the second map. -/
theorem lam_read (i : S_.Idx) : val_main_v23 (F := Ideal) x1 i = lamOf x1 := by
  have e1 : ∑ j : S64.Idx, val_main_v12 (F := Ideal) x1 j = ∑ x : Fin 64, x1 (ix2 0 x) * x1 (ix2 1 x) := by
    refine Fintype.sum_equiv ⟨fun j => j 0, fun x => ix1 x, fun j => by funext a; fin_cases a; rfl, fun x => rfl⟩ _ _ fun j => ?_
    rw [val_main_v12_apply, val_main_v9_apply, val_main_v8_apply, val_main_v11_apply, val_main_v10_apply]
    have h0 : (j 0).val < 64 := (j 0).isLt
    refine congrArg₂ (fun a b : S4x64.Idx => x1 a * x1 b) ?_ ?_ <;>
    · funext a
      fin_cases a
      · rfl
      · exact Fin.ext (Nat.mod_eq_of_lt h0)
  have e2 : ∑ j : S64.Idx, val_main_v19 (F := Ideal) x1 j = ∑ x : Fin 64, x1 (ix2 2 x) * x1 (ix2 3 x) := by
    refine Fintype.sum_equiv ⟨fun j => j 0, fun x => ix1 x, fun j => by funext a; fin_cases a; rfl, fun x => rfl⟩ _ _ fun j => ?_
    rw [val_main_v19_apply, val_main_v16_apply, val_main_v15_apply, val_main_v18_apply, val_main_v17_apply]
    have h0 : (j 0).val < 64 := (j 0).isLt
    refine congrArg₂ (fun a b : S4x64.Idx => x1 a * x1 b) ?_ ?_ <;>
    · funext a
      fin_cases a
      · rfl
      · exact Fin.ext (Nat.mod_eq_of_lt h0)
  rw [val_main_v23_apply, val_main_v22_apply, val_main_v14_apply, val_main_v21_apply, val_main_v13_apply, val_main_v20_apply, e1, e2,
    show val_main_cst (F := Ideal) (Shape.Idx.first h_S_) = 0 from Ideal.ofBits_zero_f32,
    show val_main_cst_0 (F := Ideal) (Shape.Idx.first h_S_) = 0 from Ideal.ofBits_zero_f32, zero_add, zero_add]
  rfl

omit hP in
/-- The weight of the second map is a real number where its four vectors are. -/
theorem lam_real (h1 : ∀ i, ∃ r : ℝ, x1 i = (r : EReal)) : ∃ l : ℝ, lamOf x1 = (l : EReal) := by
  choose r hr using h1
  obtain ⟨c, hc⟩ : ∃ c : ℝ, Ideal.ofBits .f32 1045220557#32 = (c : EReal) := ⟨_, by simp [Ideal.ofBits, Ideal.ieee, -EReal.coe_mul]; rfl⟩
  unfold lamOf
  rw [hc]
  simp only [hr, ← EReal.coe_mul, ← coe_sum, Ideal.exp_coe, ← EReal.coe_sub, ← EReal.coe_add]
  exact ⟨_, rfl⟩

/-- The difference of the two maps, applied to the values. -/
theorem out_read (h1 : ∀ i, ∃ r : ℝ, x1 i = (r : EReal)) (i : S4x4096x4x128.Idx) :
    val_main_v70 x0 x1 i = (rmap P (i 0).val (i 2).val 0 (i 1).val (i 3).val : EReal)
      - lamOf x1 * (rmap P (i 0).val (i 2).val 1 (i 1).val (i 3).val : EReal) := by
  obtain ⟨l, hl⟩ := lam_real x1 h1
  obtain ⟨ν0, hν0⟩ := weight_read x0 P hP (i 0) 0 (i 2) (i 1)
  obtain ⟨ν1, hν1⟩ := weight_read x0 P hP (i 0) 1 (i 2) (i 1)
  have h0 : (i 0).val < 4 := (i 0).isLt
  have h1 : (i 1).val < 4096 := (i 1).isLt
  have h2 : (i 2).val < 4 := (i 2).isLt
  rw [val_main_v70_apply, val_main_v69_apply, hl]
  set w0 : ℕ → ℝ := fun k => Real.exp (rscore P (i 0).val (i 2).val 0 (i 1).val k - ν0) / ∑ k ∈ Finset.range 4096, Real.exp (rscore P (i 0).val (i 2).val 0 (i 1).val k - ν0) with hw0
  set w1 : ℕ → ℝ := fun k => Real.exp (rscore P (i 0).val (i 2).val 1 (i 1).val k - ν1) / ∑ k ∈ Finset.range 4096, Real.exp (rscore P (i 0).val (i 2).val 1 (i 1).val k - ν1) with hw1
  have hk : ∀ k : Fin 4096, val_main_v7 (F := Ideal) x0 (lidx_main_v69 (idx_main_v70 i) k) * val_main_v68 (F := Ideal) x0 x1 (ridx_main_v69 (idx_main_v70 i) k)
      = ((w0 k.val * P (4096 * (i 0).val + k.val) (1024 + 128 * (i 2).val + (i 3).val)
          - l * (w1 k.val * P (4096 * (i 0).val + k.val) (1024 + 128 * (i 2).val + (i 3).val)) : ℝ) : EReal) := by
    intro k
    have hk := k.isLt
    rw [v_read x0 P hP, val_main_v68_apply, val_main_v67_apply, val_main_v66_apply, lam_read, hl, val_main_v63_apply, val_main_v62_apply,
      val_main_v65_apply, val_main_v64_apply, hν0 _ (by simp only [idx_main_v62, idx_main_v63, ridx_main_v69, idx_main_v70]; omega)
        (by rfl) (by simp only [idx_main_v62, idx_main_v63, ridx_main_v69, idx_main_v70]; omega)
        (by simp only [idx_main_v62, idx_main_v63, ridx_main_v69, idx_main_v70]; omega),
      hν1 _ (by simp only [idx_main_v64, idx_main_v65, ridx_main_v69, idx_main_v70]; omega)
        (by rfl) (by simp only [idx_main_v64, idx_main_v65, ridx_main_v69, idx_main_v70]; omega)
        (by simp only [idx_main_v64, idx_main_v65, ridx_main_v69, idx_main_v70]; omega)]
    have ek0 : (idx_main_v62 (idx_main_v63 (ridx_main_v69 (idx_main_v70 i) k)) 4).val = k.val := by
      simp only [idx_main_v62, idx_main_v63, ridx_main_v69, idx_main_v70]; omega
    rw [ek0]
    show (_ : EReal) * ((w0 k.val : EReal) - (l : EReal) * (w1 k.val : EReal)) = _
    rw [← EReal.coe_mul, ← EReal.coe_sub, ← EReal.coe_mul]
    refine congrArg _ ?_
    show P (4096 * (i 0).val + k.val) (1024 + 128 * (i 2).val + (i 3).val) * _ = _
    ring
  rw [Finset.sum_congr rfl fun k _ => hk k, ← coe_sum, Finset.sum_sub_distrib, ← Finset.mul_sum, ← EReal.coe_mul, ← EReal.coe_sub]
  refine congrArg _ (congrArg₂ (fun a b : ℝ => a - l * b) ?_ ?_)
  · exact sum_weight (n := 4096) (rscore P (i 0).val (i 2).val 0 (i 1).val) (fun k (_ : Unit) => P (4096 * (i 0).val + k) (1024 + 128 * (i 2).val + (i 3).val)) ν0 ()
  · exact sum_weight (n := 4096) (rscore P (i 0).val (i 2).val 1 (i 1).val) (fun k (_ : Unit) => P (4096 * (i 0).val + k) (1024 + 128 * (i 2).val + (i 3).val)) ν1 ()

/-- The reference's result is the kernel's. -/
theorem ref_eq (h1 : ∀ i, ∃ r : ℝ, x1 i = (r : EReal)) : val_main_v87 x0 x1 x2 = Cert.KernelIdeal.Flash.G P x1 (fun x => x2 (ix1 x)) := by
  funext i
  have b0 : (i 0).val < 16384 := (i 0).isLt
  have b1 : (i 1).val < 512 := (i 1).isLt
  rw [val_main_v87_apply, val_main_v86_apply, val_main_v85_apply, val_main_v84_apply, val_main_v83_apply, val_main_v82_apply, val_main_v81_apply,
    val_main_v80_apply, val_main_v79_apply, val_main_v78_apply, val_main_v77_apply, val_main_v76_apply, val_main_v75_apply, val_main_v74_apply,
    val_main_v73_apply, val_main_v72_apply, show val_main_cst_9 (F := Ideal) (Shape.Idx.first h_S_) = 0 from Ideal.ofBits_zero_f32, zero_add]
  simp only [val_main_v71_apply, out_read x0 x1 P hP h1]
  unfold Cert.KernelIdeal.Flash.G rout normed
  have c0 : (idx_main_v86 i 0).val = (i 0).val / 4096 := by simp only [idx_main_v86]; omega
  have c1 : (idx_main_v86 i 1).val = (i 0).val % 4096 := by simp only [idx_main_v86]; omega
  have c2 : (idx_main_v86 i 2).val = (i 1).val / 128 := by simp only [idx_main_v86]; omega
  have c3 : (idx_main_v86 i 3).val = (i 1).val % 128 := by simp only [idx_main_v86]; omega
  rw [← c0, ← c1, ← c2]
  have hx : idx_main_v81 (idx_main_v82 (idx_main_v86 i)) = ix1 ⟨(i 1).val % 128, Nat.mod_lt _ (by decide)⟩ := by
    funext a; fin_cases a; exact Fin.ext c3
  rw [hx]
  simp only [← c3]
  rfl

end Cert.ReferenceIdeal.Flash
-- ==== Proof.Finite.lean ====
module

public import proofs.«01_k».proof.Pre_finite_inputs
public import Idealize.ShloMosaic.PureOps.Ideal
public import Idealize.ShloMosaic.Lib.Pointwise.Tactic
public import Idealize.ShloMosaic.Lib.Pointwise

@[expose] public section

set_option maxRecDepth 16384

noncomputable section

namespace Cert.Finite

open Idealize.ShloMosaic

/-- The word of `+∞`. -/
theorem posInf : Ideal.ofBits FTy.f32 0x7F800000#32 = ⊤ := by simp [Ideal.ofBits, Ideal.ieee]

/-- A number whose absolute value compares below infinity is a real. -/
theorem real_of_lt {x : EReal} (h : Ideal.cmp .olt (max x (-x)) ⊤ = 1#1) : ∃ r : ℝ, x = (r : EReal) := by
  have hlt : max x (-x) < ⊤ := by
    by_contra hc
    simp [Ideal.cmp, hc] at h
  have h1 : x ≠ ⊤ := fun e => by rw [e] at hlt; simp at hlt
  have h2 : x ≠ ⊥ := fun e => by rw [e] at hlt; simp at hlt
  exact ⟨x.toReal, (EReal.coe_toReal h1 h2).symm⟩

/-- The side conditions of the precondition. -/
theorem facts : Cert.Pre_finite_inputs.Facts where
  bitsLt_bf16_f32 := by decide
  bcast_S_S16384x1536 := by decide
  bcast_S_S4x64 := by decide

open Cert.Pre_finite_inputs in
/-- The precondition: the projected tokens and the four vectors are real numbers. -/
theorem real_of_pre [hf : Cert.Pre_finite_inputs.Facts] (x0 : FVec Ideal S16384x1536 .bf16) (x1 : FVec Ideal S4x64 .f32) (x2 : FVec Ideal S128 .f32)
    (h0 : (fn (F := Ideal) x0 x1 x2).1 = fun _ => 1#1) (h1 : (fn (F := Ideal) x0 x1 x2).2 = fun _ => 1#1) :
    (∀ i, ∃ r : ℝ, x0 i = (r : EReal)) ∧ ∀ i, ∃ r : ℝ, x1 i = (r : EReal) := by
  refine ⟨fun i => real_of_lt ?_, fun i => real_of_lt ?_⟩
  · have := congrFun h0 i
    rw [← posInf]
    exact this
  · have := congrFun h1 i
    rw [← posInf]
    exact this

end Cert.Finite
-- ==== Proof.MergeSpec.lean ====
module

public import Idealize.ShloMosaic.Lib.Pointwise

@[expose] public section

set_option maxRecDepth 16384

noncomputable section

/-! The merge of the branches, in plain formulas. -/

namespace Cert.Merge

open Idealize.ShloMosaic

/-- The literal one. -/
theorem one_lit : Ideal.ofBits .f32 0x3F800000#32 = 1 := by
  simp [Ideal.ofBits, Ideal.ieee, -EReal.coe_mul]; norm_num

/-- A token's row divided by its root mean square and scaled by the norm's weights. -/
def hrow (x g : Fin 1024 → EReal) (k : Fin 1024) : EReal :=
  x k * Ideal.rsqrt (Ideal.div (∑ j, x j * x j) (Ideal.ofBits .f32 0x44800000#32) + Ideal.ofBits .f32 0x358637BD#32) * g k

/-- `x` through the gate `1 / (1 + exp (-g))`. -/
def gated (x g : EReal) : EReal := Ideal.div x (1 + Ideal.exp (-g))

/-- One branch's term of the merge at one lane: the branch's output `o` times the silu of its `z`, through the branch's
    weights, gated. -/
def term (h : Fin 1024 → EReal) (o : Fin 512 → EReal) (wz : Fin 1024 → Fin 512 → EReal) (wg : Fin 1024 → EReal) (bg : EReal)
    (wb : Fin 512 → EReal) : EReal :=
  gated (∑ k, o k * gated (∑ x, h x * wz x k) (∑ x, h x * wz x k) * wb k) (∑ x, h x * wg x + bg)

/-- The mixture of three values with the softmax of three exponents. -/
def mix (l0 l1 l2 d0 d1 d2 : EReal) : EReal :=
  let mx := max (max l0 l1) l2
  let den := Ideal.exp (l0 - mx) + Ideal.exp (l1 - mx) + Ideal.exp (l2 - mx)
  Ideal.div (Ideal.exp (l0 - mx)) den * d0 + Ideal.div (Ideal.exp (l1 - mx)) den * d1 + Ideal.div (Ideal.exp (l2 - mx)) den * d2

/-- One plus an exponential is not zero. -/
theorem one_add_exp_ne (g : EReal) : 1 + Ideal.exp g ≠ 0 := by
  have h : (0 : EReal) ≤ Ideal.exp g := by
    induction g with
    | bot => simp
    | top => simp
    | coe r => rw [Ideal.exp_coe]; exact_mod_cast (Real.exp_pos r).le
  exact ne_of_gt (lt_of_lt_of_le zero_lt_one (le_add_of_nonneg_right h))

/-- Multiplying by the sigmoid is going through the gate. -/
theorem mul_gate (x g : EReal) : x * Ideal.div (Ideal.ofBits .f32 0x3F800000#32) (Ideal.ofBits .f32 0x3F800000#32 + Ideal.exp (-g)) = gated x g := by
  rw [one_lit]
  unfold gated Ideal.div
  rw [if_neg (one_add_exp_ne _), if_neg (one_add_exp_ne _), one_mul]

theorem gate_mul (x g : EReal) : Ideal.div (Ideal.ofBits .f32 0x3F800000#32) (Ideal.ofBits .f32 0x3F800000#32 + Ideal.exp (-g)) * x = gated x g :=
  (mul_comm _ _).trans (mul_gate x g)

/-- The merge's arguments for `N` tokens: the tokens, the norm's weights, the input weights, the gates' biases, the branches' weights, the
    output weights, four branches' outputs, and the fourth branch's three window results with their exponents. -/
structure Args (N : ℕ) where
  x : Fin N → Fin 1024 → EReal
  g : Fin 1024 → EReal
  w : Fin 1024 → Fin 15520 → EReal
  b : Fin 5 → Fin 1024 → EReal
  wb : Fin 5 → Fin 512 → Fin 1024 → EReal
  wo : Fin 1024 → Fin 1024 → EReal
  oa : Fin N → Fin 512 → EReal
  ob : Fin N → Fin 512 → EReal
  oc : Fin N → Fin 512 → EReal
  om : Fin N → Fin 512 → EReal
  d0 : Fin N → Fin 512 → EReal
  d1 : Fin N → Fin 512 → EReal
  d2 : Fin N → Fin 512 → EReal
  l0 : Fin N → Fin 512 → EReal
  l1 : Fin N → Fin 512 → EReal
  l2 : Fin N → Fin 512 → EReal

/-- The column of the input weights that makes lane `k` of branch `j`'s `z`. -/
def zc (j : Fin 5) (k : Fin 512) : Fin 15520 := ⟨7840 + 512 * j.val + k.val, by omega⟩

/-- The column of the input weights that makes lane `d` of branch `j`'s gate. -/
def gc (j : Fin 5) (d : Fin 1024) : Fin 15520 := ⟨10400 + 1024 * j.val + d.val, by omega⟩

variable {N : ℕ} (A : Args N)

/-- The normalised token `n`. -/
def Args.h (n : Fin N) : Fin 1024 → EReal := hrow (A.x n) A.g

/-- The fourth branch's output. -/
def Args.od (n : Fin N) (k : Fin 512) : EReal := mix (A.l0 n k) (A.l1 n k) (A.l2 n k) (A.d0 n k) (A.d1 n k) (A.d2 n k)

/-- Branch `j`'s term, from its output `o`, at token `n` and lane `d`. -/
def Args.term (j : Fin 5) (o : Fin N → Fin 512 → EReal) (n : Fin N) (d : Fin 1024) : EReal :=
  Merge.term (A.h n) (o n) (fun x k => A.w x (zc j k)) (fun x => A.w x (gc j d)) (A.b j d) (fun k => A.wb j k d)

/-- The branches' terms added up. -/
def Args.acc (n : Fin N) (d : Fin 1024) : EReal :=
  0 + A.term 0 A.oa n d + A.term 1 A.ob n d + A.term 2 A.oc n d + A.term 3 A.od n d + A.term 4 A.om n d

/-- The merge's result: the token plus the terms through the output weights. -/
def Args.out (n : Fin N) (d : Fin 1024) : EReal := A.x n d + ∑ k, A.acc n k * A.wo k d

end Cert.Merge

end
-- ==== Proof.Merge.lean ====
module

public import proofs.«01_k».proof.Proof.MergeSpec
public import proofs.«01_k».proof.Proof.Gen.Kernel2Ideal.Skeleton
public import Idealize.ShloMosaic.Lib.Pointwise
public import Idealize.ShloMosaic.Lib.Pointwise.Tactic

@[expose] public section

set_option maxRecDepth 16384

noncomputable section

namespace Cert.Kernel2Ideal.Merge

open Idealize.ShloMosaic Cert.Kernel2Ideal Cert.Kernel2Ideal.Gen Idealize.ShloMosaic.TcCoe Idealize.ShloMosaic.Tactic Cert.Merge

/-- What one grid point leaves in the accumulator, from the normalised tokens, the branch's output and what was there. -/
def step (H : Vec Ideal S512x1024 .bf16) (o : Vec Ideal S512x512 .f32) (wz : Vec Ideal S1024x512 .bf16) (wg : Vec Ideal S1024x1024 .bf16)
    (bg : Vec Ideal S1x1x1024 .f32) (wb : Vec Ideal S1x512x1024 .bf16) (acc : Vec Ideal S512x1024 .f32) : Vec Ideal S512x1024 .f32 :=
  k0_pay1 (F := Ideal) (k0_pay10 H wz) (k0_pay11 H wg bg) o (k0_pay12 H wz) wb acc

/-- The product that makes `z`, at an index. -/
theorem pay10_apply (H : Vec Ideal S512x1024 .bf16) (wz : Vec Ideal S1024x512 .bf16) (r k : Fin 512) :
    k0_pay10 (F := Ideal) H wz (ix2 r k) = ∑ x, H (ix2 r x) * wz (ix2 x k) := by
  unfold k0_pay10
  pointwise [dot_S512x1024_S1024x512_S512x512_1_0_0_1_n_n]

/-- The gate's product and bias, at an index. -/
theorem pay11_apply (H : Vec Ideal S512x1024 .bf16) (wg : Vec Ideal S1024x1024 .bf16) (bg : Vec Ideal S1x1x1024 .f32) (r : Fin 512) (d : Fin 1024) :
    k0_pay11 (F := Ideal) H wg bg (ix2 r d) = ∑ x, H (ix2 r x) * wg (ix2 x d) + bg (ix3 0 0 d) := by
  unfold k0_pay11
  pointwise [dot_S512x1024_S1024x1024_S512x1024_1_0_0_1_n_n]

/-- A grid point adds its branch's term. -/
theorem step_apply (H : Vec Ideal S512x1024 .bf16) (o : Vec Ideal S512x512 .f32) (wz : Vec Ideal S1024x512 .bf16) (wg : Vec Ideal S1024x1024 .bf16)
    (bg : Vec Ideal S1x1x1024 .f32) (wb : Vec Ideal S1x512x1024 .bf16) (acc : Vec Ideal S512x1024 .f32) (r : Fin 512) (d : Fin 1024) :
    step H o wz wg bg wb acc (ix2 r d) = acc (ix2 r d)
      + term (fun x => H (ix2 r x)) (fun k => o (ix2 r k)) (fun x k => wz (ix2 x k)) (fun x => wg (ix2 x d)) (bg (ix3 0 0 d)) (fun k => wb (ix3 0 k d)) := by
  unfold step k0_pay1 k0_pay12
  pointwise [dot_S512x512_S512x1024_S512x1024_1_0_0_1_n_n]
  simp only [pay10_apply, pay11_apply, zero_sub]
  rfl

/-- The output: the token plus the accumulator through the output weights. -/
theorem pay2_apply (x acc : Vec Ideal S512x1024 .f32) (w : Vec Ideal S1024x1024 .bf16) (r : Fin 512) (d : Fin 1024) :
    k0_pay2 (F := Ideal) x acc w (ix2 r d) = x (ix2 r d) + ∑ k, acc (ix2 r k) * w (ix2 k d) := by
  unfold k0_pay2
  pointwise [dot_S512x1024_S1024x1024_S512x1024_1_0_0_1_n_n]

/-- The first grid point of a block normalises the tokens. -/
theorem pay3_apply (x : Vec Ideal S512x1024 .f32) (g : Vec Ideal S1x1024 .f32) (r : Fin 512) (d : Fin 1024) :
    k0_pay3 (F := Ideal) x g (ix2 r d) = hrow (fun k => x (ix2 r k)) (fun k => g (ix2 0 k)) d := by
  unfold k0_pay3
  pointwise
  rfl

/-- The accumulator starts at zero. -/
theorem pay4_apply (r : Fin 512) (d : Fin 1024) : k0_pay4 (F := Ideal) (ix2 r d) = 0 := by
  unfold k0_pay4
  pointwise

/-- The fourth branch's output is the mixture of the three window results. -/
theorem pay8_apply (l0 l1 l2 : Vec Ideal S512x512 .f32) (d0 d1 d2 : Vec Ideal S512x512 .bf16) (r k : Fin 512) :
    k0_pay8 (F := Ideal) l0 l1 l2 d0 d1 d2 (ix2 r k)
      = mix (l0 (ix2 r k)) (l1 (ix2 r k)) (l2 (ix2 r k)) (d0 (ix2 r k)) (d1 (ix2 r k)) (d2 (ix2 r k)) := by
  unfold k0_pay8
  pointwise
  rfl

/-- The other branches' outputs are used as they are. -/
theorem pay5_eq (o : Vec Ideal S512x512 .bf16) : k0_pay5 (F := Ideal) o = o := by
  funext i
  unfold k0_pay5
  pointwise

theorem pay6_eq (o : Vec Ideal S512x512 .bf16) : k0_pay6 (F := Ideal) o = o := by
  funext i
  unfold k0_pay6
  pointwise

theorem pay7_eq (o : Vec Ideal S512x512 .bf16) : k0_pay7 (F := Ideal) o = o := by
  funext i
  unfold k0_pay7
  pointwise

theorem pay9_eq (o : Vec Ideal S512x512 .bf16) : k0_pay9 (F := Ideal) o = o := by
  funext i
  unfold k0_pay9
  pointwise

end Cert.Kernel2Ideal.Merge

end
-- ==== Proof.MergeBlocks.lean ====
module

public import proofs.«01_k».proof.Proof.Merge
public import proofs.«01_k».proof.Proof.Gen.Kernel2Ideal.Frame.Runs
public import Idealize.ShloMosaic.Lib.Pipeline.ValueKit

@[expose] public section

set_option maxRecDepth 16384

noncomputable section

/-! What the merge's grid points are given: the blocks of its arguments. -/

namespace Cert.Kernel2Ideal.Merge

open Idealize.ShloMosaic Cert.Kernel2Ideal Cert.Kernel2Ideal.Gen Idealize.ShloMosaic.TcCoe Idealize.ShloMosaic.Tactic Cert.Merge

variable (m : (ℓ : Loc nD τ sig) → Buf (Elt Ideal) ℓ)

/-- The merge's arguments, read from the buffers. -/
def argsOf (c : Dev nD) : Args 16384 where
  x n k := m ((c.tc : Thread nD τ).loc main_arg0) (ix2 n k)
  g k := m ((c.tc : Thread nD τ).loc main_arg1) (ix1 k)
  w n k := m ((c.tc : Thread nD τ).loc main_arg2) (ix2 n k)
  b j k := m ((c.tc : Thread nD τ).loc main_arg3) (ix2 j k)
  wb j n k := m ((c.tc : Thread nD τ).loc main_arg4) (ix3 j n k)
  wo n k := m ((c.tc : Thread nD τ).loc main_arg5) (ix2 n k)
  oa n k := m ((c.tc : Thread nD τ).loc main_arg6) (ix2 n k)
  ob n k := m ((c.tc : Thread nD τ).loc main_arg7) (ix2 n k)
  oc n k := m ((c.tc : Thread nD τ).loc main_arg8) (ix2 n k)
  om n k := m ((c.tc : Thread nD τ).loc main_arg9) (ix2 n k)
  d0 n k := m ((c.tc : Thread nD τ).loc main_arg10) (ix2 n k)
  d1 n k := m ((c.tc : Thread nD τ).loc main_arg11) (ix2 n k)
  d2 n k := m ((c.tc : Thread nD τ).loc main_arg12) (ix2 n k)
  l0 n k := m ((c.tc : Thread nD τ).loc main_arg13) (ix2 n k)
  l1 n k := m ((c.tc : Thread nD τ).loc main_arg14) (ix2 n k)
  l2 n k := m ((c.tc : Thread nD τ).loc main_arg15) (ix2 n k)

/-- The weights that make the `z`s, handed in. -/
theorem V_v1 (c : Dev nD) (x : Fin 1024) (y : Fin 2560) : V m c main_v1 (ix2 x y) = (argsOf m c).w x ⟨7840 + y.val, by omega⟩ := by
  unfold V
  simp only [StableHlo.after_cons, StableHlo.after_nil]
  repeat first
    | rw [StableHlo.unary_result_ne' (h := by decide)]
    | rw [StableHlo.reshape_result_ne' (h := by decide)]
    | rw [StableHlo.unary_result']
    | rw [StableHlo.reshape_result']
  pointwise
  refine congrArg (m ((c.tc : Thread nD τ).loc main_arg2)) (funext fun k => Fin.ext ?_)
  fin_cases k
  · rfl
  · rfl

/-- The weights that make the gates, handed in. -/
theorem V_v3 (c : Dev nD) (x : Fin 1024) (y : Fin 5120) : V m c main_v3 (ix2 x y) = (argsOf m c).w x ⟨10400 + y.val, by omega⟩ := by
  unfold V
  simp only [StableHlo.after_cons, StableHlo.after_nil]
  repeat first
    | rw [StableHlo.unary_result_ne' (h := by decide)]
    | rw [StableHlo.reshape_result_ne' (h := by decide)]
    | rw [StableHlo.unary_result']
    | rw [StableHlo.reshape_result']
  pointwise
  refine congrArg (m ((c.tc : Thread nD τ).loc main_arg2)) (funext fun k => Fin.ext ?_)
  fin_cases k
  · rfl
  · rfl

/-- The norm's weights, handed in. -/
theorem V_v4 (c : Dev nD) (x : Fin 1024) : V m c main_v4 (ix2 0 x) = (argsOf m c).g x := by
  unfold V
  simp only [StableHlo.after_cons, StableHlo.after_nil]
  repeat first
    | rw [StableHlo.unary_result_ne' (h := by decide)]
    | rw [StableHlo.reshape_result_ne' (h := by decide)]
    | rw [StableHlo.unary_result']
    | rw [StableHlo.reshape_result']
  show shapeCast S1x1024 (m ((c.tc : Thread nD τ).loc main_arg1) : S1024.Idx → _) shapeCasts_S1024_S1x1024 (ix2 0 x) = _
  pointwise
  rfl

/-- The gates' biases, handed in. -/
theorem V_v5 (c : Dev nD) (j : Fin 5) (x : Fin 1024) : V m c main_v5 (ix3 j 0 x) = (argsOf m c).b j x := by
  unfold V
  simp only [StableHlo.after_cons, StableHlo.after_nil]
  repeat first
    | rw [StableHlo.unary_result_ne' (h := by decide)]
    | rw [StableHlo.reshape_result_ne' (h := by decide)]
    | rw [StableHlo.unary_result']
    | rw [StableHlo.reshape_result']
  show shapeCast S5x1x1024 (m ((c.tc : Thread nD τ).loc main_arg3) : S5x1024.Idx → _) shapeCasts_S5x1024_S5x1x1024 (ix3 j 0 x) = _
  pointwise
  rfl

/-- The branches' weights, handed in. -/
theorem V_v6 (c : Dev nD) (j : Fin 5) (k : Fin 512) (x : Fin 1024) : V m c main_v6 (ix3 j k x) = (argsOf m c).wb j k x := by
  unfold V
  simp only [StableHlo.after_cons, StableHlo.after_nil]
  repeat first
    | rw [StableHlo.unary_result_ne' (h := by decide)]
    | rw [StableHlo.reshape_result_ne' (h := by decide)]
    | rw [StableHlo.unary_result']
    | rw [StableHlo.reshape_result']
  rfl

/-- The output weights, handed in. -/
theorem V_v7 (c : Dev nD) (k x : Fin 1024) : V m c main_v7 (ix2 k x) = (argsOf m c).wo k x := by
  unfold V
  simp only [StableHlo.after_cons, StableHlo.after_nil]
  repeat first
    | rw [StableHlo.unary_result_ne' (h := by decide)]
    | rw [StableHlo.reshape_result_ne' (h := by decide)]
    | rw [StableHlo.unary_result']
    | rw [StableHlo.reshape_result']
  rfl

theorem idx0 : ∀ t : Fin cfg0.N, win0_0.index t = ![t.val / 5, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 5] := (by decide +kernel : ∀ t : Fin grid0.N, _)
theorem idx3 : ∀ t : Fin cfg0.N, win0_3.index t = ![0, t.val % 5] := (by decide +kernel : ∀ t : Fin grid0.N, _)
theorem idx4 : ∀ t : Fin cfg0.N, win0_4.index t = ![t.val % 5, 0, 0] := (by decide +kernel : ∀ t : Fin grid0.N, _)
theorem idx5 : ∀ t : Fin cfg0.N, win0_5.index t = ![t.val % 5, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val / 5, 0] := (by decide +kernel : ∀ t : Fin grid0.N, _)
theorem idx8 : ∀ t : Fin cfg0.N, win0_8.index t = ![t.val / 5, 0] := (by decide +kernel : ∀ t : Fin grid0.N, _)
theorem idx9 : ∀ t : Fin cfg0.N, win0_9.index t = ![t.val / 5, 0] := (by decide +kernel : ∀ t : Fin grid0.N, _)
theorem idx10 : ∀ t : Fin cfg0.N, win0_10.index t = ![t.val / 5, 0] := (by decide +kernel : ∀ t : Fin grid0.N, _)
theorem idx11 : ∀ t : Fin cfg0.N, win0_11.index t = ![t.val / 5, 0] := (by decide +kernel : ∀ t : Fin grid0.N, _)
theorem idx12 : ∀ t : Fin cfg0.N, win0_12.index t = ![t.val / 5, 0] := (by decide +kernel : ∀ t : Fin grid0.N, _)
theorem idx13 : ∀ t : Fin cfg0.N, win0_13.index t = ![t.val / 5, 0] := (by decide +kernel : ∀ t : Fin grid0.N, _)
theorem idx14 : ∀ t : Fin cfg0.N, win0_14.index t = ![t.val / 5, 0] := (by decide +kernel : ∀ t : Fin grid0.N, _)
theorem idx15 : ∀ t : Fin cfg0.N, win0_15.index t = ![t.val / 5, 0] := (by decide +kernel : ∀ t : Fin grid0.N, _)
theorem idx16 : ∀ t : Fin cfg0.N, win0_16.index t = ![t.val / 5, 0] := (by decide +kernel : ∀ t : Fin grid0.N, _)
theorem idx17 : ∀ t : Fin cfg0.N, win0_17.index t = ![t.val / 5, 0] := (by decide +kernel : ∀ t : Fin grid0.N, _)

/-- The token of row `r` at grid point `t`. -/
def row (t : Fin cfg0.N) (r : Fin 512) : Fin 16384 := ⟨512 * (t.val / 5) + r.val, by
  have h : t.val < 160 := t.isLt
  omega⟩

theorem blk0 (c : Dev nD) (t : Fin cfg0.N) (r : Fin 512) (k : Fin 1024) : iblk m c 0 t (ix2 r k) = (argsOf m c).x (row t r) k := by
  unfold iblk
  blk_simp
  rw [V_main_arg0]
  refine congrArg (m ((c.tc : Thread nD τ).loc main_arg0)) (funext fun a => Fin.ext ?_)
  fin_cases a <;> blk_simp [idx0 t] <;> first | rfl | (show t.val / 5 * 512 + r.val = 512 * (t.val / 5) + r.val; omega)

theorem blk7 (c : Dev nD) (t : Fin cfg0.N) (r : Fin 512) (k : Fin 512) : iblk m c 7 t (ix2 r k) = (argsOf m c).oa (row t r) k := by
  unfold iblk
  blk_simp
  rw [V_main_arg6]
  refine congrArg (m ((c.tc : Thread nD τ).loc main_arg6)) (funext fun a => Fin.ext ?_)
  fin_cases a <;> blk_simp [idx7 t] <;> first | rfl | (show t.val / 5 * 512 + r.val = 512 * (t.val / 5) + r.val; omega)

theorem blk8 (c : Dev nD) (t : Fin cfg0.N) (r : Fin 512) (k : Fin 512) : iblk m c 8 t (ix2 r k) = (argsOf m c).ob (row t r) k := by
  unfold iblk
  blk_simp
  rw [V_main_arg7]
  refine congrArg (m ((c.tc : Thread nD τ).loc main_arg7)) (funext fun a => Fin.ext ?_)
  fin_cases a <;> blk_simp [idx8 t] <;> first | rfl | (show t.val / 5 * 512 + r.val = 512 * (t.val / 5) + r.val; omega)

theorem blk9 (c : Dev nD) (t : Fin cfg0.N) (r : Fin 512) (k : Fin 512) : iblk m c 9 t (ix2 r k) = (argsOf m c).oc (row t r) k := by
  unfold iblk
  blk_simp
  rw [V_main_arg8]
  refine congrArg (m ((c.tc : Thread nD τ).loc main_arg8)) (funext fun a => Fin.ext ?_)
  fin_cases a <;> blk_simp [idx9 t] <;> first | rfl | (show t.val / 5 * 512 + r.val = 512 * (t.val / 5) + r.val; omega)

theorem blk10 (c : Dev nD) (t : Fin cfg0.N) (r : Fin 512) (k : Fin 512) : iblk m c 10 t (ix2 r k) = (argsOf m c).om (row t r) k := by
  unfold iblk
  blk_simp
  rw [V_main_arg9]
  refine congrArg (m ((c.tc : Thread nD τ).loc main_arg9)) (funext fun a => Fin.ext ?_)
  fin_cases a <;> blk_simp [idx10 t] <;> first | rfl | (show t.val / 5 * 512 + r.val = 512 * (t.val / 5) + r.val; omega)

theorem blk11 (c : Dev nD) (t : Fin cfg0.N) (r : Fin 512) (k : Fin 512) : iblk m c 11 t (ix2 r k) = (argsOf m c).d0 (row t r) k := by
  unfold iblk
  blk_simp
  rw [V_main_arg10]
  refine congrArg (m ((c.tc : Thread nD τ).loc main_arg10)) (funext fun a => Fin.ext ?_)
  fin_cases a <;> blk_simp [idx11 t] <;> first | rfl | (show t.val / 5 * 512 + r.val = 512 * (t.val / 5) + r.val; omega)

theorem blk12 (c : Dev nD) (t : Fin cfg0.N) (r : Fin 512) (k : Fin 512) : iblk m c 12 t (ix2 r k) = (argsOf m c).d1 (row t r) k := by
  unfold iblk
  blk_simp
  rw [V_main_arg11]
  refine congrArg (m ((c.tc : Thread nD τ).loc main_arg11)) (funext fun a => Fin.ext ?_)
  fin_cases a <;> blk_simp [idx12 t] <;> first | rfl | (show t.val / 5 * 512 + r.val = 512 * (t.val / 5) + r.val; omega)

theorem blk13 (c : Dev nD) (t : Fin cfg0.N) (r : Fin 512) (k : Fin 512) : iblk m c 13 t (ix2 r k) = (argsOf m c).d2 (row t r) k := by
  unfold iblk
  blk_simp
  rw [V_main_arg12]
  refine congrArg (m ((c.tc : Thread nD τ).loc main_arg12)) (funext fun a => Fin.ext ?_)
  fin_cases a <;> blk_simp [idx13 t] <;> first | rfl | (show t.val / 5 * 512 + r.val = 512 * (t.val / 5) + r.val; omega)

theorem blk14 (c : Dev nD) (t : Fin cfg0.N) (r : Fin 512) (k : Fin 512) : iblk m c 14 t (ix2 r k) = (argsOf m c).l0 (row t r) k := by
  unfold iblk
  blk_simp
  rw [V_main_arg13]
  refine congrArg (m ((c.tc : Thread nD τ).loc main_arg13)) (funext fun a => Fin.ext ?_)
  fin_cases a <;> blk_simp [idx14 t] <;> first | rfl | (show t.val / 5 * 512 + r.val = 512 * (t.val / 5) + r.val; omega)

theorem blk15 (c : Dev nD) (t : Fin cfg0.N) (r : Fin 512) (k : Fin 512) : iblk m c 15 t (ix2 r k) = (argsOf m c).l1 (row t r) k := by
  unfold iblk
  blk_simp
  rw [V_main_arg14]
  refine congrArg (m ((c.tc : Thread nD τ).loc main_arg14)) (funext fun a => Fin.ext ?_)
  fin_cases a <;> blk_simp [idx15 t] <;> first | rfl | (show t.val / 5 * 512 + r.val = 512 * (t.val / 5) + r.val; omega)

theorem blk16 (c : Dev nD) (t : Fin cfg0.N) (r : Fin 512) (k : Fin 512) : iblk m c 16 t (ix2 r k) = (argsOf m c).l2 (row t r) k := by
  unfold iblk
  blk_simp
  rw [V_main_arg15]
  refine congrArg (m ((c.tc : Thread nD τ).loc main_arg15)) (funext fun a => Fin.ext ?_)
  fin_cases a <;> blk_simp [idx16 t] <;> first | rfl | (show t.val / 5 * 512 + r.val = 512 * (t.val / 5) + r.val; omega)

theorem blk1 (c : Dev nD) (t : Fin cfg0.N) (k : Fin 1024) : iblk m c 1 t (ix2 0 k) = (argsOf m c).g k := by
  rw [← V_v4 m c]
  unfold iblk
  blk_simp
  refine congrArg (V m c main_v4) (funext fun a => Fin.ext ?_)
  fin_cases a <;> blk_simp [idx1 t]

theorem blk2 (c : Dev nD) (t : Fin cfg0.N) (j : Fin 5) (hj : t.val % 5 = j.val) (x : Fin 1024) (k : Fin 512) :
    iblk m c 2 t (ix2 x k) = (argsOf m c).w x (zc j k) := by
  have e : zc j k = ⟨7840 + ((⟨512 * j.val + k.val, by omega⟩ : Fin 2560)).val, by omega⟩ := Fin.ext (by show _ + _ + _ = _ + (_ + _); omega)
  rw [e, ← V_v1 m c]
  unfold iblk
  blk_simp
  refine congrArg (V m c main_v1) (funext fun a => Fin.ext ?_)
  fin_cases a <;> blk_simp [idx2 t] <;> first | rfl | (show t.val % 5 * 512 + k.val = 512 * j.val + k.val; omega)

theorem blk3 (c : Dev nD) (t : Fin cfg0.N) (j : Fin 5) (hj : t.val % 5 = j.val) (x : Fin 1024) (k : Fin 1024) :
    iblk m c 3 t (ix2 x k) = (argsOf m c).w x (gc j k) := by
  have e : gc j k = ⟨10400 + ((⟨1024 * j.val + k.val, by omega⟩ : Fin 5120)).val, by omega⟩ := Fin.ext (by show _ + _ + _ = _ + (_ + _); omega)
  rw [e, ← V_v3 m c]
  unfold iblk
  blk_simp
  refine congrArg (V m c main_v3) (funext fun a => Fin.ext ?_)
  fin_cases a <;> blk_simp [idx3 t] <;> first | rfl | (show t.val % 5 * 1024 + k.val = 1024 * j.val + k.val; omega)

theorem blk4 (c : Dev nD) (t : Fin cfg0.N) (j : Fin 5) (hj : t.val % 5 = j.val) (k : Fin 1024) : iblk m c 4 t (ix3 0 0 k) = (argsOf m c).b j k := by
  rw [← V_v5 m c]
  unfold iblk
  blk_simp
  refine congrArg (V m c main_v5) (funext fun a => Fin.ext ?_)
  fin_cases a <;> blk_simp [idx4 t] <;> first | rfl | (exact hj)

theorem blk5 (c : Dev nD) (t : Fin cfg0.N) (j : Fin 5) (hj : t.val % 5 = j.val) (k : Fin 512) (d : Fin 1024) : iblk m c 5 t (ix3 0 k d) = (argsOf m c).wb j k d := by
  rw [← V_v6 m c]
  unfold iblk
  blk_simp
  refine congrArg (V m c main_v6) (funext fun a => Fin.ext ?_)
  fin_cases a <;> blk_simp [idx5 t] <;> first | rfl | (exact hj)

theorem blk6 (c : Dev nD) (t : Fin cfg0.N) (k d : Fin 1024) : iblk m c 6 t (ix2 k d) = (argsOf m c).wo k d := by
  rw [← V_v7 m c]
  unfold iblk
  blk_simp
  refine congrArg (V m c main_v7) (funext fun a => Fin.ext ?_)
  fin_cases a <;> blk_simp [idx6 t]

/-- What a grid point adds to the accumulator `acc`, from the normalised tokens `H` and its branch's output `o`. -/
def stepAt (c : Dev nD) (t : Fin cfg0.N) (H : Vec Ideal S512x1024 .bf16) (o : Vec Ideal S512x512 .f32) (acc : Vec Ideal S512x1024 .f32) : Vec Ideal S512x1024 .f32 :=
  step H o (iblk m c 2 t) (iblk m c 3 t) (iblk m c 4 t) (iblk m c 5 t) acc

/-- A grid point of branch `j` adds the branch's term. -/
theorem stepAt_apply (c : Dev nD) (t : Fin cfg0.N) (j : Fin 5) (hj : t.val % 5 = j.val) (H : Vec Ideal S512x1024 .bf16) (o : Vec Ideal S512x512 .f32)
    (acc : Vec Ideal S512x1024 .f32) (O : Fin 16384 → Fin 512 → EReal) (hH : ∀ r k, H (ix2 r k) = (argsOf m c).h (row t r) k)
    (ho : ∀ r k, o (ix2 r k) = O (row t r) k) (r : Fin 512) (d : Fin 1024) :
    stepAt m c t H o acc (ix2 r d) = acc (ix2 r d) + (argsOf m c).term j O (row t r) d := by
  unfold stepAt Args.term
  rw [step_apply]
  simp only [hH, ho, blk2 m c t j hj, blk3 m c t j hj, blk4 m c t j hj, blk5 m c t j hj]

end Cert.Kernel2Ideal.Merge

end
-- ==== Proof.MergeCases.lean ====
module

public import proofs.«01_k».proof.Proof.MergeBlocks
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Kernel2Ideal.Merge

open Idealize.ShloMosaic Cert.Kernel2Ideal Cert.Kernel2Ideal.Gen Idealize.ShloMosaic.TcCoe Idealize.ShloMosaic.Tactic

variable (m : (ℓ : Loc nD τ sig) → Buf (Elt Ideal) ℓ)

/-- A block's first grid point normalises the tokens and adds the first branch to zero. -/
theorem afterA (c : Dev nD) (t : Fin cfg0.N) (h : t.val % 5 = 0) :
    (outsAt0 m c t.val t.isLt).2.1 = (k0_pay3 (iblk m c 0 t) (iblk m c 1 t))
    ∧ (outsAt0 m c t.val t.isLt).2.2 = stepAt m c t (k0_pay3 (iblk m c 0 t) (iblk m c 1 t)) (iblk m c 7 t) (k0_pay4 (F := Ideal)) := by
  constructor
  · rw [outsAt0_A m c t h (by omega) (by omega) (by omega) (by omega) (by omega)]
    frame_out
  · rw [outsAt0_A m c t h (by omega) (by omega) (by omega) (by omega) (by omega)]
    frame_out
    rw [pay5_eq]
    rfl

/-- The second adds the second branch. -/
theorem afterB (c : Dev nD) (t : Fin cfg0.N) (h : t.val % 5 = 1) :
    (outsAt0 m c t.val t.isLt).2.1 = (outsAt0 m c (t.val - 1) (by have := t.isLt; omega)).2.1
    ∧ (outsAt0 m c t.val t.isLt).2.2 = stepAt m c t (outsAt0 m c (t.val - 1) (by have := t.isLt; omega)).2.1 (iblk m c 8 t) (outsAt0 m c (t.val - 1) (by have := t.isLt; omega)).2.2 := by
  constructor
  · rw [outsAt0_B m c t (by omega) h (by omega) (by omega) (by omega) (by omega)]
    rfl
  · rw [outsAt0_B m c t (by omega) h (by omega) (by omega) (by omega) (by omega)]
    frame_out
    simp only [read_unread_whole]
    rw [pay6_eq]
    rfl

/-- The third adds the third branch. -/
theorem afterC (c : Dev nD) (t : Fin cfg0.N) (h : t.val % 5 = 2) :
    (outsAt0 m c t.val t.isLt).2.1 = (outsAt0 m c (t.val - 1) (by have := t.isLt; omega)).2.1
    ∧ (outsAt0 m c t.val t.isLt).2.2 = stepAt m c t (outsAt0 m c (t.val - 1) (by have := t.isLt; omega)).2.1 (iblk m c 9 t) (outsAt0 m c (t.val - 1) (by have := t.isLt; omega)).2.2 := by
  constructor
  · rw [outsAt0_C m c t (by omega) (by omega) h (by omega) (by omega) (by omega)]
    rfl
  · rw [outsAt0_C m c t (by omega) (by omega) h (by omega) (by omega) (by omega)]
    frame_out
    simp only [read_unread_whole]
    rw [pay7_eq]
    rfl

/-- The fourth adds the mixture. -/
theorem afterD (c : Dev nD) (t : Fin cfg0.N) (h : t.val % 5 = 3) :
    (outsAt0 m c t.val t.isLt).2.1 = (outsAt0 m c (t.val - 1) (by have := t.isLt; omega)).2.1
    ∧ (outsAt0 m c t.val t.isLt).2.2 = stepAt m c t (outsAt0 m c (t.val - 1) (by have := t.isLt; omega)).2.1 (k0_pay8 (iblk m c 14 t) (iblk m c 15 t) (iblk m c 16 t) (iblk m c 11 t) (iblk m c 12 t) (iblk m c 13 t)) (outsAt0 m c (t.val - 1) (by have := t.isLt; omega)).2.2 := by
  constructor
  · rw [outsAt0_D m c t (by omega) (by omega) (by omega) h (by omega) (by omega)]
    rfl
  · rw [outsAt0_D m c t (by omega) (by omega) (by omega) h (by omega) (by omega)]
    frame_out
    simp only [read_unread_whole]
    rfl

/-- The fifth adds the last branch. -/
theorem afterE (c : Dev nD) (t : Fin cfg0.N) (h : t.val % 5 = 4) :
    (outsAt0 m c t.val t.isLt).2.1 = (outsAt0 m c (t.val - 1) (by have := t.isLt; omega)).2.1
    ∧ (outsAt0 m c t.val t.isLt).2.2 = stepAt m c t (outsAt0 m c (t.val - 1) (by have := t.isLt; omega)).2.1 (iblk m c 10 t) (outsAt0 m c (t.val - 1) (by have := t.isLt; omega)).2.2 := by
  constructor
  · rw [outsAt0_E m c t (by omega) (by omega) (by omega) (by omega) h h]
    rfl
  · rw [outsAt0_E m c t (by omega) (by omega) (by omega) (by omega) h h]
    frame_out
    simp only [read_unread_whole]
    rw [pay9_eq]
    rfl

/-- … and writes the result. -/
theorem out_last (c : Dev nD) (t : Fin cfg0.N) (h : t.val % 5 = 4) :
    (outsAt0 m c t.val t.isLt).1 = k0_pay2 (iblk m c 0 t) (outsAt0 m c t.val t.isLt).2.2 (iblk m c 6 t) := by
  rw [outsAt0_E m c t (by omega) (by omega) (by omega) (by omega) h h]
  frame_out

end Cert.Kernel2Ideal.Merge

end
-- ==== Proof.MergeArray.lean ====
module

public import proofs.«01_k».proof.Proof.MergeCases

@[expose] public section

set_option maxRecDepth 16384

noncomputable section

namespace Cert.Kernel2Ideal.Merge

open Idealize.ShloMosaic Cert.Kernel2Ideal Cert.Kernel2Ideal.Gen Idealize.ShloMosaic.TcCoe Idealize.ShloMosaic.Tactic Cert.Merge

variable (m : (ℓ : Loc nD τ sig) → Buf (Elt Ideal) ℓ)

/-- The grid point of row block `q` and branch `j`. -/
def pt (q : Fin 32) (j : Fin 5) : Fin cfg0.N := ⟨5 * q.val + j.val, by
  show 5 * q.val + j.val < 160
  omega⟩

theorem pt_mod (q : Fin 32) (j : Fin 5) : (pt q j).val % 5 = j.val := by
  show (5 * q.val + j.val) % 5 = j.val
  omega

theorem row_pt (q : Fin 32) (j : Fin 5) (r : Fin 512) : row (pt q j) r = ⟨512 * q.val + r.val, by omega⟩ := by
  refine Fin.ext ?_
  show 512 * ((5 * q.val + j.val) / 5) + r.val = 512 * q.val + r.val
  omega

/-- After the first grid point of a block: the normalised tokens, and the first branch's term. -/
theorem sem0 (c : Dev nD) (q : Fin 32) :
    (∀ r k, (outsAt0 m c (pt q 0).val (pt q 0).isLt).2.1 (ix2 r k) = (argsOf m c).h ⟨512 * q.val + r.val, by omega⟩ k)
    ∧ ∀ r d, (outsAt0 m c (pt q 0).val (pt q 0).isLt).2.2 (ix2 r d)
        = 0 + (argsOf m c).term 0 (argsOf m c).oa ⟨512 * q.val + r.val, by omega⟩ d := by
  have h := afterA m c (pt q 0) (pt_mod q 0)
  have hh : ∀ (r : Fin 512) (k : Fin 1024), k0_pay3 (F := Ideal) (iblk m c 0 (pt q 0)) (iblk m c 1 (pt q 0)) (ix2 r k) = (argsOf m c).h (row (pt q 0) r) k := by
    intro r k
    rw [pay3_apply]
    simp only [blk0, blk1]
    rfl
  refine ⟨fun r k => ?_, fun r d => ?_⟩
  · rw [h.1, hh, row_pt]
  · rw [h.2, stepAt_apply m c (pt q 0) 0 (pt_mod q 0) _ _ _ (argsOf m c).oa hh (blk7 m c _), pay4_apply, row_pt]

/-- After grid point 1 of a block the terms of the branches up to 1 are added. -/
theorem sem1 (c : Dev nD) (q : Fin 32) :
    (∀ r k, (outsAt0 m c (pt q 1).val (pt q 1).isLt).2.1 (ix2 r k) = (argsOf m c).h ⟨512 * q.val + r.val, by omega⟩ k)
    ∧ ∀ r d, (outsAt0 m c (pt q 1).val (pt q 1).isLt).2.2 (ix2 r d)
        = 0 + (argsOf m c).term 0 (argsOf m c).oa ⟨512 * q.val + r.val, by omega⟩ d + (argsOf m c).term 1 (argsOf m c).ob ⟨512 * q.val + r.val, by omega⟩ d := by
  obtain ⟨ih, ia⟩ := sem0 m c q
  have h1 : (outsAt0 m c (pt q 1).val (pt q 1).isLt).2.1 = (outsAt0 m c (pt q 0).val (pt q 0).isLt).2.1 := (afterB m c (pt q 1) (pt_mod q 1)).1
  have h2 : (outsAt0 m c (pt q 1).val (pt q 1).isLt).2.2 = stepAt m c (pt q 1) (outsAt0 m c (pt q 0).val (pt q 0).isLt).2.1 (iblk m c 8 (pt q 1)) (outsAt0 m c (pt q 0).val (pt q 0).isLt).2.2 := (afterB m c (pt q 1) (pt_mod q 1)).2
  have hh : ∀ (r : Fin 512) (k : Fin 1024), (outsAt0 m c (pt q 0).val (pt q 0).isLt).2.1 (ix2 r k) = (argsOf m c).h (row (pt q 1) r) k := fun r k => by rw [ih, row_pt]
  refine ⟨fun r k => by rw [h1, ih], fun r d => ?_⟩
  rw [h2, stepAt_apply m c (pt q 1) 1 (pt_mod q 1) _ _ _ (argsOf m c).ob hh (blk8 m c _), ia, row_pt]

/-- After grid point 2 of a block the terms of the branches up to 2 are added. -/
theorem sem2 (c : Dev nD) (q : Fin 32) :
    (∀ r k, (outsAt0 m c (pt q 2).val (pt q 2).isLt).2.1 (ix2 r k) = (argsOf m c).h ⟨512 * q.val + r.val, by omega⟩ k)
    ∧ ∀ r d, (outsAt0 m c (pt q 2).val (pt q 2).isLt).2.2 (ix2 r d)
        = 0 + (argsOf m c).term 0 (argsOf m c).oa ⟨512 * q.val + r.val, by omega⟩ d + (argsOf m c).term 1 (argsOf m c).ob ⟨512 * q.val + r.val, by omega⟩ d + (argsOf m c).term 2 (argsOf m c).oc ⟨512 * q.val + r.val, by omega⟩ d := by
  obtain ⟨ih, ia⟩ := sem1 m c q
  have h1 : (outsAt0 m c (pt q 2).val (pt q 2).isLt).2.1 = (outsAt0 m c (pt q 1).val (pt q 1).isLt).2.1 := (afterC m c (pt q 2) (pt_mod q 2)).1
  have h2 : (outsAt0 m c (pt q 2).val (pt q 2).isLt).2.2 = stepAt m c (pt q 2) (outsAt0 m c (pt q 1).val (pt q 1).isLt).2.1 (iblk m c 9 (pt q 2)) (outsAt0 m c (pt q 1).val (pt q 1).isLt).2.2 := (afterC m c (pt q 2) (pt_mod q 2)).2
  have hh : ∀ (r : Fin 512) (k : Fin 1024), (outsAt0 m c (pt q 1).val (pt q 1).isLt).2.1 (ix2 r k) = (argsOf m c).h (row (pt q 2) r) k := fun r k => by rw [ih, row_pt]
  refine ⟨fun r k => by rw [h1, ih], fun r d => ?_⟩
  rw [h2, stepAt_apply m c (pt q 2) 2 (pt_mod q 2) _ _ _ (argsOf m c).oc hh (blk9 m c _), ia, row_pt]

/-- After grid point 3 of a block the terms of the branches up to 3 are added. -/
theorem sem3 (c : Dev nD) (q : Fin 32) :
    (∀ r k, (outsAt0 m c (pt q 3).val (pt q 3).isLt).2.1 (ix2 r k) = (argsOf m c).h ⟨512 * q.val + r.val, by omega⟩ k)
    ∧ ∀ r d, (outsAt0 m c (pt q 3).val (pt q 3).isLt).2.2 (ix2 r d)
        = 0 + (argsOf m c).term 0 (argsOf m c).oa ⟨512 * q.val + r.val, by omega⟩ d + (argsOf m c).term 1 (argsOf m c).ob ⟨512 * q.val + r.val, by omega⟩ d + (argsOf m c).term 2 (argsOf m c).oc ⟨512 * q.val + r.val, by omega⟩ d + (argsOf m c).term 3 (argsOf m c).od ⟨512 * q.val + r.val, by omega⟩ d := by
  obtain ⟨ih, ia⟩ := sem2 m c q
  have h1 : (outsAt0 m c (pt q 3).val (pt q 3).isLt).2.1 = (outsAt0 m c (pt q 2).val (pt q 2).isLt).2.1 := (afterD m c (pt q 3) (pt_mod q 3)).1
  have h2 : (outsAt0 m c (pt q 3).val (pt q 3).isLt).2.2 = stepAt m c (pt q 3) (outsAt0 m c (pt q 2).val (pt q 2).isLt).2.1 (k0_pay8 (F := Ideal) (iblk m c 14 (pt q 3)) (iblk m c 15 (pt q 3)) (iblk m c 16 (pt q 3)) (iblk m c 11 (pt q 3)) (iblk m c 12 (pt q 3)) (iblk m c 13 (pt q 3))) (outsAt0 m c (pt q 2).val (pt q 2).isLt).2.2 := (afterD m c (pt q 3) (pt_mod q 3)).2
  have ho : ∀ (r k : Fin 512), (k0_pay8 (F := Ideal) (iblk m c 14 (pt q 3)) (iblk m c 15 (pt q 3)) (iblk m c 16 (pt q 3)) (iblk m c 11 (pt q 3)) (iblk m c 12 (pt q 3)) (iblk m c 13 (pt q 3))) (ix2 r k) = (argsOf m c).od (row (pt q 3) r) k := by
    intro r k
    rw [pay8_apply, blk11, blk12, blk13, blk14, blk15, blk16]
    rfl
  have hh : ∀ (r : Fin 512) (k : Fin 1024), (outsAt0 m c (pt q 2).val (pt q 2).isLt).2.1 (ix2 r k) = (argsOf m c).h (row (pt q 3) r) k := fun r k => by rw [ih, row_pt]
  refine ⟨fun r k => by rw [h1, ih], fun r d => ?_⟩
  rw [h2, stepAt_apply m c (pt q 3) 3 (pt_mod q 3) _ _ _ (argsOf m c).od hh ho, ia, row_pt]

/-- After grid point 4 of a block the terms of the branches up to 4 are added. -/
theorem sem4 (c : Dev nD) (q : Fin 32) :
    (∀ r k, (outsAt0 m c (pt q 4).val (pt q 4).isLt).2.1 (ix2 r k) = (argsOf m c).h ⟨512 * q.val + r.val, by omega⟩ k)
    ∧ ∀ r d, (outsAt0 m c (pt q 4).val (pt q 4).isLt).2.2 (ix2 r d)
        = 0 + (argsOf m c).term 0 (argsOf m c).oa ⟨512 * q.val + r.val, by omega⟩ d + (argsOf m c).term 1 (argsOf m c).ob ⟨512 * q.val + r.val, by omega⟩ d + (argsOf m c).term 2 (argsOf m c).oc ⟨512 * q.val + r.val, by omega⟩ d + (argsOf m c).term 3 (argsOf m c).od ⟨512 * q.val + r.val, by omega⟩ d + (argsOf m c).term 4 (argsOf m c).om ⟨512 * q.val + r.val, by omega⟩ d := by
  obtain ⟨ih, ia⟩ := sem3 m c q
  have h1 : (outsAt0 m c (pt q 4).val (pt q 4).isLt).2.1 = (outsAt0 m c (pt q 3).val (pt q 3).isLt).2.1 := (afterE m c (pt q 4) (pt_mod q 4)).1
  have h2 : (outsAt0 m c (pt q 4).val (pt q 4).isLt).2.2 = stepAt m c (pt q 4) (outsAt0 m c (pt q 3).val (pt q 3).isLt).2.1 (iblk m c 10 (pt q 4)) (outsAt0 m c (pt q 3).val (pt q 3).isLt).2.2 := (afterE m c (pt q 4) (pt_mod q 4)).2
  have hh : ∀ (r : Fin 512) (k : Fin 1024), (outsAt0 m c (pt q 3).val (pt q 3).isLt).2.1 (ix2 r k) = (argsOf m c).h (row (pt q 4) r) k := fun r k => by rw [ih, row_pt]
  refine ⟨fun r k => by rw [h1, ih], fun r d => ?_⟩
  rw [h2, stepAt_apply m c (pt q 4) 4 (pt_mod q 4) _ _ _ (argsOf m c).om hh (blk10 m c _), ia, row_pt]

/-- The result array. -/
def G (A : Args 16384) : S16384x1024.Idx → EReal := fun i => A.out (i 0) (i 1)

/-- After the run the result array is the merge of the arguments. -/
theorem arr_eq (c : Dev nD) : (dats m 0 c).arrAt 17 cfg0.N = G (argsOf m c) := by
  refine (dats m 0 c).arrAt_eq_of_covers 17 _ (by decide +kernel) fun t hf y => ?_
  have hm : t.val % 5 = 4 := (flush0_17 t).1 hf
  have ht : t.val < 160 := t.isLt
  obtain ⟨q, rfl⟩ : ∃ q : Fin 32, t = pt q 4 := ⟨⟨t.val / 5, by omega⟩, Fin.ext (by show t.val = 5 * (t.val / 5) + 4; omega)⟩
  blk_simp
  rw [after0_17, out_last m c (pt q 4) hm]
  obtain ⟨r, d, rfl⟩ : ∃ (r : Fin 512) (d : Fin 1024), y = ix2 r d := ⟨y 0, y 1, by funext a; fin_cases a <;> rfl⟩
  rw [show G (argsOf m c) ((win0_17.blk (pt q 4)).view.emb (ix2 r d)) = (argsOf m c).out ⟨512 * q.val + r.val, by omega⟩ d from ?_]
  · rw [pay2_apply, blk0, row_pt]
    refine congrArg (fun u : EReal => (argsOf m c).x ⟨512 * q.val + r.val, by omega⟩ d + u) (Finset.sum_congr rfl fun k _ => ?_)
    rw [(sem4 m c q).2, blk6]
    rfl
  · unfold G
    have f0 : ((win0_17.blk (pt q 4)).view.emb (ix2 r d) 0).val = (pt q 4).val / 5 * 512 + r.val := by blk_simp [idx17]
    have f1 : ((win0_17.blk (pt q 4)).view.emb (ix2 r d) 1).val = d.val := by blk_simp [idx17]
    have e : (pt q 4).val = 5 * q.val + 4 := rfl
    exact congrArg₂ (argsOf m c).out (Fin.ext (by rw [f0, e]; show _ = 512 * q.val + r.val; omega)) (Fin.ext f1)

end Cert.Kernel2Ideal.Merge

end
-- ==== Proof.MergeRef.lean ====
module

public import proofs.«01_k».proof.Proof.MergeSpec
public import proofs.«01_k».proof.Proof.Gen.Reference2Ideal.Read
public import Idealize.ShloMosaic.Lib.Pointwise
public import Idealize.ShloMosaic.Lib.Pointwise.Tactic

@[expose] public section

set_option maxRecDepth 16384

noncomputable section

namespace Cert.Reference2Ideal.Merge

open Idealize.ShloMosaic Cert.Reference2Ideal Cert.Reference2Ideal.Gen Cert.Reference2Ideal.Read Idealize.ShloMosaic.TcCoe Idealize.ShloMosaic.Tactic Cert.Merge

/-- The running maximum starts below everything. -/
theorem negInf : Ideal.ofBits .f32 0xFF800000#32 = ⊥ := by
  simp [Ideal.ofBits, Ideal.ieee]

variable (x0 : (⟨S16384x1024, .f32⟩ : BufTy).Contents (Elt Ideal)) (x1 : (⟨S1024, .f32⟩ : BufTy).Contents (Elt Ideal))
  (x2 : (⟨S1024x15520, .f32⟩ : BufTy).Contents (Elt Ideal)) (x3 : (⟨S5x1024, .f32⟩ : BufTy).Contents (Elt Ideal))
  (x4 : (⟨S5x512x1024, .f32⟩ : BufTy).Contents (Elt Ideal)) (x5 : (⟨S1024x1024, .f32⟩ : BufTy).Contents (Elt Ideal))
  (x6 x7 x8 x9 x10 x11 x12 : (⟨S16384x512, .bf16⟩ : BufTy).Contents (Elt Ideal))
  (x13 x14 x15 : (⟨S16384x512, .f32⟩ : BufTy).Contents (Elt Ideal)) (A : Args 16384)

/-- The arguments' buffers hold `A`. -/
structure Holds : Prop where
  x : ∀ i, x0 i = A.x (i 0) (i 1)
  g : ∀ i, x1 i = A.g (i 0)
  w : ∀ i, x2 i = A.w (i 0) (i 1)
  b : ∀ i, x3 i = A.b (i 0) (i 1)
  wb : ∀ i, x4 i = A.wb (i 0) (i 1) (i 2)
  wo : ∀ i, x5 i = A.wo (i 0) (i 1)
  oa : ∀ i, x6 i = A.oa (i 0) (i 1)
  ob : ∀ i, x7 i = A.ob (i 0) (i 1)
  oc : ∀ i, x8 i = A.oc (i 0) (i 1)
  om : ∀ i, x9 i = A.om (i 0) (i 1)
  d0 : ∀ i, x10 i = A.d0 (i 0) (i 1)
  d1 : ∀ i, x11 i = A.d1 (i 0) (i 1)
  d2 : ∀ i, x12 i = A.d2 (i 0) (i 1)
  l0 : ∀ i, x13 i = A.l0 (i 0) (i 1)
  l1 : ∀ i, x14 i = A.l1 (i 0) (i 1)
  l2 : ∀ i, x15 i = A.l2 (i 0) (i 1)

variable (H : Holds x0 x1 x2 x3 x4 x5 x6 x7 x8 x9 x10 x11 x12 x13 x14 x15 A)
include H

/-- The normalised tokens. -/
theorem h_read (i : S16384x1024.Idx) : val_main_v12 x0 x1 i = A.h (i 0) (i 1) := by
  rw [val_main_v12_apply, val_main_v9_apply, val_main_v8_apply, val_main_v7_apply, val_main_v6_apply, val_main_v5_apply, val_main_v4_apply,
    val_main_v3_apply, val_main_v2_apply, val_main_v1_apply, val_main_v11_apply, val_main_v10_apply, H.x, H.g,
    show val_main_cst (F := Ideal) (Shape.Idx.first h_S_) = 0 from Ideal.ofBits_zero_f32, zero_add]
  simp only [val_main_v0_apply, H.x]
  rfl

/-- Branch 0's `z`. -/
theorem z_read0 (i : S16384x512.Idx) : val_main_v44 x0 x1 x2 i = ∑ x, A.h (i 0) x * A.w x (zc 0 (i 1)) := by
  rw [val_main_v44_apply, val_main_v14_apply]
  refine Finset.sum_congr rfl fun x _ => ?_
  rw [h_read x0 x1 x2 x3 x4 x5 x6 x7 x8 x9 x10 x11 x12 x13 x14 x15 A H, val_main_v13_apply, H.w]
  refine congrArg (fun u => A.h (i 0) x * A.w x u) (Fin.ext ?_)
  show 7840 + (i 1).val = 7840 + 0 + (i 1).val
  omega

/-- Branch 0's gate before the bias. -/
theorem g_read0 (i : S16384x1024.Idx) : val_main_v46 x0 x1 x2 i = ∑ x, A.h (i 0) x * A.w x (gc 0 (i 1)) := by
  rw [val_main_v46_apply, val_main_v16_apply]
  refine Finset.sum_congr rfl fun x _ => ?_
  rw [h_read x0 x1 x2 x3 x4 x5 x6 x7 x8 x9 x10 x11 x12 x13 x14 x15 A H, val_main_v15_apply, H.w]
  refine congrArg (fun u => A.h (i 0) x * A.w x u) (Fin.ext ?_)
  show 10400 + (i 1).val = 10400 + 0 + (i 1).val
  omega

/-- Branch 0's bias. -/
theorem b_read0 (i : S16384x1024.Idx) : val_main_v50 x3 i = A.b 0 (i 1) := by
  rw [val_main_v50_apply, val_main_v49_apply, val_main_v48_apply, val_main_v47_apply, H.b]
  refine congrArg (A.b 0) (Fin.ext ?_)
  exact Nat.mod_eq_of_lt (i 1).isLt

/-- Branch 0's weights. -/
theorem wb_read0 (i : S512x1024.Idx) : val_main_v60 x4 i = A.wb 0 (i 0) (i 1) := by
  have h0 : (i 0).val < 512 := (i 0).isLt
  have h1 : (i 1).val < 1024 := (i 1).isLt
  rw [val_main_v60_apply, val_main_v59_apply, H.wb]
  refine congrArg₂ (A.wb 0) (Fin.ext ?_) (Fin.ext ?_)
  · show ((i 0).val * 1024 + (i 1).val) / 1024 % 512 = (i 0).val
    omega
  · show ((i 0).val * 1024 + (i 1).val) % 1024 = (i 1).val
    omega

/-- Branch 0's term. -/
theorem t_read0 (i : S16384x1024.Idx) : val_main_v62 x0 x1 x2 x3 x4 x6 i = A.term 0 A.oa (i 0) (i 1) := by
  have hz := z_read0 x0 x1 x2 x3 x4 x5 x6 x7 x8 x9 x10 x11 x12 x13 x14 x15 A H
  rw [val_main_v62_apply, val_main_v57_apply, val_main_v55_apply, val_main_v53_apply, val_main_v52_apply, val_main_v51_apply,
    g_read0 x0 x1 x2 x3 x4 x5 x6 x7 x8 x9 x10 x11 x12 x13 x14 x15 A H, b_read0 x0 x1 x2 x3 x4 x5 x6 x7 x8 x9 x10 x11 x12 x13 x14 x15 A H, val_main_v61_apply]
  refine (gate_mul _ _).trans (congrArg₂ gated (Finset.sum_congr rfl fun k _ => ?_) rfl)
  rw [val_main_v58_apply, wb_read0 x0 x1 x2 x3 x4 x5 x6 x7 x8 x9 x10 x11 x12 x13 x14 x15 A H, val_main_v45_apply, val_main_call0_v5_apply, val_main_call0_v3_apply, val_main_call0_v1_apply, val_main_call0_v0_apply, hz,
    val_main_v40_apply, H.oa]
  exact congrArg (fun u : EReal => A.oa (i 0) k * u * A.wb 0 k (i 1)) (mul_gate _ _)

/-- Branch 1's `z`. -/
theorem z_read1 (i : S16384x512.Idx) : val_main_v64 x0 x1 x2 i = ∑ x, A.h (i 0) x * A.w x (zc 1 (i 1)) := by
  rw [val_main_v64_apply, val_main_v14_apply]
  refine Finset.sum_congr rfl fun x _ => ?_
  rw [h_read x0 x1 x2 x3 x4 x5 x6 x7 x8 x9 x10 x11 x12 x13 x14 x15 A H, val_main_v13_apply, H.w]
  refine congrArg (fun u => A.h (i 0) x * A.w x u) (Fin.ext ?_)
  show 7840 + (512 + (i 1).val) = 7840 + 512 + (i 1).val
  omega

/-- Branch 1's gate before the bias. -/
theorem g_read1 (i : S16384x1024.Idx) : val_main_v66 x0 x1 x2 i = ∑ x, A.h (i 0) x * A.w x (gc 1 (i 1)) := by
  rw [val_main_v66_apply, val_main_v16_apply]
  refine Finset.sum_congr rfl fun x _ => ?_
  rw [h_read x0 x1 x2 x3 x4 x5 x6 x7 x8 x9 x10 x11 x12 x13 x14 x15 A H, val_main_v15_apply, H.w]
  refine congrArg (fun u => A.h (i 0) x * A.w x u) (Fin.ext ?_)
  show 10400 + (1024 + (i 1).val) = 10400 + 1024 + (i 1).val
  omega

/-- Branch 1's bias. -/
theorem b_read1 (i : S16384x1024.Idx) : val_main_v70 x3 i = A.b 1 (i 1) := by
  rw [val_main_v70_apply, val_main_v69_apply, val_main_v68_apply, val_main_v67_apply, H.b]
  refine congrArg (A.b 1) (Fin.ext ?_)
  exact Nat.mod_eq_of_lt (i 1).isLt

/-- Branch 1's weights. -/
theorem wb_read1 (i : S512x1024.Idx) : val_main_v80 x4 i = A.wb 1 (i 0) (i 1) := by
  have h0 : (i 0).val < 512 := (i 0).isLt
  have h1 : (i 1).val < 1024 := (i 1).isLt
  rw [val_main_v80_apply, val_main_v79_apply, H.wb]
  refine congrArg₂ (A.wb 1) (Fin.ext ?_) (Fin.ext ?_)
  · show ((i 0).val * 1024 + (i 1).val) / 1024 % 512 = (i 0).val
    omega
  · show ((i 0).val * 1024 + (i 1).val) % 1024 = (i 1).val
    omega

/-- Branch 1's term. -/
theorem t_read1 (i : S16384x1024.Idx) : val_main_v82 x0 x1 x2 x3 x4 x7 i = A.term 1 A.ob (i 0) (i 1) := by
  have hz := z_read1 x0 x1 x2 x3 x4 x5 x6 x7 x8 x9 x10 x11 x12 x13 x14 x15 A H
  rw [val_main_v82_apply, val_main_v77_apply, val_main_v75_apply, val_main_v73_apply, val_main_v72_apply, val_main_v71_apply,
    g_read1 x0 x1 x2 x3 x4 x5 x6 x7 x8 x9 x10 x11 x12 x13 x14 x15 A H, b_read1 x0 x1 x2 x3 x4 x5 x6 x7 x8 x9 x10 x11 x12 x13 x14 x15 A H, val_main_v81_apply]
  refine (gate_mul _ _).trans (congrArg₂ gated (Finset.sum_congr rfl fun k _ => ?_) rfl)
  rw [val_main_v78_apply, wb_read1 x0 x1 x2 x3 x4 x5 x6 x7 x8 x9 x10 x11 x12 x13 x14 x15 A H, val_main_v65_apply, val_main_call1_v5_apply, val_main_call1_v3_apply, val_main_call1_v1_apply, val_main_call1_v0_apply, hz,
    val_main_v41_apply, H.ob]
  exact congrArg (fun u : EReal => A.ob (i 0) k * u * A.wb 1 k (i 1)) (mul_gate _ _)

/-- Branch 2's `z`. -/
theorem z_read2 (i : S16384x512.Idx) : val_main_v84 x0 x1 x2 i = ∑ x, A.h (i 0) x * A.w x (zc 2 (i 1)) := by
  rw [val_main_v84_apply, val_main_v14_apply]
  refine Finset.sum_congr rfl fun x _ => ?_
  rw [h_read x0 x1 x2 x3 x4 x5 x6 x7 x8 x9 x10 x11 x12 x13 x14 x15 A H, val_main_v13_apply, H.w]
  refine congrArg (fun u => A.h (i 0) x * A.w x u) (Fin.ext ?_)
  show 7840 + (1024 + (i 1).val) = 7840 + 1024 + (i 1).val
  omega

/-- Branch 2's gate before the bias. -/
theorem g_read2 (i : S16384x1024.Idx) : val_main_v86 x0 x1 x2 i = ∑ x, A.h (i 0) x * A.w x (gc 2 (i 1)) := by
  rw [val_main_v86_apply, val_main_v16_apply]
  refine Finset.sum_congr rfl fun x _ => ?_
  rw [h_read x0 x1 x2 x3 x4 x5 x6 x7 x8 x9 x10 x11 x12 x13 x14 x15 A H, val_main_v15_apply, H.w]
  refine congrArg (fun u => A.h (i 0) x * A.w x u) (Fin.ext ?_)
  show 10400 + (2048 + (i 1).val) = 10400 + 2048 + (i 1).val
  omega

/-- Branch 2's bias. -/
theorem b_read2 (i : S16384x1024.Idx) : val_main_v90 x3 i = A.b 2 (i 1) := by
  rw [val_main_v90_apply, val_main_v89_apply, val_main_v88_apply, val_main_v87_apply, H.b]
  refine congrArg (A.b 2) (Fin.ext ?_)
  exact Nat.mod_eq_of_lt (i 1).isLt

/-- Branch 2's weights. -/
theorem wb_read2 (i : S512x1024.Idx) : val_main_v100 x4 i = A.wb 2 (i 0) (i 1) := by
  have h0 : (i 0).val < 512 := (i 0).isLt
  have h1 : (i 1).val < 1024 := (i 1).isLt
  rw [val_main_v100_apply, val_main_v99_apply, H.wb]
  refine congrArg₂ (A.wb 2) (Fin.ext ?_) (Fin.ext ?_)
  · show ((i 0).val * 1024 + (i 1).val) / 1024 % 512 = (i 0).val
    omega
  · show ((i 0).val * 1024 + (i 1).val) % 1024 = (i 1).val
    omega

/-- Branch 2's term. -/
theorem t_read2 (i : S16384x1024.Idx) : val_main_v102 x0 x1 x2 x3 x4 x8 i = A.term 2 A.oc (i 0) (i 1) := by
  have hz := z_read2 x0 x1 x2 x3 x4 x5 x6 x7 x8 x9 x10 x11 x12 x13 x14 x15 A H
  rw [val_main_v102_apply, val_main_v97_apply, val_main_v95_apply, val_main_v93_apply, val_main_v92_apply, val_main_v91_apply,
    g_read2 x0 x1 x2 x3 x4 x5 x6 x7 x8 x9 x10 x11 x12 x13 x14 x15 A H, b_read2 x0 x1 x2 x3 x4 x5 x6 x7 x8 x9 x10 x11 x12 x13 x14 x15 A H, val_main_v101_apply]
  refine (gate_mul _ _).trans (congrArg₂ gated (Finset.sum_congr rfl fun k _ => ?_) rfl)
  rw [val_main_v98_apply, wb_read2 x0 x1 x2 x3 x4 x5 x6 x7 x8 x9 x10 x11 x12 x13 x14 x15 A H, val_main_v85_apply, val_main_call2_v5_apply, val_main_call2_v3_apply, val_main_call2_v1_apply, val_main_call2_v0_apply, hz,
    val_main_v42_apply, H.oc]
  exact congrArg (fun u : EReal => A.oc (i 0) k * u * A.wb 2 k (i 1)) (mul_gate _ _)

/-- The three exponents side by side. -/
theorem cat_l (i : S3x16384x512.Idx) : val_main_v20 x13 x14 x15 i = ![A.l0, A.l1, A.l2] (i 0) (i 1) (i 2) := by
  have e := concatenate_ofFn_unit_apply (t := S3x16384x512) (s₁ := S1x16384x512) 0 (N := 3)
    ![val_main_v17 x13, val_main_v18 x14, val_main_v19 x15] concatenates_S1x16384x512_S1x16384x512_S1x16384x512_S3x16384x512_d0 rfl rfl i (i 0) rfl
    (ix3 0 (i 1) (i 2)) (by intro b hb; fin_cases b <;> first | rfl | exact absurd rfl hb)
  refine Eq.trans e ?_
  have hj : ∀ j : Fin 3, (![val_main_v17 x13, val_main_v18 x14, val_main_v19 x15] : Fin 3 → S1x16384x512.Idx → EReal) j (ix3 0 (i 1) (i 2)) = ![A.l0, A.l1, A.l2] j (i 1) (i 2) := by
    intro j
    fin_cases j
    · show val_main_v17 x13 (ix3 0 (i 1) (i 2)) = _
      rw [val_main_v17_apply, H.l0]
      rfl
    · show val_main_v18 x14 (ix3 0 (i 1) (i 2)) = _
      rw [val_main_v18_apply, H.l1]
      rfl
    · show val_main_v19 x15 (ix3 0 (i 1) (i 2)) = _
      rw [val_main_v19_apply, H.l2]
      rfl
  exact hj (i 0)

/-- The three window results side by side. -/
theorem cat_d (i : S3x16384x512.Idx) : val_main_v35 x10 x11 x12 i = ![A.d0, A.d1, A.d2] (i 0) (i 1) (i 2) := by
  have e := concatenate_ofFn_unit_apply (t := S3x16384x512) (s₁ := S1x16384x512) 0 (N := 3)
    ![val_main_v32 x10, val_main_v33 x11, val_main_v34 x12] concatenates_S1x16384x512_S1x16384x512_S1x16384x512_S3x16384x512_d0 rfl rfl i (i 0) rfl
    (ix3 0 (i 1) (i 2)) (by intro b hb; fin_cases b <;> first | rfl | exact absurd rfl hb)
  refine Eq.trans e ?_
  have hj : ∀ j : Fin 3, (![val_main_v32 x10, val_main_v33 x11, val_main_v34 x12] : Fin 3 → S1x16384x512.Idx → EReal) j (ix3 0 (i 1) (i 2)) = ![A.d0, A.d1, A.d2] j (i 1) (i 2) := by
    intro j
    fin_cases j
    · show val_main_v32 x10 (ix3 0 (i 1) (i 2)) = _
      rw [val_main_v32_apply, H.d0]
      rfl
    · show val_main_v33 x11 (ix3 0 (i 1) (i 2)) = _
      rw [val_main_v33_apply, H.d1]
      rfl
    · show val_main_v34 x12 (ix3 0 (i 1) (i 2)) = _
      rw [val_main_v34_apply, H.d2]
      rfl
  exact hj (i 0)

/-- The largest exponent. -/
theorem max_l (i : S16384x512.Idx) : val_main_v23 x13 x14 x15 i = max (max (A.l0 (i 0) (i 1)) (A.l1 (i 0) (i 1))) (A.l2 (i 0) (i 1)) := by
  rw [val_main_v23_apply]
  unfold val_main_v21
  pointwise
  have hC := cat_l x0 x1 x2 x3 x4 x5 x6 x7 x8 x9 x10 x11 x12 x13 x14 x15 A H
  simp only [hC]
  rw [show (Finset.univ : Finset (Fin 3)) = {0, 1, 2} from by decide]
  rw [show val_main_v22 (F := Ideal) i = ⊥ from (val_main_v22_apply _).trans negInf, show val_main_cst_2 (F := Ideal) (Shape.Idx.first h_S_) = ⊥ from negInf]
  rw [Finset.fold_insert (by decide), Finset.fold_insert (by decide), Finset.fold_singleton, max_bot_left, max_bot_right, max_assoc]
  rfl

/-- The fourth branch's output. -/
theorem od_read (i : S16384x512.Idx) : val_main_v38 x10 x11 x12 x13 x14 x15 i = A.od (i 0) (i 1) := by
  have hC := cat_l x0 x1 x2 x3 x4 x5 x6 x7 x8 x9 x10 x11 x12 x13 x14 x15 A H
  have hD := cat_d x0 x1 x2 x3 x4 x5 x6 x7 x8 x9 x10 x11 x12 x13 x14 x15 A H
  have hM := max_l x0 x1 x2 x3 x4 x5 x6 x7 x8 x9 x10 x11 x12 x13 x14 x15 A H
  have hE : ∀ i, val_main_v27 x13 x14 x15 i = Ideal.exp (![A.l0, A.l1, A.l2] (i 0) (i 1) (i 2)
      - max (max (A.l0 (i 1) (i 2)) (A.l1 (i 1) (i 2))) (A.l2 (i 1) (i 2))) := by
    intro i
    rw [val_main_v27_apply, val_main_v26_apply, hC, val_main_v25_apply, val_main_v24_apply, hM]
    rfl
  rw [val_main_v38_apply, show val_main_cst_5 (F := Ideal) (Shape.Idx.first h_S_) = 0 from Ideal.ofBits_zero_f32, zero_add, Fin.sum_univ_three]
  simp only [val_main_v37_apply, val_main_v31_apply, val_main_v30_apply, val_main_v29_apply, val_main_v28_apply, val_main_v36_apply, hD, hE,
    show val_main_cst_4 (F := Ideal) (Shape.Idx.first h_S_) = 0 from Ideal.ofBits_zero_f32, zero_add, Fin.sum_univ_three]
  rfl

/-- Branch 3's `z`. -/
theorem z_read3 (i : S16384x512.Idx) : val_main_v104 x0 x1 x2 i = ∑ x, A.h (i 0) x * A.w x (zc 3 (i 1)) := by
  rw [val_main_v104_apply, val_main_v14_apply]
  refine Finset.sum_congr rfl fun x _ => ?_
  rw [h_read x0 x1 x2 x3 x4 x5 x6 x7 x8 x9 x10 x11 x12 x13 x14 x15 A H, val_main_v13_apply, H.w]
  refine congrArg (fun u => A.h (i 0) x * A.w x u) (Fin.ext ?_)
  show 7840 + (1536 + (i 1).val) = 7840 + 1536 + (i 1).val
  omega

/-- Branch 3's gate before the bias. -/
theorem g_read3 (i : S16384x1024.Idx) : val_main_v106 x0 x1 x2 i = ∑ x, A.h (i 0) x * A.w x (gc 3 (i 1)) := by
  rw [val_main_v106_apply, val_main_v16_apply]
  refine Finset.sum_congr rfl fun x _ => ?_
  rw [h_read x0 x1 x2 x3 x4 x5 x6 x7 x8 x9 x10 x11 x12 x13 x14 x15 A H, val_main_v15_apply, H.w]
  refine congrArg (fun u => A.h (i 0) x * A.w x u) (Fin.ext ?_)
  show 10400 + (3072 + (i 1).val) = 10400 + 3072 + (i 1).val
  omega

/-- Branch 3's bias. -/
theorem b_read3 (i : S16384x1024.Idx) : val_main_v110 x3 i = A.b 3 (i 1) := by
  rw [val_main_v110_apply, val_main_v109_apply, val_main_v108_apply, val_main_v107_apply, H.b]
  refine congrArg (A.b 3) (Fin.ext ?_)
  exact Nat.mod_eq_of_lt (i 1).isLt

/-- Branch 3's weights. -/
theorem wb_read3 (i : S512x1024.Idx) : val_main_v120 x4 i = A.wb 3 (i 0) (i 1) := by
  have h0 : (i 0).val < 512 := (i 0).isLt
  have h1 : (i 1).val < 1024 := (i 1).isLt
  rw [val_main_v120_apply, val_main_v119_apply, H.wb]
  refine congrArg₂ (A.wb 3) (Fin.ext ?_) (Fin.ext ?_)
  · show ((i 0).val * 1024 + (i 1).val) / 1024 % 512 = (i 0).val
    omega
  · show ((i 0).val * 1024 + (i 1).val) % 1024 = (i 1).val
    omega

/-- Branch 3's term. -/
theorem t_read3 (i : S16384x1024.Idx) : val_main_v122 x0 x1 x2 x3 x4 x10 x11 x12 x13 x14 x15 i = A.term 3 A.od (i 0) (i 1) := by
  have hz := z_read3 x0 x1 x2 x3 x4 x5 x6 x7 x8 x9 x10 x11 x12 x13 x14 x15 A H
  rw [val_main_v122_apply, val_main_v117_apply, val_main_v115_apply, val_main_v113_apply, val_main_v112_apply, val_main_v111_apply,
    g_read3 x0 x1 x2 x3 x4 x5 x6 x7 x8 x9 x10 x11 x12 x13 x14 x15 A H, b_read3 x0 x1 x2 x3 x4 x5 x6 x7 x8 x9 x10 x11 x12 x13 x14 x15 A H, val_main_v121_apply]
  refine (gate_mul _ _).trans (congrArg₂ gated (Finset.sum_congr rfl fun k _ => ?_) rfl)
  rw [val_main_v118_apply, wb_read3 x0 x1 x2 x3 x4 x5 x6 x7 x8 x9 x10 x11 x12 x13 x14 x15 A H, val_main_v105_apply, val_main_call3_v5_apply, val_main_call3_v3_apply, val_main_call3_v1_apply, val_main_call3_v0_apply, hz,
    od_read x0 x1 x2 x3 x4 x5 x6 x7 x8 x9 x10 x11 x12 x13 x14 x15 A H]
  exact congrArg (fun u : EReal => A.od (i 0) k * u * A.wb 3 k (i 1)) (mul_gate _ _)

/-- Branch 4's `z`. -/
theorem z_read4 (i : S16384x512.Idx) : val_main_v124 x0 x1 x2 i = ∑ x, A.h (i 0) x * A.w x (zc 4 (i 1)) := by
  rw [val_main_v124_apply, val_main_v14_apply]
  refine Finset.sum_congr rfl fun x _ => ?_
  rw [h_read x0 x1 x2 x3 x4 x5 x6 x7 x8 x9 x10 x11 x12 x13 x14 x15 A H, val_main_v13_apply, H.w]
  refine congrArg (fun u => A.h (i 0) x * A.w x u) (Fin.ext ?_)
  show 7840 + (2048 + (i 1).val) = 7840 + 2048 + (i 1).val
  omega

/-- Branch 4's gate before the bias. -/
theorem g_read4 (i : S16384x1024.Idx) : val_main_v126 x0 x1 x2 i = ∑ x, A.h (i 0) x * A.w x (gc 4 (i 1)) := by
  rw [val_main_v126_apply, val_main_v16_apply]
  refine Finset.sum_congr rfl fun x _ => ?_
  rw [h_read x0 x1 x2 x3 x4 x5 x6 x7 x8 x9 x10 x11 x12 x13 x14 x15 A H, val_main_v15_apply, H.w]
  refine congrArg (fun u => A.h (i 0) x * A.w x u) (Fin.ext ?_)
  show 10400 + (4096 + (i 1).val) = 10400 + 4096 + (i 1).val
  omega

/-- Branch 4's bias. -/
theorem b_read4 (i : S16384x1024.Idx) : val_main_v130 x3 i = A.b 4 (i 1) := by
  rw [val_main_v130_apply, val_main_v129_apply, val_main_v128_apply, val_main_v127_apply, H.b]
  refine congrArg (A.b 4) (Fin.ext ?_)
  exact Nat.mod_eq_of_lt (i 1).isLt

/-- Branch 4's weights. -/
theorem wb_read4 (i : S512x1024.Idx) : val_main_v140 x4 i = A.wb 4 (i 0) (i 1) := by
  have h0 : (i 0).val < 512 := (i 0).isLt
  have h1 : (i 1).val < 1024 := (i 1).isLt
  rw [val_main_v140_apply, val_main_v139_apply, H.wb]
  refine congrArg₂ (A.wb 4) (Fin.ext ?_) (Fin.ext ?_)
  · show ((i 0).val * 1024 + (i 1).val) / 1024 % 512 = (i 0).val
    omega
  · show ((i 0).val * 1024 + (i 1).val) % 1024 = (i 1).val
    omega

/-- Branch 4's term. -/
theorem t_read4 (i : S16384x1024.Idx) : val_main_v142 x0 x1 x2 x3 x4 x9 i = A.term 4 A.om (i 0) (i 1) := by
  have hz := z_read4 x0 x1 x2 x3 x4 x5 x6 x7 x8 x9 x10 x11 x12 x13 x14 x15 A H
  rw [val_main_v142_apply, val_main_v137_apply, val_main_v135_apply, val_main_v133_apply, val_main_v132_apply, val_main_v131_apply,
    g_read4 x0 x1 x2 x3 x4 x5 x6 x7 x8 x9 x10 x11 x12 x13 x14 x15 A H, b_read4 x0 x1 x2 x3 x4 x5 x6 x7 x8 x9 x10 x11 x12 x13 x14 x15 A H, val_main_v141_apply]
  refine (gate_mul _ _).trans (congrArg₂ gated (Finset.sum_congr rfl fun k _ => ?_) rfl)
  rw [val_main_v138_apply, wb_read4 x0 x1 x2 x3 x4 x5 x6 x7 x8 x9 x10 x11 x12 x13 x14 x15 A H, val_main_v125_apply, val_main_call4_v5_apply, val_main_call4_v3_apply, val_main_call4_v1_apply, val_main_call4_v0_apply, hz,
    val_main_v43_apply, H.om]
  exact congrArg (fun u : EReal => A.om (i 0) k * u * A.wb 4 k (i 1)) (mul_gate _ _)

/-- The reference's result is the merge. -/
theorem ref_eq (i : S16384x1024.Idx) : val_main_v145 x0 x1 x2 x3 x4 x5 x6 x7 x8 x9 x10 x11 x12 x13 x14 x15 i = A.out (i 0) (i 1) := by
  rw [val_main_v145_apply, val_main_v144_apply, H.x]
  refine congrArg (fun u : EReal => A.x (i 0) (i 1) + u) (Finset.sum_congr rfl fun k _ => ?_)
  rw [H.wo, val_main_v143_apply, val_main_v123_apply, val_main_v103_apply, val_main_v83_apply, val_main_v63_apply, t_read0 x0 x1 x2 x3 x4 x5 x6 x7 x8 x9 x10 x11 x12 x13 x14 x15 A H, t_read1 x0 x1 x2 x3 x4 x5 x6 x7 x8 x9 x10 x11 x12 x13 x14 x15 A H, t_read2 x0 x1 x2 x3 x4 x5 x6 x7 x8 x9 x10 x11 x12 x13 x14 x15 A H, t_read3 x0 x1 x2 x3 x4 x5 x6 x7 x8 x9 x10 x11 x12 x13 x14 x15 A H, t_read4 x0 x1 x2 x3 x4 x5 x6 x7 x8 x9 x10 x11 x12 x13 x14 x15 A H,
    show val_main_v39 (F := Ideal) (lidx_main_v144 i k) = 0 from (val_main_v39_apply _).trans Ideal.ofBits_zero_f32]
  rfl

end Cert.Reference2Ideal.Merge

end
-- ==== Proof.MergeClaim.lean ====
module

public import proofs.«01_k».proof.Defs
public import proofs.«01_k».proof.Proof.MergeArray
public import proofs.«01_k».proof.Proof.MergeRef
public import proofs.«01_k».proof.Proof.Gen.Kernel2Ideal
public import proofs.«01_k».proof.Proof.Gen.Reference2Ideal
public import proofs.«01_k».proof.Proof.Gen.Reference2Ideal.Run
public import Idealize.ShloMosaic.Lib.Quiescent
public import Idealize.ShloMosaic.Lib.Claim

@[expose] public section

set_option maxRecDepth 16384

noncomputable section

/-! The merge: its kernel computes what its reference does. -/

namespace Cert.MergeClaim

open Idealize.ShloMosaic Idealize.SL.Sem Idealize.ShloMosaic.Tactic

/-- The merge's reference runs, keeps its arguments and ends with no semaphore up. -/
theorem frame_reference : Cert.quiescent_Reference2Ideal (hReference2Ideal := Cert.Reference2Ideal.Gen.facts) := fun m ρ _ =>
  (θ_run _ _ _).mono (fun r h => ⟨fun c => (h c).2, sem_eq_zero_of_no_sems (by decide) _⟩) (Cert.Reference2Ideal.Value.run m ρ)

/-- The merge kernel's ideal reading computes what the merge's reference does, for any arguments. -/
theorem algebraic : Cert.algebraic_Kernel2Ideal_Reference2Ideal (hKernel2Ideal := Cert.Kernel2Ideal.Gen.facts) (hReference2Ideal := Cert.Reference2Ideal.Gen.facts) :=
  fun m ρ m' ρ' _ hag => by
  have H : ∀ c : Dev Cert.Kernel2Ideal.nD, Cert.Reference2Ideal.Merge.Holds (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (Cert.Kernel2Ideal.Merge.argsOf m c) := fun c => {
    x := fun i => congrArg (m ((c.tc : Thread Cert.Kernel2Ideal.nD Cert.Kernel2Ideal.τ).loc Cert.Kernel2Ideal.main_arg0)) (by funext a; fin_cases a <;> rfl)
    g := fun i => congrArg (m ((c.tc : Thread Cert.Kernel2Ideal.nD Cert.Kernel2Ideal.τ).loc Cert.Kernel2Ideal.main_arg1)) (by funext a; fin_cases a <;> rfl)
    w := fun i => congrArg (m ((c.tc : Thread Cert.Kernel2Ideal.nD Cert.Kernel2Ideal.τ).loc Cert.Kernel2Ideal.main_arg2)) (by funext a; fin_cases a <;> rfl)
    b := fun i => congrArg (m ((c.tc : Thread Cert.Kernel2Ideal.nD Cert.Kernel2Ideal.τ).loc Cert.Kernel2Ideal.main_arg3)) (by funext a; fin_cases a <;> rfl)
    wb := fun i => congrArg (m ((c.tc : Thread Cert.Kernel2Ideal.nD Cert.Kernel2Ideal.τ).loc Cert.Kernel2Ideal.main_arg4)) (by funext a; fin_cases a <;> rfl)
    wo := fun i => congrArg (m ((c.tc : Thread Cert.Kernel2Ideal.nD Cert.Kernel2Ideal.τ).loc Cert.Kernel2Ideal.main_arg5)) (by funext a; fin_cases a <;> rfl)
    oa := fun i => congrArg (m ((c.tc : Thread Cert.Kernel2Ideal.nD Cert.Kernel2Ideal.τ).loc Cert.Kernel2Ideal.main_arg6)) (by funext a; fin_cases a <;> rfl)
    ob := fun i => congrArg (m ((c.tc : Thread Cert.Kernel2Ideal.nD Cert.Kernel2Ideal.τ).loc Cert.Kernel2Ideal.main_arg7)) (by funext a; fin_cases a <;> rfl)
    oc := fun i => congrArg (m ((c.tc : Thread Cert.Kernel2Ideal.nD Cert.Kernel2Ideal.τ).loc Cert.Kernel2Ideal.main_arg8)) (by funext a; fin_cases a <;> rfl)
    om := fun i => congrArg (m ((c.tc : Thread Cert.Kernel2Ideal.nD Cert.Kernel2Ideal.τ).loc Cert.Kernel2Ideal.main_arg9)) (by funext a; fin_cases a <;> rfl)
    d0 := fun i => congrArg (m ((c.tc : Thread Cert.Kernel2Ideal.nD Cert.Kernel2Ideal.τ).loc Cert.Kernel2Ideal.main_arg10)) (by funext a; fin_cases a <;> rfl)
    d1 := fun i => congrArg (m ((c.tc : Thread Cert.Kernel2Ideal.nD Cert.Kernel2Ideal.τ).loc Cert.Kernel2Ideal.main_arg11)) (by funext a; fin_cases a <;> rfl)
    d2 := fun i => congrArg (m ((c.tc : Thread Cert.Kernel2Ideal.nD Cert.Kernel2Ideal.τ).loc Cert.Kernel2Ideal.main_arg12)) (by funext a; fin_cases a <;> rfl)
    l0 := fun i => congrArg (m ((c.tc : Thread Cert.Kernel2Ideal.nD Cert.Kernel2Ideal.τ).loc Cert.Kernel2Ideal.main_arg13)) (by funext a; fin_cases a <;> rfl)
    l1 := fun i => congrArg (m ((c.tc : Thread Cert.Kernel2Ideal.nD Cert.Kernel2Ideal.τ).loc Cert.Kernel2Ideal.main_arg14)) (by funext a; fin_cases a <;> rfl)
    l2 := fun i => congrArg (m ((c.tc : Thread Cert.Kernel2Ideal.nD Cert.Kernel2Ideal.τ).loc Cert.Kernel2Ideal.main_arg15)) (by funext a; fin_cases a <;> rfl) }
  refine ⟨fun c => Cert.Kernel2Ideal.Merge.G (Cert.Kernel2Ideal.Merge.argsOf m c),
    (θ_run _ _ _).mono (fun r h c => ⟨(Cert.Kernel2Ideal.Value.post17 m r h c).trans (Cert.Kernel2Ideal.Merge.arr_eq m c),
      Cert.Kernel2Ideal.Value.kept_main_arg0 m r h c,
      Cert.Kernel2Ideal.Value.kept_main_arg1 m r h c,
      Cert.Kernel2Ideal.Value.kept_main_arg2 m r h c,
      Cert.Kernel2Ideal.Value.kept_main_arg3 m r h c,
      Cert.Kernel2Ideal.Value.kept_main_arg4 m r h c,
      Cert.Kernel2Ideal.Value.kept_main_arg5 m r h c,
      Cert.Kernel2Ideal.Value.kept_main_arg6 m r h c,
      Cert.Kernel2Ideal.Value.kept_main_arg7 m r h c,
      Cert.Kernel2Ideal.Value.kept_main_arg8 m r h c,
      Cert.Kernel2Ideal.Value.kept_main_arg9 m r h c,
      Cert.Kernel2Ideal.Value.kept_main_arg10 m r h c,
      Cert.Kernel2Ideal.Value.kept_main_arg11 m r h c,
      Cert.Kernel2Ideal.Value.kept_main_arg12 m r h c,
      Cert.Kernel2Ideal.Value.kept_main_arg13 m r h c,
      Cert.Kernel2Ideal.Value.kept_main_arg14 m r h c,
      Cert.Kernel2Ideal.Value.kept_main_arg15 m r h c⟩)
      (Cert.Kernel2Ideal.Gen.run_main m ρ),
    (θ_run _ _ _).mono (fun _ h c => ⟨(h c).1.trans ?_, (h c).2⟩) (Cert.Reference2Ideal.Value.run m' ρ')⟩
  obtain ⟨h0, h1, h2, h3, h4, h5, h6, h7, h8, h9, h10, h11, h12, h13, h14, h15⟩ := hag c
  refine (Cert.Reference2Ideal.Read.val_main_v145_eq _).trans ?_
  show Cert.Reference2Ideal.Read.val_main_v145 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) (m' ((c.tc : Thread Cert.Reference2Ideal.nD Cert.Reference2Ideal.τ).loc Cert.Reference2Ideal.main_arg15)) = _
  rw [h0, h1, h2, h3, h4, h5, h6, h7, h8, h9, h10, h11, h12, h13, h14, h15]
  funext i
  exact Cert.Reference2Ideal.Merge.ref_eq _ _ _ _ _ _ _ _ _ _ _ _ _ _ _ _ _ (H c) i

end Cert.MergeClaim

end
-- ==== Proof.SoftmaxExt.lean ====
/-
  Softmax over the extended reals with values that may be infinite.

  One row of real scores `s j`, and rows of values `v j` in the extended reals. `wsum s v n d` is the sum of the first
  `n` values, each with its softmax weight, a real number. The tiled form reaches the same sum: a nonnegative real
  factor distributes over sums of extended reals, whatever infinities they hold.
-/
module

public import proofs.«01_k».proof.Proof.Softmax

@[expose] public section

noncomputable section

namespace Cert.Softmax

open Idealize.ShloMosaic Finset

/-- The sum of the values `v j d` with the softmax weights of the first `n` scores. -/
def wsum {D : Type} (s : ℕ → ℝ) (v : ℕ → D → EReal) (n : ℕ) (d : D) : EReal :=
  ∑ j ∈ range n, ((Real.exp (s j) / ∑ k ∈ range n, Real.exp (s k) : ℝ) : EReal) * v j d

/-- A nonnegative real factor distributes over a sum of extended reals. -/
theorem coe_mul_sum {ι : Type} {c : ℝ} (hc : 0 ≤ c) (t : Finset ι) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha, EReal.left_distrib_of_nonneg_of_ne_top (EReal.coe_nonneg.mpr hc) (EReal.coe_ne_top c), ih]

/-- A shift of the scores changes no weight. -/
theorem weight_shift (s : ℕ → ℝ) (n j : ℕ) (μ : ℝ) :
    Real.exp (s j - μ) / ∑ k ∈ range n, Real.exp (s k - μ) = Real.exp (s j) / ∑ k ∈ range n, Real.exp (s k) := by
  have h : ∀ j, Real.exp (s j - μ) = Real.exp (-μ) * Real.exp (s j) := fun j => by rw [sub_eq_neg_add, Real.exp_add]
  rw [Finset.sum_congr rfl fun k _ => h k, ← Finset.mul_sum, h j, mul_div_mul_left _ _ (Real.exp_ne_zero _)]

/-- What the tiled form holds for one row after its first `n` scores: some real `μ` as the shift, the sum of the shifted
    exponentials, and the sums of the values they multiply. -/
def OnlineExt {D : Type} (s : ℕ → ℝ) (v : ℕ → D → EReal) (n : ℕ) (m l : EReal) (a : D → EReal) : Prop :=
  ∃ μ : ℝ, m = (μ : EReal) ∧ l = ((∑ j ∈ range n, Real.exp (s j - μ) : ℝ) : EReal)
    ∧ ∀ d, a d = ∑ j ∈ range n, (Real.exp (s j - μ) : EReal) * v j d

/-- Before any score: any real shift and zero sums. -/
theorem OnlineExt.zero {D : Type} (s : ℕ → ℝ) (v : ℕ → D → EReal) (μ : ℝ) {m l : EReal} {a : D → EReal}
    (hm : m = (μ : EReal)) (hl : l = 0) (ha : ∀ d, a d = 0) : OnlineExt s v 0 m l a :=
  ⟨μ, hm, by rw [hl, Finset.range_zero, Finset.sum_empty, EReal.coe_zero],
    fun d => by rw [ha d, Finset.range_zero, Finset.sum_empty]⟩

/-- One tile of `W` further scores: the shift moves to the maximum, the old sums are rescaled to it and the tile's terms
    are added. -/
theorem OnlineExt.step {D : Type} {s : ℕ → ℝ} {v : ℕ → D → EReal} {n W : ℕ} {m l : EReal} {a : D → EReal}
    (h : OnlineExt s v n m l a) (x : Fin W → EReal) (y : Fin W → D → EReal)
    (hx : ∀ j, x j = (s (n + j.val) : EReal)) (hy : ∀ j d, y j d = v (n + j.val) d) {m' l' : EReal}
    {a' : D → EReal} (hm' : m' = max m (Finset.univ.fold max ⊥ x))
    (hl' : l' = Ideal.exp (m - m') * l + ∑ j, Ideal.exp (x j - m'))
    (ha' : ∀ d, a' d = Ideal.exp (m - m') * a d + ∑ j, Ideal.exp (x j - m') * y j d) :
    OnlineExt s v (n + W) m' l' a' := by
  obtain ⟨μ, hm, hl, ha⟩ := h
  obtain ⟨ν, hν⟩ := exists_coe_max_fold Finset.univ (fun j : Fin W => s (n + j.val)) μ
  have hx' : x = fun j => (s (n + j.val) : EReal) := funext hx
  have e : m' = (ν : EReal) := by rw [hm', hm, hx', hν]
  have hresc : ∀ j, Real.exp (μ - ν) * Real.exp (s j - μ) = Real.exp (s j - ν) := fun j => by
    rw [← Real.exp_add]; congr 1; ring
  refine ⟨ν, e, ?_, fun d => ?_⟩
  · rw [hl', hl, hm, e, exp_sub_coe, Finset.sum_congr (s₁ := (univ : Finset (Fin W))) rfl fun j _ => by rw [hx j, exp_sub_coe], ← coe_sum, ← EReal.coe_mul,
      ← EReal.coe_add, Finset.sum_range_add, Finset.mul_sum, Finset.sum_congr rfl fun j _ => hresc j,
      ← Fin.sum_univ_eq_sum_range (fun j => Real.exp (s (n + j) - ν)) W]
  · rw [ha' d, ha d, hm, e, exp_sub_coe, coe_mul_sum (Real.exp_pos _).le, Finset.sum_range_add,
      ← Fin.sum_univ_eq_sum_range (fun j => (Real.exp (s (n + j) - ν) : EReal) * v (n + j) d) W]
    refine congrArg₂ (· + ·) (Finset.sum_congr rfl fun j _ => ?_) (Finset.sum_congr rfl fun j _ => ?_)
    · rw [← mul_assoc, ← EReal.coe_mul, hresc j]
    · rw [hx j, hy j d, exp_sub_coe]

/-- The tiled form's quotient at the end: the sum with the softmax weights. -/
theorem OnlineExt.final {D : Type} {s : ℕ → ℝ} {v : ℕ → D → EReal} {n : ℕ} (hn : 0 < n) {m l : EReal} {a : D → EReal}
    (h : OnlineExt s v n m l a) (d : D) : Ideal.div (a d) l = wsum s v n d := by
  obtain ⟨μ, -, hl, ha⟩ := h
  have hp : 0 < ∑ j ∈ range n, Real.exp (s j - μ) := Finset.sum_pos (fun j _ => Real.exp_pos _) ⟨0, Finset.mem_range.mpr hn⟩
  rw [ha d, hl, Ideal.div_coe hp.ne', mul_comm, coe_mul_sum (one_div_nonneg.mpr hp.le)]
  refine Finset.sum_congr rfl fun j _ => ?_
  rw [← mul_assoc, ← EReal.coe_mul, one_div_mul_eq_div, weight_shift]

end Cert.Softmax
-- ==== Proof.MlaTrip.lean ====
module

public import proofs.«01_k».proof.Proof.SoftmaxExt
public import proofs.«01_k».proof.Proof.Gen.Kernel3Ideal.Loops
public import Idealize.ShloMosaic.Lib.Pointwise.Tactic
public import Idealize.ShloMosaic.Lib.Pointwise
public import Idealize.ShloMosaic.Lib.Pipeline.Value
public import Idealize.ShloMosaic.Lib.WritesUnit

@[expose] public section

set_option maxRecDepth 16384

noncomputable section

namespace Cert.Kernel3Ideal.Mla

open Idealize.ShloMosaic Cert.Kernel3Ideal Cert.Kernel3Ideal.Gen Idealize.ShloMosaic.TcCoe Idealize.ShloMosaic.Tactic Cert.Softmax

/-- The word of `-∞`, the start of a row's maximum. -/
theorem negInf : Ideal.ofBits FTy.f32 0xFF800000#32 = ⊥ := by simp [Ideal.ofBits, Ideal.ieee]

section Payloads

variable (q : Vec Ideal S256x128 .bf16) (k : Vec Ideal S512x128 .bf16) (r : Fin 256)

/-- A score: the product of the query row with the key row. -/
theorem pay6_apply (j : Fin 512) : k0_pay6 q k (ix2 r j) = ∑ x, q (ix2 r x) * k (ix2 j x) := by
  unfold k0_pay6
  pointwise [dot_S256x128_S512x128_S256x512_1_1_0_0_n_n]

/-- The new maximum of a row. -/
theorem pay8_apply (m : Vec Ideal S1x256x1 .f32) :
    k0_pay8 q k m (ix2 r 0) = max (m (ix3 0 r 0)) (Finset.univ.fold max ⊥ fun x => k0_pay6 q k (ix2 r x)) := by
  unfold k0_pay8 k0_pay7
  pointwise
  rw [negInf]

/-- The new sum of a row. -/
theorem pay11_apply (m l : Vec Ideal S1x256x1 .f32) :
    k0_pay11 q k m l (ix3 0 r 0) = Ideal.exp (m (ix3 0 r 0) - k0_pay8 q k m (ix2 r 0)) * l (ix3 0 r 0)
      + ∑ x, Ideal.exp (k0_pay6 q k (ix2 r x) - k0_pay8 q k m (ix2 r 0)) := by
  unfold k0_pay11 k0_pay9 k0_pay10 k0_pay7
  pointwise

/-- The new weighted sum of a row. -/
theorem pay12_apply (v : Vec Ideal S512x128 .bf16) (m : Vec Ideal S1x256x1 .f32) (a : Vec Ideal S1x256x128 .f32) (d : Fin 128) :
    k0_pay12 q k v m a (ix3 0 r d) = Ideal.exp (m (ix3 0 r 0) - k0_pay8 q k m (ix2 r 0)) * a (ix3 0 r d)
      + ∑ x, Ideal.exp (k0_pay6 q k (ix2 r x) - k0_pay8 q k m (ix2 r 0)) * v (ix2 x d) := by
  unfold k0_pay12 k0_pay9 k0_pay10 k0_pay7
  pointwise [dot_S256x512_S512x128_S256x128_1_0_0_1_n_n]

/-- What the body stores: the weighted sums over the sum of the weights. -/
theorem pay5_apply (a : Vec Ideal S1x256x128 .f32) (l : Vec Ideal S1x256x1 .f32) (d : Fin 128) :
    k0_pay5 (F := Ideal) a l (ix2 r d) = Ideal.div (a (ix3 0 r d)) (l (ix3 0 r 0)) := by
  unfold k0_pay5
  pointwise

end Payloads

/-- The trip's tile of a whole array of keys or values: rows `512 k …`. -/
def tile (X : Vec Ideal S4096x128 .bf16) (k : Fin k0_t1_loop.trips) : Vec Ideal S512x128 .bf16 := fun j =>
  X (ix2 ⟨512 * k.val + (j 0).val, by
    have h : (j 0).val < 512 := (j 0).isLt
    have hk : k.val < 8 := Nat.lt_of_lt_of_le k.isLt k0_t1_abs.2.1
    omega⟩ (j 1))

/-- A load of the trip's rows of keys or values reads the trip's tile. -/
theorem ld_tile (X : Vec Ideal S4096x128 .bf16) (k : Fin k0_t1_loop.trips) :
    View.ld X (Rect.unit (s := S4096x128) (k0_off1 k) S512x128.size (k0_off1_inb k)) = tile X k := by
  funext j
  unfold tile
  refine congrArg X (funext fun a => Fin.ext ?_)
  match a with
  | ⟨0, _⟩ =>
    show k0_off1 k 0 + 1 * (j 0).val = 512 * k.val + (j 0).val
    rw [show k0_off1 k 0 = 512 * k.val from congrFun (k0_off1_eq k) 0, Nat.one_mul]
  | ⟨1, _⟩ =>
    show k0_off1 k 1 + 1 * (j 1).val = (j 1).val
    rw [show k0_off1 k 1 = 0 from congrFun (k0_off1_eq k) 1, Nat.one_mul, Nat.zero_add]

theorem zero3 : (![0, 0, 0] : Fin 3 → ℕ) = fun _ => 0 := by funext a; fin_cases a <;> rfl

variable (𝒱 : Variants) (c : Dev nD) (bd : Option 𝒱.V) (i : grid0.Coords) (arg3 : Memref sig .tc .smem S4 .f32) (harg3 : arg3.IsWhole) (arg4 : Memref sig .tc .vmem S4x64 .f32) (harg4 : arg4.IsWhole) (arg5 : Memref sig .tc .vmem S1x128 .f32) (harg5 : arg5.IsWhole) (arg6 : Memref sig .tc .vmem S256x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S256x128 .bf16) (harg9 : arg9.IsWhole) (arg10 : Memref sig .tc .vmem S1x256x1 .f32) (harg10 : arg10.IsWhole) (arg11 : Memref sig .tc .vmem S1x256x1 .f32) (harg11 : arg11.IsWhole) (arg12 : Memref sig .tc .vmem S1x256x128 .f32) (harg12 : arg12.IsWhole) (v0 : Vec Ideal S256x128 .bf16) (X_arg7 : BufTy.Contents (Elt Ideal) arg7.view.ty) (X_arg8 : BufTy.Contents (Elt Ideal) arg8.view.ty)

section Trip

variable (k : Fin k0_t1_loop.trips) (f_arg10 : BufTy.Contents (Elt Ideal) arg10.view.ty) (f_arg11 : BufTy.Contents (Elt Ideal) arg11.view.ty) (f_arg12 : BufTy.Contents (Elt Ideal) arg12.view.ty)

/-- After the trip, the running maximum in row `r`. -/
theorem trip_m (r : Fin 256) :
    arg10.view.read (Elt Ideal) (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 arg12 harg12 v0 X_arg7 X_arg8 k).1 f_arg10 f_arg11 f_arg12)) (ix3 0 r 0)
      = k0_pay8 v0 (tile (arg7.view.read (Elt Ideal) X_arg7) k) (arg10.view.read (Elt Ideal) f_arg10) (ix2 r 0) := by
  unfold trip_k0_t1
  dsimp only
  sl_unfold_words
  rw [View.read_writes_cons_unit_of_mem _ _ _ _ _ _ (ix3 0 r 0) rfl (by intro a; fin_cases a <;> simp)]
  show k0_pay4 (k0_pay8 v0 (View.ld (arg7.view.read (Elt Ideal) X_arg7) (Rect.unit (s := S4096x128) (k0_off1 k) S512x128.size (k0_off1_inb k))) (View.ld (arg10.view.read (Elt Ideal) f_arg10) (Rect.unit (s := S1x256x1) ![0, 0, 0] S1x256x1.size inb_S1x256x1_S1x256x1_0_0_0))) (ix3 0 r 0) = _
  rw [ld_tile, View.ld_unit_zero zero3]
  unfold k0_pay4
  pointwise

/-- After the trip, the running sum in row `r`. -/
theorem trip_l (r : Fin 256) :
    arg11.view.read (Elt Ideal) (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 arg12 harg12 v0 X_arg7 X_arg8 k).2.1 f_arg10 f_arg11 f_arg12)) (ix3 0 r 0)
      = k0_pay11 v0 (tile (arg7.view.read (Elt Ideal) X_arg7) k) (arg10.view.read (Elt Ideal) f_arg10) (arg11.view.read (Elt Ideal) f_arg11) (ix3 0 r 0) := by
  unfold trip_k0_t1
  dsimp only
  sl_unfold_words
  rw [View.read_writes_cons_unit_of_mem _ _ _ _ _ _ (ix3 0 r 0) rfl (by intro a; fin_cases a <;> simp)]
  show k0_pay11 v0 (View.ld (arg7.view.read (Elt Ideal) X_arg7) (Rect.unit (s := S4096x128) (k0_off1 k) S512x128.size (k0_off1_inb k))) (View.ld (arg10.view.read (Elt Ideal) f_arg10) (Rect.unit (s := S1x256x1) ![0, 0, 0] S1x256x1.size inb_S1x256x1_S1x256x1_0_0_0)) (View.ld (arg11.view.read (Elt Ideal) f_arg11) (Rect.unit (s := S1x256x1) ![0, 0, 0] S1x256x1.size inb_S1x256x1_S1x256x1_0_0_0)) (ix3 0 r 0) = _
  rw [ld_tile, View.ld_unit_zero zero3, View.ld_unit_zero zero3]

/-- After the trip, the running weighted sum in row `r`. -/
theorem trip_a (r : Fin 256) (d : Fin 128) :
    arg12.view.read (Elt Ideal) (arg12.view.writes (Elt Ideal) f_arg12 ((trip_k0_t1 (F := Ideal) 𝒱 c bd i arg3 harg3 arg4 harg4 arg5 harg5 arg6 harg6 arg7 harg7 arg8 harg8 arg9 harg9 arg10 harg10 arg11 harg11 arg12 harg12 v0 X_arg7 X_arg8 k).2.2.1 f_arg10 f_arg11 f_arg12)) (ix3 0 r d)
      = k0_pay12 v0 (tile (arg7.view.read (Elt Ideal) X_arg7) k) (tile (arg8.view.read (Elt Ideal) X_arg8) k) (arg10.view.read (Elt Ideal) f_arg10) (arg12.view.read (Elt Ideal) f_arg12) (ix3 0 r d) := by
  unfold trip_k0_t1
  dsimp only
  sl_unfold_words
  rw [View.read_writes_cons_unit_of_mem _ _ _ _ _ _ (ix3 0 r d) rfl (by intro a; fin_cases a <;> simp)]
  show k0_pay12 v0 (View.ld (arg7.view.read (Elt Ideal) X_arg7) (Rect.unit (s := S4096x128) (k0_off1 k) S512x128.size (k0_off1_inb k))) (View.ld (arg8.view.read (Elt Ideal) X_arg8) (Rect.unit (s := S4096x128) (k0_off1 k) S512x128.size (k0_off1_inb k))) (View.ld (arg10.view.read (Elt Ideal) f_arg10) (Rect.unit (s := S1x256x1) ![0, 0, 0] S1x256x1.size inb_S1x256x1_S1x256x1_0_0_0)) (View.ld (arg12.view.read (Elt Ideal) f_arg12) (Rect.unit (s := S1x256x128) ![0, 0, 0] S1x256x128.size inb_S1x256x128_S1x256x128_0_0_0)) (ix3 0 r d) = _
  rw [ld_tile, ld_tile, View.ld_unit_zero zero3, View.ld_unit_zero zero3]

end Trip

variable (G_arg10 : BufTy.Contents (Elt Ideal) arg10.view.ty) (G_arg11 : BufTy.Contents (Elt Ideal) arg11.view.ty) (G_arg12 : BufTy.Contents (Elt Ideal) arg12.view.ty)

/-- The state of the three scratch arrays before trip `n`, in row `r`: that of the tiled softmax over the first `512 n` keys. -/
theorem pb_online (s : Fin 256 → ℕ → ℝ) (v : ℕ → Fin 128 → EReal) (μ : ℝ)
    (hs : ∀ r (k : Fin k0_t1_loop.trips) j, k0_pay6 v0 (tile (arg7.view.read (Elt Ideal) X_arg7) k) (ix2 r j) = (s r (512 * k.val + j.val) : EReal))
    (hv : ∀ (k : Fin k0_t1_loop.trips) (j : Fin 512) d, tile (arg8.view.read (Elt Ideal) X_arg8) k (ix2 j d) = v (512 * k.val + j.val) d)
    (h10 : ∀ r, arg10.view.read (Elt Ideal) G_arg10 (ix3 0 r 0) = (μ : EReal))
    (h11 : ∀ r, arg11.view.read (Elt Ideal) G_arg11 (ix3 0 r 0) = (0 : EReal))
    (h12 : ∀ r d, arg12.view.read (Elt Ideal) G_arg12 (ix3 0 r d) = (0 : EReal)) :
    ∀ (n : ℕ) (hn : n ≤ k0_t1_loop.trips) (r : Fin 256),
      OnlineExt (s r) v (512 * n)
        (arg10.view.read (Elt Ideal) (arg10.view.writes (Elt Ideal) G_arg10 (pb_k0_t1 (F := Ideal) 𝒱 c bd i arg3 harg3 arg4 harg4 arg5 harg5 arg6 harg6 arg7 harg7 arg8 harg8 arg9 harg9 arg10 harg10 arg11 harg11 arg12 harg12 v0 X_arg7 X_arg8 G_arg10 G_arg11 G_arg12 n).1) (ix3 0 r 0))
        (arg11.view.read (Elt Ideal) (arg11.view.writes (Elt Ideal) G_arg11 (pb_k0_t1 (F := Ideal) 𝒱 c bd i arg3 harg3 arg4 harg4 arg5 harg5 arg6 harg6 arg7 harg7 arg8 harg8 arg9 harg9 arg10 harg10 arg11 harg11 arg12 harg12 v0 X_arg7 X_arg8 G_arg10 G_arg11 G_arg12 n).2.1) (ix3 0 r 0))
        (fun d => arg12.view.read (Elt Ideal) (arg12.view.writes (Elt Ideal) G_arg12 (pb_k0_t1 (F := Ideal) 𝒱 c bd i arg3 harg3 arg4 harg4 arg5 harg5 arg6 harg6 arg7 harg7 arg8 harg8 arg9 harg9 arg10 harg10 arg11 harg11 arg12 harg12 v0 X_arg7 X_arg8 G_arg10 G_arg11 G_arg12 n).2.2) (ix3 0 r d)) := by
  intro n
  induction n with
  | zero => exact fun _ r => OnlineExt.zero _ _ μ (h10 r) (h11 r) (h12 r)
  | succ n ih =>
    intro hn r
    have hlt : n < k0_t1_loop.trips := hn
    have hih := ih hlt.le r
    have hsucc := pb_k0_t1_succ (F := Ideal) 𝒱 c bd i arg3 harg3 arg4 harg4 arg5 harg5 arg6 harg6 arg7 harg7 arg8 harg8 arg9 harg9 arg10 harg10 arg11 harg11 arg12 harg12 v0 X_arg7 X_arg8 G_arg10 G_arg11 G_arg12 ⟨n, hlt⟩
    dsimp only at hsucc
    rw [hsucc]
    clear hsucc ih
    dsimp only
    rw [View.writes_append, View.writes_append, View.writes_append]
    generalize hf10 : arg10.view.writes (Elt Ideal) G_arg10 (pb_k0_t1 (F := Ideal) 𝒱 c bd i arg3 harg3 arg4 harg4 arg5 harg5 arg6 harg6 arg7 harg7 arg8 harg8 arg9 harg9 arg10 harg10 arg11 harg11 arg12 harg12 v0 X_arg7 X_arg8 G_arg10 G_arg11 G_arg12 n).1 = f10 at hih ⊢
    generalize hf11 : arg11.view.writes (Elt Ideal) G_arg11 (pb_k0_t1 (F := Ideal) 𝒱 c bd i arg3 harg3 arg4 harg4 arg5 harg5 arg6 harg6 arg7 harg7 arg8 harg8 arg9 harg9 arg10 harg10 arg11 harg11 arg12 harg12 v0 X_arg7 X_arg8 G_arg10 G_arg11 G_arg12 n).2.1 = f11 at hih ⊢
    generalize hf12 : arg12.view.writes (Elt Ideal) G_arg12 (pb_k0_t1 (F := Ideal) 𝒱 c bd i arg3 harg3 arg4 harg4 arg5 harg5 arg6 harg6 arg7 harg7 arg8 harg8 arg9 harg9 arg10 harg10 arg11 harg11 arg12 harg12 v0 X_arg7 X_arg8 G_arg10 G_arg11 G_arg12 n).2.2 = f12 at hih ⊢
    rw [show 512 * (n + 1) = 512 * n + 512 from rfl]
    refine hih.step (fun j => k0_pay6 v0 (tile (arg7.view.read (Elt Ideal) X_arg7) ⟨n, hlt⟩) (ix2 r j))
      (fun j d => tile (arg8.view.read (Elt Ideal) X_arg8) ⟨n, hlt⟩ (ix2 j d)) (fun j => hs r ⟨n, hlt⟩ j) (fun j d => hv ⟨n, hlt⟩ j d) ?_ ?_ ?_
    · exact (trip_m ..).trans (pay8_apply ..)
    · refine (trip_l ..).trans ((pay11_apply ..).trans ?_)
      rw [← trip_m]
    · intro d
      refine (trip_a ..).trans ((pay12_apply ..).trans ?_)
      rw [← trip_m]

end Cert.Kernel3Ideal.Mla

end
-- ==== Proof.MlaBlock.lean ====
module

public import proofs.«01_k».proof.Proof.MlaTrip
public import proofs.«01_k».proof.Proof.Gen.Kernel3Ideal.Frame

@[expose] public section

set_option maxRecDepth 16384

noncomputable section

namespace Cert.Kernel3Ideal.Mla

open Idealize.ShloMosaic Cert.Kernel3Ideal Cert.Kernel3Ideal.Gen Idealize.ShloMosaic.TcCoe Idealize.ShloMosaic.Tactic Cert.Softmax

/-- The finite stand-in for the first maximum is a real. -/
theorem exists_start : ∃ μ : ℝ, Ideal.ofBits FTy.f32 0xF149F2CA#32 = (μ : EReal) := ⟨_, by simp [Ideal.ofBits, Ideal.ieee, -EReal.coe_mul]; rfl⟩

/-- The score of query row `r` and key `n`. -/
def score (Q : Fin 256 → Fin 128 → ℝ) (K : ℕ → Fin 128 → ℝ) (r : Fin 256) (n : ℕ) : ℝ := ∑ x : Fin 128, Q r x * K n x

/-- What a trip computes as a score is that score. -/
theorem pay6_score (Q : Fin 256 → Fin 128 → ℝ) (K : ℕ → Fin 128 → ℝ) (q : Vec Ideal S256x128 .bf16) (hq : ∀ r x, q (ix2 r x) = (Q r x : EReal))
    (k : Fin k0_t1_loop.trips) (kk : Vec Ideal S512x128 .bf16) (hk : ∀ j x, kk (ix2 j x) = (K (512 * k.val + j.val) x : EReal)) (r : Fin 256) (j : Fin 512) :
    k0_pay6 q kk (ix2 r j) = (score Q K r (512 * k.val + j.val) : EReal) := by
  rw [pay6_apply, score, coe_sum]
  exact Finset.sum_congr rfl fun x _ => by rw [hk, hq, EReal.coe_mul]

/-- A load of a whole scratch array, after the writes `L` over a first one `p`. -/
theorem readCov_whole {D : ℕ} {sp : Space} (v : View sig .tc sp (⟨3, ![1, 256, D]⟩ : Shape) .f32)
    (L : List (View.Piece (Elt Ideal) (⟨3, ![1, 256, D]⟩ : Shape) .f32)) (p) (inb) :
    v.readCov (L ++ [p]) (Rect.unit (s := (⟨3, ![1, 256, D]⟩ : Shape)) ![0, 0, 0] (![1, 256, D]) inb).toLoadRect
      = v.read (Elt Ideal) (v.writes (Elt Ideal) (v.writes (Elt Ideal) v.junk [p]) L) := by
  unfold View.readCov
  rw [View.writes_append]
  exact View.ld_unit_zero zero3 _ _

variable (c : Dev nD) (i : grid0.Coords) (arg3 : Memref sig .tc .smem S4 .f32) (harg3 : arg3.IsWhole) (arg4 : Memref sig .tc .vmem S4x64 .f32) (harg4 : arg4.IsWhole) (arg5 : Memref sig .tc .vmem S1x128 .f32) (harg5 : arg5.IsWhole) (arg6 : Memref sig .tc .vmem S256x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S256x128 .bf16) (harg9 : arg9.IsWhole) (arg10 : Memref sig .tc .vmem S1x256x1 .f32) (harg10 : arg10.IsWhole) (arg11 : Memref sig .tc .vmem S1x256x1 .f32) (harg11 : arg11.IsWhole) (arg12 : Memref sig .tc .vmem S1x256x128 .f32) (harg12 : arg12.IsWhole)
    (x0 : Vec Ideal S4 .f32) (x1 : Vec Ideal S4x64 .f32) (x2 : Vec Ideal S1x128 .f32) (x3 : Vec Ideal S256x128 .bf16) (x4 : Vec Ideal S4096x128 .bf16) (x5 : Vec Ideal S4096x128 .bf16)

/-- The block a grid point leaves, from real queries and keys and any values: each row's values summed with the softmax
    weights of its scores. -/
theorem out_apply (Q : Fin 256 → Fin 128 → ℝ) (K : ℕ → Fin 128 → ℝ) (V : ℕ → Fin 128 → EReal)
    (hQ : ∀ r x, x3 (ix2 r x) = (Q r x : EReal)) (hK : ∀ (n : Fin 4096) x, x4 (ix2 n x) = (K n.val x : EReal))
    (hV : ∀ (n : Fin 4096) x, x5 (ix2 n x) = V n.val x) (r : Fin 256) (d : Fin 128) :
    out0_A_6 (F := Ideal) c i arg3 harg3 arg4 harg4 arg5 harg5 arg6 harg6 arg7 harg7 arg8 harg8 arg9 harg9 arg10 harg10 arg11 harg11 arg12 harg12 x0 x1 x2 x3 x4 x5 (ix2 r d) = wsum (score Q K r) V 4096 d := by
  unfold out0_A_6
  rw [View.read_writes_eq_canon _ _ _ (cover0_A_6 c i arg3 harg3 arg4 harg4 arg5 harg5 arg6 harg6 arg7 harg7 arg8 harg8 arg9 harg9 arg10 harg10 arg11 harg11 arg12 harg12 x0 x1 x2 x3 x4 x5)]
  unfold kernelRun0_A
  dsimp only
  sl_unfold_words
  have z2 : (![0, 0] : Fin 2 → ℕ) = fun _ => 0 := by funext a; fin_cases a <;> rfl
  have e3 : View.readAt (Elt Ideal) arg6.view (Rect.unit (s := S256x128) ![0, 0] S256x128.size inb_S256x128_S256x128_0_0).toLoadRect (harg6.unread x3) = x3 :=
    (View.ld_unit_zero z2 _ _).trans (harg6.read_unread x3)
  obtain ⟨μ, hμ⟩ := exists_start
  have hO := fun (v0 : Vec Ideal S256x128 .bf16) (hv0 : v0 = x3) =>
    pb_online Variants.none c none i arg3 harg3 arg4 harg4 arg5 harg5 arg6 harg6 arg7 harg7 arg8 harg8 arg9 harg9 arg10 harg10 arg11 harg11 arg12 harg12 v0 (harg7.unread x4) (harg8.unread x5)
      (arg10.view.writes (Elt Ideal) arg10.view.junk [⟨Rect.unit ![0, 0, 0] S1x256x1.size inb_S1x256x1_S1x256x1_0_0_0, k0_pay1 (F := Ideal)⟩])
      (arg11.view.writes (Elt Ideal) arg11.view.junk [⟨Rect.unit ![0, 0, 0] S1x256x1.size inb_S1x256x1_S1x256x1_0_0_0, k0_pay2 (F := Ideal)⟩])
      (arg12.view.writes (Elt Ideal) arg12.view.junk [⟨Rect.unit ![0, 0, 0] S1x256x128.size inb_S1x256x128_S1x256x128_0_0_0, k0_pay3 (F := Ideal)⟩])
      (fun r => score Q K r) V μ
      (fun r k j => by
        rw [hv0, harg7.read_unread]
        exact pay6_score Q K x3 hQ k _ (fun j x => hK ⟨_, _⟩ x) r j)
      (fun k j d => by rw [harg8.read_unread]; exact hV ⟨_, _⟩ d)
      (fun r => by
        rw [View.read_writes_cons_unit_of_mem _ _ _ _ _ _ (ix3 0 r 0) rfl (by intro a; fin_cases a <;> simp)]
        exact hμ)
      (fun r => by
        rw [View.read_writes_cons_unit_of_mem _ _ _ _ _ _ (ix3 0 r 0) rfl (by intro a; fin_cases a <;> simp)]
        exact Ideal.ofBits_zero_f32)
      (fun r d => by
        rw [View.read_writes_cons_unit_of_mem _ _ _ _ _ _ (ix3 0 r d) rfl (by intro a; fin_cases a <;> simp)]
        exact Ideal.ofBits_zero_f32)
      8 (by decide)
  refine (congrFun (View.canon_unit_zero z2 _ _) _).trans ((pay5_apply ..).trans ?_)
  exact (congrArg₂ Ideal.div (congrFun (readCov_whole _ _ _ _) (ix3 0 r d)) (congrFun (readCov_whole _ _ _ _) (ix3 0 r 0))).trans
    (OnlineExt.final (n := 4096) (by norm_num) (hO _ e3 r) d)

end Cert.Kernel3Ideal.Mla

end
-- ==== Proof.MlaArray.lean ====
module

public import proofs.«01_k».proof.Proof.MlaBlock
public import proofs.«01_k».proof.Proof.Gen.Kernel3Ideal.Value
public import Idealize.ShloMosaic.Lib.Pipeline.ValueKit

@[expose] public section

set_option maxRecDepth 16384

noncomputable section

namespace Cert.Kernel3Ideal.Mla

open Idealize.ShloMosaic Cert.Kernel3Ideal Cert.Kernel3Ideal.Gen Idealize.ShloMosaic.TcCoe Idealize.ShloMosaic.Tactic Cert.Softmax

/-- The score of query `n` and key `k` in batch `b` and head `h`, from the queries `Q` and the keys `K`: 128 lanes multiplied. -/
def rscore (Q K : ℕ → ℕ → ℝ) (b h n k : ℕ) : ℝ := ∑ x : Fin 128, Q (4096 * b + n) (128 * h + x.val) * K (4096 * b + k) (128 * h + x.val)

/-- The attention's result at batch `b`, query `n`, head `h` and lane `d`: the values, summed with the softmax of the scores. -/
def rout (Q K : ℕ → ℕ → ℝ) (V : ℕ → ℕ → EReal) (b h n d : ℕ) : EReal :=
  wsum (rscore Q K b h n) (fun k (_ : Unit) => V (4096 * b + k) (128 * h + d)) 4096 ()

variable (m : (ℓ : Loc nD τ sig) → Buf (Elt Ideal) ℓ)

theorem idx3 : ∀ t : Fin cfg0.N, win0_3.index t = ![16 * (grid0.coords t 0).val + (grid0.coords t 2).val, (grid0.coords t 1).val] := (by decide +kernel : ∀ t : Fin grid0.N, _)
theorem idx4 : ∀ t : Fin cfg0.N, win0_4.index t = ![(grid0.coords t 0).val, (grid0.coords t 1).val] := (by decide +kernel : ∀ t : Fin grid0.N, _)
theorem idx5 : ∀ t : Fin cfg0.N, win0_5.index t = ![(grid0.coords t 0).val, (grid0.coords t 1).val] := (by decide +kernel : ∀ t : Fin grid0.N, _)
theorem idx6 : ∀ t : Fin cfg0.N, win0_6.index t = ![16 * (grid0.coords t 0).val + (grid0.coords t 2).val, (grid0.coords t 1).val] := (by decide +kernel : ∀ t : Fin grid0.N, _)

/-- The result array. -/
def G (Q K : ℕ → ℕ → ℝ) (V : ℕ → ℕ → EReal) : S16384x512.Idx → EReal := fun i =>
  rout Q K V ((i 0).val / 4096) ((i 1).val / 128) ((i 0).val % 4096) ((i 1).val % 128)

/-- Two numbers under a two-dimensional index determine what it reads. -/
theorem read2 {α : Type} {X : S16384x512.Idx → α} {f : ℕ → ℕ → α} (h : ∀ (t : Fin 16384) (x : Fin 512), X (ix2 t x) = f t.val x.val) (i : S16384x512.Idx) :
    X i = f (i 0).val (i 1).val :=
  (congrArg X (by funext k; fin_cases k <;> rfl)).trans (h (i 0) (i 1))

/-- After the run the result array is `G` of the arguments. -/
theorem arr_eq (c : Dev nD) (Q K : ℕ → ℕ → ℝ) (V' : ℕ → ℕ → EReal)
    (hQ : ∀ (t : Fin 16384) (x : Fin 512), m ((c.tc : Thread nD τ).loc main_arg0) (ix2 t x) = (Q t.val x.val : EReal))
    (hK : ∀ (t : Fin 16384) (x : Fin 512), m ((c.tc : Thread nD τ).loc main_arg1) (ix2 t x) = (K t.val x.val : EReal))
    (hV : ∀ (t : Fin 16384) (x : Fin 512), m ((c.tc : Thread nD τ).loc main_arg2) (ix2 t x) = V' t.val x.val) :
    (dats m 0 c).arrAt 6 cfg0.N = G Q K V' := by
  refine (dats m 0 c).arrAt_eq_of_covers 6 _ (by decide +kernel) fun t hf y => ?_
  blk_simp
  rw [after0_6]
  unfold outsAt0
  have hQ' := read2 (f := fun a b => (Q a b : EReal)) hQ
  have hK' := read2 (f := fun a b => (K a b : EReal)) hK
  have hV' := read2 hV
  have e6 := idx6 t
  have c0 : (grid0.coords t 0).val < 4 := (grid0.coords t 0).isLt
  have c1 : (grid0.coords t 1).val < 4 := (grid0.coords t 1).isLt
  have c2 : (grid0.coords t 2).val < 16 := (grid0.coords t 2).isLt
  obtain ⟨r, d, rfl⟩ : ∃ (r : Fin 256) (d : Fin 128), y = ix2 r d := ⟨y 0, y 1, by funext a; fin_cases a <;> rfl⟩
  generalize hb : (grid0.coords t 0).val = b at *
  generalize hh : (grid0.coords t 1).val = h at *
  generalize ha : (grid0.coords t 2).val = a at *
  have hr := r.isLt
  have hd := d.isLt
  have E : G Q K V' ((win0_6.blk t).view.emb (ix2 r d)) = rout Q K V' b h (256 * a + r.val) d.val := by
    have f0 : (((win0_6.blk t).view.emb (ix2 r d)) 0).val = (16 * b + a) * 256 + r.val := by blk_simp [e6]
    have f1 : (((win0_6.blk t).view.emb (ix2 r d)) 1).val = h * 128 + d.val := by blk_simp [e6]
    unfold G
    congr 1
    · rw [f0]; omega
    · rw [f1]; omega
    · rw [f0]; omega
    · rw [f1]; omega
  rw [E]
  refine (out_apply _ _ _ _ _ _ _ _ _ _ _ _ _ _ _ _ _ _ _ _ _ _ _ _ _ _ _ _
    (fun r x => Q (4096 * b + (256 * a + r.val)) (128 * h + x.val)) (fun n x => K (4096 * b + n) (128 * h + x.val))
    (fun n x => V' (4096 * b + n) (128 * h + x.val)) ?_ ?_ ?_ r d).trans ?_
  · intro r x
    unfold iblk
    blk_simp
    rw [V_main_arg0, hQ']
    blk_simp [idx3 t]
    rw [hb, hh, ha]
    congr 2 <;> omega
  · intro r x
    unfold iblk
    blk_simp
    rw [V_main_arg1, hK']
    blk_simp [idx4 t]
    rw [hb, hh]
    congr 2 <;> omega
  · intro r x
    unfold iblk
    blk_simp
    rw [V_main_arg2, hV']
    blk_simp [idx5 t]
    rw [hb, hh]
    congr 1 <;> omega
  · rfl

end Cert.Kernel3Ideal.Mla

end
-- ==== Proof.MlaRef.lean ====
module

public import proofs.«01_k».proof.Proof.MlaArray
public import proofs.«01_k».proof.Proof.Gen.Reference3Ideal.Read

@[expose] public section

set_option maxRecDepth 16384

noncomputable section

namespace Cert.Reference3Ideal.Mla

open Idealize.ShloMosaic Cert.Reference3Ideal Cert.Reference3Ideal.Gen Cert.Reference3Ideal.Read Idealize.ShloMosaic.Tactic Cert.Softmax
open Cert.Kernel3Ideal.Mla (rscore rout negInf)

variable (x0 x1 x2 : (⟨S16384x512, .bf16⟩ : BufTy).Contents (Elt Ideal)) (Q K : ℕ → ℕ → ℝ) (V : ℕ → ℕ → EReal)

theorem read_at {f : ℕ → ℕ → EReal} {X : (⟨S16384x512, .bf16⟩ : BufTy).Contents (Elt Ideal)} (h : ∀ (t : Fin 16384) (x : Fin 512), X (ix2 t x) = f t.val x.val)
    (i : S16384x512.Idx) (t x : ℕ) (ht : (i 0).val = t) (hx : (i 1).val = x) : X i = f t x := by
  subst ht hx
  exact (congrArg X (show i = ix2 (i 0) (i 1) from by funext a; fin_cases a <;> rfl)).trans (h (i 0) (i 1))

/-- The values. -/
theorem v_read (hV : ∀ (t : Fin 16384) (x : Fin 512), x2 (ix2 t x) = V t.val x.val) (i : S4x4096x4x128.Idx) :
    val_main_v5 x2 i = V (4096 * (i 0).val + (i 1).val) (128 * (i 2).val + (i 3).val) := by
  rw [val_main_v5_apply, val_main_v4_apply]
  have h0 : (i 0).val < 4 := (i 0).isLt
  have h1 : (i 1).val < 4096 := (i 1).isLt
  have h2 : (i 2).val < 4 := (i 2).isLt
  have h3 : (i 3).val < 128 := (i 3).isLt
  refine read_at hV _ _ _ ?_ ?_
  · simp only [idx_main_v5]
    omega
  · simp only [idx_main_v5]
    omega

variable (hQ : ∀ (t : Fin 16384) (x : Fin 512), x0 (ix2 t x) = (Q t.val x.val : EReal)) (hK : ∀ (t : Fin 16384) (x : Fin 512), x1 (ix2 t x) = (K t.val x.val : EReal))

include hQ in
/-- The queries. -/
theorem q_read (i : S4x4096x4x128.Idx) : val_main_v1 x0 i = (Q (4096 * (i 0).val + (i 1).val) (128 * (i 2).val + (i 3).val) : EReal) := by
  rw [val_main_v1_apply, val_main_v0_apply]
  have h0 : (i 0).val < 4 := (i 0).isLt
  have h1 : (i 1).val < 4096 := (i 1).isLt
  have h2 : (i 2).val < 4 := (i 2).isLt
  have h3 : (i 3).val < 128 := (i 3).isLt
  refine read_at (f := fun a b => (Q a b : EReal)) hQ _ _ _ ?_ ?_
  · simp only [idx_main_v1]
    omega
  · simp only [idx_main_v1]
    omega

include hK in
/-- The keys. -/
theorem k_read (i : S4x4096x4x128.Idx) : val_main_v3 x1 i = (K (4096 * (i 0).val + (i 1).val) (128 * (i 2).val + (i 3).val) : EReal) := by
  rw [val_main_v3_apply, val_main_v2_apply]
  have h0 : (i 0).val < 4 := (i 0).isLt
  have h1 : (i 1).val < 4096 := (i 1).isLt
  have h2 : (i 2).val < 4 := (i 2).isLt
  have h3 : (i 3).val < 128 := (i 3).isLt
  refine read_at (f := fun a b => (K a b : EReal)) hK _ _ _ ?_ ?_
  · simp only [idx_main_v3]
    omega
  · simp only [idx_main_v3]
    omega

include hQ hK

/-- The scores. -/
theorem score_read (i : S4x4x4096x4096.Idx) :
    val_main_v6 x0 x1 i = (rscore Q K (i 0).val (i 1).val (i 2).val (i 3).val : EReal) := by
  rw [val_main_v6_apply, rscore, coe_sum]
  refine Finset.sum_congr rfl fun k _ => ?_
  rw [q_read x0 Q hQ, k_read x1 K hK, EReal.coe_mul]

/-- A row's maximum is a real number. -/
theorem max_read (i : S4x4x4096.Idx) : ∃ ν : ℝ, val_main_v9 x0 x1 i = (ν : EReal) := by
  obtain ⟨ν, hν⟩ := exists_coe_fold (n := 4096) (by norm_num) fun k => rscore Q K (i 0).val (i 1).val (i 2).val k.val
  refine ⟨ν, ?_⟩
  rw [val_main_v9_apply, val_main_v8_apply, ← hν]
  unfold val_main_v7
  have e : val_main_v6 x0 x1 = fun i => (rscore Q K (i 0).val (i 1).val (i 2).val (i 3).val : EReal) := funext fun i => score_read x0 x1 Q K hQ hK i
  rw [e]
  pointwise
  rw [show val_main_cst_0 (F := Ideal) (idx_main_v8 i) = ⊥ from negInf, show val_main_cst (F := Ideal) (Shape.Idx.first h_S_) = ⊥ from negInf]
  exact max_eq_right bot_le

/-- A row's softmax weights. -/
theorem weight_read (b h : Fin 4) (n : Fin 4096) (i : S4x4x4096x4096.Idx) (e0 : (i 0).val = b.val) (e1 : (i 1).val = h.val) (e2 : (i 2).val = n.val) :
    val_main_v17 x0 x1 i = ((Real.exp (rscore Q K b h n (i 3).val) / ∑ k ∈ Finset.range 4096, Real.exp (rscore Q K b h n k) : ℝ) : EReal) := by
  obtain ⟨ν, hν⟩ := max_read x0 x1 Q K hQ hK (ix3 b h n)
  have hM : ∀ i : S4x4x4096x4096.Idx, (i 0).val = b.val → (i 1).val = h.val → (i 2).val = n.val →
      val_main_v13 x0 x1 i = Ideal.exp ((rscore Q K b h n (i 3).val : EReal) - (ν : EReal)) := by
    intro i e0 e1 e2
    rw [val_main_v13_apply, val_main_v12_apply, val_main_v11_apply, val_main_v10_apply, score_read x0 x1 Q K hQ hK, e0, e1, e2,
      show idx_main_v10 (idx_main_v11 i) = ix3 b h n from by
        funext a
        fin_cases a
        · exact Fin.ext e0
        · exact Fin.ext e1
        · exact Fin.ext e2, hν]
    rfl
  rw [val_main_v17_apply, val_main_v16_apply, val_main_v15_apply, val_main_v14_apply, hM i e0 e1 e2,
    show val_main_cst_1 (F := Ideal) (Shape.Idx.first h_S_) = 0 from Ideal.ofBits_zero_f32, zero_add,
    Finset.sum_congr rfl fun k _ => hM (idx_main_v14 (idx_main_v15 (idx_main_v16 i)) k) e0 e1 e2, ← weight_shift _ _ _ ν]
  exact softmax_weight (n := 4096) (by norm_num) (rscore Q K b h n) (fun k => (rscore Q K b h n k.val : EReal)) (fun _ => rfl) ν ν rfl ⟨(i 3).val, (i 3).isLt⟩

/-- The reference's result is the kernel's. -/
theorem ref_eq (hV : ∀ (t : Fin 16384) (x : Fin 512), x2 (ix2 t x) = V t.val x.val) :
    val_main_v21 x0 x1 x2 = Cert.Kernel3Ideal.Mla.G Q K V := by
  funext i
  have b0 : (i 0).val < 16384 := (i 0).isLt
  have b1 : (i 1).val < 512 := (i 1).isLt
  rw [val_main_v21_apply, val_main_v20_apply, val_main_v19_apply, val_main_v18_apply]
  unfold Cert.Kernel3Ideal.Mla.G rout wsum
  have c0 : (idx_main_v20 i 0).val = (i 0).val / 4096 := by simp only [idx_main_v20]; omega
  have c1 : (idx_main_v20 i 1).val = (i 0).val % 4096 := by simp only [idx_main_v20]; omega
  have c2 : (idx_main_v20 i 2).val = (i 1).val / 128 := by simp only [idx_main_v20]; omega
  have c3 : (idx_main_v20 i 3).val = (i 1).val % 128 := by simp only [idx_main_v20]; omega
  rw [← c0, ← c1, ← c2, ← c3]
  refine (Finset.sum_congr rfl fun k _ => ?_).trans (Fin.sum_univ_eq_sum_range (fun k => ((Real.exp (rscore Q K (idx_main_v20 i 0).val (idx_main_v20 i 2).val (idx_main_v20 i 1).val k)
      / ∑ k ∈ Finset.range 4096, Real.exp (rscore Q K (idx_main_v20 i 0).val (idx_main_v20 i 2).val (idx_main_v20 i 1).val k) : ℝ) : EReal)
      * V (4096 * (idx_main_v20 i 0).val + k) (128 * (idx_main_v20 i 2).val + (idx_main_v20 i 3).val)) 4096)
  rw [v_read x2 V hV, weight_read x0 x1 Q K hQ hK (idx_main_v20 i 0) (idx_main_v20 i 2) (idx_main_v20 i 1) _ rfl rfl rfl, mul_comm]

end Cert.Reference3Ideal.Mla

end
-- ==== Proof.MlaClaim.lean ====
module

public import proofs.«01_k».proof.Defs
public import proofs.«01_k».proof.Proof.Finite
public import proofs.«01_k».proof.Proof.MlaArray
public import proofs.«01_k».proof.Proof.MlaRef
public import proofs.«01_k».proof.Proof.Gen.Kernel3Ideal
public import proofs.«01_k».proof.Proof.Gen.Reference3Ideal
public import proofs.«01_k».proof.Proof.Gen.Reference3Ideal.Run
public import Idealize.ShloMosaic.Lib.Quiescent
public import Idealize.ShloMosaic.Lib.Claim

@[expose] public section

set_option maxRecDepth 16384

noncomputable section

/-! The plain attention: its kernel computes what its reference does. -/

namespace Cert.MlaClaim

open Idealize.ShloMosaic Idealize.SL.Sem Idealize.ShloMosaic.Tactic

/-- The side conditions of the precondition. -/
theorem facts : Cert.Pre_finite_scores.Facts where
  bitsLt_bf16_f32 := by decide
  bcast_S_S16384x512 := by decide

open Cert.Pre_finite_scores in
/-- The precondition: the queries and the keys are real numbers. -/
theorem real_of_pre [hf : Cert.Pre_finite_scores.Facts] (x0 x1 x2 : FVec Ideal S16384x512 .bf16)
    (h0 : (fn (F := Ideal) x0 x1 x2).1 = fun _ => 1#1) (h1 : (fn (F := Ideal) x0 x1 x2).2 = fun _ => 1#1) :
    (∀ i, ∃ r : ℝ, x0 i = (r : EReal)) ∧ ∀ i, ∃ r : ℝ, x1 i = (r : EReal) := by
  refine ⟨fun i => Cert.Finite.real_of_lt ?_, fun i => Cert.Finite.real_of_lt ?_⟩
  · have := congrFun h0 i
    rw [← Cert.Finite.posInf]
    exact this
  · have := congrFun h1 i
    rw [← Cert.Finite.posInf]
    exact this

/-- The plain attention's reference runs, keeps its arguments and ends with no semaphore up. -/
theorem frame_reference : Cert.quiescent_Reference3Ideal (hReference3Ideal := Cert.Reference3Ideal.Gen.facts) := fun m ρ _ =>
  (θ_run _ _ _).mono (fun r h => ⟨fun c => (h c).2, sem_eq_zero_of_no_sems (by decide) _⟩) (Cert.Reference3Ideal.Value.run m ρ)

/-- The entries of an array as a function of two numbers, `e` outside it. -/
def ext {α : Type} (e : α) (f : Cert.Kernel3Ideal.S16384x512.Idx → α) (t x : ℕ) : α :=
  if h : t < 16384 ∧ x < 512 then f (ix2 ⟨t, h.1⟩ ⟨x, h.2⟩) else e

/-- Inside the array that function is its entries. -/
theorem ext_apply {α : Type} (e : α) (f : Cert.Kernel3Ideal.S16384x512.Idx → α) (t : Fin 16384) (x : Fin 512) : ext e f t.val x.val = f (ix2 t x) :=
  dif_pos ⟨t.isLt, x.isLt⟩

/-- The kernel's ideal reading computes what the reference does, for queries and keys that are real numbers and any values. -/
theorem algebraic : Cert.algebraic_Kernel3Ideal_Reference3Ideal_pre_finite_scores (hKernel3Ideal := Cert.Kernel3Ideal.Gen.facts)
    (hReference3Ideal := Cert.Reference3Ideal.Gen.facts) (hPre_finite_scores := facts) :=
  fun m ρ m' ρ' hpre hag => by
  have hr := fun c => real_of_pre (hf := facts) _ _ _ (hpre c).1 (hpre c).2
  choose Q hQ using fun c => (hr c).1
  choose K hK using fun c => (hr c).2
  have hQ' : ∀ (c : Dev Cert.Kernel3Ideal.nD) (t : Fin 16384) (x : Fin 512), m ((c.tc : Thread Cert.Kernel3Ideal.nD Cert.Kernel3Ideal.τ).loc Cert.Kernel3Ideal.main_arg0) (ix2 t x) = ((ext 0 (Q c) t.val x.val : ℝ) : EReal) :=
    fun c t x => (hQ c (ix2 t x)).trans (congrArg Real.toEReal (ext_apply 0 (Q c) t x).symm)
  have hK' : ∀ (c : Dev Cert.Kernel3Ideal.nD) (t : Fin 16384) (x : Fin 512), m ((c.tc : Thread Cert.Kernel3Ideal.nD Cert.Kernel3Ideal.τ).loc Cert.Kernel3Ideal.main_arg1) (ix2 t x) = ((ext 0 (K c) t.val x.val : ℝ) : EReal) :=
    fun c t x => (hK c (ix2 t x)).trans (congrArg Real.toEReal (ext_apply 0 (K c) t x).symm)
  have hV' : ∀ (c : Dev Cert.Kernel3Ideal.nD) (t : Fin 16384) (x : Fin 512), m ((c.tc : Thread Cert.Kernel3Ideal.nD Cert.Kernel3Ideal.τ).loc Cert.Kernel3Ideal.main_arg2) (ix2 t x) = ext (0 : EReal) (m ((c.tc : Thread Cert.Kernel3Ideal.nD Cert.Kernel3Ideal.τ).loc Cert.Kernel3Ideal.main_arg2)) t.val x.val :=
    fun c t x => (ext_apply (α := EReal) 0 (m ((c.tc : Thread Cert.Kernel3Ideal.nD Cert.Kernel3Ideal.τ).loc Cert.Kernel3Ideal.main_arg2)) t x).symm
  refine ⟨fun c => Cert.Kernel3Ideal.Mla.G (ext 0 (Q c)) (ext 0 (K c)) (ext (0 : EReal) (m ((c.tc : Thread Cert.Kernel3Ideal.nD Cert.Kernel3Ideal.τ).loc Cert.Kernel3Ideal.main_arg2))),
    (θ_run _ _ _).mono (fun _ h c => ⟨(h c).1.trans (Cert.Kernel3Ideal.Mla.arr_eq m c _ _ _ (hQ' c) (hK' c) (hV' c)), (h c).2⟩) (Cert.Kernel3Ideal.Value.run_blocks m ρ),
    (θ_run _ _ _).mono (fun _ h c => ⟨(h c).1.trans ?_, (h c).2⟩) (Cert.Reference3Ideal.Value.run m' ρ')⟩
  refine (Cert.Reference3Ideal.Read.val_main_v21_eq _ _ _).trans ?_
  show Cert.Reference3Ideal.Read.val_main_v21 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
  rw [(hag c).1, (hag c).2.1, (hag c).2.2]
  exact Cert.Reference3Ideal.Mla.ref_eq _ _ _ _ _ _ (hQ' c) (hK' c) (hV' c)

end Cert.MlaClaim

end
-- ==== Proof.ProjSpec.lean ====
module

public import proofs.«01_k».proof.Proof.MergeSpec
public import proofs.«01_k».proof.Proof.SoftmaxExt

@[expose] public section

set_option maxRecDepth 16384

noncomputable section

/-! The input projection, in plain formulas. -/

namespace Cert.Proj

open Idealize.ShloMosaic Cert.Merge

/-- The small number under the root. -/
def eps : EReal := Ideal.ofBits .f32 0x358637BD#32

/-- The projection's arguments: `N` tokens, the norm's weights, the projection's weights and the gains, the last two by
    column. -/
structure Args (N : ℕ) where
  x : Fin N → Fin 1024 → EReal
  g : Fin 1024 → EReal
  w : Fin 1024 → ℕ → EReal
  gain : ℕ → EReal

/-- Column `c` of token `r`: the normalised token through the weights. -/
def Args.y {N : ℕ} (A : Args N) (r : Fin N) (c : ℕ) : EReal := ∑ k, hrow (A.x r) A.g k * A.w k c

/-- Column `c` divided by the root mean square of its group of `n` columns, times a gain. -/
def nrm (n : ℕ) (len : EReal) (Y : ℕ → EReal) (gain : EReal) (c : ℕ) : EReal :=
  Y c * Ideal.rsqrt (Ideal.div (∑ k : Fin n, Y (n * (c / n) + k.val) * Y (n * (c / n) + k.val)) len + eps) * gain

/-- Which norm the 256 columns of block `j` take: 1 in groups of 64, 2 in groups of 128, 0 none. -/
def mode (j : ℕ) : ℕ :=
  if j < 4 then 1 else if j < 8 then 0 else if j < 11 then 1 else if j < 12 then 0 else if j < 16 then 1 else if j < 18 then 0
  else if j < 22 then 1 else if j < 24 then 0 else if j < 28 then 1 else if j < 30 then 0 else 2

/-- The projection's result at token `r` and column `c`, before the columns are dealt out to the five outputs. -/
def Args.z {N : ℕ} (A : Args N) (r : Fin N) (c : ℕ) : EReal :=
  if mode (c / 256) = 0 then A.y r c
  else if mode (c / 256) = 1 then nrm 64 (Ideal.ofBits .f32 0x42800000#32) (A.y r) (A.gain c) c
  else nrm 128 (Ideal.ofBits .f32 0x43000000#32) (A.y r) (A.gain c) c

/-- The literal 64. -/
theorem lit64 : Ideal.ofBits .f32 0x42800000#32 = ((64 : ℝ) : EReal) := by
  simp [Ideal.ofBits, Ideal.ieee, -EReal.coe_mul]; norm_num

/-- The literal 128. -/
theorem lit128 : Ideal.ofBits .f32 0x43000000#32 = ((128 : ℝ) : EReal) := by
  simp [Ideal.ofBits, Ideal.ieee, -EReal.coe_mul]; norm_num

/-- The literal 1/64. -/
theorem litInv64 : Ideal.ofBits .f32 0x3C800000#32 = ((1 / 64 : ℝ) : EReal) := by
  simp [Ideal.ofBits, Ideal.ieee, -EReal.coe_mul]; norm_num

/-- The literal 1/128. -/
theorem litInv128 : Ideal.ofBits .f32 0x3C000000#32 = ((1 / 128 : ℝ) : EReal) := by
  simp [Ideal.ofBits, Ideal.ieee, -EReal.coe_mul]; norm_num

/-- A sum over `m` groups of `n` that keeps group `q` is the sum over that group. -/
theorem sum_group (m n q : ℕ) (hq : q < m) (f : ℕ → EReal) :
    ∑ d : Fin (m * n), (if d.val / n = q then f d.val else 0) = ∑ k : Fin n, f (n * q + k.val) := by
  rw [← finProdFinEquiv.sum_comp, Fintype.sum_prod_type, Finset.sum_eq_single ⟨q, hq⟩]
  · refine Finset.sum_congr rfl fun k _ => ?_
    have h : (finProdFinEquiv ((⟨q, hq⟩ : Fin m), k)).val = k.val + n * q := rfl
    rw [h, Nat.add_mul_div_left _ _ k.pos, Nat.div_eq_of_lt k.isLt, zero_add, if_pos rfl, add_comm]
  · intro p _ hp
    refine Finset.sum_eq_zero fun k _ => ?_
    have h : (finProdFinEquiv (p, k)).val = k.val + n * p.val := rfl
    rw [h, Nat.add_mul_div_left _ _ k.pos, Nat.div_eq_of_lt k.isLt, zero_add, if_neg fun e => hp (Fin.ext e)]
  · exact fun h => absurd (Finset.mem_univ _) h

/-- The product of a row with the matrix that is `1 / len` inside a group and zero outside is the mean over the group. -/
theorem mean_group (m n q : ℕ) (hq : q < m) (len : ℝ) (hl : 0 < len) (f : ℕ → EReal) :
    ∑ d : Fin (m * n), f d.val * (if d.val / n = q then ((1 / len : ℝ) : EReal) else 0) = Ideal.div (∑ k : Fin n, f (n * q + k.val)) (len : EReal) := by
  rw [Ideal.div_coe hl.ne', ← sum_group m n q hq f, mul_comm (∑ d : Fin (m * n), _), Cert.Softmax.coe_mul_sum (by positivity)]
  refine Finset.sum_congr rfl fun d _ => ?_
  split <;> simp [mul_comm]

end Cert.Proj

end
-- ==== Proof.ProjTile.lean ====
module

public import proofs.«01_k».proof.Proof.ProjSpec
public import proofs.«01_k».proof.Proof.Gen.Kernel4Ideal.Skeleton
public import Idealize.ShloMosaic.Lib.Pointwise
public import Idealize.ShloMosaic.Lib.Pointwise.Tactic

@[expose] public section

set_option maxRecDepth 16384

noncomputable section

/-! The projection's tiles of 256 columns, at an index. -/

namespace Cert.Kernel4Ideal.Proj

open Idealize.ShloMosaic Cert.Kernel4Ideal Cert.Kernel4Ideal.Gen Idealize.ShloMosaic.TcCoe Idealize.ShloMosaic.Tactic Cert.Merge Cert.Proj

/-- The normalised tokens of a block. -/
theorem pay2_apply (x : Vec Ideal S512x1024 .f32) (g : Vec Ideal S1x1024 .f32) (r : Fin 512) (d : Fin 1024) :
    k0_pay2 (F := Ideal) x g (ix2 r d) = hrow (fun k => x (ix2 r k)) (fun k => g (ix2 0 k)) d := by
  unfold k0_pay2
  pointwise
  rfl

/-- A tile that takes no norm is the product. -/
theorem pay11_apply (H : Vec Ideal S512x1024 .bf16) (w : Vec Ideal S1024x256 .bf16) (r : Fin 512) (d : Fin 256) :
    k0_pay11 (F := Ideal) H w (ix2 r d) = ∑ k, H (ix2 r k) * w (ix2 k d) := by
  unfold k0_pay11
  pointwise [dot_S512x1024_S1024x256_S512x256_1_0_0_1_n_n]

/-- A tile that takes a norm: the product over the root of its squares through the averaging matrix, times the gain. -/
theorem pay7_apply (H : Vec Ideal S512x1024 .bf16) (w : Vec Ideal S1024x256 .bf16) (s : Vec Ideal S1x256x256 .bf16) (g : Vec Ideal S1x256 .f32)
    (Y : Fin 256 → EReal) (r : Fin 512) (hY : ∀ d, ∑ k, H (ix2 r k) * w (ix2 k d) = Y d) (d : Fin 256) :
    k0_pay7 (F := Ideal) H w s g (ix2 r d) = Y d * Ideal.rsqrt (∑ e, Y e * Y e * s (ix3 0 e d) + eps) * g (ix2 0 d) := by
  unfold k0_pay7
  pointwise [dot_S512x1024_S1024x256_S512x256_1_0_0_1_n_n, dot_S512x256_S256x256_S512x256_1_0_0_1_n_n]
  simp only [hY]
  rfl

/-- The tiles that take no norm are one function. -/
theorem plain_eq : k0_pay12 (F := Ideal) = k0_pay11 ∧ k0_pay13 (F := Ideal) = k0_pay11 ∧ k0_pay14 (F := Ideal) = k0_pay11
    ∧ k0_pay18 (F := Ideal) = k0_pay11 ∧ k0_pay25 (F := Ideal) = k0_pay11 ∧ k0_pay26 (F := Ideal) = k0_pay11
    ∧ k0_pay35 (F := Ideal) = k0_pay11 ∧ k0_pay36 (F := Ideal) = k0_pay11 ∧ k0_pay43 (F := Ideal) = k0_pay11
    ∧ k0_pay44 (F := Ideal) = k0_pay11 := ⟨rfl, rfl, rfl, rfl, rfl, rfl, rfl, rfl, rfl, rfl⟩

end Cert.Kernel4Ideal.Proj

end
-- ==== Proof.ProjLit.lean ====
module

public import proofs.«01_k».proof.Proof.ProjSpec
public import proofs.«01_k».proof.Kernel4Ideal

@[expose] public section

set_option maxRecDepth 16384

noncomputable section

/-! The projection's constant array: the two matrices that average over groups of columns. -/

namespace Cert.Kernel4Ideal.Proj

open Idealize.ShloMosaic Cert.Kernel4Ideal Cert.Proj

/-! Half a row, 128 entries: a group of 64 at its beginning, a group of 64 at its end, a group of 128, or none. -/

/-- A group of 64 at the beginning. -/
theorem halfFirst (i : ℕ) : lit0t0_0 i = if i % 128 < 64 then 0x3C80#16 else 0x0000#16 := by
  have h : i % 128 < 128 := Nat.mod_lt _ (by decide)
  unfold lit0t0_0
  generalize i % 128 = r at *
  interval_cases r <;> rfl

/-- A group of 64 at the end. -/
theorem halfLast (i : ℕ) : lit0t0_128 i = if i % 128 < 64 then 0x0000#16 else 0x3C80#16 := by
  have h : i % 128 < 128 := Nat.mod_lt _ (by decide)
  unfold lit0t0_128
  generalize i % 128 = r at *
  interval_cases r <;> rfl

/-- A group of 128. -/
theorem halfAll (i : ℕ) : lit0t0_512 i = 0x3C00#16 := by
  have h : i % 128 < 128 := Nat.mod_lt _ (by decide)
  unfold lit0t0_512
  generalize i % 128 = r at *
  interval_cases r <;> rfl

/-- No group. -/
theorem halfNone (i : ℕ) : lit0t0_1 i = 0x0000#16 := by
  have h : i % 128 < 128 := Nat.mod_lt _ (by decide)
  unfold lit0t0_1
  generalize i % 128 = r at *
  interval_cases r <;> rfl

/-! 64 rows: their halves alternate between two of these. -/

theorem rows0 (i : ℕ) : lit0t1_0 i = if i / 128 % 2 = 0 then lit0t0_0 i else lit0t0_1 i := by
  have h : i / 128 % 128 < 128 := Nat.mod_lt _ (by decide)
  rw [show i / 128 % 2 = i / 128 % 128 % 2 by omega]
  unfold lit0t1_0
  generalize i / 128 % 128 = r at *
  interval_cases r <;> rfl

theorem rows1 (i : ℕ) : lit0t1_1 i = if i / 128 % 2 = 0 then lit0t0_128 i else lit0t0_1 i := by
  have h : i / 128 % 128 < 128 := Nat.mod_lt _ (by decide)
  rw [show i / 128 % 2 = i / 128 % 128 % 2 by omega]
  unfold lit0t1_1
  generalize i / 128 % 128 = r at *
  interval_cases r <;> rfl

theorem rows2 (i : ℕ) : lit0t1_2 i = if i / 128 % 2 = 0 then lit0t0_1 i else lit0t0_0 i := by
  have h : i / 128 % 128 < 128 := Nat.mod_lt _ (by decide)
  rw [show i / 128 % 2 = i / 128 % 128 % 2 by omega]
  unfold lit0t1_2
  generalize i / 128 % 128 = r at *
  interval_cases r <;> rfl

theorem rows3 (i : ℕ) : lit0t1_3 i = if i / 128 % 2 = 0 then lit0t0_1 i else lit0t0_128 i := by
  have h : i / 128 % 128 < 128 := Nat.mod_lt _ (by decide)
  rw [show i / 128 % 2 = i / 128 % 128 % 2 by omega]
  unfold lit0t1_3
  generalize i / 128 % 128 = r at *
  interval_cases r <;> rfl

theorem rows4 (i : ℕ) : lit0t1_4 i = if i / 128 % 2 = 0 then lit0t0_512 i else lit0t0_1 i := by
  have h : i / 128 % 128 < 128 := Nat.mod_lt _ (by decide)
  rw [show i / 128 % 2 = i / 128 % 128 % 2 by omega]
  unfold lit0t1_4
  generalize i / 128 % 128 = r at *
  interval_cases r <;> rfl

theorem rows5 (i : ℕ) : lit0t1_5 i = if i / 128 % 2 = 0 then lit0t0_512 i else lit0t0_1 i := by
  have h : i / 128 % 128 < 128 := Nat.mod_lt _ (by decide)
  rw [show i / 128 % 2 = i / 128 % 128 % 2 by omega]
  unfold lit0t1_5
  generalize i / 128 % 128 = r at *
  interval_cases r <;> rfl

theorem rows6 (i : ℕ) : lit0t1_6 i = if i / 128 % 2 = 0 then lit0t0_1 i else lit0t0_512 i := by
  have h : i / 128 % 128 < 128 := Nat.mod_lt _ (by decide)
  rw [show i / 128 % 2 = i / 128 % 128 % 2 by omega]
  unfold lit0t1_6
  generalize i / 128 % 128 = r at *
  interval_cases r <;> rfl

theorem rows7 (i : ℕ) : lit0t1_7 i = if i / 128 % 2 = 0 then lit0t0_1 i else lit0t0_512 i := by
  have h : i / 128 % 128 < 128 := Nat.mod_lt _ (by decide)
  rw [show i / 128 % 2 = i / 128 % 128 % 2 by omega]
  unfold lit0t1_7
  generalize i / 128 % 128 = r at *
  interval_cases r <;> rfl

/-- The first matrix's entries, in the order of its rows: the word of 1/64 within a group. -/
theorem bits64 (d e : Fin 256) : lit0t (256 * d.val + e.val) = if d.val / 64 = e.val / 64 then 0x3C80#16 else 0x0000#16 := by
  have hd := d.isLt
  have he := e.isLt
  have h1 : (256 * d.val + e.val) / 16384 = d.val / 64 := by omega
  have h2 : (256 * d.val + e.val) / 128 % 2 = e.val / 128 := by omega
  have h3 : (256 * d.val + e.val) % 128 = e.val % 128 := by omega
  have h4 : d.val / 64 < 4 := by omega
  unfold lit0t
  rw [h1]
  generalize d.val / 64 = a at *
  interval_cases a <;> simp only [rows0, rows1, rows2, rows3, halfFirst, halfLast, halfNone, h2, h3] <;> split_ifs <;> first | rfl | omega

/-- The second matrix's entries, in the order of its rows: the word of 1/128 within a group. -/
theorem bits128 (d e : Fin 256) : lit0t (65536 + 256 * d.val + e.val) = if d.val / 128 = e.val / 128 then 0x3C00#16 else 0x0000#16 := by
  have hd := d.isLt
  have he := e.isLt
  have h1 : (65536 + 256 * d.val + e.val) / 16384 = 4 + d.val / 64 := by omega
  have h2 : (65536 + 256 * d.val + e.val) / 128 % 2 = e.val / 128 := by omega
  have h3 : d.val / 128 = d.val / 64 / 2 := by omega
  have h4 : d.val / 64 < 4 := by omega
  unfold lit0t
  rw [h1, h3]
  generalize d.val / 64 = a at *
  interval_cases a <;> simp only [Nat.reduceAdd, rows4, rows5, rows6, rows7, halfAll, halfNone, h2] <;> split_ifs <;> first | rfl | omega

/-- 1/64 as a word of sixteen bits. -/
theorem short64 : Ideal.ofBits .bf16 0x3C80#16 = ((1 / 64 : ℝ) : EReal) := by
  simp [Ideal.ofBits, Ideal.ieee, -EReal.coe_mul]; norm_num

/-- 1/128 as a word of sixteen bits. -/
theorem short128 : Ideal.ofBits .bf16 0x3C00#16 = ((1 / 128 : ℝ) : EReal) := by
  simp [Ideal.ofBits, Ideal.ieee, -EReal.coe_mul]; norm_num

/-- Zero as a word of sixteen bits. -/
theorem short0 : Ideal.ofBits .bf16 0x0000#16 = 0 := by
  simp [Ideal.ofBits, Ideal.ieee, -EReal.coe_mul]

/-- The constant array at an index, its entries taken in the order of the rows. -/
theorem lit0_row (j : Fin 2) (d e : Fin 256) : lit0 (S2x256x256.rowMajor (ix3 j d e)) = lit0t (65536 * j.val + 256 * d.val + e.val) := by
  refine congrArg lit0t ((Shape.rowMajor_val_three (d := ![2, 256, 256]) (ix3 j d e)).trans ?_)
  show (j.val * 256 + d.val) * 256 + e.val = _
  omega

/-- The constant array's first matrix has 1/64 where row and column are in one group of 64. -/
theorem lit64_apply (d e : Fin 256) : Ideal.ofBits .bf16 (lit0 (S2x256x256.rowMajor (ix3 (0 : Fin 2) d e))) = if d.val / 64 = e.val / 64 then ((1 / 64 : ℝ) : EReal) else 0 := by
  rw [lit0_row, show 65536 * (0 : Fin 2).val + 256 * d.val + e.val = 256 * d.val + e.val by simp, bits64, ← short64, ← short0, ← apply_ite (Ideal.ofBits .bf16)]

/-- The constant array's second matrix has 1/128 where row and column are in one group of 128. -/
theorem lit128_apply (d e : Fin 256) : Ideal.ofBits .bf16 (lit0 (S2x256x256.rowMajor (ix3 (1 : Fin 2) d e))) = if d.val / 128 = e.val / 128 then ((1 / 128 : ℝ) : EReal) else 0 := by
  rw [lit0_row, show 65536 * (1 : Fin 2).val + 256 * d.val + e.val = 65536 + 256 * d.val + e.val by simp, bits128, ← short128, ← short0, ← apply_ite (Ideal.ofBits .bf16)]

end Cert.Kernel4Ideal.Proj

end
-- ==== Proof.ProjBlocks.lean ====
module

public import proofs.«01_k».proof.Proof.ProjTile
public import proofs.«01_k».proof.Proof.ProjLit
public import proofs.«01_k».proof.Proof.Gen.Kernel4Ideal.Frame
public import Idealize.ShloMosaic.Lib.Pipeline.ValueKit

@[expose] public section

set_option maxRecDepth 16384

noncomputable section

/-! What the projection's grid points are given: the blocks of its arguments. -/

namespace Cert.Kernel4Ideal.Proj

open Idealize.ShloMosaic Cert.Kernel4Ideal Cert.Kernel4Ideal.Gen Idealize.ShloMosaic.TcCoe Idealize.ShloMosaic.Tactic Cert.Merge Cert.Proj

variable (m : (ℓ : Loc nD τ sig) → Buf (Elt Ideal) ℓ)

/-- The projection's arguments, read from the buffers. -/
def argsOf (c : Dev nD) : Cert.Proj.Args 16384 where
  x n k := m ((c.tc : Thread nD τ).loc main_arg0) (ix2 n k)
  g k := m ((c.tc : Thread nD τ).loc main_arg1) (ix1 k)
  w k n := if h : n < 8192 then m ((c.tc : Thread nD τ).loc main_arg2) (ix2 k ⟨n, h⟩) else 0
  gain n := if h : n < 8192 then m ((c.tc : Thread nD τ).loc main_arg3) (ix2 0 ⟨n, h⟩) else 0

/-- The matrix that averages over groups of 64 columns. -/
def seg64 : S256x256.Idx → EReal := fun i => if (i 0).val / 64 = (i 1).val / 64 then ((1 / 64 : ℝ) : EReal) else 0

theorem seg64_apply (d e : Fin 256) : seg64 (ix2 d e) = if d.val / 64 = e.val / 64 then ((1 / 64 : ℝ) : EReal) else 0 := rfl

/-- The matrix that averages over groups of 128 columns. -/
def seg128 : S256x256.Idx → EReal := fun i => if (i 0).val / 128 = (i 1).val / 128 then ((1 / 128 : ℝ) : EReal) else 0

theorem seg128_apply (d e : Fin 256) : seg128 (ix2 d e) = if d.val / 128 = e.val / 128 then ((1 / 128 : ℝ) : EReal) else 0 := rfl

/-- The two averaging matrices, handed in one above the other. -/
theorem V_cst (c : Dev nD) (j : Fin 2) (d e : Fin 256) : V m c main_cst (ix3 j d e) = if j = 0 then seg64 (ix2 d e) else seg128 (ix2 d e) := by
  unfold V
  simp only [StableHlo.after_cons, StableHlo.after_nil]
  rw [StableHlo.reshape_result_ne' (h := by decide), StableHlo.nullary_result']
  rcases (show j = 0 ∨ j = 1 by omega) with rfl | rfl
  · rw [if_pos rfl]
    exact lit64_apply d e
  · rw [if_neg (by decide)]
    exact lit128_apply d e

/-- The norm's weights, handed in. -/
theorem V_v0 (c : Dev nD) (x : Fin 1024) : V m c main_v0 (ix2 0 x) = (argsOf m c).g x := by
  unfold V
  simp only [StableHlo.after_cons, StableHlo.after_nil]
  repeat first
    | rw [StableHlo.nullary_result_ne' (h := by decide)]
    | rw [StableHlo.binary_result_ne' (h := by decide)]
    | rw [StableHlo.unary_result_ne' (h := by decide)]
    | rw [StableHlo.reshape_result_ne' (h := by decide)]
    | rw [StableHlo.unary_result']
    | rw [StableHlo.reshape_result']
  show shapeCast S1x1024 (m ((c.tc : Thread nD τ).loc main_arg1) : S1024.Idx → _) shapeCasts_S1024_S1x1024 (ix2 0 x) = _
  pointwise
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)

/-- The token of row `r` at grid point `t`. -/
def row (t : Fin cfg0.N) (r : Fin 512) : Fin 16384 := ⟨512 * t.val + r.val, by
  have h : t.val < 32 := t.isLt
  omega⟩

theorem blk0 (c : Dev nD) (t : Fin cfg0.N) (r : Fin 512) (k : Fin 1024) : iblk m c 0 t (ix2 r k) = (argsOf m c).x (row t r) k := by
  unfold iblk
  blk_simp
  rw [V_main_arg0]
  refine congrArg (m ((c.tc : Thread nD τ).loc main_arg0)) (funext fun a => Fin.ext ?_)
  fin_cases a <;> blk_simp [idx0 t] <;> first | rfl | (show t.val * 512 + r.val = 512 * t.val + r.val; omega)

theorem blk1 (c : Dev nD) (t : Fin cfg0.N) (k : Fin 1024) : iblk m c 1 t (ix2 0 k) = (argsOf m c).g k := by
  rw [← V_v0 m c]
  unfold iblk
  blk_simp
  refine congrArg (V m c main_v0) (funext fun a => Fin.ext ?_)
  fin_cases a <;> blk_simp [idx1 t]

theorem blk2 (c : Dev nD) (t : Fin cfg0.N) (k : Fin 1024) (n : Fin 8192) : iblk m c 2 t (ix2 k n) = (argsOf m c).w k n.val := by
  unfold iblk
  blk_simp
  rw [V_main_arg2, show (argsOf m c).w k n.val = m ((c.tc : Thread nD τ).loc main_arg2) (ix2 k n) from dif_pos n.isLt]
  refine congrArg (m ((c.tc : Thread nD τ).loc main_arg2)) (funext fun a => Fin.ext ?_)
  fin_cases a <;> blk_simp [idx2 t]

theorem blk3 (c : Dev nD) (t : Fin cfg0.N) (n : Fin 8192) : iblk m c 3 t (ix2 0 n) = (argsOf m c).gain n.val := by
  unfold iblk
  blk_simp
  rw [V_main_arg3, show (argsOf m c).gain n.val = m ((c.tc : Thread nD τ).loc main_arg3) (ix2 0 n) from dif_pos n.isLt]
  refine congrArg (m ((c.tc : Thread nD τ).loc main_arg3)) (funext fun a => Fin.ext ?_)
  fin_cases a <;> blk_simp [idx3 t]

theorem blk4 (c : Dev nD) (t : Fin cfg0.N) (j : Fin 2) (d e : Fin 256) : iblk m c 4 t (ix3 j d e) = if j = 0 then seg64 (ix2 d e) else seg128 (ix2 d e) := by
  rw [← V_cst m c]
  unfold iblk
  blk_simp
  refine congrArg (V m c main_cst) (funext fun a => Fin.ext ?_)
  fin_cases a <;> blk_simp [idx4 t]

end Cert.Kernel4Ideal.Proj

end
-- ==== Proof.ProjArray.lean ====
module

public import proofs.«01_k».proof.Proof.ProjBlocks

@[expose] public section

set_option maxRecDepth 16384

noncomputable section

/-! The projection's result arrays. -/

namespace Cert.Kernel4Ideal.Proj

open Idealize.ShloMosaic Cert.Kernel4Ideal Cert.Kernel4Ideal.Gen Idealize.ShloMosaic.TcCoe Idealize.ShloMosaic.Tactic Cert.Merge Cert.Proj

variable (m : (ℓ : Loc nD τ sig) → Buf (Elt Ideal) ℓ)

/-- The normalised tokens of grid point `t`. -/
abbrev toks (c : Dev nD) (t : Fin cfg0.N) : Vec Ideal S512x1024 .bf16 :=
  k0_pay2 (F := Ideal) (View.ld (iblk m c 0 t) r0_0) (View.ld (iblk m c 1 t) r0_1)

/-- The weights' 256 columns from `off` on. -/
abbrev cols (c : Dev nD) (t : Fin cfg0.N) (off : ℕ) (hb : ∀ a, (![0, off] : Fin 2 → ℕ) a + S1024x256.size a ≤ S1024x8192.size a) : Vec Ideal S1024x256 .bf16 :=
  View.ld (iblk m c 2 t) (Rect.unit (s := S1024x8192) ![0, off] S1024x256.size hb)

/-- The gains' 256 columns from `off` on. -/
abbrev gains (c : Dev nD) (t : Fin cfg0.N) (off : ℕ) (hb : ∀ a, (![0, off] : Fin 2 → ℕ) a + S1x256.size a ≤ S1x8192.size a) : Vec Ideal S1x256 .f32 :=
  View.ld (iblk m c 3 t) (Rect.unit (s := S1x8192) ![0, off] S1x256.size hb)

theorem toks_apply (c : Dev nD) (t : Fin cfg0.N) (r : Fin 512) (k : Fin 1024) : toks m c t (ix2 r k) = hrow ((argsOf m c).x (row t r)) (argsOf m c).g k := by
  have e0 : (View.ld (iblk m c 0 t) r0_0 : Vec Ideal S512x1024 .f32) = iblk m c 0 t := by
    funext x
    exact View.ld_unit_apply_of _ _ _ _ x x (fun a => by fin_cases a <;> simp)
  have e1 : (View.ld (iblk m c 1 t) r0_1 : Vec Ideal S1x1024 .f32) = iblk m c 1 t := by
    funext x
    exact View.ld_unit_apply_of _ _ _ _ x x (fun a => by fin_cases a <;> simp)
  unfold toks
  rw [e0, e1, pay2_apply]
  simp only [blk0, blk1]

theorem cols_apply (c : Dev nD) (t : Fin cfg0.N) (off : ℕ) (hb) (hoff : off + 256 ≤ 8192) (k : Fin 1024) (d : Fin 256) :
    cols m c t off hb (ix2 k d) = (argsOf m c).w k (off + d.val) := by
  refine (View.ld_unit_apply_of _ _ _ _ (ix2 k d) (ix2 k ⟨off + d.val, by omega⟩) (fun a => by fin_cases a <;> simp)).trans ?_
  exact blk2 m c t k _

theorem gains_apply (c : Dev nD) (t : Fin cfg0.N) (off : ℕ) (hb) (hoff : off + 256 ≤ 8192) (d : Fin 256) :
    gains m c t off hb (ix2 0 d) = (argsOf m c).gain (off + d.val) := by
  refine (View.ld_unit_apply_of _ _ _ _ (ix2 0 d) (ix2 0 ⟨off + d.val, by omega⟩) (fun a => by fin_cases a <;> simp)).trans ?_
  exact blk3 m c t _

theorem mat_apply (c : Dev nD) (t : Fin cfg0.N) (d e : Fin 256) : (View.ld (iblk m c 4 t) r0_3 : Vec Ideal S1x256x256 .bf16) (ix3 0 d e) = seg64 (ix2 d e) := by
  refine (View.ld_unit_apply_of _ ![0, 0, 0] _ _ (ix3 (0 : Fin 1) d e) (ix3 (0 : Fin 2) d e : S2x256x256.Idx) (fun a => by fin_cases a <;> simp)).trans ?_
  exact blk4 m c t 0 d e

theorem mat_apply' (c : Dev nD) (t : Fin cfg0.N) (d e : Fin 256) : (View.ld (iblk m c 4 t) r0_83 : Vec Ideal S1x256x256 .bf16) (ix3 0 d e) = seg128 (ix2 d e) := by
  refine (View.ld_unit_apply_of _ ![1, 0, 0] _ _ (ix3 (0 : Fin 1) d e) (ix3 (1 : Fin 2) d e : S2x256x256.Idx) (fun a => by fin_cases a <;> simp)).trans ?_
  exact blk4 m c t 1 d e

/-- A column of the tile at `off`. -/
theorem y_tile (c : Dev nD) (t : Fin cfg0.N) (off : ℕ) (hb) (hoff : off + 256 ≤ 8192) (r : Fin 512) (d : Fin 256) :
    ∑ k, toks m c t (ix2 r k) * cols m c t off hb (ix2 k d) = (argsOf m c).y (row t r) (off + d.val) :=
  Finset.sum_congr rfl fun k _ => by rw [toks_apply, cols_apply m c t off hb hoff]

/-- A tile that takes no norm holds its columns of the result. -/
theorem tile_plain (c : Dev nD) (t : Fin cfg0.N) (off : ℕ) (hb) (hoff : off + 256 ≤ 8192) (hd : off % 256 = 0) (hm : mode (off / 256) = 0)
    (x : S512x256.Idx) (n : Fin 512) (j : ℕ) (hn : n.val = (x 0).val) (hj : j = off + (x 1).val) :
    k0_pay11 (F := Ideal) (toks m c t) (cols m c t off hb) x = (argsOf m c).z (row t n) j := by
  obtain ⟨r, d, rfl⟩ : ∃ (r : Fin 512) (d : Fin 256), x = ix2 r d := ⟨x 0, x 1, by funext a; fin_cases a <;> rfl⟩
  obtain rfl : n = r := Fin.ext hn
  have hj' : j = off + d.val := hj
  have hq : j / 256 = off / 256 := by omega
  rw [pay11_apply, y_tile m c t off hb hoff, Args.z, hq, if_pos hm, hj']

/-- The mean of squares over a group, from the averaging matrix. -/
theorem mean_tile (n : ℕ) (len : ℝ) (hl : 0 < len) (k : ℕ) (hk : k * n = 256) (hn : 0 < n) (s : Fin 256 → Fin 256 → EReal)
    (hs : ∀ d e, s d e = if d.val / n = e.val / n then ((1 / len : ℝ) : EReal) else 0) (Y : ℕ → EReal) (off : ℕ) (hd : off % 256 = 0) (d : Fin 256) :
    ∑ e : Fin 256, Y (off + e.val) * Y (off + e.val) * s e d
      = Ideal.div (∑ e : Fin n, Y (n * ((off + d.val) / n) + e.val) * Y (n * ((off + d.val) / n) + e.val)) (len : EReal) := by
  simp only [hs]
  have hq : d.val / n < k := Nat.div_lt_of_lt_mul (by rw [mul_comm, hk]; exact d.isLt)
  have h := mean_group k n (d.val / n) hq len hl (fun e => Y (off + e) * Y (off + e))
  rw [hk] at h
  rw [h]
  have ho : off = n * (k * (off / 256)) := by
    rw [← mul_assoc, mul_comm n k, hk]; omega
  have hc : (off + d.val) / n = k * (off / 256) + d.val / n := by
    conv_lhs => rw [ho]
    rw [Nat.mul_add_div hn]
  refine congrArg (fun u => Ideal.div u (len : EReal)) (Finset.sum_congr rfl fun e _ => ?_)
  have he : off + (n * (d.val / n) + e.val) = n * ((off + d.val) / n) + e.val := by
    rw [hc, mul_add, ← ho, add_assoc]
  show Y (off + (n * (d.val / n) + e.val)) * Y (off + (n * (d.val / n) + e.val)) = _
  rw [he]

/-- A tile normalised in groups of 64 holds its columns of the result. -/
theorem tile_64 (c : Dev nD) (t : Fin cfg0.N) (off : ℕ) (hb hb') (hoff : off + 256 ≤ 8192) (hd : off % 256 = 0) (hm : mode (off / 256) = 1)
    (x : S512x256.Idx) (n : Fin 512) (j : ℕ) (hn : n.val = (x 0).val) (hj : j = off + (x 1).val) :
    k0_pay7 (F := Ideal) (toks m c t) (cols m c t off hb) (View.ld (iblk m c 4 t) r0_3) (gains m c t off hb') x = (argsOf m c).z (row t n) j := by
  obtain ⟨r, d, rfl⟩ : ∃ (r : Fin 512) (d : Fin 256), x = ix2 r d := ⟨x 0, x 1, by funext a; fin_cases a <;> rfl⟩
  obtain rfl : n = r := Fin.ext hn
  have hj' : j = off + d.val := hj
  have hq : j / 256 = off / 256 := by omega
  rw [pay7_apply _ _ _ _ (fun d => (argsOf m c).y (row t n) (off + d.val)) n (fun d => y_tile m c t off hb hoff n d), gains_apply m c t off hb' hoff,
    Args.z, hq, hm, if_neg (by decide), if_pos rfl, nrm, lit64,
    mean_tile 64 64 (by norm_num) 4 rfl (by norm_num) _ (fun d e => (mat_apply m c t d e).trans (seg64_apply d e)) ((argsOf m c).y (row t n)) off hd d, hj']

/-- A tile normalised in groups of 128 holds its columns of the result. -/
theorem tile_128 (c : Dev nD) (t : Fin cfg0.N) (off : ℕ) (hb hb') (hoff : off + 256 ≤ 8192) (hd : off % 256 = 0) (hm : mode (off / 256) = 2)
    (x : S512x256.Idx) (n : Fin 512) (j : ℕ) (hn : n.val = (x 0).val) (hj : j = off + (x 1).val) :
    k0_pay7 (F := Ideal) (toks m c t) (cols m c t off hb) (View.ld (iblk m c 4 t) r0_83) (gains m c t off hb') x = (argsOf m c).z (row t n) j := by
  obtain ⟨r, d, rfl⟩ : ∃ (r : Fin 512) (d : Fin 256), x = ix2 r d := ⟨x 0, x 1, by funext a; fin_cases a <;> rfl⟩
  obtain rfl : n = r := Fin.ext hn
  have hj' : j = off + d.val := hj
  have hq : j / 256 = off / 256 := by omega
  rw [pay7_apply _ _ _ _ (fun d => (argsOf m c).y (row t n) (off + d.val)) n (fun d => y_tile m c t off hb hoff n d), gains_apply m c t off hb' hoff,
    Args.z, hq, hm, if_neg (by decide), if_neg (by decide), nrm, lit128,
    mean_tile 128 128 (by norm_num) 2 rfl (by norm_num) _ (fun d e => (mat_apply' m c t d e).trans (seg128_apply d e)) ((argsOf m c).y (row t n)) off hd d, hj']

/-- What a grid point leaves in the first output's block. -/
theorem out5 (c : Dev nD) (t : Fin cfg0.N) (y : S512x1536.Idx) :
    out0_5 (F := Ideal) (iblk m c 0 t) (iblk m c 1 t) (iblk m c 2 t) (iblk m c 3 t) (iblk m c 4 t) y = (argsOf m c).z (row t (y 0)) (0 + (y 1).val) := by
  canon_tiles x h using Gen.cover0_5 ..
  · exact tile_plain m c t 1280 (by decide) (by decide) (by decide) (by decide) x _ _ (by assumption) (by omega)
  · exact tile_plain m c t 1024 (by decide) (by decide) (by decide) (by decide) x _ _ (by assumption) (by omega)
  · exact tile_64 m c t 768 (by decide) (by decide) (by decide) (by decide) (by decide) x _ _ (by assumption) (by omega)
  · exact tile_64 m c t 512 (by decide) (by decide) (by decide) (by decide) (by decide) x _ _ (by assumption) (by omega)
  · exact tile_64 m c t 256 (by decide) (by decide) (by decide) (by decide) (by decide) x _ _ (by assumption) (by omega)
  · exact tile_64 m c t 0 (by decide) (by decide) (by decide) (by decide) (by decide) x _ _ (by assumption) (by omega)

/-- The first result array, from column 0 of the projection on. -/
def G5 (A : Cert.Proj.Args 16384) : S16384x1536.Idx → EReal := fun i => A.z (i 0) (0 + (i 1).val)

theorem arr5 (c : Dev nD) : (dats m 0 c).arrAt 5 cfg0.N = G5 (argsOf m c) := by
  refine (dats m 0 c).arrAt_eq_of_covers 5 _ (by decide +kernel) fun t hf y => ?_
  have ht : t.val < 32 := t.isLt
  blk_simp
  rw [after0_5, out5]
  have f0 : ((win0_5.blk t).view.emb y 0).val = t.val * 512 + (y 0).val := by blk_simp [idx5]
  have f1 : ((win0_5.blk t).view.emb y 1).val = (y 1).val := by blk_simp [idx5]
  unfold G5
  refine congrArg₂ (argsOf m c).z (Fin.ext ?_) ?_
  · rw [f0]
    show 512 * t.val + (y 0).val = _
    omega
  · rw [f1]

/-- What a grid point leaves in the second output's block. -/
theorem out6 (c : Dev nD) (t : Fin cfg0.N) (y : S512x512.Idx) :
    out0_6 (F := Ideal) (iblk m c 0 t) (iblk m c 1 t) (iblk m c 2 t) (iblk m c 3 t) (iblk m c 4 t) y = (argsOf m c).z (row t (y 0)) (1536 + (y 1).val) := by
  canon_tiles x h using Gen.cover0_6 ..
  · exact tile_plain m c t 1792 (by decide) (by decide) (by decide) (by decide) x _ _ (by assumption) (by omega)
  · exact tile_plain m c t 1536 (by decide) (by decide) (by decide) (by decide) x _ _ (by assumption) (by omega)

/-- The second result array, from column 1536 of the projection on. -/
def G6 (A : Cert.Proj.Args 16384) : S16384x512.Idx → EReal := fun i => A.z (i 0) (1536 + (i 1).val)

theorem arr6 (c : Dev nD) : (dats m 0 c).arrAt 6 cfg0.N = G6 (argsOf m c) := by
  refine (dats m 0 c).arrAt_eq_of_covers 6 _ (by decide +kernel) fun t hf y => ?_
  have ht : t.val < 32 := t.isLt
  blk_simp
  rw [after0_6, out6]
  have f0 : ((win0_6.blk t).view.emb y 0).val = t.val * 512 + (y 0).val := by blk_simp [idx6]
  have f1 : ((win0_6.blk t).view.emb y 1).val = (y 1).val := by blk_simp [idx6]
  unfold G6
  refine congrArg₂ (argsOf m c).z (Fin.ext ?_) ?_
  · rw [f0]
    show 512 * t.val + (y 0).val = _
    omega
  · rw [f1]

/-- What a grid point leaves in the third output's block. -/
theorem out7 (c : Dev nD) (t : Fin cfg0.N) (y : S512x1024.Idx) :
    out0_7 (F := Ideal) (iblk m c 0 t) (iblk m c 1 t) (iblk m c 2 t) (iblk m c 3 t) (iblk m c 4 t) y = (argsOf m c).z (row t (y 0)) (2048 + (y 1).val) := by
  canon_tiles x h using Gen.cover0_7 ..
  · exact tile_plain m c t 2816 (by decide) (by decide) (by decide) (by decide) x _ _ (by assumption) (by omega)
  · exact tile_64 m c t 2560 (by decide) (by decide) (by decide) (by decide) (by decide) x _ _ (by assumption) (by omega)
  · exact tile_64 m c t 2304 (by decide) (by decide) (by decide) (by decide) (by decide) x _ _ (by assumption) (by omega)
  · exact tile_64 m c t 2048 (by decide) (by decide) (by decide) (by decide) (by decide) x _ _ (by assumption) (by omega)

/-- The third result array, from column 2048 of the projection on. -/
def G7 (A : Cert.Proj.Args 16384) : S16384x1024.Idx → EReal := fun i => A.z (i 0) (2048 + (i 1).val)

theorem arr7 (c : Dev nD) : (dats m 0 c).arrAt 7 cfg0.N = G7 (argsOf m c) := by
  refine (dats m 0 c).arrAt_eq_of_covers 7 _ (by decide +kernel) fun t hf y => ?_
  have ht : t.val < 32 := t.isLt
  blk_simp
  rw [after0_7, out7]
  have f0 : ((win0_7.blk t).view.emb y 0).val = t.val * 512 + (y 0).val := by blk_simp [idx7]
  have f1 : ((win0_7.blk t).view.emb y 1).val = (y 1).val := by blk_simp [idx7]
  unfold G7
  refine congrArg₂ (argsOf m c).z (Fin.ext ?_) ?_
  · rw [f0]
    show 512 * t.val + (y 0).val = _
    omega
  · rw [f1]

/-- What a grid point leaves in the fourth output's block. -/
theorem out8 (c : Dev nD) (t : Fin cfg0.N) (y : S512x4608.Idx) :
    out0_8 (F := Ideal) (iblk m c 0 t) (iblk m c 1 t) (iblk m c 2 t) (iblk m c 3 t) (iblk m c 4 t) y = (argsOf m c).z (row t (y 0)) (3072 + (y 1).val) := by
  canon_tiles x h using Gen.cover0_8 ..
  · exact tile_plain m c t 7424 (by decide) (by decide) (by decide) (by decide) x _ _ (by assumption) (by omega)
  · exact tile_plain m c t 7168 (by decide) (by decide) (by decide) (by decide) x _ _ (by assumption) (by omega)
  · exact tile_64 m c t 6912 (by decide) (by decide) (by decide) (by decide) (by decide) x _ _ (by assumption) (by omega)
  · exact tile_64 m c t 6656 (by decide) (by decide) (by decide) (by decide) (by decide) x _ _ (by assumption) (by omega)
  · exact tile_64 m c t 6400 (by decide) (by decide) (by decide) (by decide) (by decide) x _ _ (by assumption) (by omega)
  · exact tile_64 m c t 6144 (by decide) (by decide) (by decide) (by decide) (by decide) x _ _ (by assumption) (by omega)
  · exact tile_plain m c t 5888 (by decide) (by decide) (by decide) (by decide) x _ _ (by assumption) (by omega)
  · exact tile_plain m c t 5632 (by decide) (by decide) (by decide) (by decide) x _ _ (by assumption) (by omega)
  · exact tile_64 m c t 5376 (by decide) (by decide) (by decide) (by decide) (by decide) x _ _ (by assumption) (by omega)
  · exact tile_64 m c t 5120 (by decide) (by decide) (by decide) (by decide) (by decide) x _ _ (by assumption) (by omega)
  · exact tile_64 m c t 4864 (by decide) (by decide) (by decide) (by decide) (by decide) x _ _ (by assumption) (by omega)
  · exact tile_64 m c t 4608 (by decide) (by decide) (by decide) (by decide) (by decide) x _ _ (by assumption) (by omega)
  · exact tile_plain m c t 4352 (by decide) (by decide) (by decide) (by decide) x _ _ (by assumption) (by omega)
  · exact tile_plain m c t 4096 (by decide) (by decide) (by decide) (by decide) x _ _ (by assumption) (by omega)
  · exact tile_64 m c t 3840 (by decide) (by decide) (by decide) (by decide) (by decide) x _ _ (by assumption) (by omega)
  · exact tile_64 m c t 3584 (by decide) (by decide) (by decide) (by decide) (by decide) x _ _ (by assumption) (by omega)
  · exact tile_64 m c t 3328 (by decide) (by decide) (by decide) (by decide) (by decide) x _ _ (by assumption) (by omega)
  · exact tile_64 m c t 3072 (by decide) (by decide) (by decide) (by decide) (by decide) x _ _ (by assumption) (by omega)

/-- The fourth result array, from column 3072 of the projection on. -/
def G8 (A : Cert.Proj.Args 16384) : S16384x4608.Idx → EReal := fun i => A.z (i 0) (3072 + (i 1).val)

theorem arr8 (c : Dev nD) : (dats m 0 c).arrAt 8 cfg0.N = G8 (argsOf m c) := by
  refine (dats m 0 c).arrAt_eq_of_covers 8 _ (by decide +kernel) fun t hf y => ?_
  have ht : t.val < 32 := t.isLt
  blk_simp
  rw [after0_8, out8]
  have f0 : ((win0_8.blk t).view.emb y 0).val = t.val * 512 + (y 0).val := by blk_simp [idx8]
  have f1 : ((win0_8.blk t).view.emb y 1).val = (y 1).val := by blk_simp [idx8]
  unfold G8
  refine congrArg₂ (argsOf m c).z (Fin.ext ?_) ?_
  · rw [f0]
    show 512 * t.val + (y 0).val = _
    omega
  · rw [f1]

/-- What a grid point leaves in the fifth output's block. -/
theorem out9 (c : Dev nD) (t : Fin cfg0.N) (y : S512x512.Idx) :
    out0_9 (F := Ideal) (iblk m c 0 t) (iblk m c 1 t) (iblk m c 2 t) (iblk m c 3 t) (iblk m c 4 t) y = (argsOf m c).z (row t (y 0)) (7680 + (y 1).val) := by
  canon_tiles x h using Gen.cover0_9 ..
  · exact tile_128 m c t 7936 (by decide) (by decide) (by decide) (by decide) (by decide) x _ _ (by assumption) (by omega)
  · exact tile_128 m c t 7680 (by decide) (by decide) (by decide) (by decide) (by decide) x _ _ (by assumption) (by omega)

/-- The fifth result array, from column 7680 of the projection on. -/
def G9 (A : Cert.Proj.Args 16384) : S16384x512.Idx → EReal := fun i => A.z (i 0) (7680 + (i 1).val)

theorem arr9 (c : Dev nD) : (dats m 0 c).arrAt 9 cfg0.N = G9 (argsOf m c) := by
  refine (dats m 0 c).arrAt_eq_of_covers 9 _ (by decide +kernel) fun t hf y => ?_
  have ht : t.val < 32 := t.isLt
  blk_simp
  rw [after0_9, out9]
  have f0 : ((win0_9.blk t).view.emb y 0).val = t.val * 512 + (y 0).val := by blk_simp [idx9]
  have f1 : ((win0_9.blk t).view.emb y 1).val = (y 1).val := by blk_simp [idx9]
  unfold G9
  refine congrArg₂ (argsOf m c).z (Fin.ext ?_) ?_
  · rw [f0]
    show 512 * t.val + (y 0).val = _
    omega
  · rw [f1]

end Cert.Kernel4Ideal.Proj

end
-- ==== Proof.ProjRef.lean ====
module

public import proofs.«01_k».proof.Proof.ProjSpec
public import proofs.«01_k».proof.Proof.Gen.Reference4Ideal.Read
public import Idealize.ShloMosaic.Lib.Pointwise
public import Idealize.ShloMosaic.Lib.Pointwise.Tactic

@[expose] public section

set_option maxRecDepth 16384

noncomputable section

/-! The projection's reference, read at an index. -/

namespace Cert.Reference4Ideal.Proj

open Idealize.ShloMosaic Cert.Reference4Ideal Cert.Reference4Ideal.Gen Cert.Reference4Ideal.Read Idealize.ShloMosaic.TcCoe Idealize.ShloMosaic.Tactic Cert.Merge Cert.Proj

/-- A column of the result that takes no norm. -/
theorem z_plain (A : Cert.Proj.Args 16384) (r : Fin 16384) (c : ℕ) (h : mode (c / 256) = 0) : A.y r c = A.z r c := by
  rw [Args.z, if_pos h]

/-- A column of the result that is normalised in a group of 64. -/
theorem z_64 (A : Cert.Proj.Args 16384) (r : Fin 16384) (c : ℕ) (h : mode (c / 256) = 1) :
    nrm 64 (Ideal.ofBits .f32 0x42800000#32) (A.y r) (A.gain c) c = A.z r c := by
  rw [Args.z, h, if_neg (by decide), if_pos rfl]

/-- A column of the result that is normalised in a group of 128. -/
theorem z_128 (A : Cert.Proj.Args 16384) (r : Fin 16384) (c : ℕ) (h : mode (c / 256) = 2) :
    nrm 128 (Ideal.ofBits .f32 0x43000000#32) (A.y r) (A.gain c) c = A.z r c := by
  rw [Args.z, h, if_neg (by decide), if_neg (by decide)]

variable (x0 : (⟨S16384x1024, .f32⟩ : BufTy).Contents (Elt Ideal)) (x1 : (⟨S1024, .f32⟩ : BufTy).Contents (Elt Ideal))
  (x2 : (⟨S1024x8192, .bf16⟩ : BufTy).Contents (Elt Ideal)) (x3 : (⟨S1x8192, .f32⟩ : BufTy).Contents (Elt Ideal)) (A : Cert.Proj.Args 16384)

/-- The arguments' buffers hold `A`. -/
structure Holds : Prop where
  x : ∀ i, x0 i = A.x (i 0) (i 1)
  g : ∀ i, x1 i = A.g (i 0)
  w : ∀ i, x2 i = A.w (i 0) (i 1).val
  gain : ∀ i, x3 i = A.gain (i 1).val

variable (H : Holds x0 x1 x2 x3 A)
include H

/-- The normalised tokens. -/
theorem h_read (i : S16384x1024.Idx) : val_main_v12 x0 x1 i = hrow (A.x (i 0)) A.g (i 1) := by
  rw [val_main_v12_apply, val_main_v9_apply, val_main_v8_apply, val_main_v7_apply, val_main_v6_apply, val_main_v5_apply, val_main_v4_apply,
    val_main_v3_apply, val_main_v2_apply, val_main_v1_apply, val_main_v11_apply, val_main_v10_apply, H.x, H.g,
    show val_main_cst (F := Ideal) (Shape.Idx.first h_S_) = 0 from Ideal.ofBits_zero_f32, zero_add]
  simp only [val_main_v0_apply, H.x]
  rfl

/-- The product with the weights. -/
theorem y_read (i : S16384x8192.Idx) : val_main_v14 x0 x1 x2 i = A.y (i 0) (i 1).val := by
  rw [val_main_v14_apply]
  refine Finset.sum_congr rfl fun x _ => ?_
  rw [h_read x0 x1 x2 x3 A H, val_main_v13_apply, H.w]
  rfl

/-- Columns 0 to 1024 in groups of 64. -/
theorem r_read0 (i : S16384x16x64.Idx) : val_main_v16 x0 x1 x2 i = A.y (i 0) (0 + 64 * (i 1).val + (i 2).val) := by
  have h0 : (i 0).val < 16384 := (i 0).isLt
  have h1 : (i 1).val < 16 := (i 1).isLt
  have h2 : (i 2).val < 64 := (i 2).isLt
  rw [val_main_v16_apply, val_main_v15_apply, y_read x0 x1 x2 x3 A H]
  refine congrArg₂ A.y (Fin.ext ?_) ?_
  · show (((i 0).val * 16 + (i 1).val) * 64 + (i 2).val) / 1024 = (i 0).val
    omega
  · show (((i 0).val * 16 + (i 1).val) * 64 + (i 2).val) % 1024 = 0 + 64 * (i 1).val + (i 2).val
    omega

/-- The gains of columns 0 to 1024. -/
theorem g_read0 (i : S16384x1024.Idx) : val_main_v29 x3 i = A.gain (0 + (i 1).val) := by
  rw [val_main_v29_apply, val_main_v28_apply, H.gain]
  refine congrArg A.gain ?_
  show (i 1).val = 0 + (i 1).val
  omega

/-- Columns 0 to 1024 of the result, normalised in groups of 64. -/
theorem n_read0 (i : S16384x1024.Idx) : val_main_v30 x0 x1 x2 x3 i = A.z (i 0) (0 + (i 1).val) := by
  have h0 : (i 0).val < 16384 := (i 0).isLt
  have h1 : (i 1).val < 1024 := (i 1).isLt
  have e : idx_main_v27 i = ix3 (⟨(i 0).val, h0⟩ : Fin 16384) (⟨(i 1).val / 64, by omega⟩ : Fin 16) (⟨(i 1).val % 64, by omega⟩ : Fin 64) := by
    funext a
    refine Fin.ext ?_
    fin_cases a
    · show ((i 0).val * 1024 + (i 1).val) / 1024 = (i 0).val
      omega
    · show ((i 0).val * 1024 + (i 1).val) / 64 % 16 = (i 1).val / 64
      omega
    · show ((i 0).val * 1024 + (i 1).val) % 64 = (i 1).val % 64
      omega
  rw [val_main_v30_apply, g_read0 x0 x1 x2 x3 A H, val_main_v27_apply, e, val_main_v26_apply, val_main_v25_apply, val_main_v24_apply, val_main_v23_apply, val_main_v21_apply,
    val_main_v19_apply, val_main_v18_apply, val_main_v20_apply, val_main_v22_apply, r_read0 x0 x1 x2 x3 A H,
    show val_main_cst_2 (F := Ideal) (Shape.Idx.first h_S_) = 0 from Ideal.ofBits_zero_f32, zero_add (M := EReal)]
  simp only [val_main_v17_apply, r_read0 x0 x1 x2 x3 A H]
  have hq : 0 + 64 * ((i 1).val / 64) = 64 * ((0 + (i 1).val) / 64) := by omega
  have hc : 0 + 64 * ((i 1).val / 64) + (i 1).val % 64 = 0 + (i 1).val := by omega
  refine Eq.trans ?_ (z_64 A (i 0) (0 + (i 1).val) (by unfold mode; split_ifs <;> omega))
  show A.y (i 0) (0 + 64 * ((i 1).val / 64) + (i 1).val % 64)
      * Ideal.rsqrt (Ideal.div (∑ k : Fin 64, A.y (i 0) (0 + 64 * ((i 1).val / 64) + k.val) * A.y (i 0) (0 + 64 * ((i 1).val / 64) + k.val))
          (Ideal.ofBits .f32 0x42800000#32) + eps) * A.gain (0 + (i 1).val) = _
  rw [hc, hq]
  rfl

/-- Columns 2048 to 2816 in groups of 64. -/
theorem r_read2048 (i : S16384x12x64.Idx) : val_main_v35 x0 x1 x2 i = A.y (i 0) (2048 + 64 * (i 1).val + (i 2).val) := by
  have h0 : (i 0).val < 16384 := (i 0).isLt
  have h1 : (i 1).val < 12 := (i 1).isLt
  have h2 : (i 2).val < 64 := (i 2).isLt
  rw [val_main_v35_apply, val_main_v34_apply, y_read x0 x1 x2 x3 A H]
  refine congrArg₂ A.y (Fin.ext ?_) ?_
  · show (((i 0).val * 12 + (i 1).val) * 64 + (i 2).val) / 768 = (i 0).val
    omega
  · show 2048 + (((i 0).val * 12 + (i 1).val) * 64 + (i 2).val) % 768 = 2048 + 64 * (i 1).val + (i 2).val
    omega

/-- The gains of columns 2048 to 2816. -/
theorem g_read2048 (i : S16384x768.Idx) : val_main_v48 x3 i = A.gain (2048 + (i 1).val) := by
  rw [val_main_v48_apply, val_main_v47_apply, H.gain]

/-- Columns 2048 to 2816 of the result, normalised in groups of 64. -/
theorem n_read2048 (i : S16384x768.Idx) : val_main_v49 x0 x1 x2 x3 i = A.z (i 0) (2048 + (i 1).val) := by
  have h0 : (i 0).val < 16384 := (i 0).isLt
  have h1 : (i 1).val < 768 := (i 1).isLt
  have e : idx_main_v46 i = ix3 (⟨(i 0).val, h0⟩ : Fin 16384) (⟨(i 1).val / 64, by omega⟩ : Fin 12) (⟨(i 1).val % 64, by omega⟩ : Fin 64) := by
    funext a
    refine Fin.ext ?_
    fin_cases a
    · show ((i 0).val * 768 + (i 1).val) / 768 = (i 0).val
      omega
    · show ((i 0).val * 768 + (i 1).val) / 64 % 12 = (i 1).val / 64
      omega
    · show ((i 0).val * 768 + (i 1).val) % 64 = (i 1).val % 64
      omega
  rw [val_main_v49_apply, g_read2048 x0 x1 x2 x3 A H, val_main_v46_apply, e, val_main_v45_apply, val_main_v44_apply, val_main_v43_apply, val_main_v42_apply, val_main_v40_apply,
    val_main_v38_apply, val_main_v37_apply, val_main_v39_apply, val_main_v41_apply, r_read2048 x0 x1 x2 x3 A H,
    show val_main_cst_5 (F := Ideal) (Shape.Idx.first h_S_) = 0 from Ideal.ofBits_zero_f32, zero_add (M := EReal)]
  simp only [val_main_v36_apply, r_read2048 x0 x1 x2 x3 A H]
  have hq : 2048 + 64 * ((i 1).val / 64) = 64 * ((2048 + (i 1).val) / 64) := by omega
  have hc : 2048 + 64 * ((i 1).val / 64) + (i 1).val % 64 = 2048 + (i 1).val := by omega
  refine Eq.trans ?_ (z_64 A (i 0) (2048 + (i 1).val) (by unfold mode; split_ifs <;> omega))
  show A.y (i 0) (2048 + 64 * ((i 1).val / 64) + (i 1).val % 64)
      * Ideal.rsqrt (Ideal.div (∑ k : Fin 64, A.y (i 0) (2048 + 64 * ((i 1).val / 64) + k.val) * A.y (i 0) (2048 + 64 * ((i 1).val / 64) + k.val))
          (Ideal.ofBits .f32 0x42800000#32) + eps) * A.gain (2048 + (i 1).val) = _
  rw [hc, hq]
  rfl

/-- Columns 3072 to 4096 in groups of 64. -/
theorem r_read3072 (i : S16384x16x64.Idx) : val_main_v53 x0 x1 x2 i = A.y (i 0) (3072 + 64 * (i 1).val + (i 2).val) := by
  have h0 : (i 0).val < 16384 := (i 0).isLt
  have h1 : (i 1).val < 16 := (i 1).isLt
  have h2 : (i 2).val < 64 := (i 2).isLt
  rw [val_main_v53_apply, val_main_v52_apply, y_read x0 x1 x2 x3 A H]
  refine congrArg₂ A.y (Fin.ext ?_) ?_
  · show (((i 0).val * 16 + (i 1).val) * 64 + (i 2).val) / 1024 = (i 0).val
    omega
  · show 3072 + (((i 0).val * 16 + (i 1).val) * 64 + (i 2).val) % 1024 = 3072 + 64 * (i 1).val + (i 2).val
    omega

/-- The gains of columns 3072 to 4096. -/
theorem g_read3072 (i : S16384x1024.Idx) : val_main_v66 x3 i = A.gain (3072 + (i 1).val) := by
  rw [val_main_v66_apply, val_main_v65_apply, H.gain]

/-- Columns 3072 to 4096 of the result, normalised in groups of 64. -/
theorem n_read3072 (i : S16384x1024.Idx) : val_main_v67 x0 x1 x2 x3 i = A.z (i 0) (3072 + (i 1).val) := by
  have h0 : (i 0).val < 16384 := (i 0).isLt
  have h1 : (i 1).val < 1024 := (i 1).isLt
  have e : idx_main_v64 i = ix3 (⟨(i 0).val, h0⟩ : Fin 16384) (⟨(i 1).val / 64, by omega⟩ : Fin 16) (⟨(i 1).val % 64, by omega⟩ : Fin 64) := by
    funext a
    refine Fin.ext ?_
    fin_cases a
    · show ((i 0).val * 1024 + (i 1).val) / 1024 = (i 0).val
      omega
    · show ((i 0).val * 1024 + (i 1).val) / 64 % 16 = (i 1).val / 64
      omega
    · show ((i 0).val * 1024 + (i 1).val) % 64 = (i 1).val % 64
      omega
  rw [val_main_v67_apply, g_read3072 x0 x1 x2 x3 A H, val_main_v64_apply, e, val_main_v63_apply, val_main_v62_apply, val_main_v61_apply, val_main_v60_apply, val_main_v58_apply,
    val_main_v56_apply, val_main_v55_apply, val_main_v57_apply, val_main_v59_apply, r_read3072 x0 x1 x2 x3 A H,
    show val_main_cst_8 (F := Ideal) (Shape.Idx.first h_S_) = 0 from Ideal.ofBits_zero_f32, zero_add (M := EReal)]
  simp only [val_main_v54_apply, r_read3072 x0 x1 x2 x3 A H]
  have hq : 3072 + 64 * ((i 1).val / 64) = 64 * ((3072 + (i 1).val) / 64) := by omega
  have hc : 3072 + 64 * ((i 1).val / 64) + (i 1).val % 64 = 3072 + (i 1).val := by omega
  refine Eq.trans ?_ (z_64 A (i 0) (3072 + (i 1).val) (by unfold mode; split_ifs <;> omega))
  show A.y (i 0) (3072 + 64 * ((i 1).val / 64) + (i 1).val % 64)
      * Ideal.rsqrt (Ideal.div (∑ k : Fin 64, A.y (i 0) (3072 + 64 * ((i 1).val / 64) + k.val) * A.y (i 0) (3072 + 64 * ((i 1).val / 64) + k.val))
          (Ideal.ofBits .f32 0x42800000#32) + eps) * A.gain (3072 + (i 1).val) = _
  rw [hc, hq]
  rfl

/-- Columns 4608 to 5632 in groups of 64. -/
theorem r_read4608 (i : S16384x16x64.Idx) : val_main_v70 x0 x1 x2 i = A.y (i 0) (4608 + 64 * (i 1).val + (i 2).val) := by
  have h0 : (i 0).val < 16384 := (i 0).isLt
  have h1 : (i 1).val < 16 := (i 1).isLt
  have h2 : (i 2).val < 64 := (i 2).isLt
  rw [val_main_v70_apply, val_main_v69_apply, y_read x0 x1 x2 x3 A H]
  refine congrArg₂ A.y (Fin.ext ?_) ?_
  · show (((i 0).val * 16 + (i 1).val) * 64 + (i 2).val) / 1024 = (i 0).val
    omega
  · show 4608 + (((i 0).val * 16 + (i 1).val) * 64 + (i 2).val) % 1024 = 4608 + 64 * (i 1).val + (i 2).val
    omega

/-- The gains of columns 4608 to 5632. -/
theorem g_read4608 (i : S16384x1024.Idx) : val_main_v83 x3 i = A.gain (4608 + (i 1).val) := by
  rw [val_main_v83_apply, val_main_v82_apply, H.gain]

/-- Columns 4608 to 5632 of the result, normalised in groups of 64. -/
theorem n_read4608 (i : S16384x1024.Idx) : val_main_v84 x0 x1 x2 x3 i = A.z (i 0) (4608 + (i 1).val) := by
  have h0 : (i 0).val < 16384 := (i 0).isLt
  have h1 : (i 1).val < 1024 := (i 1).isLt
  have e : idx_main_v81 i = ix3 (⟨(i 0).val, h0⟩ : Fin 16384) (⟨(i 1).val / 64, by omega⟩ : Fin 16) (⟨(i 1).val % 64, by omega⟩ : Fin 64) := by
    funext a
    refine Fin.ext ?_
    fin_cases a
    · show ((i 0).val * 1024 + (i 1).val) / 1024 = (i 0).val
      omega
    · show ((i 0).val * 1024 + (i 1).val) / 64 % 16 = (i 1).val / 64
      omega
    · show ((i 0).val * 1024 + (i 1).val) % 64 = (i 1).val % 64
      omega
  rw [val_main_v84_apply, g_read4608 x0 x1 x2 x3 A H, val_main_v81_apply, e, val_main_v80_apply, val_main_v79_apply, val_main_v78_apply, val_main_v77_apply, val_main_v75_apply,
    val_main_v73_apply, val_main_v72_apply, val_main_v74_apply, val_main_v76_apply, r_read4608 x0 x1 x2 x3 A H,
    show val_main_cst_11 (F := Ideal) (Shape.Idx.first h_S_) = 0 from Ideal.ofBits_zero_f32, zero_add (M := EReal)]
  simp only [val_main_v71_apply, r_read4608 x0 x1 x2 x3 A H]
  have hq : 4608 + 64 * ((i 1).val / 64) = 64 * ((4608 + (i 1).val) / 64) := by omega
  have hc : 4608 + 64 * ((i 1).val / 64) + (i 1).val % 64 = 4608 + (i 1).val := by omega
  refine Eq.trans ?_ (z_64 A (i 0) (4608 + (i 1).val) (by unfold mode; split_ifs <;> omega))
  show A.y (i 0) (4608 + 64 * ((i 1).val / 64) + (i 1).val % 64)
      * Ideal.rsqrt (Ideal.div (∑ k : Fin 64, A.y (i 0) (4608 + 64 * ((i 1).val / 64) + k.val) * A.y (i 0) (4608 + 64 * ((i 1).val / 64) + k.val))
          (Ideal.ofBits .f32 0x42800000#32) + eps) * A.gain (4608 + (i 1).val) = _
  rw [hc, hq]
  rfl

/-- Columns 6144 to 7168 in groups of 64. -/
theorem r_read6144 (i : S16384x16x64.Idx) : val_main_v87 x0 x1 x2 i = A.y (i 0) (6144 + 64 * (i 1).val + (i 2).val) := by
  have h0 : (i 0).val < 16384 := (i 0).isLt
  have h1 : (i 1).val < 16 := (i 1).isLt
  have h2 : (i 2).val < 64 := (i 2).isLt
  rw [val_main_v87_apply, val_main_v86_apply, y_read x0 x1 x2 x3 A H]
  refine congrArg₂ A.y (Fin.ext ?_) ?_
  · show (((i 0).val * 16 + (i 1).val) * 64 + (i 2).val) / 1024 = (i 0).val
    omega
  · show 6144 + (((i 0).val * 16 + (i 1).val) * 64 + (i 2).val) % 1024 = 6144 + 64 * (i 1).val + (i 2).val
    omega

/-- The gains of columns 6144 to 7168. -/
theorem g_read6144 (i : S16384x1024.Idx) : val_main_v100 x3 i = A.gain (6144 + (i 1).val) := by
  rw [val_main_v100_apply, val_main_v99_apply, H.gain]

/-- Columns 6144 to 7168 of the result, normalised in groups of 64. -/
theorem n_read6144 (i : S16384x1024.Idx) : val_main_v101 x0 x1 x2 x3 i = A.z (i 0) (6144 + (i 1).val) := by
  have h0 : (i 0).val < 16384 := (i 0).isLt
  have h1 : (i 1).val < 1024 := (i 1).isLt
  have e : idx_main_v98 i = ix3 (⟨(i 0).val, h0⟩ : Fin 16384) (⟨(i 1).val / 64, by omega⟩ : Fin 16) (⟨(i 1).val % 64, by omega⟩ : Fin 64) := by
    funext a
    refine Fin.ext ?_
    fin_cases a
    · show ((i 0).val * 1024 + (i 1).val) / 1024 = (i 0).val
      omega
    · show ((i 0).val * 1024 + (i 1).val) / 64 % 16 = (i 1).val / 64
      omega
    · show ((i 0).val * 1024 + (i 1).val) % 64 = (i 1).val % 64
      omega
  rw [val_main_v101_apply, g_read6144 x0 x1 x2 x3 A H, val_main_v98_apply, e, val_main_v97_apply, val_main_v96_apply, val_main_v95_apply, val_main_v94_apply, val_main_v92_apply,
    val_main_v90_apply, val_main_v89_apply, val_main_v91_apply, val_main_v93_apply, r_read6144 x0 x1 x2 x3 A H,
    show val_main_cst_14 (F := Ideal) (Shape.Idx.first h_S_) = 0 from Ideal.ofBits_zero_f32, zero_add (M := EReal)]
  simp only [val_main_v88_apply, r_read6144 x0 x1 x2 x3 A H]
  have hq : 6144 + 64 * ((i 1).val / 64) = 64 * ((6144 + (i 1).val) / 64) := by omega
  have hc : 6144 + 64 * ((i 1).val / 64) + (i 1).val % 64 = 6144 + (i 1).val := by omega
  refine Eq.trans ?_ (z_64 A (i 0) (6144 + (i 1).val) (by unfold mode; split_ifs <;> omega))
  show A.y (i 0) (6144 + 64 * ((i 1).val / 64) + (i 1).val % 64)
      * Ideal.rsqrt (Ideal.div (∑ k : Fin 64, A.y (i 0) (6144 + 64 * ((i 1).val / 64) + k.val) * A.y (i 0) (6144 + 64 * ((i 1).val / 64) + k.val))
          (Ideal.ofBits .f32 0x42800000#32) + eps) * A.gain (6144 + (i 1).val) = _
  rw [hc, hq]
  rfl

/-- Columns 7680 to 8192 in groups of 128. -/
theorem r_read7680 (i : S16384x4x128.Idx) : val_main_v105 x0 x1 x2 i = A.y (i 0) (7680 + 128 * (i 1).val + (i 2).val) := by
  have h0 : (i 0).val < 16384 := (i 0).isLt
  have h1 : (i 1).val < 4 := (i 1).isLt
  have h2 : (i 2).val < 128 := (i 2).isLt
  rw [val_main_v105_apply, val_main_v104_apply, y_read x0 x1 x2 x3 A H]
  refine congrArg₂ A.y (Fin.ext ?_) ?_
  · show (((i 0).val * 4 + (i 1).val) * 128 + (i 2).val) / 512 = (i 0).val
    omega
  · show 7680 + (((i 0).val * 4 + (i 1).val) * 128 + (i 2).val) % 512 = 7680 + 128 * (i 1).val + (i 2).val
    omega

/-- The gains of columns 7680 to 8192. -/
theorem g_read7680 (i : S16384x512.Idx) : val_main_v118 x3 i = A.gain (7680 + (i 1).val) := by
  rw [val_main_v118_apply, val_main_v117_apply, H.gain]

/-- Columns 7680 to 8192 of the result, normalised in groups of 128. -/
theorem n_read7680 (i : S16384x512.Idx) : val_main_v119 x0 x1 x2 x3 i = A.z (i 0) (7680 + (i 1).val) := by
  have h0 : (i 0).val < 16384 := (i 0).isLt
  have h1 : (i 1).val < 512 := (i 1).isLt
  have e : idx_main_v116 i = ix3 (⟨(i 0).val, h0⟩ : Fin 16384) (⟨(i 1).val / 128, by omega⟩ : Fin 4) (⟨(i 1).val % 128, by omega⟩ : Fin 128) := by
    funext a
    refine Fin.ext ?_
    fin_cases a
    · show ((i 0).val * 512 + (i 1).val) / 512 = (i 0).val
      omega
    · show ((i 0).val * 512 + (i 1).val) / 128 % 4 = (i 1).val / 128
      omega
    · show ((i 0).val * 512 + (i 1).val) % 128 = (i 1).val % 128
      omega
  rw [val_main_v119_apply, g_read7680 x0 x1 x2 x3 A H, val_main_v116_apply, e, val_main_v115_apply, val_main_v114_apply, val_main_v113_apply, val_main_v112_apply, val_main_v110_apply,
    val_main_v108_apply, val_main_v107_apply, val_main_v109_apply, val_main_v111_apply, r_read7680 x0 x1 x2 x3 A H,
    show val_main_cst_17 (F := Ideal) (Shape.Idx.first h_S_) = 0 from Ideal.ofBits_zero_f32, zero_add (M := EReal)]
  simp only [val_main_v106_apply, r_read7680 x0 x1 x2 x3 A H]
  have hq : 7680 + 128 * ((i 1).val / 128) = 128 * ((7680 + (i 1).val) / 128) := by omega
  have hc : 7680 + 128 * ((i 1).val / 128) + (i 1).val % 128 = 7680 + (i 1).val := by omega
  refine Eq.trans ?_ (z_128 A (i 0) (7680 + (i 1).val) (by unfold mode; split_ifs <;> omega))
  show A.y (i 0) (7680 + 128 * ((i 1).val / 128) + (i 1).val % 128)
      * Ideal.rsqrt (Ideal.div (∑ k : Fin 128, A.y (i 0) (7680 + 128 * ((i 1).val / 128) + k.val) * A.y (i 0) (7680 + 128 * ((i 1).val / 128) + k.val))
          (Ideal.ofBits .f32 0x43000000#32) + eps) * A.gain (7680 + (i 1).val) = _
  rw [hc, hq]
  rfl

/-- Columns 1024 to 1536 of the result, as they are. -/
theorem p_read1024 (i : S16384x512.Idx) : val_main_v31 x0 x1 x2 i = A.z (i 0) (1024 + (i 1).val) := by
  have h1 : (i 1).val < 512 := (i 1).isLt
  rw [val_main_v31_apply, y_read x0 x1 x2 x3 A H]
  exact z_plain A (i 0) (1024 + (i 1).val) (by unfold mode; split_ifs <;> omega)

/-- Columns 1536 to 2048 of the result, as they are. -/
theorem p_read1536 (i : S16384x512.Idx) : val_main_v33 x0 x1 x2 i = A.z (i 0) (1536 + (i 1).val) := by
  have h1 : (i 1).val < 512 := (i 1).isLt
  rw [val_main_v33_apply, y_read x0 x1 x2 x3 A H]
  exact z_plain A (i 0) (1536 + (i 1).val) (by unfold mode; split_ifs <;> omega)

/-- Columns 2816 to 3072 of the result, as they are. -/
theorem p_read2816 (i : S16384x256.Idx) : val_main_v50 x0 x1 x2 i = A.z (i 0) (2816 + (i 1).val) := by
  have h1 : (i 1).val < 256 := (i 1).isLt
  rw [val_main_v50_apply, y_read x0 x1 x2 x3 A H]
  exact z_plain A (i 0) (2816 + (i 1).val) (by unfold mode; split_ifs <;> omega)

/-- Columns 4096 to 4608 of the result, as they are. -/
theorem p_read4096 (i : S16384x512.Idx) : val_main_v68 x0 x1 x2 i = A.z (i 0) (4096 + (i 1).val) := by
  have h1 : (i 1).val < 512 := (i 1).isLt
  rw [val_main_v68_apply, y_read x0 x1 x2 x3 A H]
  exact z_plain A (i 0) (4096 + (i 1).val) (by unfold mode; split_ifs <;> omega)

/-- Columns 5632 to 6144 of the result, as they are. -/
theorem p_read5632 (i : S16384x512.Idx) : val_main_v85 x0 x1 x2 i = A.z (i 0) (5632 + (i 1).val) := by
  have h1 : (i 1).val < 512 := (i 1).isLt
  rw [val_main_v85_apply, y_read x0 x1 x2 x3 A H]
  exact z_plain A (i 0) (5632 + (i 1).val) (by unfold mode; split_ifs <;> omega)

/-- Columns 7168 to 7680 of the result, as they are. -/
theorem p_read7168 (i : S16384x512.Idx) : val_main_v102 x0 x1 x2 i = A.z (i 0) (7168 + (i 1).val) := by
  have h1 : (i 1).val < 512 := (i 1).isLt
  rw [val_main_v102_apply, y_read x0 x1 x2 x3 A H]
  exact z_plain A (i 0) (7168 + (i 1).val) (by unfold mode; split_ifs <;> omega)

/-- Columns 0 to 1536 of the result, side by side. -/
theorem cat0 (i : S16384x1536.Idx) : val_main_v32 x0 x1 x2 x3 i = A.z (i 0) (0 + (i 1).val) := by
  have h1 : (i 1).val < 1536 := (i 1).isLt
  unfold val_main_v32
  have hs : (0 ≤ (i 1).val ∧ (i 1).val < 1024) ∨ (1024 ≤ (i 1).val ∧ (i 1).val < 1536) := by omega
  rcases hs with h | h
  · refine (concatenate_apply_piece (t := S16384x1536) 1 _ _ i 0 (by show 0 < 2; decide) S16384x1024 (val_main_v30 x0 x1 x2 x3) rfl rfl 0 rfl (ix2 (i 0) ⟨(i 1).val - 0, by omega⟩)
      (by intro b hb; fin_cases b; exacts [rfl, absurd rfl hb]) (by show 0 + ((i 1).val - 0) = (i 1).val; omega)).trans ?_
    rw [n_read0 x0 x1 x2 x3 A H]
    refine congrArg (A.z (i 0)) ?_
    show 0 + ((i 1).val - 0) = 0 + (i 1).val
    omega
  · refine (concatenate_apply_piece (t := S16384x1536) 1 _ _ i 1 (by show 1 < 2; decide) S16384x512 (val_main_v31 x0 x1 x2) rfl rfl 1024 rfl (ix2 (i 0) ⟨(i 1).val - 1024, by omega⟩)
      (by intro b hb; fin_cases b; exacts [rfl, absurd rfl hb]) (by show 1024 + ((i 1).val - 1024) = (i 1).val; omega)).trans ?_
    rw [p_read1024 x0 x1 x2 x3 A H]
    refine congrArg (A.z (i 0)) ?_
    show 1024 + ((i 1).val - 1024) = 0 + (i 1).val
    omega

/-- Columns 2048 to 3072 of the result, side by side. -/
theorem cat2048 (i : S16384x1024.Idx) : val_main_v51 x0 x1 x2 x3 i = A.z (i 0) (2048 + (i 1).val) := by
  have h1 : (i 1).val < 1024 := (i 1).isLt
  unfold val_main_v51
  have hs : (0 ≤ (i 1).val ∧ (i 1).val < 768) ∨ (768 ≤ (i 1).val ∧ (i 1).val < 1024) := by omega
  rcases hs with h | h
  · refine (concatenate_apply_piece (t := S16384x1024) 1 _ _ i 0 (by show 0 < 2; decide) S16384x768 (val_main_v49 x0 x1 x2 x3) rfl rfl 0 rfl (ix2 (i 0) ⟨(i 1).val - 0, by omega⟩)
      (by intro b hb; fin_cases b; exacts [rfl, absurd rfl hb]) (by show 0 + ((i 1).val - 0) = (i 1).val; omega)).trans ?_
    rw [n_read2048 x0 x1 x2 x3 A H]
    refine congrArg (A.z (i 0)) ?_
    show 2048 + ((i 1).val - 0) = 2048 + (i 1).val
    omega
  · refine (concatenate_apply_piece (t := S16384x1024) 1 _ _ i 1 (by show 1 < 2; decide) S16384x256 (val_main_v50 x0 x1 x2) rfl rfl 768 rfl (ix2 (i 0) ⟨(i 1).val - 768, by omega⟩)
      (by intro b hb; fin_cases b; exacts [rfl, absurd rfl hb]) (by show 768 + ((i 1).val - 768) = (i 1).val; omega)).trans ?_
    rw [p_read2816 x0 x1 x2 x3 A H]
    refine congrArg (A.z (i 0)) ?_
    show 2816 + ((i 1).val - 768) = 2048 + (i 1).val
    omega

/-- Columns 3072 to 7680 of the result, side by side. -/
theorem cat3072 (i : S16384x4608.Idx) : val_main_v103 x0 x1 x2 x3 i = A.z (i 0) (3072 + (i 1).val) := by
  have h1 : (i 1).val < 4608 := (i 1).isLt
  unfold val_main_v103
  have hs : (0 ≤ (i 1).val ∧ (i 1).val < 1024) ∨ (1024 ≤ (i 1).val ∧ (i 1).val < 1536) ∨ (1536 ≤ (i 1).val ∧ (i 1).val < 2560) ∨ (2560 ≤ (i 1).val ∧ (i 1).val < 3072) ∨ (3072 ≤ (i 1).val ∧ (i 1).val < 4096) ∨ (4096 ≤ (i 1).val ∧ (i 1).val < 4608) := by omega
  rcases hs with h | h | h | h | h | h
  · refine (concatenate_apply_piece (t := S16384x4608) 1 _ _ i 0 (by show 0 < 6; decide) S16384x1024 (val_main_v67 x0 x1 x2 x3) rfl rfl 0 rfl (ix2 (i 0) ⟨(i 1).val - 0, by omega⟩)
      (by intro b hb; fin_cases b; exacts [rfl, absurd rfl hb]) (by show 0 + ((i 1).val - 0) = (i 1).val; omega)).trans ?_
    rw [n_read3072 x0 x1 x2 x3 A H]
    refine congrArg (A.z (i 0)) ?_
    show 3072 + ((i 1).val - 0) = 3072 + (i 1).val
    omega
  · refine (concatenate_apply_piece (t := S16384x4608) 1 _ _ i 1 (by show 1 < 6; decide) S16384x512 (val_main_v68 x0 x1 x2) rfl rfl 1024 rfl (ix2 (i 0) ⟨(i 1).val - 1024, by omega⟩)
      (by intro b hb; fin_cases b; exacts [rfl, absurd rfl hb]) (by show 1024 + ((i 1).val - 1024) = (i 1).val; omega)).trans ?_
    rw [p_read4096 x0 x1 x2 x3 A H]
    refine congrArg (A.z (i 0)) ?_
    show 4096 + ((i 1).val - 1024) = 3072 + (i 1).val
    omega
  · refine (concatenate_apply_piece (t := S16384x4608) 1 _ _ i 2 (by show 2 < 6; decide) S16384x1024 (val_main_v84 x0 x1 x2 x3) rfl rfl 1536 rfl (ix2 (i 0) ⟨(i 1).val - 1536, by omega⟩)
      (by intro b hb; fin_cases b; exacts [rfl, absurd rfl hb]) (by show 1536 + ((i 1).val - 1536) = (i 1).val; omega)).trans ?_
    rw [n_read4608 x0 x1 x2 x3 A H]
    refine congrArg (A.z (i 0)) ?_
    show 4608 + ((i 1).val - 1536) = 3072 + (i 1).val
    omega
  · refine (concatenate_apply_piece (t := S16384x4608) 1 _ _ i 3 (by show 3 < 6; decide) S16384x512 (val_main_v85 x0 x1 x2) rfl rfl 2560 rfl (ix2 (i 0) ⟨(i 1).val - 2560, by omega⟩)
      (by intro b hb; fin_cases b; exacts [rfl, absurd rfl hb]) (by show 2560 + ((i 1).val - 2560) = (i 1).val; omega)).trans ?_
    rw [p_read5632 x0 x1 x2 x3 A H]
    refine congrArg (A.z (i 0)) ?_
    show 5632 + ((i 1).val - 2560) = 3072 + (i 1).val
    omega
  · refine (concatenate_apply_piece (t := S16384x4608) 1 _ _ i 4 (by show 4 < 6; decide) S16384x1024 (val_main_v101 x0 x1 x2 x3) rfl rfl 3072 rfl (ix2 (i 0) ⟨(i 1).val - 3072, by omega⟩)
      (by intro b hb; fin_cases b; exacts [rfl, absurd rfl hb]) (by show 3072 + ((i 1).val - 3072) = (i 1).val; omega)).trans ?_
    rw [n_read6144 x0 x1 x2 x3 A H]
    refine congrArg (A.z (i 0)) ?_
    show 6144 + ((i 1).val - 3072) = 3072 + (i 1).val
    omega
  · refine (concatenate_apply_piece (t := S16384x4608) 1 _ _ i 5 (by show 5 < 6; decide) S16384x512 (val_main_v102 x0 x1 x2) rfl rfl 4096 rfl (ix2 (i 0) ⟨(i 1).val - 4096, by omega⟩)
      (by intro b hb; fin_cases b; exacts [rfl, absurd rfl hb]) (by show 4096 + ((i 1).val - 4096) = (i 1).val; omega)).trans ?_
    rw [p_read7168 x0 x1 x2 x3 A H]
    refine congrArg (A.z (i 0)) ?_
    show 7168 + ((i 1).val - 4096) = 3072 + (i 1).val
    omega

end Cert.Reference4Ideal.Proj

end
-- ==== Proof.ProjClaim.lean ====
module

public import proofs.«01_k».proof.Defs
public import proofs.«01_k».proof.Proof.ProjArray
public import proofs.«01_k».proof.Proof.ProjRef
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Lib.Quiescent
public import Idealize.ShloMosaic.Lib.Claim

@[expose] public section

set_option maxRecDepth 16384

noncomputable section

/-! The projection: its kernel computes what its reference does. -/

namespace Cert.ProjClaim

open Idealize.ShloMosaic Idealize.SL.Sem Idealize.ShloMosaic.Tactic

/-- The projection's reference runs, keeps its arguments and ends with no semaphore up. -/
theorem frame_reference : Cert.quiescent_Reference4Ideal (hReference4Ideal := Cert.Reference4Ideal.Gen.facts) := fun m ρ _ =>
  (θ_run _ _ _).mono (fun r h => ⟨fun c => (h c).2.2.2.2.2, sem_eq_zero_of_no_sems (by decide) _⟩) (Cert.Reference4Ideal.Value.run m ρ)

/-- The buffers hold the arguments that the projection's values are stated of. -/
theorem holds (m : (ℓ : Loc Cert.Kernel4Ideal.nD Cert.Kernel4Ideal.τ Cert.Kernel4Ideal.sig) → Buf (Elt Ideal) ℓ) (c : Dev Cert.Kernel4Ideal.nD) :
    Cert.Reference4Ideal.Proj.Holds (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))
      (Cert.Kernel4Ideal.Proj.argsOf m c) where
  x i := congrArg (m ((c.tc : Thread Cert.Kernel4Ideal.nD Cert.Kernel4Ideal.τ).loc Cert.Kernel4Ideal.main_arg0)) (by funext a; fin_cases a <;> rfl)
  g i := congrArg (m ((c.tc : Thread Cert.Kernel4Ideal.nD Cert.Kernel4Ideal.τ).loc Cert.Kernel4Ideal.main_arg1)) (by funext a; fin_cases a; rfl)
  w i := by
    refine Eq.trans ?_ (dif_pos (show (i 1).val < 8192 from (i 1).isLt)).symm
    exact congrArg (m ((c.tc : Thread Cert.Kernel4Ideal.nD Cert.Kernel4Ideal.τ).loc Cert.Kernel4Ideal.main_arg2)) (by funext a; fin_cases a <;> rfl)
  gain i := by
    refine Eq.trans ?_ (dif_pos (show (i 1).val < 8192 from (i 1).isLt)).symm
    refine congrArg (m ((c.tc : Thread Cert.Kernel4Ideal.nD Cert.Kernel4Ideal.τ).loc Cert.Kernel4Ideal.main_arg3)) ?_
    funext a
    fin_cases a
    · exact Subsingleton.elim (α := Fin 1) _ _
    · rfl

/-- The projection's ideal reading computes what its reference does, in all five results and for any arguments. -/
theorem algebraic : Cert.algebraic_Kernel4Ideal_Reference4Ideal (hKernel4Ideal := Cert.Kernel4Ideal.Gen.facts) (hReference4Ideal := Cert.Reference4Ideal.Gen.facts) :=
  fun m ρ m' ρ' _ hag => by
  refine ⟨fun c => Cert.Kernel4Ideal.Proj.G5 (Cert.Kernel4Ideal.Proj.argsOf m c), fun c => Cert.Kernel4Ideal.Proj.G6 (Cert.Kernel4Ideal.Proj.argsOf m c), fun c => Cert.Kernel4Ideal.Proj.G7 (Cert.Kernel4Ideal.Proj.argsOf m c), fun c => Cert.Kernel4Ideal.Proj.G8 (Cert.Kernel4Ideal.Proj.argsOf m c), fun c => Cert.Kernel4Ideal.Proj.G9 (Cert.Kernel4Ideal.Proj.argsOf m c),
    (θ_run _ _ _).mono (fun r h c => ⟨(Cert.Kernel4Ideal.Value.post5 m r h c).trans (Cert.Kernel4Ideal.Proj.arr5 m c),
      (Cert.Kernel4Ideal.Value.post6 m r h c).trans (Cert.Kernel4Ideal.Proj.arr6 m c),
      (Cert.Kernel4Ideal.Value.post7 m r h c).trans (Cert.Kernel4Ideal.Proj.arr7 m c),
      (Cert.Kernel4Ideal.Value.post8 m r h c).trans (Cert.Kernel4Ideal.Proj.arr8 m c),
      (Cert.Kernel4Ideal.Value.post9 m r h c).trans (Cert.Kernel4Ideal.Proj.arr9 m c),
      Cert.Kernel4Ideal.Value.kept_main_arg0 m r h c,
      Cert.Kernel4Ideal.Value.kept_main_arg1 m r h c,
      Cert.Kernel4Ideal.Value.kept_main_arg2 m r h c,
      Cert.Kernel4Ideal.Value.kept_main_arg3 m r h c⟩)
      (Cert.Kernel4Ideal.Gen.run_main m ρ),
    (θ_run _ _ _).mono (fun _ h c => ⟨(h c).1.trans ?_, (h c).2.1.trans ?_, (h c).2.2.1.trans ?_, (h c).2.2.2.1.trans ?_, (h c).2.2.2.2.1.trans ?_, (h c).2.2.2.2.2⟩)
      (Cert.Reference4Ideal.Value.run m' ρ')⟩
  · obtain ⟨h0, h1, h2, h3⟩ := hag c
    refine (Cert.Reference4Ideal.Read.val_main_v120_eq _ _).trans ?_
    show Cert.Reference4Ideal.Read.val_main_v120 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = _
    rw [h0, h1, h2, h3]
    funext i
    exact Cert.Reference4Ideal.Proj.cat0 _ _ _ _ _ (holds m c) i
  · obtain ⟨h0, h1, h2, h3⟩ := hag c
    refine (Cert.Reference4Ideal.Read.val_main_v121_eq _ _ _).trans ?_
    show Cert.Reference4Ideal.Read.val_main_v121 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = _
    rw [h0, h1, h2]
    funext i
    exact Cert.Reference4Ideal.Proj.p_read1536 _ _ _ _ _ (holds m c) i
  · obtain ⟨h0, h1, h2, h3⟩ := hag c
    refine (Cert.Reference4Ideal.Read.val_main_v122_eq _ _).trans ?_
    show Cert.Reference4Ideal.Read.val_main_v122 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = _
    rw [h0, h1, h2, h3]
    funext i
    exact Cert.Reference4Ideal.Proj.cat2048 _ _ _ _ _ (holds m c) i
  · obtain ⟨h0, h1, h2, h3⟩ := hag c
    refine (Cert.Reference4Ideal.Read.val_main_v123_eq _ _).trans ?_
    show Cert.Reference4Ideal.Read.val_main_v123 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = _
    rw [h0, h1, h2, h3]
    funext i
    exact Cert.Reference4Ideal.Proj.cat3072 _ _ _ _ _ (holds m c) i
  · obtain ⟨h0, h1, h2, h3⟩ := hag c
    refine (Cert.Reference4Ideal.Read.val_main_v124_eq _ _ _ _).trans ?_
    show Cert.Reference4Ideal.Read.val_main_v124 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = _
    rw [h0, h1, h2, h3]
    funext i
    exact Cert.Reference4Ideal.Proj.n_read7680 _ _ _ _ _ (holds m c) i

end Cert.ProjClaim

end
-- ==== Proof.SampleMerge.lean ====
module

public import proofs.«01_k».proof.Proof.MergeSpec
public import proofs.«01_k».proof.Proof.Gen.Kernel5Ideal.Skeleton
public import Idealize.ShloMosaic.Lib.Pointwise
public import Idealize.ShloMosaic.Lib.Pointwise.Tactic

@[expose] public section

set_option maxRecDepth 16384

noncomputable section

namespace Cert.Kernel5Ideal.Merge

open Idealize.ShloMosaic Cert.Kernel5Ideal Cert.Kernel5Ideal.Gen Idealize.ShloMosaic.TcCoe Idealize.ShloMosaic.Tactic Cert.Merge

/-- What one grid point leaves in the accumulator, from the normalised tokens, the branch's output and what was there. -/
def step (H : Vec Ideal S512x1024 .bf16) (o : Vec Ideal S512x512 .f32) (wz : Vec Ideal S1024x512 .bf16) (wg : Vec Ideal S1024x1024 .bf16)
    (bg : Vec Ideal S1x1x1024 .f32) (wb : Vec Ideal S1x512x1024 .bf16) (acc : Vec Ideal S512x1024 .f32) : Vec Ideal S512x1024 .f32 :=
  k0_pay1 (F := Ideal) (k0_pay10 H wz) (k0_pay11 H wg bg) o (k0_pay12 H wz) wb acc

/-- The product that makes `z`, at an index. -/
theorem pay10_apply (H : Vec Ideal S512x1024 .bf16) (wz : Vec Ideal S1024x512 .bf16) (r k : Fin 512) :
    k0_pay10 (F := Ideal) H wz (ix2 r k) = ∑ x, H (ix2 r x) * wz (ix2 x k) := by
  unfold k0_pay10
  pointwise [dot_S512x1024_S1024x512_S512x512_1_0_0_1_n_n]

/-- The gate's product and bias, at an index. -/
theorem pay11_apply (H : Vec Ideal S512x1024 .bf16) (wg : Vec Ideal S1024x1024 .bf16) (bg : Vec Ideal S1x1x1024 .f32) (r : Fin 512) (d : Fin 1024) :
    k0_pay11 (F := Ideal) H wg bg (ix2 r d) = ∑ x, H (ix2 r x) * wg (ix2 x d) + bg (ix3 0 0 d) := by
  unfold k0_pay11
  pointwise [dot_S512x1024_S1024x1024_S512x1024_1_0_0_1_n_n]

/-- A grid point adds its branch's term. -/
theorem step_apply (H : Vec Ideal S512x1024 .bf16) (o : Vec Ideal S512x512 .f32) (wz : Vec Ideal S1024x512 .bf16) (wg : Vec Ideal S1024x1024 .bf16)
    (bg : Vec Ideal S1x1x1024 .f32) (wb : Vec Ideal S1x512x1024 .bf16) (acc : Vec Ideal S512x1024 .f32) (r : Fin 512) (d : Fin 1024) :
    step H o wz wg bg wb acc (ix2 r d) = acc (ix2 r d)
      + term (fun x => H (ix2 r x)) (fun k => o (ix2 r k)) (fun x k => wz (ix2 x k)) (fun x => wg (ix2 x d)) (bg (ix3 0 0 d)) (fun k => wb (ix3 0 k d)) := by
  unfold step k0_pay1 k0_pay12
  pointwise [dot_S512x512_S512x1024_S512x1024_1_0_0_1_n_n]
  simp only [pay10_apply, pay11_apply, zero_sub]
  rfl

/-- The output: the token plus the accumulator through the output weights. -/
theorem pay2_apply (x acc : Vec Ideal S512x1024 .f32) (w : Vec Ideal S1024x1024 .bf16) (r : Fin 512) (d : Fin 1024) :
    k0_pay2 (F := Ideal) x acc w (ix2 r d) = x (ix2 r d) + ∑ k, acc (ix2 r k) * w (ix2 k d) := by
  unfold k0_pay2
  pointwise [dot_S512x1024_S1024x1024_S512x1024_1_0_0_1_n_n]

/-- The first grid point of a block normalises the tokens. -/
theorem pay3_apply (x : Vec Ideal S512x1024 .f32) (g : Vec Ideal S1x1024 .f32) (r : Fin 512) (d : Fin 1024) :
    k0_pay3 (F := Ideal) x g (ix2 r d) = hrow (fun k => x (ix2 r k)) (fun k => g (ix2 0 k)) d := by
  unfold k0_pay3
  pointwise
  rfl

/-- The accumulator starts at zero. -/
theorem pay4_apply (r : Fin 512) (d : Fin 1024) : k0_pay4 (F := Ideal) (ix2 r d) = 0 := by
  unfold k0_pay4
  pointwise

/-- The fourth branch's output is the mixture of the three window results. -/
theorem pay8_apply (l0 l1 l2 : Vec Ideal S512x512 .f32) (d0 d1 d2 : Vec Ideal S512x512 .bf16) (r k : Fin 512) :
    k0_pay8 (F := Ideal) l0 l1 l2 d0 d1 d2 (ix2 r k)
      = mix (l0 (ix2 r k)) (l1 (ix2 r k)) (l2 (ix2 r k)) (d0 (ix2 r k)) (d1 (ix2 r k)) (d2 (ix2 r k)) := by
  unfold k0_pay8
  pointwise
  rfl

/-- The other branches' outputs are used as they are. -/
theorem pay5_eq (o : Vec Ideal S512x512 .bf16) : k0_pay5 (F := Ideal) o = o := by
  funext i
  unfold k0_pay5
  pointwise

theorem pay6_eq (o : Vec Ideal S512x512 .bf16) : k0_pay6 (F := Ideal) o = o := by
  funext i
  unfold k0_pay6
  pointwise

theorem pay7_eq (o : Vec Ideal S512x512 .bf16) : k0_pay7 (F := Ideal) o = o := by
  funext i
  unfold k0_pay7
  pointwise

theorem pay9_eq (o : Vec Ideal S512x512 .bf16) : k0_pay9 (F := Ideal) o = o := by
  funext i
  unfold k0_pay9
  pointwise

end Cert.Kernel5Ideal.Merge

end
-- ==== Proof.SampleMergeBlocks.lean ====
module

public import proofs.«01_k».proof.Proof.SampleMerge
public import proofs.«01_k».proof.Proof.Gen.Kernel5Ideal.Frame.Runs
public import Idealize.ShloMosaic.Lib.Pipeline.ValueKit

@[expose] public section

set_option maxRecDepth 16384

noncomputable section

/-! What the merge's grid points are given: the blocks of its arguments. -/

namespace Cert.Kernel5Ideal.Merge

open Idealize.ShloMosaic Cert.Kernel5Ideal Cert.Kernel5Ideal.Gen Idealize.ShloMosaic.TcCoe Idealize.ShloMosaic.Tactic Cert.Merge

variable (m : (ℓ : Loc nD τ sig) → Buf (Elt Ideal) ℓ)

/-- The merge's arguments, read from the buffers. -/
def argsOf (c : Dev nD) : Args 32768 where
  x n k := m ((c.tc : Thread nD τ).loc main_arg0) (ix2 n k)
  g k := m ((c.tc : Thread nD τ).loc main_arg1) (ix1 k)
  w n k := m ((c.tc : Thread nD τ).loc main_arg2) (ix2 n k)
  b j k := m ((c.tc : Thread nD τ).loc main_arg3) (ix2 j k)
  wb j n k := m ((c.tc : Thread nD τ).loc main_arg4) (ix3 j n k)
  wo n k := m ((c.tc : Thread nD τ).loc main_arg5) (ix2 n k)
  oa n k := m ((c.tc : Thread nD τ).loc main_arg6) (ix2 n k)
  ob n k := m ((c.tc : Thread nD τ).loc main_arg7) (ix2 n k)
  oc n k := m ((c.tc : Thread nD τ).loc main_arg8) (ix2 n k)
  om n k := m ((c.tc : Thread nD τ).loc main_arg9) (ix2 n k)
  d0 n k := m ((c.tc : Thread nD τ).loc main_arg10) (ix2 n k)
  d1 n k := m ((c.tc : Thread nD τ).loc main_arg11) (ix2 n k)
  d2 n k := m ((c.tc : Thread nD τ).loc main_arg12) (ix2 n k)
  l0 n k := m ((c.tc : Thread nD τ).loc main_arg13) (ix2 n k)
  l1 n k := m ((c.tc : Thread nD τ).loc main_arg14) (ix2 n k)
  l2 n k := m ((c.tc : Thread nD τ).loc main_arg15) (ix2 n k)

/-- The weights that make the `z`s, handed in. -/
theorem V_v1 (c : Dev nD) (x : Fin 1024) (y : Fin 2560) : V m c main_v1 (ix2 x y) = (argsOf m c).w x ⟨7840 + y.val, by omega⟩ := by
  unfold V
  simp only [StableHlo.after_cons, StableHlo.after_nil]
  repeat first
    | rw [StableHlo.unary_result_ne' (h := by decide)]
    | rw [StableHlo.reshape_result_ne' (h := by decide)]
    | rw [StableHlo.unary_result']
    | rw [StableHlo.reshape_result']
  pointwise
  refine congrArg (m ((c.tc : Thread nD τ).loc main_arg2)) (funext fun k => Fin.ext ?_)
  fin_cases k
  · rfl
  · rfl

/-- The weights that make the gates, handed in. -/
theorem V_v3 (c : Dev nD) (x : Fin 1024) (y : Fin 5120) : V m c main_v3 (ix2 x y) = (argsOf m c).w x ⟨10400 + y.val, by omega⟩ := by
  unfold V
  simp only [StableHlo.after_cons, StableHlo.after_nil]
  repeat first
    | rw [StableHlo.unary_result_ne' (h := by decide)]
    | rw [StableHlo.reshape_result_ne' (h := by decide)]
    | rw [StableHlo.unary_result']
    | rw [StableHlo.reshape_result']
  pointwise
  refine congrArg (m ((c.tc : Thread nD τ).loc main_arg2)) (funext fun k => Fin.ext ?_)
  fin_cases k
  · rfl
  · rfl

/-- The norm's weights, handed in. -/
theorem V_v4 (c : Dev nD) (x : Fin 1024) : V m c main_v4 (ix2 0 x) = (argsOf m c).g x := by
  unfold V
  simp only [StableHlo.after_cons, StableHlo.after_nil]
  repeat first
    | rw [StableHlo.unary_result_ne' (h := by decide)]
    | rw [StableHlo.reshape_result_ne' (h := by decide)]
    | rw [StableHlo.unary_result']
    | rw [StableHlo.reshape_result']
  show shapeCast S1x1024 (m ((c.tc : Thread nD τ).loc main_arg1) : S1024.Idx → _) shapeCasts_S1024_S1x1024 (ix2 0 x) = _
  pointwise
  rfl

/-- The gates' biases, handed in. -/
theorem V_v5 (c : Dev nD) (j : Fin 5) (x : Fin 1024) : V m c main_v5 (ix3 j 0 x) = (argsOf m c).b j x := by
  unfold V
  simp only [StableHlo.after_cons, StableHlo.after_nil]
  repeat first
    | rw [StableHlo.unary_result_ne' (h := by decide)]
    | rw [StableHlo.reshape_result_ne' (h := by decide)]
    | rw [StableHlo.unary_result']
    | rw [StableHlo.reshape_result']
  show shapeCast S5x1x1024 (m ((c.tc : Thread nD τ).loc main_arg3) : S5x1024.Idx → _) shapeCasts_S5x1024_S5x1x1024 (ix3 j 0 x) = _
  pointwise
  rfl

/-- The branches' weights, handed in. -/
theorem V_v6 (c : Dev nD) (j : Fin 5) (k : Fin 512) (x : Fin 1024) : V m c main_v6 (ix3 j k x) = (argsOf m c).wb j k x := by
  unfold V
  simp only [StableHlo.after_cons, StableHlo.after_nil]
  repeat first
    | rw [StableHlo.unary_result_ne' (h := by decide)]
    | rw [StableHlo.reshape_result_ne' (h := by decide)]
    | rw [StableHlo.unary_result']
    | rw [StableHlo.reshape_result']
  rfl

/-- The output weights, handed in. -/
theorem V_v7 (c : Dev nD) (k x : Fin 1024) : V m c main_v7 (ix2 k x) = (argsOf m c).wo k x := by
  unfold V
  simp only [StableHlo.after_cons, StableHlo.after_nil]
  repeat first
    | rw [StableHlo.unary_result_ne' (h := by decide)]
    | rw [StableHlo.reshape_result_ne' (h := by decide)]
    | rw [StableHlo.unary_result']
    | rw [StableHlo.reshape_result']
  rfl

theorem idx0 : ∀ t : Fin cfg0.N, win0_0.index t = ![t.val / 5, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 5] := (by decide +kernel : ∀ t : Fin grid0.N, _)
theorem idx3 : ∀ t : Fin cfg0.N, win0_3.index t = ![0, t.val % 5] := (by decide +kernel : ∀ t : Fin grid0.N, _)
theorem idx4 : ∀ t : Fin cfg0.N, win0_4.index t = ![t.val % 5, 0, 0] := (by decide +kernel : ∀ t : Fin grid0.N, _)
theorem idx5 : ∀ t : Fin cfg0.N, win0_5.index t = ![t.val % 5, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val / 5, 0] := (by decide +kernel : ∀ t : Fin grid0.N, _)
theorem idx8 : ∀ t : Fin cfg0.N, win0_8.index t = ![t.val / 5, 0] := (by decide +kernel : ∀ t : Fin grid0.N, _)
theorem idx9 : ∀ t : Fin cfg0.N, win0_9.index t = ![t.val / 5, 0] := (by decide +kernel : ∀ t : Fin grid0.N, _)
theorem idx10 : ∀ t : Fin cfg0.N, win0_10.index t = ![t.val / 5, 0] := (by decide +kernel : ∀ t : Fin grid0.N, _)
theorem idx11 : ∀ t : Fin cfg0.N, win0_11.index t = ![t.val / 5, 0] := (by decide +kernel : ∀ t : Fin grid0.N, _)
theorem idx12 : ∀ t : Fin cfg0.N, win0_12.index t = ![t.val / 5, 0] := (by decide +kernel : ∀ t : Fin grid0.N, _)
theorem idx13 : ∀ t : Fin cfg0.N, win0_13.index t = ![t.val / 5, 0] := (by decide +kernel : ∀ t : Fin grid0.N, _)
theorem idx14 : ∀ t : Fin cfg0.N, win0_14.index t = ![t.val / 5, 0] := (by decide +kernel : ∀ t : Fin grid0.N, _)
theorem idx15 : ∀ t : Fin cfg0.N, win0_15.index t = ![t.val / 5, 0] := (by decide +kernel : ∀ t : Fin grid0.N, _)
theorem idx16 : ∀ t : Fin cfg0.N, win0_16.index t = ![t.val / 5, 0] := (by decide +kernel : ∀ t : Fin grid0.N, _)
theorem idx17 : ∀ t : Fin cfg0.N, win0_17.index t = ![t.val / 5, 0] := (by decide +kernel : ∀ t : Fin grid0.N, _)

/-- The token of row `r` at grid point `t`. -/
def row (t : Fin cfg0.N) (r : Fin 512) : Fin 32768 := ⟨512 * (t.val / 5) + r.val, by
  have h : t.val < 320 := t.isLt
  omega⟩

theorem blk0 (c : Dev nD) (t : Fin cfg0.N) (r : Fin 512) (k : Fin 1024) : iblk m c 0 t (ix2 r k) = (argsOf m c).x (row t r) k := by
  unfold iblk
  blk_simp
  rw [V_main_arg0]
  refine congrArg (m ((c.tc : Thread nD τ).loc main_arg0)) (funext fun a => Fin.ext ?_)
  fin_cases a <;> blk_simp [idx0 t] <;> first | rfl | (show t.val / 5 * 512 + r.val = 512 * (t.val / 5) + r.val; omega)

theorem blk7 (c : Dev nD) (t : Fin cfg0.N) (r : Fin 512) (k : Fin 512) : iblk m c 7 t (ix2 r k) = (argsOf m c).oa (row t r) k := by
  unfold iblk
  blk_simp
  rw [V_main_arg6]
  refine congrArg (m ((c.tc : Thread nD τ).loc main_arg6)) (funext fun a => Fin.ext ?_)
  fin_cases a <;> blk_simp [idx7 t] <;> first | rfl | (show t.val / 5 * 512 + r.val = 512 * (t.val / 5) + r.val; omega)

theorem blk8 (c : Dev nD) (t : Fin cfg0.N) (r : Fin 512) (k : Fin 512) : iblk m c 8 t (ix2 r k) = (argsOf m c).ob (row t r) k := by
  unfold iblk
  blk_simp
  rw [V_main_arg7]
  refine congrArg (m ((c.tc : Thread nD τ).loc main_arg7)) (funext fun a => Fin.ext ?_)
  fin_cases a <;> blk_simp [idx8 t] <;> first | rfl | (show t.val / 5 * 512 + r.val = 512 * (t.val / 5) + r.val; omega)

theorem blk9 (c : Dev nD) (t : Fin cfg0.N) (r : Fin 512) (k : Fin 512) : iblk m c 9 t (ix2 r k) = (argsOf m c).oc (row t r) k := by
  unfold iblk
  blk_simp
  rw [V_main_arg8]
  refine congrArg (m ((c.tc : Thread nD τ).loc main_arg8)) (funext fun a => Fin.ext ?_)
  fin_cases a <;> blk_simp [idx9 t] <;> first | rfl | (show t.val / 5 * 512 + r.val = 512 * (t.val / 5) + r.val; omega)

theorem blk10 (c : Dev nD) (t : Fin cfg0.N) (r : Fin 512) (k : Fin 512) : iblk m c 10 t (ix2 r k) = (argsOf m c).om (row t r) k := by
  unfold iblk
  blk_simp
  rw [V_main_arg9]
  refine congrArg (m ((c.tc : Thread nD τ).loc main_arg9)) (funext fun a => Fin.ext ?_)
  fin_cases a <;> blk_simp [idx10 t] <;> first | rfl | (show t.val / 5 * 512 + r.val = 512 * (t.val / 5) + r.val; omega)

theorem blk11 (c : Dev nD) (t : Fin cfg0.N) (r : Fin 512) (k : Fin 512) : iblk m c 11 t (ix2 r k) = (argsOf m c).d0 (row t r) k := by
  unfold iblk
  blk_simp
  rw [V_main_arg10]
  refine congrArg (m ((c.tc : Thread nD τ).loc main_arg10)) (funext fun a => Fin.ext ?_)
  fin_cases a <;> blk_simp [idx11 t] <;> first | rfl | (show t.val / 5 * 512 + r.val = 512 * (t.val / 5) + r.val; omega)

theorem blk12 (c : Dev nD) (t : Fin cfg0.N) (r : Fin 512) (k : Fin 512) : iblk m c 12 t (ix2 r k) = (argsOf m c).d1 (row t r) k := by
  unfold iblk
  blk_simp
  rw [V_main_arg11]
  refine congrArg (m ((c.tc : Thread nD τ).loc main_arg11)) (funext fun a => Fin.ext ?_)
  fin_cases a <;> blk_simp [idx12 t] <;> first | rfl | (show t.val / 5 * 512 + r.val = 512 * (t.val / 5) + r.val; omega)

theorem blk13 (c : Dev nD) (t : Fin cfg0.N) (r : Fin 512) (k : Fin 512) : iblk m c 13 t (ix2 r k) = (argsOf m c).d2 (row t r) k := by
  unfold iblk
  blk_simp
  rw [V_main_arg12]
  refine congrArg (m ((c.tc : Thread nD τ).loc main_arg12)) (funext fun a => Fin.ext ?_)
  fin_cases a <;> blk_simp [idx13 t] <;> first | rfl | (show t.val / 5 * 512 + r.val = 512 * (t.val / 5) + r.val; omega)

theorem blk14 (c : Dev nD) (t : Fin cfg0.N) (r : Fin 512) (k : Fin 512) : iblk m c 14 t (ix2 r k) = (argsOf m c).l0 (row t r) k := by
  unfold iblk
  blk_simp
  rw [V_main_arg13]
  refine congrArg (m ((c.tc : Thread nD τ).loc main_arg13)) (funext fun a => Fin.ext ?_)
  fin_cases a <;> blk_simp [idx14 t] <;> first | rfl | (show t.val / 5 * 512 + r.val = 512 * (t.val / 5) + r.val; omega)

theorem blk15 (c : Dev nD) (t : Fin cfg0.N) (r : Fin 512) (k : Fin 512) : iblk m c 15 t (ix2 r k) = (argsOf m c).l1 (row t r) k := by
  unfold iblk
  blk_simp
  rw [V_main_arg14]
  refine congrArg (m ((c.tc : Thread nD τ).loc main_arg14)) (funext fun a => Fin.ext ?_)
  fin_cases a <;> blk_simp [idx15 t] <;> first | rfl | (show t.val / 5 * 512 + r.val = 512 * (t.val / 5) + r.val; omega)

theorem blk16 (c : Dev nD) (t : Fin cfg0.N) (r : Fin 512) (k : Fin 512) : iblk m c 16 t (ix2 r k) = (argsOf m c).l2 (row t r) k := by
  unfold iblk
  blk_simp
  rw [V_main_arg15]
  refine congrArg (m ((c.tc : Thread nD τ).loc main_arg15)) (funext fun a => Fin.ext ?_)
  fin_cases a <;> blk_simp [idx16 t] <;> first | rfl | (show t.val / 5 * 512 + r.val = 512 * (t.val / 5) + r.val; omega)

theorem blk1 (c : Dev nD) (t : Fin cfg0.N) (k : Fin 1024) : iblk m c 1 t (ix2 0 k) = (argsOf m c).g k := by
  rw [← V_v4 m c]
  unfold iblk
  blk_simp
  refine congrArg (V m c main_v4) (funext fun a => Fin.ext ?_)
  fin_cases a <;> blk_simp [idx1 t]

theorem blk2 (c : Dev nD) (t : Fin cfg0.N) (j : Fin 5) (hj : t.val % 5 = j.val) (x : Fin 1024) (k : Fin 512) :
    iblk m c 2 t (ix2 x k) = (argsOf m c).w x (zc j k) := by
  have e : zc j k = ⟨7840 + ((⟨512 * j.val + k.val, by omega⟩ : Fin 2560)).val, by omega⟩ := Fin.ext (by show _ + _ + _ = _ + (_ + _); omega)
  rw [e, ← V_v1 m c]
  unfold iblk
  blk_simp
  refine congrArg (V m c main_v1) (funext fun a => Fin.ext ?_)
  fin_cases a <;> blk_simp [idx2 t] <;> first | rfl | (show t.val % 5 * 512 + k.val = 512 * j.val + k.val; omega)

theorem blk3 (c : Dev nD) (t : Fin cfg0.N) (j : Fin 5) (hj : t.val % 5 = j.val) (x : Fin 1024) (k : Fin 1024) :
    iblk m c 3 t (ix2 x k) = (argsOf m c).w x (gc j k) := by
  have e : gc j k = ⟨10400 + ((⟨1024 * j.val + k.val, by omega⟩ : Fin 5120)).val, by omega⟩ := Fin.ext (by show _ + _ + _ = _ + (_ + _); omega)
  rw [e, ← V_v3 m c]
  unfold iblk
  blk_simp
  refine congrArg (V m c main_v3) (funext fun a => Fin.ext ?_)
  fin_cases a <;> blk_simp [idx3 t] <;> first | rfl | (show t.val % 5 * 1024 + k.val = 1024 * j.val + k.val; omega)

theorem blk4 (c : Dev nD) (t : Fin cfg0.N) (j : Fin 5) (hj : t.val % 5 = j.val) (k : Fin 1024) : iblk m c 4 t (ix3 0 0 k) = (argsOf m c).b j k := by
  rw [← V_v5 m c]
  unfold iblk
  blk_simp
  refine congrArg (V m c main_v5) (funext fun a => Fin.ext ?_)
  fin_cases a <;> blk_simp [idx4 t] <;> first | rfl | (exact hj)

theorem blk5 (c : Dev nD) (t : Fin cfg0.N) (j : Fin 5) (hj : t.val % 5 = j.val) (k : Fin 512) (d : Fin 1024) : iblk m c 5 t (ix3 0 k d) = (argsOf m c).wb j k d := by
  rw [← V_v6 m c]
  unfold iblk
  blk_simp
  refine congrArg (V m c main_v6) (funext fun a => Fin.ext ?_)
  fin_cases a <;> blk_simp [idx5 t] <;> first | rfl | (exact hj)

theorem blk6 (c : Dev nD) (t : Fin cfg0.N) (k d : Fin 1024) : iblk m c 6 t (ix2 k d) = (argsOf m c).wo k d := by
  rw [← V_v7 m c]
  unfold iblk
  blk_simp
  refine congrArg (V m c main_v7) (funext fun a => Fin.ext ?_)
  fin_cases a <;> blk_simp [idx6 t]

/-- What a grid point adds to the accumulator `acc`, from the normalised tokens `H` and its branch's output `o`. -/
def stepAt (c : Dev nD) (t : Fin cfg0.N) (H : Vec Ideal S512x1024 .bf16) (o : Vec Ideal S512x512 .f32) (acc : Vec Ideal S512x1024 .f32) : Vec Ideal S512x1024 .f32 :=
  step H o (iblk m c 2 t) (iblk m c 3 t) (iblk m c 4 t) (iblk m c 5 t) acc

/-- A grid point of branch `j` adds the branch's term. -/
theorem stepAt_apply (c : Dev nD) (t : Fin cfg0.N) (j : Fin 5) (hj : t.val % 5 = j.val) (H : Vec Ideal S512x1024 .bf16) (o : Vec Ideal S512x512 .f32)
    (acc : Vec Ideal S512x1024 .f32) (O : Fin 32768 → Fin 512 → EReal) (hH : ∀ r k, H (ix2 r k) = (argsOf m c).h (row t r) k)
    (ho : ∀ r k, o (ix2 r k) = O (row t r) k) (r : Fin 512) (d : Fin 1024) :
    stepAt m c t H o acc (ix2 r d) = acc (ix2 r d) + (argsOf m c).term j O (row t r) d := by
  unfold stepAt Args.term
  rw [step_apply]
  simp only [hH, ho, blk2 m c t j hj, blk3 m c t j hj, blk4 m c t j hj, blk5 m c t j hj]

end Cert.Kernel5Ideal.Merge

end
-- ==== Proof.SampleMergeCases.lean ====
module

public import proofs.«01_k».proof.Proof.SampleMergeBlocks
public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

namespace Cert.Kernel5Ideal.Merge

open Idealize.ShloMosaic Cert.Kernel5Ideal Cert.Kernel5Ideal.Gen Idealize.ShloMosaic.TcCoe Idealize.ShloMosaic.Tactic

variable (m : (ℓ : Loc nD τ sig) → Buf (Elt Ideal) ℓ)

/-- A block's first grid point normalises the tokens and adds the first branch to zero. -/
theorem afterA (c : Dev nD) (t : Fin cfg0.N) (h : t.val % 5 = 0) :
    (outsAt0 m c t.val t.isLt).2.1 = (k0_pay3 (iblk m c 0 t) (iblk m c 1 t))
    ∧ (outsAt0 m c t.val t.isLt).2.2 = stepAt m c t (k0_pay3 (iblk m c 0 t) (iblk m c 1 t)) (iblk m c 7 t) (k0_pay4 (F := Ideal)) := by
  constructor
  · rw [outsAt0_A m c t h (by omega) (by omega) (by omega) (by omega) (by omega)]
    frame_out
  · rw [outsAt0_A m c t h (by omega) (by omega) (by omega) (by omega) (by omega)]
    frame_out
    rw [pay5_eq]
    rfl

/-- The second adds the second branch. -/
theorem afterB (c : Dev nD) (t : Fin cfg0.N) (h : t.val % 5 = 1) :
    (outsAt0 m c t.val t.isLt).2.1 = (outsAt0 m c (t.val - 1) (by have := t.isLt; omega)).2.1
    ∧ (outsAt0 m c t.val t.isLt).2.2 = stepAt m c t (outsAt0 m c (t.val - 1) (by have := t.isLt; omega)).2.1 (iblk m c 8 t) (outsAt0 m c (t.val - 1) (by have := t.isLt; omega)).2.2 := by
  constructor
  · rw [outsAt0_B m c t (by omega) h (by omega) (by omega) (by omega) (by omega)]
    rfl
  · rw [outsAt0_B m c t (by omega) h (by omega) (by omega) (by omega) (by omega)]
    frame_out
    simp only [read_unread_whole]
    rw [pay6_eq]
    rfl

/-- The third adds the third branch. -/
theorem afterC (c : Dev nD) (t : Fin cfg0.N) (h : t.val % 5 = 2) :
    (outsAt0 m c t.val t.isLt).2.1 = (outsAt0 m c (t.val - 1) (by have := t.isLt; omega)).2.1
    ∧ (outsAt0 m c t.val t.isLt).2.2 = stepAt m c t (outsAt0 m c (t.val - 1) (by have := t.isLt; omega)).2.1 (iblk m c 9 t) (outsAt0 m c (t.val - 1) (by have := t.isLt; omega)).2.2 := by
  constructor
  · rw [outsAt0_C m c t (by omega) (by omega) h (by omega) (by omega) (by omega)]
    rfl
  · rw [outsAt0_C m c t (by omega) (by omega) h (by omega) (by omega) (by omega)]
    frame_out
    simp only [read_unread_whole]
    rw [pay7_eq]
    rfl

/-- The fourth adds the mixture. -/
theorem afterD (c : Dev nD) (t : Fin cfg0.N) (h : t.val % 5 = 3) :
    (outsAt0 m c t.val t.isLt).2.1 = (outsAt0 m c (t.val - 1) (by have := t.isLt; omega)).2.1
    ∧ (outsAt0 m c t.val t.isLt).2.2 = stepAt m c t (outsAt0 m c (t.val - 1) (by have := t.isLt; omega)).2.1 (k0_pay8 (iblk m c 14 t) (iblk m c 15 t) (iblk m c 16 t) (iblk m c 11 t) (iblk m c 12 t) (iblk m c 13 t)) (outsAt0 m c (t.val - 1) (by have := t.isLt; omega)).2.2 := by
  constructor
  · rw [outsAt0_D m c t (by omega) (by omega) (by omega) h (by omega) (by omega)]
    rfl
  · rw [outsAt0_D m c t (by omega) (by omega) (by omega) h (by omega) (by omega)]
    frame_out
    simp only [read_unread_whole]
    rfl

/-- The fifth adds the last branch. -/
theorem afterE (c : Dev nD) (t : Fin cfg0.N) (h : t.val % 5 = 4) :
    (outsAt0 m c t.val t.isLt).2.1 = (outsAt0 m c (t.val - 1) (by have := t.isLt; omega)).2.1
    ∧ (outsAt0 m c t.val t.isLt).2.2 = stepAt m c t (outsAt0 m c (t.val - 1) (by have := t.isLt; omega)).2.1 (iblk m c 10 t) (outsAt0 m c (t.val - 1) (by have := t.isLt; omega)).2.2 := by
  constructor
  · rw [outsAt0_E m c t (by omega) (by omega) (by omega) (by omega) h h]
    rfl
  · rw [outsAt0_E m c t (by omega) (by omega) (by omega) (by omega) h h]
    frame_out
    simp only [read_unread_whole]
    rw [pay9_eq]
    rfl

/-- … and writes the result. -/
theorem out_last (c : Dev nD) (t : Fin cfg0.N) (h : t.val % 5 = 4) :
    (outsAt0 m c t.val t.isLt).1 = k0_pay2 (iblk m c 0 t) (outsAt0 m c t.val t.isLt).2.2 (iblk m c 6 t) := by
  rw [outsAt0_E m c t (by omega) (by omega) (by omega) (by omega) h h]
  frame_out

end Cert.Kernel5Ideal.Merge

end
-- ==== Proof.SampleMergeArray.lean ====
module

public import proofs.«01_k».proof.Proof.SampleMergeCases

@[expose] public section

set_option maxRecDepth 16384

noncomputable section

namespace Cert.Kernel5Ideal.Merge

open Idealize.ShloMosaic Cert.Kernel5Ideal Cert.Kernel5Ideal.Gen Idealize.ShloMosaic.TcCoe Idealize.ShloMosaic.Tactic Cert.Merge

variable (m : (ℓ : Loc nD τ sig) → Buf (Elt Ideal) ℓ)

/-- The grid point of row block `q` and branch `j`. -/
def pt (q : Fin 64) (j : Fin 5) : Fin cfg0.N := ⟨5 * q.val + j.val, by
  show 5 * q.val + j.val < 320
  omega⟩

theorem pt_mod (q : Fin 64) (j : Fin 5) : (pt q j).val % 5 = j.val := by
  show (5 * q.val + j.val) % 5 = j.val
  omega

theorem row_pt (q : Fin 64) (j : Fin 5) (r : Fin 512) : row (pt q j) r = ⟨512 * q.val + r.val, by omega⟩ := by
  refine Fin.ext ?_
  show 512 * ((5 * q.val + j.val) / 5) + r.val = 512 * q.val + r.val
  omega

/-- After the first grid point of a block: the normalised tokens, and the first branch's term. -/
theorem sem0 (c : Dev nD) (q : Fin 64) :
    (∀ r k, (outsAt0 m c (pt q 0).val (pt q 0).isLt).2.1 (ix2 r k) = (argsOf m c).h ⟨512 * q.val + r.val, by omega⟩ k)
    ∧ ∀ r d, (outsAt0 m c (pt q 0).val (pt q 0).isLt).2.2 (ix2 r d)
        = 0 + (argsOf m c).term 0 (argsOf m c).oa ⟨512 * q.val + r.val, by omega⟩ d := by
  have h := afterA m c (pt q 0) (pt_mod q 0)
  have hh : ∀ (r : Fin 512) (k : Fin 1024), k0_pay3 (F := Ideal) (iblk m c 0 (pt q 0)) (iblk m c 1 (pt q 0)) (ix2 r k) = (argsOf m c).h (row (pt q 0) r) k := by
    intro r k
    rw [pay3_apply]
    simp only [blk0, blk1]
    rfl
  refine ⟨fun r k => ?_, fun r d => ?_⟩
  · rw [h.1, hh, row_pt]
  · rw [h.2, stepAt_apply m c (pt q 0) 0 (pt_mod q 0) _ _ _ (argsOf m c).oa hh (blk7 m c _), pay4_apply, row_pt]

/-- After grid point 1 of a block the terms of the branches up to 1 are added. -/
theorem sem1 (c : Dev nD) (q : Fin 64) :
    (∀ r k, (outsAt0 m c (pt q 1).val (pt q 1).isLt).2.1 (ix2 r k) = (argsOf m c).h ⟨512 * q.val + r.val, by omega⟩ k)
    ∧ ∀ r d, (outsAt0 m c (pt q 1).val (pt q 1).isLt).2.2 (ix2 r d)
        = 0 + (argsOf m c).term 0 (argsOf m c).oa ⟨512 * q.val + r.val, by omega⟩ d + (argsOf m c).term 1 (argsOf m c).ob ⟨512 * q.val + r.val, by omega⟩ d := by
  obtain ⟨ih, ia⟩ := sem0 m c q
  have h1 : (outsAt0 m c (pt q 1).val (pt q 1).isLt).2.1 = (outsAt0 m c (pt q 0).val (pt q 0).isLt).2.1 := (afterB m c (pt q 1) (pt_mod q 1)).1
  have h2 : (outsAt0 m c (pt q 1).val (pt q 1).isLt).2.2 = stepAt m c (pt q 1) (outsAt0 m c (pt q 0).val (pt q 0).isLt).2.1 (iblk m c 8 (pt q 1)) (outsAt0 m c (pt q 0).val (pt q 0).isLt).2.2 := (afterB m c (pt q 1) (pt_mod q 1)).2
  have hh : ∀ (r : Fin 512) (k : Fin 1024), (outsAt0 m c (pt q 0).val (pt q 0).isLt).2.1 (ix2 r k) = (argsOf m c).h (row (pt q 1) r) k := fun r k => by rw [ih, row_pt]
  refine ⟨fun r k => by rw [h1, ih], fun r d => ?_⟩
  rw [h2, stepAt_apply m c (pt q 1) 1 (pt_mod q 1) _ _ _ (argsOf m c).ob hh (blk8 m c _), ia, row_pt]

/-- After grid point 2 of a block the terms of the branches up to 2 are added. -/
theorem sem2 (c : Dev nD) (q : Fin 64) :
    (∀ r k, (outsAt0 m c (pt q 2).val (pt q 2).isLt).2.1 (ix2 r k) = (argsOf m c).h ⟨512 * q.val + r.val, by omega⟩ k)
    ∧ ∀ r d, (outsAt0 m c (pt q 2).val (pt q 2).isLt).2.2 (ix2 r d)
        = 0 + (argsOf m c).term 0 (argsOf m c).oa ⟨512 * q.val + r.val, by omega⟩ d + (argsOf m c).term 1 (argsOf m c).ob ⟨512 * q.val + r.val, by omega⟩ d + (argsOf m c).term 2 (argsOf m c).oc ⟨512 * q.val + r.val, by omega⟩ d := by
  obtain ⟨ih, ia⟩ := sem1 m c q
  have h1 : (outsAt0 m c (pt q 2).val (pt q 2).isLt).2.1 = (outsAt0 m c (pt q 1).val (pt q 1).isLt).2.1 := (afterC m c (pt q 2) (pt_mod q 2)).1
  have h2 : (outsAt0 m c (pt q 2).val (pt q 2).isLt).2.2 = stepAt m c (pt q 2) (outsAt0 m c (pt q 1).val (pt q 1).isLt).2.1 (iblk m c 9 (pt q 2)) (outsAt0 m c (pt q 1).val (pt q 1).isLt).2.2 := (afterC m c (pt q 2) (pt_mod q 2)).2
  have hh : ∀ (r : Fin 512) (k : Fin 1024), (outsAt0 m c (pt q 1).val (pt q 1).isLt).2.1 (ix2 r k) = (argsOf m c).h (row (pt q 2) r) k := fun r k => by rw [ih, row_pt]
  refine ⟨fun r k => by rw [h1, ih], fun r d => ?_⟩
  rw [h2, stepAt_apply m c (pt q 2) 2 (pt_mod q 2) _ _ _ (argsOf m c).oc hh (blk9 m c _), ia, row_pt]

/-- After grid point 3 of a block the terms of the branches up to 3 are added. -/
theorem sem3 (c : Dev nD) (q : Fin 64) :
    (∀ r k, (outsAt0 m c (pt q 3).val (pt q 3).isLt).2.1 (ix2 r k) = (argsOf m c).h ⟨512 * q.val + r.val, by omega⟩ k)
    ∧ ∀ r d, (outsAt0 m c (pt q 3).val (pt q 3).isLt).2.2 (ix2 r d)
        = 0 + (argsOf m c).term 0 (argsOf m c).oa ⟨512 * q.val + r.val, by omega⟩ d + (argsOf m c).term 1 (argsOf m c).ob ⟨512 * q.val + r.val, by omega⟩ d + (argsOf m c).term 2 (argsOf m c).oc ⟨512 * q.val + r.val, by omega⟩ d + (argsOf m c).term 3 (argsOf m c).od ⟨512 * q.val + r.val, by omega⟩ d := by
  obtain ⟨ih, ia⟩ := sem2 m c q
  have h1 : (outsAt0 m c (pt q 3).val (pt q 3).isLt).2.1 = (outsAt0 m c (pt q 2).val (pt q 2).isLt).2.1 := (afterD m c (pt q 3) (pt_mod q 3)).1
  have h2 : (outsAt0 m c (pt q 3).val (pt q 3).isLt).2.2 = stepAt m c (pt q 3) (outsAt0 m c (pt q 2).val (pt q 2).isLt).2.1 (k0_pay8 (F := Ideal) (iblk m c 14 (pt q 3)) (iblk m c 15 (pt q 3)) (iblk m c 16 (pt q 3)) (iblk m c 11 (pt q 3)) (iblk m c 12 (pt q 3)) (iblk m c 13 (pt q 3))) (outsAt0 m c (pt q 2).val (pt q 2).isLt).2.2 := (afterD m c (pt q 3) (pt_mod q 3)).2
  have ho : ∀ (r k : Fin 512), (k0_pay8 (F := Ideal) (iblk m c 14 (pt q 3)) (iblk m c 15 (pt q 3)) (iblk m c 16 (pt q 3)) (iblk m c 11 (pt q 3)) (iblk m c 12 (pt q 3)) (iblk m c 13 (pt q 3))) (ix2 r k) = (argsOf m c).od (row (pt q 3) r) k := by
    intro r k
    rw [pay8_apply, blk11, blk12, blk13, blk14, blk15, blk16]
    rfl
  have hh : ∀ (r : Fin 512) (k : Fin 1024), (outsAt0 m c (pt q 2).val (pt q 2).isLt).2.1 (ix2 r k) = (argsOf m c).h (row (pt q 3) r) k := fun r k => by rw [ih, row_pt]
  refine ⟨fun r k => by rw [h1, ih], fun r d => ?_⟩
  rw [h2, stepAt_apply m c (pt q 3) 3 (pt_mod q 3) _ _ _ (argsOf m c).od hh ho, ia, row_pt]

/-- After grid point 4 of a block the terms of the branches up to 4 are added. -/
theorem sem4 (c : Dev nD) (q : Fin 64) :
    (∀ r k, (outsAt0 m c (pt q 4).val (pt q 4).isLt).2.1 (ix2 r k) = (argsOf m c).h ⟨512 * q.val + r.val, by omega⟩ k)
    ∧ ∀ r d, (outsAt0 m c (pt q 4).val (pt q 4).isLt).2.2 (ix2 r d)
        = 0 + (argsOf m c).term 0 (argsOf m c).oa ⟨512 * q.val + r.val, by omega⟩ d + (argsOf m c).term 1 (argsOf m c).ob ⟨512 * q.val + r.val, by omega⟩ d + (argsOf m c).term 2 (argsOf m c).oc ⟨512 * q.val + r.val, by omega⟩ d + (argsOf m c).term 3 (argsOf m c).od ⟨512 * q.val + r.val, by omega⟩ d + (argsOf m c).term 4 (argsOf m c).om ⟨512 * q.val + r.val, by omega⟩ d := by
  obtain ⟨ih, ia⟩ := sem3 m c q
  have h1 : (outsAt0 m c (pt q 4).val (pt q 4).isLt).2.1 = (outsAt0 m c (pt q 3).val (pt q 3).isLt).2.1 := (afterE m c (pt q 4) (pt_mod q 4)).1
  have h2 : (outsAt0 m c (pt q 4).val (pt q 4).isLt).2.2 = stepAt m c (pt q 4) (outsAt0 m c (pt q 3).val (pt q 3).isLt).2.1 (iblk m c 10 (pt q 4)) (outsAt0 m c (pt q 3).val (pt q 3).isLt).2.2 := (afterE m c (pt q 4) (pt_mod q 4)).2
  have hh : ∀ (r : Fin 512) (k : Fin 1024), (outsAt0 m c (pt q 3).val (pt q 3).isLt).2.1 (ix2 r k) = (argsOf m c).h (row (pt q 4) r) k := fun r k => by rw [ih, row_pt]
  refine ⟨fun r k => by rw [h1, ih], fun r d => ?_⟩
  rw [h2, stepAt_apply m c (pt q 4) 4 (pt_mod q 4) _ _ _ (argsOf m c).om hh (blk10 m c _), ia, row_pt]

/-- The result array. -/
def G (A : Args 32768) : S32768x1024.Idx → EReal := fun i => A.out (i 0) (i 1)

/-- After the run the result array is the merge of the arguments. -/
theorem arr_eq (c : Dev nD) : (dats m 0 c).arrAt 17 cfg0.N = G (argsOf m c) := by
  refine (dats m 0 c).arrAt_eq_of_covers 17 _ (by decide +kernel) fun t hf y => ?_
  have hm : t.val % 5 = 4 := (flush0_17 t).1 hf
  have ht : t.val < 320 := t.isLt
  obtain ⟨q, rfl⟩ : ∃ q : Fin 64, t = pt q 4 := ⟨⟨t.val / 5, by omega⟩, Fin.ext (by show t.val = 5 * (t.val / 5) + 4; omega)⟩
  blk_simp
  rw [after0_17, out_last m c (pt q 4) hm]
  obtain ⟨r, d, rfl⟩ : ∃ (r : Fin 512) (d : Fin 1024), y = ix2 r d := ⟨y 0, y 1, by funext a; fin_cases a <;> rfl⟩
  rw [show G (argsOf m c) ((win0_17.blk (pt q 4)).view.emb (ix2 r d)) = (argsOf m c).out ⟨512 * q.val + r.val, by omega⟩ d from ?_]
  · rw [pay2_apply, blk0, row_pt]
    refine congrArg (fun u : EReal => (argsOf m c).x ⟨512 * q.val + r.val, by omega⟩ d + u) (Finset.sum_congr rfl fun k _ => ?_)
    rw [(sem4 m c q).2, blk6]
    rfl
  · unfold G
    have f0 : ((win0_17.blk (pt q 4)).view.emb (ix2 r d) 0).val = (pt q 4).val / 5 * 512 + r.val := by blk_simp [idx17]
    have f1 : ((win0_17.blk (pt q 4)).view.emb (ix2 r d) 1).val = d.val := by blk_simp [idx17]
    have e : (pt q 4).val = 5 * q.val + 4 := rfl
    exact congrArg₂ (argsOf m c).out (Fin.ext (by rw [f0, e]; show _ = 512 * q.val + r.val; omega)) (Fin.ext f1)

end Cert.Kernel5Ideal.Merge

end
-- ==== Proof.SampleMergeRef.lean ====
module

public import proofs.«01_k».proof.Proof.MergeSpec
public import proofs.«01_k».proof.Proof.Gen.Reference5Ideal.Read
public import Idealize.ShloMosaic.Lib.Pointwise
public import Idealize.ShloMosaic.Lib.Pointwise.Tactic

@[expose] public section

set_option maxRecDepth 16384

noncomputable section

namespace Cert.Reference5Ideal.Merge

open Idealize.ShloMosaic Cert.Reference5Ideal Cert.Reference5Ideal.Gen Cert.Reference5Ideal.Read Idealize.ShloMosaic.TcCoe Idealize.ShloMosaic.Tactic Cert.Merge

/-- The running maximum starts below everything. -/
theorem negInf : Ideal.ofBits .f32 0xFF800000#32 = ⊥ := by
  simp [Ideal.ofBits, Ideal.ieee]

variable (x0 : (⟨S32768x1024, .f32⟩ : BufTy).Contents (Elt Ideal)) (x1 : (⟨S1024, .f32⟩ : BufTy).Contents (Elt Ideal))
  (x2 : (⟨S1024x15520, .f32⟩ : BufTy).Contents (Elt Ideal)) (x3 : (⟨S5x1024, .f32⟩ : BufTy).Contents (Elt Ideal))
  (x4 : (⟨S5x512x1024, .f32⟩ : BufTy).Contents (Elt Ideal)) (x5 : (⟨S1024x1024, .f32⟩ : BufTy).Contents (Elt Ideal))
  (x6 x7 x8 x9 x10 x11 x12 : (⟨S32768x512, .bf16⟩ : BufTy).Contents (Elt Ideal))
  (x13 x14 x15 : (⟨S32768x512, .f32⟩ : BufTy).Contents (Elt Ideal)) (A : Args 32768)

/-- The arguments' buffers hold `A`. -/
structure Holds : Prop where
  x : ∀ i, x0 i = A.x (i 0) (i 1)
  g : ∀ i, x1 i = A.g (i 0)
  w : ∀ i, x2 i = A.w (i 0) (i 1)
  b : ∀ i, x3 i = A.b (i 0) (i 1)
  wb : ∀ i, x4 i = A.wb (i 0) (i 1) (i 2)
  wo : ∀ i, x5 i = A.wo (i 0) (i 1)
  oa : ∀ i, x6 i = A.oa (i 0) (i 1)
  ob : ∀ i, x7 i = A.ob (i 0) (i 1)
  oc : ∀ i, x8 i = A.oc (i 0) (i 1)
  om : ∀ i, x9 i = A.om (i 0) (i 1)
  d0 : ∀ i, x10 i = A.d0 (i 0) (i 1)
  d1 : ∀ i, x11 i = A.d1 (i 0) (i 1)
  d2 : ∀ i, x12 i = A.d2 (i 0) (i 1)
  l0 : ∀ i, x13 i = A.l0 (i 0) (i 1)
  l1 : ∀ i, x14 i = A.l1 (i 0) (i 1)
  l2 : ∀ i, x15 i = A.l2 (i 0) (i 1)

variable (H : Holds x0 x1 x2 x3 x4 x5 x6 x7 x8 x9 x10 x11 x12 x13 x14 x15 A)
include H

/-- The normalised tokens. -/
theorem h_read (i : S32768x1024.Idx) : val_main_v12 x0 x1 i = A.h (i 0) (i 1) := by
  rw [val_main_v12_apply, val_main_v9_apply, val_main_v8_apply, val_main_v7_apply, val_main_v6_apply, val_main_v5_apply, val_main_v4_apply,
    val_main_v3_apply, val_main_v2_apply, val_main_v1_apply, val_main_v11_apply, val_main_v10_apply, H.x, H.g,
    show val_main_cst (F := Ideal) (Shape.Idx.first h_S_) = 0 from Ideal.ofBits_zero_f32, zero_add]
  simp only [val_main_v0_apply, H.x]
  rfl

/-- Branch 0's `z`. -/
theorem z_read0 (i : S32768x512.Idx) : val_main_v44 x0 x1 x2 i = ∑ x, A.h (i 0) x * A.w x (zc 0 (i 1)) := by
  rw [val_main_v44_apply, val_main_v14_apply]
  refine Finset.sum_congr rfl fun x _ => ?_
  rw [h_read x0 x1 x2 x3 x4 x5 x6 x7 x8 x9 x10 x11 x12 x13 x14 x15 A H, val_main_v13_apply, H.w]
  refine congrArg (fun u => A.h (i 0) x * A.w x u) (Fin.ext ?_)
  show 7840 + (i 1).val = 7840 + 0 + (i 1).val
  omega

/-- Branch 0's gate before the bias. -/
theorem g_read0 (i : S32768x1024.Idx) : val_main_v46 x0 x1 x2 i = ∑ x, A.h (i 0) x * A.w x (gc 0 (i 1)) := by
  rw [val_main_v46_apply, val_main_v16_apply]
  refine Finset.sum_congr rfl fun x _ => ?_
  rw [h_read x0 x1 x2 x3 x4 x5 x6 x7 x8 x9 x10 x11 x12 x13 x14 x15 A H, val_main_v15_apply, H.w]
  refine congrArg (fun u => A.h (i 0) x * A.w x u) (Fin.ext ?_)
  show 10400 + (i 1).val = 10400 + 0 + (i 1).val
  omega

/-- Branch 0's bias. -/
theorem b_read0 (i : S32768x1024.Idx) : val_main_v50 x3 i = A.b 0 (i 1) := by
  rw [val_main_v50_apply, val_main_v49_apply, val_main_v48_apply, val_main_v47_apply, H.b]
  refine congrArg (A.b 0) (Fin.ext ?_)
  exact Nat.mod_eq_of_lt (i 1).isLt

/-- Branch 0's weights. -/
theorem wb_read0 (i : S512x1024.Idx) : val_main_v60 x4 i = A.wb 0 (i 0) (i 1) := by
  have h0 : (i 0).val < 512 := (i 0).isLt
  have h1 : (i 1).val < 1024 := (i 1).isLt
  rw [val_main_v60_apply, val_main_v59_apply, H.wb]
  refine congrArg₂ (A.wb 0) (Fin.ext ?_) (Fin.ext ?_)
  · show ((i 0).val * 1024 + (i 1).val) / 1024 % 512 = (i 0).val
    omega
  · show ((i 0).val * 1024 + (i 1).val) % 1024 = (i 1).val
    omega

/-- Branch 0's term. -/
theorem t_read0 (i : S32768x1024.Idx) : val_main_v62 x0 x1 x2 x3 x4 x6 i = A.term 0 A.oa (i 0) (i 1) := by
  have hz := z_read0 x0 x1 x2 x3 x4 x5 x6 x7 x8 x9 x10 x11 x12 x13 x14 x15 A H
  rw [val_main_v62_apply, val_main_v57_apply, val_main_v55_apply, val_main_v53_apply, val_main_v52_apply, val_main_v51_apply,
    g_read0 x0 x1 x2 x3 x4 x5 x6 x7 x8 x9 x10 x11 x12 x13 x14 x15 A H, b_read0 x0 x1 x2 x3 x4 x5 x6 x7 x8 x9 x10 x11 x12 x13 x14 x15 A H, val_main_v61_apply]
  refine (gate_mul _ _).trans (congrArg₂ gated (Finset.sum_congr rfl fun k _ => ?_) rfl)
  rw [val_main_v58_apply, wb_read0 x0 x1 x2 x3 x4 x5 x6 x7 x8 x9 x10 x11 x12 x13 x14 x15 A H, val_main_v45_apply, val_main_call0_v5_apply, val_main_call0_v3_apply, val_main_call0_v1_apply, val_main_call0_v0_apply, hz,
    val_main_v40_apply, H.oa]
  exact congrArg (fun u : EReal => A.oa (i 0) k * u * A.wb 0 k (i 1)) (mul_gate _ _)

/-- Branch 1's `z`. -/
theorem z_read1 (i : S32768x512.Idx) : val_main_v64 x0 x1 x2 i = ∑ x, A.h (i 0) x * A.w x (zc 1 (i 1)) := by
  rw [val_main_v64_apply, val_main_v14_apply]
  refine Finset.sum_congr rfl fun x _ => ?_
  rw [h_read x0 x1 x2 x3 x4 x5 x6 x7 x8 x9 x10 x11 x12 x13 x14 x15 A H, val_main_v13_apply, H.w]
  refine congrArg (fun u => A.h (i 0) x * A.w x u) (Fin.ext ?_)
  show 7840 + (512 + (i 1).val) = 7840 + 512 + (i 1).val
  omega

/-- Branch 1's gate before the bias. -/
theorem g_read1 (i : S32768x1024.Idx) : val_main_v66 x0 x1 x2 i = ∑ x, A.h (i 0) x * A.w x (gc 1 (i 1)) := by
  rw [val_main_v66_apply, val_main_v16_apply]
  refine Finset.sum_congr rfl fun x _ => ?_
  rw [h_read x0 x1 x2 x3 x4 x5 x6 x7 x8 x9 x10 x11 x12 x13 x14 x15 A H, val_main_v15_apply, H.w]
  refine congrArg (fun u => A.h (i 0) x * A.w x u) (Fin.ext ?_)
  show 10400 + (1024 + (i 1).val) = 10400 + 1024 + (i 1).val
  omega

/-- Branch 1's bias. -/
theorem b_read1 (i : S32768x1024.Idx) : val_main_v70 x3 i = A.b 1 (i 1) := by
  rw [val_main_v70_apply, val_main_v69_apply, val_main_v68_apply, val_main_v67_apply, H.b]
  refine congrArg (A.b 1) (Fin.ext ?_)
  exact Nat.mod_eq_of_lt (i 1).isLt

/-- Branch 1's weights. -/
theorem wb_read1 (i : S512x1024.Idx) : val_main_v80 x4 i = A.wb 1 (i 0) (i 1) := by
  have h0 : (i 0).val < 512 := (i 0).isLt
  have h1 : (i 1).val < 1024 := (i 1).isLt
  rw [val_main_v80_apply, val_main_v79_apply, H.wb]
  refine congrArg₂ (A.wb 1) (Fin.ext ?_) (Fin.ext ?_)
  · show ((i 0).val * 1024 + (i 1).val) / 1024 % 512 = (i 0).val
    omega
  · show ((i 0).val * 1024 + (i 1).val) % 1024 = (i 1).val
    omega

/-- Branch 1's term. -/
theorem t_read1 (i : S32768x1024.Idx) : val_main_v82 x0 x1 x2 x3 x4 x7 i = A.term 1 A.ob (i 0) (i 1) := by
  have hz := z_read1 x0 x1 x2 x3 x4 x5 x6 x7 x8 x9 x10 x11 x12 x13 x14 x15 A H
  rw [val_main_v82_apply, val_main_v77_apply, val_main_v75_apply, val_main_v73_apply, val_main_v72_apply, val_main_v71_apply,
    g_read1 x0 x1 x2 x3 x4 x5 x6 x7 x8 x9 x10 x11 x12 x13 x14 x15 A H, b_read1 x0 x1 x2 x3 x4 x5 x6 x7 x8 x9 x10 x11 x12 x13 x14 x15 A H, val_main_v81_apply]
  refine (gate_mul _ _).trans (congrArg₂ gated (Finset.sum_congr rfl fun k _ => ?_) rfl)
  rw [val_main_v78_apply, wb_read1 x0 x1 x2 x3 x4 x5 x6 x7 x8 x9 x10 x11 x12 x13 x14 x15 A H, val_main_v65_apply, val_main_call1_v5_apply, val_main_call1_v3_apply, val_main_call1_v1_apply, val_main_call1_v0_apply, hz,
    val_main_v41_apply, H.ob]
  exact congrArg (fun u : EReal => A.ob (i 0) k * u * A.wb 1 k (i 1)) (mul_gate _ _)

/-- Branch 2's `z`. -/
theorem z_read2 (i : S32768x512.Idx) : val_main_v84 x0 x1 x2 i = ∑ x, A.h (i 0) x * A.w x (zc 2 (i 1)) := by
  rw [val_main_v84_apply, val_main_v14_apply]
  refine Finset.sum_congr rfl fun x _ => ?_
  rw [h_read x0 x1 x2 x3 x4 x5 x6 x7 x8 x9 x10 x11 x12 x13 x14 x15 A H, val_main_v13_apply, H.w]
  refine congrArg (fun u => A.h (i 0) x * A.w x u) (Fin.ext ?_)
  show 7840 + (1024 + (i 1).val) = 7840 + 1024 + (i 1).val
  omega

/-- Branch 2's gate before the bias. -/
theorem g_read2 (i : S32768x1024.Idx) : val_main_v86 x0 x1 x2 i = ∑ x, A.h (i 0) x * A.w x (gc 2 (i 1)) := by
  rw [val_main_v86_apply, val_main_v16_apply]
  refine Finset.sum_congr rfl fun x _ => ?_
  rw [h_read x0 x1 x2 x3 x4 x5 x6 x7 x8 x9 x10 x11 x12 x13 x14 x15 A H, val_main_v15_apply, H.w]
  refine congrArg (fun u => A.h (i 0) x * A.w x u) (Fin.ext ?_)
  show 10400 + (2048 + (i 1).val) = 10400 + 2048 + (i 1).val
  omega

/-- Branch 2's bias. -/
theorem b_read2 (i : S32768x1024.Idx) : val_main_v90 x3 i = A.b 2 (i 1) := by
  rw [val_main_v90_apply, val_main_v89_apply, val_main_v88_apply, val_main_v87_apply, H.b]
  refine congrArg (A.b 2) (Fin.ext ?_)
  exact Nat.mod_eq_of_lt (i 1).isLt

/-- Branch 2's weights. -/
theorem wb_read2 (i : S512x1024.Idx) : val_main_v100 x4 i = A.wb 2 (i 0) (i 1) := by
  have h0 : (i 0).val < 512 := (i 0).isLt
  have h1 : (i 1).val < 1024 := (i 1).isLt
  rw [val_main_v100_apply, val_main_v99_apply, H.wb]
  refine congrArg₂ (A.wb 2) (Fin.ext ?_) (Fin.ext ?_)
  · show ((i 0).val * 1024 + (i 1).val) / 1024 % 512 = (i 0).val
    omega
  · show ((i 0).val * 1024 + (i 1).val) % 1024 = (i 1).val
    omega

/-- Branch 2's term. -/
theorem t_read2 (i : S32768x1024.Idx) : val_main_v102 x0 x1 x2 x3 x4 x8 i = A.term 2 A.oc (i 0) (i 1) := by
  have hz := z_read2 x0 x1 x2 x3 x4 x5 x6 x7 x8 x9 x10 x11 x12 x13 x14 x15 A H
  rw [val_main_v102_apply, val_main_v97_apply, val_main_v95_apply, val_main_v93_apply, val_main_v92_apply, val_main_v91_apply,
    g_read2 x0 x1 x2 x3 x4 x5 x6 x7 x8 x9 x10 x11 x12 x13 x14 x15 A H, b_read2 x0 x1 x2 x3 x4 x5 x6 x7 x8 x9 x10 x11 x12 x13 x14 x15 A H, val_main_v101_apply]
  refine (gate_mul _ _).trans (congrArg₂ gated (Finset.sum_congr rfl fun k _ => ?_) rfl)
  rw [val_main_v98_apply, wb_read2 x0 x1 x2 x3 x4 x5 x6 x7 x8 x9 x10 x11 x12 x13 x14 x15 A H, val_main_v85_apply, val_main_call2_v5_apply, val_main_call2_v3_apply, val_main_call2_v1_apply, val_main_call2_v0_apply, hz,
    val_main_v42_apply, H.oc]
  exact congrArg (fun u : EReal => A.oc (i 0) k * u * A.wb 2 k (i 1)) (mul_gate _ _)

/-- The three exponents side by side. -/
theorem cat_l (i : S3x32768x512.Idx) : val_main_v20 x13 x14 x15 i = ![A.l0, A.l1, A.l2] (i 0) (i 1) (i 2) := by
  have e := concatenate_ofFn_unit_apply (t := S3x32768x512) (s₁ := S1x32768x512) 0 (N := 3)
    ![val_main_v17 x13, val_main_v18 x14, val_main_v19 x15] concatenates_S1x32768x512_S1x32768x512_S1x32768x512_S3x32768x512_d0 rfl rfl i (i 0) rfl
    (ix3 0 (i 1) (i 2)) (by intro b hb; fin_cases b <;> first | rfl | exact absurd rfl hb)
  refine Eq.trans e ?_
  have hj : ∀ j : Fin 3, (![val_main_v17 x13, val_main_v18 x14, val_main_v19 x15] : Fin 3 → S1x32768x512.Idx → EReal) j (ix3 0 (i 1) (i 2)) = ![A.l0, A.l1, A.l2] j (i 1) (i 2) := by
    intro j
    fin_cases j
    · show val_main_v17 x13 (ix3 0 (i 1) (i 2)) = _
      rw [val_main_v17_apply, H.l0]
      rfl
    · show val_main_v18 x14 (ix3 0 (i 1) (i 2)) = _
      rw [val_main_v18_apply, H.l1]
      rfl
    · show val_main_v19 x15 (ix3 0 (i 1) (i 2)) = _
      rw [val_main_v19_apply, H.l2]
      rfl
  exact hj (i 0)

/-- The three window results side by side. -/
theorem cat_d (i : S3x32768x512.Idx) : val_main_v35 x10 x11 x12 i = ![A.d0, A.d1, A.d2] (i 0) (i 1) (i 2) := by
  have e := concatenate_ofFn_unit_apply (t := S3x32768x512) (s₁ := S1x32768x512) 0 (N := 3)
    ![val_main_v32 x10, val_main_v33 x11, val_main_v34 x12] concatenates_S1x32768x512_S1x32768x512_S1x32768x512_S3x32768x512_d0 rfl rfl i (i 0) rfl
    (ix3 0 (i 1) (i 2)) (by intro b hb; fin_cases b <;> first | rfl | exact absurd rfl hb)
  refine Eq.trans e ?_
  have hj : ∀ j : Fin 3, (![val_main_v32 x10, val_main_v33 x11, val_main_v34 x12] : Fin 3 → S1x32768x512.Idx → EReal) j (ix3 0 (i 1) (i 2)) = ![A.d0, A.d1, A.d2] j (i 1) (i 2) := by
    intro j
    fin_cases j
    · show val_main_v32 x10 (ix3 0 (i 1) (i 2)) = _
      rw [val_main_v32_apply, H.d0]
      rfl
    · show val_main_v33 x11 (ix3 0 (i 1) (i 2)) = _
      rw [val_main_v33_apply, H.d1]
      rfl
    · show val_main_v34 x12 (ix3 0 (i 1) (i 2)) = _
      rw [val_main_v34_apply, H.d2]
      rfl
  exact hj (i 0)

/-- The largest exponent. -/
theorem max_l (i : S32768x512.Idx) : val_main_v23 x13 x14 x15 i = max (max (A.l0 (i 0) (i 1)) (A.l1 (i 0) (i 1))) (A.l2 (i 0) (i 1)) := by
  rw [val_main_v23_apply]
  unfold val_main_v21
  pointwise
  have hC := cat_l x0 x1 x2 x3 x4 x5 x6 x7 x8 x9 x10 x11 x12 x13 x14 x15 A H
  simp only [hC]
  rw [show (Finset.univ : Finset (Fin 3)) = {0, 1, 2} from by decide]
  rw [show val_main_v22 (F := Ideal) i = ⊥ from (val_main_v22_apply _).trans negInf, show val_main_cst_2 (F := Ideal) (Shape.Idx.first h_S_) = ⊥ from negInf]
  rw [Finset.fold_insert (by decide), Finset.fold_insert (by decide), Finset.fold_singleton, max_bot_left, max_bot_right, max_assoc]
  rfl

/-- The fourth branch's output. -/
theorem od_read (i : S32768x512.Idx) : val_main_v38 x10 x11 x12 x13 x14 x15 i = A.od (i 0) (i 1) := by
  have hC := cat_l x0 x1 x2 x3 x4 x5 x6 x7 x8 x9 x10 x11 x12 x13 x14 x15 A H
  have hD := cat_d x0 x1 x2 x3 x4 x5 x6 x7 x8 x9 x10 x11 x12 x13 x14 x15 A H
  have hM := max_l x0 x1 x2 x3 x4 x5 x6 x7 x8 x9 x10 x11 x12 x13 x14 x15 A H
  have hE : ∀ i, val_main_v27 x13 x14 x15 i = Ideal.exp (![A.l0, A.l1, A.l2] (i 0) (i 1) (i 2)
      - max (max (A.l0 (i 1) (i 2)) (A.l1 (i 1) (i 2))) (A.l2 (i 1) (i 2))) := by
    intro i
    rw [val_main_v27_apply, val_main_v26_apply, hC, val_main_v25_apply, val_main_v24_apply, hM]
    rfl
  rw [val_main_v38_apply, show val_main_cst_5 (F := Ideal) (Shape.Idx.first h_S_) = 0 from Ideal.ofBits_zero_f32, zero_add, Fin.sum_univ_three]
  simp only [val_main_v37_apply, val_main_v31_apply, val_main_v30_apply, val_main_v29_apply, val_main_v28_apply, val_main_v36_apply, hD, hE,
    show val_main_cst_4 (F := Ideal) (Shape.Idx.first h_S_) = 0 from Ideal.ofBits_zero_f32, zero_add, Fin.sum_univ_three]
  rfl

/-- Branch 3's `z`. -/
theorem z_read3 (i : S32768x512.Idx) : val_main_v104 x0 x1 x2 i = ∑ x, A.h (i 0) x * A.w x (zc 3 (i 1)) := by
  rw [val_main_v104_apply, val_main_v14_apply]
  refine Finset.sum_congr rfl fun x _ => ?_
  rw [h_read x0 x1 x2 x3 x4 x5 x6 x7 x8 x9 x10 x11 x12 x13 x14 x15 A H, val_main_v13_apply, H.w]
  refine congrArg (fun u => A.h (i 0) x * A.w x u) (Fin.ext ?_)
  show 7840 + (1536 + (i 1).val) = 7840 + 1536 + (i 1).val
  omega

/-- Branch 3's gate before the bias. -/
theorem g_read3 (i : S32768x1024.Idx) : val_main_v106 x0 x1 x2 i = ∑ x, A.h (i 0) x * A.w x (gc 3 (i 1)) := by
  rw [val_main_v106_apply, val_main_v16_apply]
  refine Finset.sum_congr rfl fun x _ => ?_
  rw [h_read x0 x1 x2 x3 x4 x5 x6 x7 x8 x9 x10 x11 x12 x13 x14 x15 A H, val_main_v15_apply, H.w]
  refine congrArg (fun u => A.h (i 0) x * A.w x u) (Fin.ext ?_)
  show 10400 + (3072 + (i 1).val) = 10400 + 3072 + (i 1).val
  omega

/-- Branch 3's bias. -/
theorem b_read3 (i : S32768x1024.Idx) : val_main_v110 x3 i = A.b 3 (i 1) := by
  rw [val_main_v110_apply, val_main_v109_apply, val_main_v108_apply, val_main_v107_apply, H.b]
  refine congrArg (A.b 3) (Fin.ext ?_)
  exact Nat.mod_eq_of_lt (i 1).isLt

/-- Branch 3's weights. -/
theorem wb_read3 (i : S512x1024.Idx) : val_main_v120 x4 i = A.wb 3 (i 0) (i 1) := by
  have h0 : (i 0).val < 512 := (i 0).isLt
  have h1 : (i 1).val < 1024 := (i 1).isLt
  rw [val_main_v120_apply, val_main_v119_apply, H.wb]
  refine congrArg₂ (A.wb 3) (Fin.ext ?_) (Fin.ext ?_)
  · show ((i 0).val * 1024 + (i 1).val) / 1024 % 512 = (i 0).val
    omega
  · show ((i 0).val * 1024 + (i 1).val) % 1024 = (i 1).val
    omega

/-- Branch 3's term. -/
theorem t_read3 (i : S32768x1024.Idx) : val_main_v122 x0 x1 x2 x3 x4 x10 x11 x12 x13 x14 x15 i = A.term 3 A.od (i 0) (i 1) := by
  have hz := z_read3 x0 x1 x2 x3 x4 x5 x6 x7 x8 x9 x10 x11 x12 x13 x14 x15 A H
  rw [val_main_v122_apply, val_main_v117_apply, val_main_v115_apply, val_main_v113_apply, val_main_v112_apply, val_main_v111_apply,
    g_read3 x0 x1 x2 x3 x4 x5 x6 x7 x8 x9 x10 x11 x12 x13 x14 x15 A H, b_read3 x0 x1 x2 x3 x4 x5 x6 x7 x8 x9 x10 x11 x12 x13 x14 x15 A H, val_main_v121_apply]
  refine (gate_mul _ _).trans (congrArg₂ gated (Finset.sum_congr rfl fun k _ => ?_) rfl)
  rw [val_main_v118_apply, wb_read3 x0 x1 x2 x3 x4 x5 x6 x7 x8 x9 x10 x11 x12 x13 x14 x15 A H, val_main_v105_apply, val_main_call3_v5_apply, val_main_call3_v3_apply, val_main_call3_v1_apply, val_main_call3_v0_apply, hz,
    od_read x0 x1 x2 x3 x4 x5 x6 x7 x8 x9 x10 x11 x12 x13 x14 x15 A H]
  exact congrArg (fun u : EReal => A.od (i 0) k * u * A.wb 3 k (i 1)) (mul_gate _ _)

/-- Branch 4's `z`. -/
theorem z_read4 (i : S32768x512.Idx) : val_main_v124 x0 x1 x2 i = ∑ x, A.h (i 0) x * A.w x (zc 4 (i 1)) := by
  rw [val_main_v124_apply, val_main_v14_apply]
  refine Finset.sum_congr rfl fun x _ => ?_
  rw [h_read x0 x1 x2 x3 x4 x5 x6 x7 x8 x9 x10 x11 x12 x13 x14 x15 A H, val_main_v13_apply, H.w]
  refine congrArg (fun u => A.h (i 0) x * A.w x u) (Fin.ext ?_)
  show 7840 + (2048 + (i 1).val) = 7840 + 2048 + (i 1).val
  omega

/-- Branch 4's gate before the bias. -/
theorem g_read4 (i : S32768x1024.Idx) : val_main_v126 x0 x1 x2 i = ∑ x, A.h (i 0) x * A.w x (gc 4 (i 1)) := by
  rw [val_main_v126_apply, val_main_v16_apply]
  refine Finset.sum_congr rfl fun x _ => ?_
  rw [h_read x0 x1 x2 x3 x4 x5 x6 x7 x8 x9 x10 x11 x12 x13 x14 x15 A H, val_main_v15_apply, H.w]
  refine congrArg (fun u => A.h (i 0) x * A.w x u) (Fin.ext ?_)
  show 10400 + (4096 + (i 1).val) = 10400 + 4096 + (i 1).val
  omega

/-- Branch 4's bias. -/
theorem b_read4 (i : S32768x1024.Idx) : val_main_v130 x3 i = A.b 4 (i 1) := by
  rw [val_main_v130_apply, val_main_v129_apply, val_main_v128_apply, val_main_v127_apply, H.b]
  refine congrArg (A.b 4) (Fin.ext ?_)
  exact Nat.mod_eq_of_lt (i 1).isLt

/-- Branch 4's weights. -/
theorem wb_read4 (i : S512x1024.Idx) : val_main_v140 x4 i = A.wb 4 (i 0) (i 1) := by
  have h0 : (i 0).val < 512 := (i 0).isLt
  have h1 : (i 1).val < 1024 := (i 1).isLt
  rw [val_main_v140_apply, val_main_v139_apply, H.wb]
  refine congrArg₂ (A.wb 4) (Fin.ext ?_) (Fin.ext ?_)
  · show ((i 0).val * 1024 + (i 1).val) / 1024 % 512 = (i 0).val
    omega
  · show ((i 0).val * 1024 + (i 1).val) % 1024 = (i 1).val
    omega

/-- Branch 4's term. -/
theorem t_read4 (i : S32768x1024.Idx) : val_main_v142 x0 x1 x2 x3 x4 x9 i = A.term 4 A.om (i 0) (i 1) := by
  have hz := z_read4 x0 x1 x2 x3 x4 x5 x6 x7 x8 x9 x10 x11 x12 x13 x14 x15 A H
  rw [val_main_v142_apply, val_main_v137_apply, val_main_v135_apply, val_main_v133_apply, val_main_v132_apply, val_main_v131_apply,
    g_read4 x0 x1 x2 x3 x4 x5 x6 x7 x8 x9 x10 x11 x12 x13 x14 x15 A H, b_read4 x0 x1 x2 x3 x4 x5 x6 x7 x8 x9 x10 x11 x12 x13 x14 x15 A H, val_main_v141_apply]
  refine (gate_mul _ _).trans (congrArg₂ gated (Finset.sum_congr rfl fun k _ => ?_) rfl)
  rw [val_main_v138_apply, wb_read4 x0 x1 x2 x3 x4 x5 x6 x7 x8 x9 x10 x11 x12 x13 x14 x15 A H, val_main_v125_apply, val_main_call4_v5_apply, val_main_call4_v3_apply, val_main_call4_v1_apply, val_main_call4_v0_apply, hz,
    val_main_v43_apply, H.om]
  exact congrArg (fun u : EReal => A.om (i 0) k * u * A.wb 4 k (i 1)) (mul_gate _ _)

/-- The reference's result is the merge. -/
theorem ref_eq (i : S32768x1024.Idx) : val_main_v145 x0 x1 x2 x3 x4 x5 x6 x7 x8 x9 x10 x11 x12 x13 x14 x15 i = A.out (i 0) (i 1) := by
  rw [val_main_v145_apply, val_main_v144_apply, H.x]
  refine congrArg (fun u : EReal => A.x (i 0) (i 1) + u) (Finset.sum_congr rfl fun k _ => ?_)
  rw [H.wo, val_main_v143_apply, val_main_v123_apply, val_main_v103_apply, val_main_v83_apply, val_main_v63_apply, t_read0 x0 x1 x2 x3 x4 x5 x6 x7 x8 x9 x10 x11 x12 x13 x14 x15 A H, t_read1 x0 x1 x2 x3 x4 x5 x6 x7 x8 x9 x10 x11 x12 x13 x14 x15 A H, t_read2 x0 x1 x2 x3 x4 x5 x6 x7 x8 x9 x10 x11 x12 x13 x14 x15 A H, t_read3 x0 x1 x2 x3 x4 x5 x6 x7 x8 x9 x10 x11 x12 x13 x14 x15 A H, t_read4 x0 x1 x2 x3 x4 x5 x6 x7 x8 x9 x10 x11 x12 x13 x14 x15 A H,
    show val_main_v39 (F := Ideal) (lidx_main_v144 i k) = 0 from (val_main_v39_apply _).trans Ideal.ofBits_zero_f32]
  rfl

end Cert.Reference5Ideal.Merge

end
-- ==== Proof.SampleMergeClaim.lean ====
module

public import proofs.«01_k».proof.Defs
public import proofs.«01_k».proof.Proof.SampleMergeArray
public import proofs.«01_k».proof.Proof.SampleMergeRef
public import proofs.«01_k».proof.Proof.Gen.Kernel5Ideal
public import proofs.«01_k».proof.Proof.Gen.Reference5Ideal
public import proofs.«01_k».proof.Proof.Gen.Reference5Ideal.Run
public import Idealize.ShloMosaic.Lib.Quiescent
public import Idealize.ShloMosaic.Lib.Claim

@[expose] public section

set_option maxRecDepth 16384

noncomputable section

/-! The merge of the sample: its kernel computes what its reference does. -/

namespace Cert.SampleMergeClaim

open Idealize.ShloMosaic Idealize.SL.Sem Idealize.ShloMosaic.Tactic

/-- The sample merge's reference runs, keeps its arguments and ends with no semaphore up. -/
theorem frame_reference : Cert.quiescent_Reference5Ideal (hReference5Ideal := Cert.Reference5Ideal.Gen.facts) := fun m ρ _ =>
  (θ_run _ _ _).mono (fun r h => ⟨fun c => (h c).2, sem_eq_zero_of_no_sems (by decide) _⟩) (Cert.Reference5Ideal.Value.run m ρ)

/-- The sample merge kernel's ideal reading computes what its reference does, for any arguments. -/
theorem algebraic : Cert.algebraic_Kernel5Ideal_Reference5Ideal (hKernel5Ideal := Cert.Kernel5Ideal.Gen.facts) (hReference5Ideal := Cert.Reference5Ideal.Gen.facts) :=
  fun m ρ m' ρ' _ hag => by
  have H : ∀ c : Dev Cert.Kernel5Ideal.nD, Cert.Reference5Ideal.Merge.Holds (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (Cert.Kernel5Ideal.Merge.argsOf m c) := fun c => {
    x := fun i => congrArg (m ((c.tc : Thread Cert.Kernel5Ideal.nD Cert.Kernel5Ideal.τ).loc Cert.Kernel5Ideal.main_arg0)) (by funext a; fin_cases a <;> rfl)
    g := fun i => congrArg (m ((c.tc : Thread Cert.Kernel5Ideal.nD Cert.Kernel5Ideal.τ).loc Cert.Kernel5Ideal.main_arg1)) (by funext a; fin_cases a <;> rfl)
    w := fun i => congrArg (m ((c.tc : Thread Cert.Kernel5Ideal.nD Cert.Kernel5Ideal.τ).loc Cert.Kernel5Ideal.main_arg2)) (by funext a; fin_cases a <;> rfl)
    b := fun i => congrArg (m ((c.tc : Thread Cert.Kernel5Ideal.nD Cert.Kernel5Ideal.τ).loc Cert.Kernel5Ideal.main_arg3)) (by funext a; fin_cases a <;> rfl)
    wb := fun i => congrArg (m ((c.tc : Thread Cert.Kernel5Ideal.nD Cert.Kernel5Ideal.τ).loc Cert.Kernel5Ideal.main_arg4)) (by funext a; fin_cases a <;> rfl)
    wo := fun i => congrArg (m ((c.tc : Thread Cert.Kernel5Ideal.nD Cert.Kernel5Ideal.τ).loc Cert.Kernel5Ideal.main_arg5)) (by funext a; fin_cases a <;> rfl)
    oa := fun i => congrArg (m ((c.tc : Thread Cert.Kernel5Ideal.nD Cert.Kernel5Ideal.τ).loc Cert.Kernel5Ideal.main_arg6)) (by funext a; fin_cases a <;> rfl)
    ob := fun i => congrArg (m ((c.tc : Thread Cert.Kernel5Ideal.nD Cert.Kernel5Ideal.τ).loc Cert.Kernel5Ideal.main_arg7)) (by funext a; fin_cases a <;> rfl)
    oc := fun i => congrArg (m ((c.tc : Thread Cert.Kernel5Ideal.nD Cert.Kernel5Ideal.τ).loc Cert.Kernel5Ideal.main_arg8)) (by funext a; fin_cases a <;> rfl)
    om := fun i => congrArg (m ((c.tc : Thread Cert.Kernel5Ideal.nD Cert.Kernel5Ideal.τ).loc Cert.Kernel5Ideal.main_arg9)) (by funext a; fin_cases a <;> rfl)
    d0 := fun i => congrArg (m ((c.tc : Thread Cert.Kernel5Ideal.nD Cert.Kernel5Ideal.τ).loc Cert.Kernel5Ideal.main_arg10)) (by funext a; fin_cases a <;> rfl)
    d1 := fun i => congrArg (m ((c.tc : Thread Cert.Kernel5Ideal.nD Cert.Kernel5Ideal.τ).loc Cert.Kernel5Ideal.main_arg11)) (by funext a; fin_cases a <;> rfl)
    d2 := fun i => congrArg (m ((c.tc : Thread Cert.Kernel5Ideal.nD Cert.Kernel5Ideal.τ).loc Cert.Kernel5Ideal.main_arg12)) (by funext a; fin_cases a <;> rfl)
    l0 := fun i => congrArg (m ((c.tc : Thread Cert.Kernel5Ideal.nD Cert.Kernel5Ideal.τ).loc Cert.Kernel5Ideal.main_arg13)) (by funext a; fin_cases a <;> rfl)
    l1 := fun i => congrArg (m ((c.tc : Thread Cert.Kernel5Ideal.nD Cert.Kernel5Ideal.τ).loc Cert.Kernel5Ideal.main_arg14)) (by funext a; fin_cases a <;> rfl)
    l2 := fun i => congrArg (m ((c.tc : Thread Cert.Kernel5Ideal.nD Cert.Kernel5Ideal.τ).loc Cert.Kernel5Ideal.main_arg15)) (by funext a; fin_cases a <;> rfl) }
  refine ⟨fun c => Cert.Kernel5Ideal.Merge.G (Cert.Kernel5Ideal.Merge.argsOf m c),
    (θ_run _ _ _).mono (fun r h c => ⟨(Cert.Kernel5Ideal.Value.post17 m r h c).trans (Cert.Kernel5Ideal.Merge.arr_eq m c),
      Cert.Kernel5Ideal.Value.kept_main_arg0 m r h c,
      Cert.Kernel5Ideal.Value.kept_main_arg1 m r h c,
      Cert.Kernel5Ideal.Value.kept_main_arg2 m r h c,
      Cert.Kernel5Ideal.Value.kept_main_arg3 m r h c,
      Cert.Kernel5Ideal.Value.kept_main_arg4 m r h c,
      Cert.Kernel5Ideal.Value.kept_main_arg5 m r h c,
      Cert.Kernel5Ideal.Value.kept_main_arg6 m r h c,
      Cert.Kernel5Ideal.Value.kept_main_arg7 m r h c,
      Cert.Kernel5Ideal.Value.kept_main_arg8 m r h c,
      Cert.Kernel5Ideal.Value.kept_main_arg9 m r h c,
      Cert.Kernel5Ideal.Value.kept_main_arg10 m r h c,
      Cert.Kernel5Ideal.Value.kept_main_arg11 m r h c,
      Cert.Kernel5Ideal.Value.kept_main_arg12 m r h c,
      Cert.Kernel5Ideal.Value.kept_main_arg13 m r h c,
      Cert.Kernel5Ideal.Value.kept_main_arg14 m r h c,
      Cert.Kernel5Ideal.Value.kept_main_arg15 m r h c⟩)
      (Cert.Kernel5Ideal.Gen.run_main m ρ),
    (θ_run _ _ _).mono (fun _ h c => ⟨(h c).1.trans ?_, (h c).2⟩) (Cert.Reference5Ideal.Value.run m' ρ')⟩
  obtain ⟨h0, h1, h2, h3, h4, h5, h6, h7, h8, h9, h10, h11, h12, h13, h14, h15⟩ := hag c
  refine (Cert.Reference5Ideal.Read.val_main_v145_eq _).trans ?_
  show Cert.Reference5Ideal.Read.val_main_v145 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg10)) (m' ((c.tc : Thread Cert.Reference5Ideal.nD Cert.Reference5Ideal.τ).loc Cert.Reference5Ideal.main_arg11)) (m' ((c.tc : Thread Cert.Reference5Ideal.nD Cert.Reference5Ideal.τ).loc Cert.Reference5Ideal.main_arg12)) (m' ((c.tc : Thread Cert.Reference5Ideal.nD Cert.Reference5Ideal.τ).loc Cert.Reference5Ideal.main_arg13)) (m' ((c.tc : Thread Cert.Reference5Ideal.nD Cert.Reference5Ideal.τ).loc Cert.Reference5Ideal.main_arg14)) (m' ((c.tc : Thread Cert.Reference5Ideal.nD Cert.Reference5Ideal.τ).loc Cert.Reference5Ideal.main_arg15)) = _
  rw [h0, h1, h2, h3, h4, h5, h6, h7, h8, h9, h10, h11, h12, h13, h14, h15]
  funext i
  exact Cert.Reference5Ideal.Merge.ref_eq _ _ _ _ _ _ _ _ _ _ _ _ _ _ _ _ _ (H c) i

end Cert.SampleMergeClaim

end
-- ==== Proof.Mem.lean ====
module

public import proofs.«01_k».proof.Proof.SoftmaxExt
public import proofs.«01_k».proof.Proof.Gen.Kernel6Ideal.Value
public import Idealize.ShloMosaic.Lib.Pointwise.Tactic
public import Idealize.ShloMosaic.Lib.Pointwise
public import Idealize.ShloMosaic.Lib.Pipeline.ValueKit

@[expose] public section

set_option maxRecDepth 16384

noncomputable section

/-! The attention over the memory's keys: what its kernel leaves in the result array. -/

namespace Cert.Kernel6Ideal.Mem

open Idealize.ShloMosaic Cert.Kernel6Ideal Cert.Kernel6Ideal.Gen Idealize.ShloMosaic.TcCoe Idealize.ShloMosaic.Tactic Cert.Softmax

/-- The word of `-∞`, the start of a row's maximum. -/
theorem negInf : Ideal.ofBits FTy.f32 0xFF800000#32 = ⊥ := by simp [Ideal.ofBits, Ideal.ieee]

/-- One head's block: the values times the exponentials of the shifted scores, over the exponentials' sum. -/
theorem pay1_apply (q : Vec Ideal S512x128 .bf16) (k v : Vec Ideal S256x128 .bf16) (r : Fin 512) (d : Fin 128) :
    k0_pay1 (F := Ideal) q k v (ix2 r d)
      = Ideal.div (∑ j : Fin 256, Ideal.exp (∑ x, q (ix2 r x) * k (ix2 j x) - Finset.univ.fold max ⊥ fun j : Fin 256 => ∑ x, q (ix2 r x) * k (ix2 j x)) * v (ix2 j d))
        (∑ j : Fin 256, Ideal.exp (∑ x, q (ix2 r x) * k (ix2 j x) - Finset.univ.fold max ⊥ fun j : Fin 256 => ∑ x, q (ix2 r x) * k (ix2 j x))) := by
  unfold k0_pay1
  pointwise [dot_S512x128_S256x128_S512x256_1_1_0_0_n_n, dot_S512x256_S256x128_S512x128_1_0_0_1_n_n]
  rw [negInf]

/-- From real queries and keys, that is the sum of the values with the softmax weights of the scores. -/
theorem pay1_wsum (q : Vec Ideal S512x128 .bf16) (k v : Vec Ideal S256x128 .bf16) (r : Fin 512) (d : Fin 128) (s : ℕ → ℝ) (V : ℕ → EReal)
    (hs : ∀ j : Fin 256, ∑ x, q (ix2 r x) * k (ix2 j x) = (s j.val : EReal)) (hv : ∀ j : Fin 256, v (ix2 j d) = V j.val) :
    k0_pay1 (F := Ideal) q k v (ix2 r d) = wsum s (fun k (_ : Unit) => V k) 256 () := by
  rw [pay1_apply]
  simp only [hs, hv]
  obtain ⟨ν, hν⟩ := exists_coe_fold (n := 256) (by norm_num) fun j => s j.val
  rw [hν]
  simp only [exp_sub_coe]
  refine OnlineExt.final (s := s) (v := fun k (_ : Unit) => V k) (n := 256) (by norm_num) (m := (ν : EReal)) (a := fun _ => _) ⟨ν, rfl, ?_, fun _ => ?_⟩ ()
  · rw [← coe_sum, Fin.sum_univ_eq_sum_range (fun k => Real.exp (s k - ν)) 256]
  · exact Fin.sum_univ_eq_sum_range (fun k => (Real.exp (s k - ν) : EReal) * V k) 256

/-- The attention of row `n` at lane `j` of 512, whose head is the group of 128 lanes it lies in. -/
def attn {ι : Type} (Q : ι → ℕ → ℝ) (K : ℕ → ℕ → ℝ) (V : ℕ → ℕ → EReal) (n : ι) (j : ℕ) : EReal :=
  wsum (fun k => ∑ x : Fin 128, Q n (128 * (j / 128) + x.val) * K k (128 * (j / 128) + x.val)) (fun k (_ : Unit) => V k j) 256 ()

section Block

variable (x0 : Vec Ideal S512x512 .bf16) (x1 x2 : Vec Ideal S256x512 .bf16) (Q : Fin 512 → ℕ → ℝ) (K : ℕ → ℕ → ℝ) (V : ℕ → ℕ → EReal)
  (hQ : ∀ r (x : Fin 512), x0 (ix2 r x) = (Q r x.val : EReal)) (hK : ∀ (n : Fin 256) (x : Fin 512), x1 (ix2 n x) = (K n.val x.val : EReal))
  (hV : ∀ (n : Fin 256) (x : Fin 512), x2 (ix2 n x) = V n.val x.val)

include hQ hK hV

/-- One head's tile of the result. -/
theorem tile (off h : ℕ) (hb hb') (ho : off = 128 * h) (hoff : off + 128 ≤ 512) (x : S512x128.Idx) (n : Fin 512) (j : ℕ) (hn : n.val = (x 0).val)
    (hj : j = off + (x 1).val) :
    k0_pay1 (F := Ideal) (View.ld x0 (Rect.unit (s := S512x512) ![0, off] S512x128.size hb)) (View.ld x1 (Rect.unit (s := S256x512) ![0, off] S256x128.size hb'))
      (View.ld x2 (Rect.unit (s := S256x512) ![0, off] S256x128.size hb')) x = attn Q K V n j := by
  obtain ⟨r, d, rfl⟩ : ∃ (r : Fin 512) (d : Fin 128), x = ix2 r d := ⟨x 0, x 1, by funext a; fin_cases a <;> rfl⟩
  obtain rfl : n = r := Fin.ext hn
  have hj' : j = off + d.val := hj
  have hd := d.isLt
  have hq : 128 * (j / 128) = off := by omega
  unfold attn
  rw [hq]
  refine pay1_wsum _ _ _ n d _ (fun k => V k j) (fun i => ?_) fun i => ?_
  · rw [coe_sum]
    refine Finset.sum_congr rfl fun y _ => ?_
    have hy := y.isLt
    rw [EReal.coe_mul]
    refine congrArg₂ (· * ·) ?_ ?_
    · exact (View.ld_unit_apply_of _ _ _ _ (ix2 n y) (ix2 n ⟨off + y.val, by omega⟩) (fun a => by fin_cases a <;> simp)).trans (hQ _ _)
    · exact (View.ld_unit_apply_of _ _ _ _ (ix2 i y) (ix2 i ⟨off + y.val, by omega⟩) (fun a => by fin_cases a <;> simp)).trans (hK _ _)
  · refine ((View.ld_unit_apply_of _ _ _ _ (ix2 i d) (ix2 i ⟨off + d.val, by omega⟩) (fun a => by fin_cases a <;> simp)).trans (hV _ _)).trans ?_
    exact congrArg (V i.val) hj'.symm

/-- What a grid point leaves in its block. -/
theorem out_apply (y : S512x512.Idx) : out0_3 (F := Ideal) x0 x1 x2 y = attn Q K V (y 0) (0 + (y 1).val) := by
  canon_tiles x h using Gen.cover0_3 ..
  · exact tile x0 x1 x2 Q K V hQ hK hV 384 3 (by decide) (by decide) rfl (by decide) x _ _ (by assumption) (by omega)
  · exact tile x0 x1 x2 Q K V hQ hK hV 256 2 (by decide) (by decide) rfl (by decide) x _ _ (by assumption) (by omega)
  · exact tile x0 x1 x2 Q K V hQ hK hV 128 1 (by decide) (by decide) rfl (by decide) x _ _ (by assumption) (by omega)
  · exact tile x0 x1 x2 Q K V hQ hK hV 0 0 (by decide) (by decide) rfl (by decide) x _ _ (by assumption) (by omega)

end Block

variable (m : (ℓ : Loc nD τ sig) → Buf (Elt Ideal) ℓ)

theorem idx0 : ∀ t : Fin cfg0.N, win0_0.index t = ![8 * (grid0.coords t 0).val + (grid0.coords t 1).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![8 * (grid0.coords t 0).val + (grid0.coords t 1).val, 0] := (by decide +kernel : ∀ t : Fin grid0.N, _)

/-- The result array: each of the four batches of 4096 tokens attends to its own 256 keys. -/
def G (Q K : ℕ → ℕ → ℝ) (V : ℕ → ℕ → EReal) : S16384x512.Idx → EReal := fun i =>
  attn Q (fun n x => K (256 * ((i 0).val / 4096) + n) x) (fun n x => V (256 * ((i 0).val / 4096) + n) x) (i 0).val (i 1).val

/-- Two numbers under a two-dimensional index determine what it reads. -/
theorem read2 {α : Type} {N : ℕ} {X : (⟨2, ![N, 512]⟩ : Shape).Idx → α} {f : ℕ → ℕ → α} (h : ∀ (t : Fin N) (x : Fin 512), X (ix2 t x) = f t.val x.val)
    (i : (⟨2, ![N, 512]⟩ : Shape).Idx) : X i = f (i 0).val (i 1).val :=
  (congrArg X (by funext k; fin_cases k <;> rfl)).trans (h (i 0) (i 1))

/-- After the run the result array is `G` of the arguments. -/
theorem arr_eq (c : Dev nD) (Q K : ℕ → ℕ → ℝ) (V' : ℕ → ℕ → EReal)
    (hQ : ∀ (t : Fin 16384) (x : Fin 512), m ((c.tc : Thread nD τ).loc main_arg0) (ix2 t x) = (Q t.val x.val : EReal))
    (hK : ∀ (t : Fin 1024) (x : Fin 512), m ((c.tc : Thread nD τ).loc main_arg1) (ix2 t x) = (K t.val x.val : EReal))
    (hV : ∀ (t : Fin 1024) (x : Fin 512), m ((c.tc : Thread nD τ).loc main_arg2) (ix2 t x) = V' t.val x.val) :
    (dats m 0 c).arrAt 3 cfg0.N = G Q K V' := by
  refine (dats m 0 c).arrAt_eq_of_covers 3 _ (by decide +kernel) fun t hf y => ?_
  blk_simp
  rw [after0_3]
  have hQ' := read2 (f := fun a b => (Q a b : EReal)) hQ
  have hK' := read2 (f := fun a b => (K a b : EReal)) hK
  have hV' := read2 hV
  have e3 := idx3 t
  have c0 : (grid0.coords t 0).val < 4 := (grid0.coords t 0).isLt
  have c1 : (grid0.coords t 1).val < 8 := (grid0.coords t 1).isLt
  generalize hb : (grid0.coords t 0).val = b at *
  generalize ha : (grid0.coords t 1).val = a at *
  obtain ⟨r, d, rfl⟩ : ∃ (r : Fin 512) (d : Fin 512), y = ix2 r d := ⟨y 0, y 1, by funext a; fin_cases a <;> rfl⟩
  have hr := r.isLt
  have hd := d.isLt
  refine (out_apply _ _ _ (fun r x => Q (512 * (8 * b + a) + r.val) x) (fun n x => K (256 * b + n) x) (fun n x => V' (256 * b + n) x) ?_ ?_ ?_ (ix2 r d)).trans ?_
  · intro r x
    unfold iblk
    blk_simp
    rw [V_main_arg0, hQ']
    blk_simp [idx0 t]
    rw [hb, ha]
    congr 2 <;> omega
  · intro r x
    unfold iblk
    blk_simp
    rw [V_main_arg1, hK']
    blk_simp [idx1 t]
    rw [hb]
    congr 2 <;> omega
  · intro r x
    unfold iblk
    blk_simp
    rw [V_main_arg2, hV']
    blk_simp [idx2 t]
    rw [hb]
    congr 1 <;> omega
  · have f0 : (((win0_3.blk t).view.emb (ix2 r d)) 0).val = 512 * (8 * b + a) + r.val := by blk_simp [e3]; omega
    have f1 : (((win0_3.blk t).view.emb (ix2 r d)) 1).val = d.val := by blk_simp [e3]
    unfold G
    rw [f0, f1, show (512 * (8 * b + a) + r.val) / 4096 = b by omega, zero_add]
    rfl

end Cert.Kernel6Ideal.Mem

end
-- ==== Proof.MemRef.lean ====
module

public import proofs.«01_k».proof.Proof.Mem
public import proofs.«01_k».proof.Proof.Gen.Reference6Ideal.Read

@[expose] public section

set_option maxRecDepth 16384

noncomputable section

/-! The attention over the memory's keys: what its reference computes. -/

namespace Cert.Reference6Ideal.Mem

open Idealize.ShloMosaic Cert.Reference6Ideal Cert.Reference6Ideal.Gen Cert.Reference6Ideal.Read Idealize.ShloMosaic.Tactic Cert.Softmax
open Cert.Kernel6Ideal.Mem (attn negInf read2)

variable (x0 : (⟨S16384x512, .bf16⟩ : BufTy).Contents (Elt Ideal)) (x1 x2 : (⟨S1024x512, .bf16⟩ : BufTy).Contents (Elt Ideal))
  (Q K : ℕ → ℕ → ℝ) (V : ℕ → ℕ → EReal)

/-- The score of token `n` and key `k` in batch `b` and head `h`: 128 lanes multiplied. -/
def rscore (b h n k : ℕ) : ℝ := ∑ x : Fin 128, Q (4096 * b + n) (128 * h + x.val) * K (256 * b + k) (128 * h + x.val)

/-- The values. -/
theorem v_read (hV : ∀ (t : Fin 1024) (x : Fin 512), x2 (ix2 t x) = V t.val x.val) (i : S4x256x4x128.Idx) :
    val_main_v5 x2 i = V (256 * (i 0).val + (i 1).val) (128 * (i 2).val + (i 3).val) := by
  rw [val_main_v5_apply, val_main_v4_apply]
  have h0 : (i 0).val < 4 := (i 0).isLt
  have h1 : (i 1).val < 256 := (i 1).isLt
  have h2 : (i 2).val < 4 := (i 2).isLt
  have h3 : (i 3).val < 128 := (i 3).isLt
  refine (read2 hV _).trans (congrArg₂ V ?_ ?_)
  · simp only [idx_main_v5]
    omega
  · simp only [idx_main_v5]
    omega

variable (hQ : ∀ (t : Fin 16384) (x : Fin 512), x0 (ix2 t x) = (Q t.val x.val : EReal)) (hK : ∀ (t : Fin 1024) (x : Fin 512), x1 (ix2 t x) = (K t.val x.val : EReal))

include hQ in
/-- The queries. -/
theorem q_read (i : S4x4096x4x128.Idx) : val_main_v1 x0 i = (Q (4096 * (i 0).val + (i 1).val) (128 * (i 2).val + (i 3).val) : EReal) := by
  rw [val_main_v1_apply, val_main_v0_apply]
  have h0 : (i 0).val < 4 := (i 0).isLt
  have h1 : (i 1).val < 4096 := (i 1).isLt
  have h2 : (i 2).val < 4 := (i 2).isLt
  have h3 : (i 3).val < 128 := (i 3).isLt
  refine (read2 (f := fun a b => (Q a b : EReal)) hQ _).trans (congrArg₂ (fun a b => (Q a b : EReal)) ?_ ?_)
  · simp only [idx_main_v1]
    omega
  · simp only [idx_main_v1]
    omega

include hK in
/-- The keys. -/
theorem k_read (i : S4x256x4x128.Idx) : val_main_v3 x1 i = (K (256 * (i 0).val + (i 1).val) (128 * (i 2).val + (i 3).val) : EReal) := by
  rw [val_main_v3_apply, val_main_v2_apply]
  have h0 : (i 0).val < 4 := (i 0).isLt
  have h1 : (i 1).val < 256 := (i 1).isLt
  have h2 : (i 2).val < 4 := (i 2).isLt
  have h3 : (i 3).val < 128 := (i 3).isLt
  refine (read2 (f := fun a b => (K a b : EReal)) hK _).trans (congrArg₂ (fun a b => (K a b : EReal)) ?_ ?_)
  · simp only [idx_main_v3]
    omega
  · simp only [idx_main_v3]
    omega

include hQ hK

/-- The scores. -/
theorem score_read (i : S4x4x4096x256.Idx) :
    val_main_v6 x0 x1 i = (rscore Q K (i 0).val (i 1).val (i 2).val (i 3).val : EReal) := by
  rw [val_main_v6_apply, rscore, coe_sum]
  refine Finset.sum_congr rfl fun k _ => ?_
  rw [q_read x0 Q hQ, k_read x1 K hK, EReal.coe_mul]

/-- A row's maximum is a real number. -/
theorem max_read (i : S4x4x4096.Idx) : ∃ ν : ℝ, val_main_v9 x0 x1 i = (ν : EReal) := by
  obtain ⟨ν, hν⟩ := exists_coe_fold (n := 256) (by norm_num) fun k => rscore Q K (i 0).val (i 1).val (i 2).val k.val
  refine ⟨ν, ?_⟩
  rw [val_main_v9_apply, val_main_v8_apply, ← hν]
  unfold val_main_v7
  have e : val_main_v6 x0 x1 = fun i => (rscore Q K (i 0).val (i 1).val (i 2).val (i 3).val : EReal) := funext fun i => score_read x0 x1 Q K hQ hK i
  rw [e]
  pointwise
  rw [show val_main_cst_0 (F := Ideal) (idx_main_v8 i) = ⊥ from negInf, show val_main_cst (F := Ideal) (Shape.Idx.first h_S_) = ⊥ from negInf]
  exact max_eq_right bot_le

/-- A row's softmax weights. -/
theorem weight_read (b h : Fin 4) (n : Fin 4096) (i : S4x4x4096x256.Idx) (e0 : (i 0).val = b.val) (e1 : (i 1).val = h.val) (e2 : (i 2).val = n.val) :
    val_main_v17 x0 x1 i = ((Real.exp (rscore Q K b h n (i 3).val) / ∑ k ∈ Finset.range 256, Real.exp (rscore Q K b h n k) : ℝ) : EReal) := by
  obtain ⟨ν, hν⟩ := max_read x0 x1 Q K hQ hK (ix3 b h n)
  have hM : ∀ i : S4x4x4096x256.Idx, (i 0).val = b.val → (i 1).val = h.val → (i 2).val = n.val →
      val_main_v13 x0 x1 i = Ideal.exp ((rscore Q K b h n (i 3).val : EReal) - (ν : EReal)) := by
    intro i e0 e1 e2
    rw [val_main_v13_apply, val_main_v12_apply, val_main_v11_apply, val_main_v10_apply, score_read x0 x1 Q K hQ hK, e0, e1, e2,
      show idx_main_v10 (idx_main_v11 i) = ix3 b h n from by
        funext a
        fin_cases a
        · exact Fin.ext e0
        · exact Fin.ext e1
        · exact Fin.ext e2, hν]
    rfl
  rw [val_main_v17_apply, val_main_v16_apply, val_main_v15_apply, val_main_v14_apply, hM i e0 e1 e2,
    show val_main_cst_1 (F := Ideal) (Shape.Idx.first h_S_) = 0 from Ideal.ofBits_zero_f32, zero_add,
    Finset.sum_congr rfl fun k _ => hM (idx_main_v14 (idx_main_v15 (idx_main_v16 i)) k) e0 e1 e2, ← weight_shift _ _ _ ν]
  exact softmax_weight (n := 256) (by norm_num) (rscore Q K b h n) (fun k => (rscore Q K b h n k.val : EReal)) (fun _ => rfl) ν ν rfl ⟨(i 3).val, (i 3).isLt⟩

/-- The reference's result is the kernel's. -/
theorem ref_eq (hV : ∀ (t : Fin 1024) (x : Fin 512), x2 (ix2 t x) = V t.val x.val) :
    val_main_v21 x0 x1 x2 = Cert.Kernel6Ideal.Mem.G Q K V := by
  funext i
  have b0 : (i 0).val < 16384 := (i 0).isLt
  have b1 : (i 1).val < 512 := (i 1).isLt
  rw [val_main_v21_apply, val_main_v20_apply, val_main_v19_apply, val_main_v18_apply]
  have c0 : (idx_main_v20 i 0).val = (i 0).val / 4096 := by simp only [idx_main_v20]; omega
  have c1 : (idx_main_v20 i 1).val = (i 0).val % 4096 := by simp only [idx_main_v20]; omega
  have c2 : (idx_main_v20 i 2).val = (i 1).val / 128 := by simp only [idx_main_v20]; omega
  have c3 : (idx_main_v20 i 3).val = (i 1).val % 128 := by simp only [idx_main_v20]; omega
  have e0 : 4096 * (idx_main_v20 i 0).val + (idx_main_v20 i 1).val = (i 0).val := by rw [c0, c1]; omega
  have e1 : 128 * (idx_main_v20 i 2).val + (idx_main_v20 i 3).val = (i 1).val := by rw [c2, c3]; omega
  have es : (fun k => ∑ x : Fin 128, Q (i 0).val (128 * ((i 1).val / 128) + x.val) * K (256 * ((i 0).val / 4096) + k) (128 * ((i 1).val / 128) + x.val))
      = rscore Q K (idx_main_v20 i 0).val (idx_main_v20 i 2).val (idx_main_v20 i 1).val := by
    funext k
    rw [rscore, e0, c0, c2]
  unfold Cert.Kernel6Ideal.Mem.G attn wsum
  rw [es, ← c0, ← e1]
  refine (Finset.sum_congr rfl fun k _ => ?_).trans (Fin.sum_univ_eq_sum_range (fun k => ((Real.exp (rscore Q K (idx_main_v20 i 0).val (idx_main_v20 i 2).val (idx_main_v20 i 1).val k)
      / ∑ k ∈ Finset.range 256, Real.exp (rscore Q K (idx_main_v20 i 0).val (idx_main_v20 i 2).val (idx_main_v20 i 1).val k) : ℝ) : EReal)
      * V (256 * (idx_main_v20 i 0).val + k) (128 * (idx_main_v20 i 2).val + (idx_main_v20 i 3).val)) 256)
  rw [v_read x2 V hV, weight_read x0 x1 Q K hQ hK (idx_main_v20 i 0) (idx_main_v20 i 2) (idx_main_v20 i 1) _ rfl rfl rfl, mul_comm]

end Cert.Reference6Ideal.Mem

end
-- ==== Proof.MemClaim.lean ====
module

public import proofs.«01_k».proof.Defs
public import proofs.«01_k».proof.Proof.Finite
public import proofs.«01_k».proof.Proof.Mem
public import proofs.«01_k».proof.Proof.MemRef
public import proofs.«01_k».proof.Proof.Gen.Kernel6Ideal
public import proofs.«01_k».proof.Proof.Gen.Reference6Ideal
public import proofs.«01_k».proof.Proof.Gen.Reference6Ideal.Run
public import Idealize.ShloMosaic.Lib.Quiescent
public import Idealize.ShloMosaic.Lib.Claim

@[expose] public section

set_option maxRecDepth 16384

noncomputable section

/-! The attention over the memory's keys: its kernel computes what its reference does. -/

namespace Cert.MemClaim

open Idealize.ShloMosaic Idealize.SL.Sem Idealize.ShloMosaic.Tactic

/-- The side conditions of the precondition. -/
theorem facts : Cert.Pre_finite_mem.Facts where
  bitsLt_bf16_f32 := by decide
  bcast_S_S16384x512 := by decide
  bcast_S_S1024x512 := by decide

open Cert.Pre_finite_mem in
/-- The precondition: the queries and the keys are real numbers. -/
theorem real_of_pre [hf : Cert.Pre_finite_mem.Facts] (x0 : FVec Ideal S16384x512 .bf16) (x1 x2 : FVec Ideal S1024x512 .bf16)
    (h0 : (fn (F := Ideal) x0 x1 x2).1 = fun _ => 1#1) (h1 : (fn (F := Ideal) x0 x1 x2).2 = fun _ => 1#1) :
    (∀ i, ∃ r : ℝ, x0 i = (r : EReal)) ∧ ∀ i, ∃ r : ℝ, x1 i = (r : EReal) := by
  refine ⟨fun i => Cert.Finite.real_of_lt ?_, fun i => Cert.Finite.real_of_lt ?_⟩
  · have := congrFun h0 i
    rw [← Cert.Finite.posInf]
    exact this
  · have := congrFun h1 i
    rw [← Cert.Finite.posInf]
    exact this

/-- The memory attention's reference runs, keeps its arguments and ends with no semaphore up. -/
theorem frame_reference : Cert.quiescent_Reference6Ideal (hReference6Ideal := Cert.Reference6Ideal.Gen.facts) := fun m ρ _ =>
  (θ_run _ _ _).mono (fun r h => ⟨fun c => (h c).2, sem_eq_zero_of_no_sems (by decide) _⟩) (Cert.Reference6Ideal.Value.run m ρ)

/-- The entries of an array of `N` rows as a function of two numbers, `e` outside it. -/
def ext {α : Type} {N : ℕ} (e : α) (f : (⟨2, ![N, 512]⟩ : Shape).Idx → α) (t x : ℕ) : α :=
  if h : t < N ∧ x < 512 then f (ix2 ⟨t, h.1⟩ ⟨x, h.2⟩) else e

/-- Inside the array that function is its entries. -/
theorem ext_apply {α : Type} {N : ℕ} (e : α) (f : (⟨2, ![N, 512]⟩ : Shape).Idx → α) (t : Fin N) (x : Fin 512) : ext e f t.val x.val = f (ix2 t x) :=
  dif_pos ⟨t.isLt, x.isLt⟩

/-- The kernel's ideal reading computes what the reference does, for queries and keys that are real numbers and any values. -/
theorem algebraic : Cert.algebraic_Kernel6Ideal_Reference6Ideal_pre_finite_mem (hKernel6Ideal := Cert.Kernel6Ideal.Gen.facts)
    (hReference6Ideal := Cert.Reference6Ideal.Gen.facts) (hPre_finite_mem := facts) :=
  fun m ρ m' ρ' hpre hag => by
  have hr := fun c => real_of_pre (hf := facts) _ _ _ (hpre c).1 (hpre c).2
  choose Q hQ using fun c => (hr c).1
  choose K hK using fun c => (hr c).2
  have hQ' : ∀ (c : Dev Cert.Kernel6Ideal.nD) (t : Fin 16384) (x : Fin 512), m ((c.tc : Thread Cert.Kernel6Ideal.nD Cert.Kernel6Ideal.τ).loc Cert.Kernel6Ideal.main_arg0) (ix2 t x) = ((ext (N := 16384) 0 (Q c) t.val x.val : ℝ) : EReal) :=
    fun c t x => (hQ c (ix2 t x)).trans (congrArg Real.toEReal (ext_apply (N := 16384) 0 (Q c) t x).symm)
  have hK' : ∀ (c : Dev Cert.Kernel6Ideal.nD) (t : Fin 1024) (x : Fin 512), m ((c.tc : Thread Cert.Kernel6Ideal.nD Cert.Kernel6Ideal.τ).loc Cert.Kernel6Ideal.main_arg1) (ix2 t x) = ((ext (N := 1024) 0 (K c) t.val x.val : ℝ) : EReal) :=
    fun c t x => (hK c (ix2 t x)).trans (congrArg Real.toEReal (ext_apply (N := 1024) 0 (K c) t x).symm)
  have hV' : ∀ (c : Dev Cert.Kernel6Ideal.nD) (t : Fin 1024) (x : Fin 512), m ((c.tc : Thread Cert.Kernel6Ideal.nD Cert.Kernel6Ideal.τ).loc Cert.Kernel6Ideal.main_arg2) (ix2 t x) = ext (N := 1024) (0 : EReal) (m ((c.tc : Thread Cert.Kernel6Ideal.nD Cert.Kernel6Ideal.τ).loc Cert.Kernel6Ideal.main_arg2)) t.val x.val :=
    fun c t x => (ext_apply (α := EReal) (N := 1024) 0 (m ((c.tc : Thread Cert.Kernel6Ideal.nD Cert.Kernel6Ideal.τ).loc Cert.Kernel6Ideal.main_arg2)) t x).symm
  refine ⟨fun c => Cert.Kernel6Ideal.Mem.G (ext (N := 16384) 0 (Q c)) (ext (N := 1024) 0 (K c)) (ext (N := 1024) (0 : EReal) (m ((c.tc : Thread Cert.Kernel6Ideal.nD Cert.Kernel6Ideal.τ).loc Cert.Kernel6Ideal.main_arg2))),
    (θ_run _ _ _).mono (fun _ h c => ⟨(h c).1.trans (Cert.Kernel6Ideal.Mem.arr_eq m c _ _ _ (hQ' c) (hK' c) (hV' c)), (h c).2⟩) (Cert.Kernel6Ideal.Value.run_blocks m ρ),
    (θ_run _ _ _).mono (fun _ h c => ⟨(h c).1.trans ?_, (h c).2⟩) (Cert.Reference6Ideal.Value.run m' ρ')⟩
  refine (Cert.Reference6Ideal.Read.val_main_v21_eq _ _ _).trans ?_
  show Cert.Reference6Ideal.Read.val_main_v21 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = _
  rw [(hag c).1, (hag c).2.1, (hag c).2.2]
  exact Cert.Reference6Ideal.Mem.ref_eq _ _ _ _ _ _ (hQ' c) (hK' c) (hV' c)

end Cert.MemClaim

end
-- ==== Proof.SampleMem.lean ====
module

public import proofs.«01_k».proof.Proof.SoftmaxExt
public import proofs.«01_k».proof.Proof.Gen.Kernel7Ideal.Value
public import Idealize.ShloMosaic.Lib.Pointwise.Tactic
public import Idealize.ShloMosaic.Lib.Pointwise
public import Idealize.ShloMosaic.Lib.Pipeline.ValueKit

@[expose] public section

set_option maxRecDepth 16384

noncomputable section

/-! The sample: the attention over the memory's keys: what its kernel leaves in the result array. -/

namespace Cert.Kernel7Ideal.Mem

open Idealize.ShloMosaic Cert.Kernel7Ideal Cert.Kernel7Ideal.Gen Idealize.ShloMosaic.TcCoe Idealize.ShloMosaic.Tactic Cert.Softmax

/-- The word of `-∞`, the start of a row's maximum. -/
theorem negInf : Ideal.ofBits FTy.f32 0xFF800000#32 = ⊥ := by simp [Ideal.ofBits, Ideal.ieee]

/-- One head's block: the values times the exponentials of the shifted scores, over the exponentials' sum. -/
theorem pay1_apply (q : Vec Ideal S512x128 .bf16) (k v : Vec Ideal S256x128 .bf16) (r : Fin 512) (d : Fin 128) :
    k0_pay1 (F := Ideal) q k v (ix2 r d)
      = Ideal.div (∑ j : Fin 256, Ideal.exp (∑ x, q (ix2 r x) * k (ix2 j x) - Finset.univ.fold max ⊥ fun j : Fin 256 => ∑ x, q (ix2 r x) * k (ix2 j x)) * v (ix2 j d))
        (∑ j : Fin 256, Ideal.exp (∑ x, q (ix2 r x) * k (ix2 j x) - Finset.univ.fold max ⊥ fun j : Fin 256 => ∑ x, q (ix2 r x) * k (ix2 j x))) := by
  unfold k0_pay1
  pointwise [dot_S512x128_S256x128_S512x256_1_1_0_0_n_n, dot_S512x256_S256x128_S512x128_1_0_0_1_n_n]
  rw [negInf]

/-- From real queries and keys, that is the sum of the values with the softmax weights of the scores. -/
theorem pay1_wsum (q : Vec Ideal S512x128 .bf16) (k v : Vec Ideal S256x128 .bf16) (r : Fin 512) (d : Fin 128) (s : ℕ → ℝ) (V : ℕ → EReal)
    (hs : ∀ j : Fin 256, ∑ x, q (ix2 r x) * k (ix2 j x) = (s j.val : EReal)) (hv : ∀ j : Fin 256, v (ix2 j d) = V j.val) :
    k0_pay1 (F := Ideal) q k v (ix2 r d) = wsum s (fun k (_ : Unit) => V k) 256 () := by
  rw [pay1_apply]
  simp only [hs, hv]
  obtain ⟨ν, hν⟩ := exists_coe_fold (n := 256) (by norm_num) fun j => s j.val
  rw [hν]
  simp only [exp_sub_coe]
  refine OnlineExt.final (s := s) (v := fun k (_ : Unit) => V k) (n := 256) (by norm_num) (m := (ν : EReal)) (a := fun _ => _) ⟨ν, rfl, ?_, fun _ => ?_⟩ ()
  · rw [← coe_sum, Fin.sum_univ_eq_sum_range (fun k => Real.exp (s k - ν)) 256]
  · exact Fin.sum_univ_eq_sum_range (fun k => (Real.exp (s k - ν) : EReal) * V k) 256

/-- The attention of row `n` at lane `j` of 512, whose head is the group of 128 lanes it lies in. -/
def attn {ι : Type} (Q : ι → ℕ → ℝ) (K : ℕ → ℕ → ℝ) (V : ℕ → ℕ → EReal) (n : ι) (j : ℕ) : EReal :=
  wsum (fun k => ∑ x : Fin 128, Q n (128 * (j / 128) + x.val) * K k (128 * (j / 128) + x.val)) (fun k (_ : Unit) => V k j) 256 ()

section Block

variable (x0 : Vec Ideal S512x512 .bf16) (x1 x2 : Vec Ideal S256x512 .bf16) (Q : Fin 512 → ℕ → ℝ) (K : ℕ → ℕ → ℝ) (V : ℕ → ℕ → EReal)
  (hQ : ∀ r (x : Fin 512), x0 (ix2 r x) = (Q r x.val : EReal)) (hK : ∀ (n : Fin 256) (x : Fin 512), x1 (ix2 n x) = (K n.val x.val : EReal))
  (hV : ∀ (n : Fin 256) (x : Fin 512), x2 (ix2 n x) = V n.val x.val)

include hQ hK hV

/-- One head's tile of the result. -/
theorem tile (off h : ℕ) (hb hb') (ho : off = 128 * h) (hoff : off + 128 ≤ 512) (x : S512x128.Idx) (n : Fin 512) (j : ℕ) (hn : n.val = (x 0).val)
    (hj : j = off + (x 1).val) :
    k0_pay1 (F := Ideal) (View.ld x0 (Rect.unit (s := S512x512) ![0, off] S512x128.size hb)) (View.ld x1 (Rect.unit (s := S256x512) ![0, off] S256x128.size hb'))
      (View.ld x2 (Rect.unit (s := S256x512) ![0, off] S256x128.size hb')) x = attn Q K V n j := by
  obtain ⟨r, d, rfl⟩ : ∃ (r : Fin 512) (d : Fin 128), x = ix2 r d := ⟨x 0, x 1, by funext a; fin_cases a <;> rfl⟩
  obtain rfl : n = r := Fin.ext hn
  have hj' : j = off + d.val := hj
  have hd := d.isLt
  have hq : 128 * (j / 128) = off := by omega
  unfold attn
  rw [hq]
  refine pay1_wsum _ _ _ n d _ (fun k => V k j) (fun i => ?_) fun i => ?_
  · rw [coe_sum]
    refine Finset.sum_congr rfl fun y _ => ?_
    have hy := y.isLt
    rw [EReal.coe_mul]
    refine congrArg₂ (· * ·) ?_ ?_
    · exact (View.ld_unit_apply_of _ _ _ _ (ix2 n y) (ix2 n ⟨off + y.val, by omega⟩) (fun a => by fin_cases a <;> simp)).trans (hQ _ _)
    · exact (View.ld_unit_apply_of _ _ _ _ (ix2 i y) (ix2 i ⟨off + y.val, by omega⟩) (fun a => by fin_cases a <;> simp)).trans (hK _ _)
  · refine ((View.ld_unit_apply_of _ _ _ _ (ix2 i d) (ix2 i ⟨off + d.val, by omega⟩) (fun a => by fin_cases a <;> simp)).trans (hV _ _)).trans ?_
    exact congrArg (V i.val) hj'.symm

/-- What a grid point leaves in its block. -/
theorem out_apply (y : S512x512.Idx) : out0_3 (F := Ideal) x0 x1 x2 y = attn Q K V (y 0) (0 + (y 1).val) := by
  canon_tiles x h using Gen.cover0_3 ..
  · exact tile x0 x1 x2 Q K V hQ hK hV 384 3 (by decide) (by decide) rfl (by decide) x _ _ (by assumption) (by omega)
  · exact tile x0 x1 x2 Q K V hQ hK hV 256 2 (by decide) (by decide) rfl (by decide) x _ _ (by assumption) (by omega)
  · exact tile x0 x1 x2 Q K V hQ hK hV 128 1 (by decide) (by decide) rfl (by decide) x _ _ (by assumption) (by omega)
  · exact tile x0 x1 x2 Q K V hQ hK hV 0 0 (by decide) (by decide) rfl (by decide) x _ _ (by assumption) (by omega)

end Block

variable (m : (ℓ : Loc nD τ sig) → Buf (Elt Ideal) ℓ)

theorem idx0 : ∀ t : Fin cfg0.N, win0_0.index t = ![16 * (grid0.coords t 0).val + (grid0.coords t 1).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![16 * (grid0.coords t 0).val + (grid0.coords t 1).val, 0] := (by decide +kernel : ∀ t : Fin grid0.N, _)

/-- The result array: each of the four batches of 8192 tokens attends to its own 256 keys. -/
def G (Q K : ℕ → ℕ → ℝ) (V : ℕ → ℕ → EReal) : S32768x512.Idx → EReal := fun i =>
  attn Q (fun n x => K (256 * ((i 0).val / 8192) + n) x) (fun n x => V (256 * ((i 0).val / 8192) + n) x) (i 0).val (i 1).val

/-- Two numbers under a two-dimensional index determine what it reads. -/
theorem read2 {α : Type} {N : ℕ} {X : (⟨2, ![N, 512]⟩ : Shape).Idx → α} {f : ℕ → ℕ → α} (h : ∀ (t : Fin N) (x : Fin 512), X (ix2 t x) = f t.val x.val)
    (i : (⟨2, ![N, 512]⟩ : Shape).Idx) : X i = f (i 0).val (i 1).val :=
  (congrArg X (by funext k; fin_cases k <;> rfl)).trans (h (i 0) (i 1))

/-- After the run the result array is `G` of the arguments. -/
theorem arr_eq (c : Dev nD) (Q K : ℕ → ℕ → ℝ) (V' : ℕ → ℕ → EReal)
    (hQ : ∀ (t : Fin 32768) (x : Fin 512), m ((c.tc : Thread nD τ).loc main_arg0) (ix2 t x) = (Q t.val x.val : EReal))
    (hK : ∀ (t : Fin 1024) (x : Fin 512), m ((c.tc : Thread nD τ).loc main_arg1) (ix2 t x) = (K t.val x.val : EReal))
    (hV : ∀ (t : Fin 1024) (x : Fin 512), m ((c.tc : Thread nD τ).loc main_arg2) (ix2 t x) = V' t.val x.val) :
    (dats m 0 c).arrAt 3 cfg0.N = G Q K V' := by
  refine (dats m 0 c).arrAt_eq_of_covers 3 _ (by decide +kernel) fun t hf y => ?_
  blk_simp
  rw [after0_3]
  have hQ' := read2 (f := fun a b => (Q a b : EReal)) hQ
  have hK' := read2 (f := fun a b => (K a b : EReal)) hK
  have hV' := read2 hV
  have e3 := idx3 t
  have c0 : (grid0.coords t 0).val < 4 := (grid0.coords t 0).isLt
  have c1 : (grid0.coords t 1).val < 16 := (grid0.coords t 1).isLt
  generalize hb : (grid0.coords t 0).val = b at *
  generalize ha : (grid0.coords t 1).val = a at *
  obtain ⟨r, d, rfl⟩ : ∃ (r : Fin 512) (d : Fin 512), y = ix2 r d := ⟨y 0, y 1, by funext a; fin_cases a <;> rfl⟩
  have hr := r.isLt
  have hd := d.isLt
  refine (out_apply _ _ _ (fun r x => Q (512 * (16 * b + a) + r.val) x) (fun n x => K (256 * b + n) x) (fun n x => V' (256 * b + n) x) ?_ ?_ ?_ (ix2 r d)).trans ?_
  · intro r x
    unfold iblk
    blk_simp
    rw [V_main_arg0, hQ']
    blk_simp [idx0 t]
    rw [hb, ha]
    congr 2 <;> omega
  · intro r x
    unfold iblk
    blk_simp
    rw [V_main_arg1, hK']
    blk_simp [idx1 t]
    rw [hb]
    congr 2 <;> omega
  · intro r x
    unfold iblk
    blk_simp
    rw [V_main_arg2, hV']
    blk_simp [idx2 t]
    rw [hb]
    congr 1 <;> omega
  · have f0 : (((win0_3.blk t).view.emb (ix2 r d)) 0).val = 512 * (16 * b + a) + r.val := by blk_simp [e3]; omega
    have f1 : (((win0_3.blk t).view.emb (ix2 r d)) 1).val = d.val := by blk_simp [e3]
    unfold G
    rw [f0, f1, show (512 * (16 * b + a) + r.val) / 8192 = b by omega, zero_add]
    rfl

end Cert.Kernel7Ideal.Mem

end
-- ==== Proof.SampleMemRef.lean ====
module

public import proofs.«01_k».proof.Proof.SampleMem
public import proofs.«01_k».proof.Proof.Gen.Reference7Ideal.Read

@[expose] public section

set_option maxRecDepth 16384

noncomputable section

/-! The sample: the attention over the memory's keys: what its reference computes. -/

namespace Cert.Reference7Ideal.Mem

open Idealize.ShloMosaic Cert.Reference7Ideal Cert.Reference7Ideal.Gen Cert.Reference7Ideal.Read Idealize.ShloMosaic.Tactic Cert.Softmax
open Cert.Kernel7Ideal.Mem (attn negInf read2)

variable (x0 : (⟨S32768x512, .bf16⟩ : BufTy).Contents (Elt Ideal)) (x1 x2 : (⟨S1024x512, .bf16⟩ : BufTy).Contents (Elt Ideal))
  (Q K : ℕ → ℕ → ℝ) (V : ℕ → ℕ → EReal)

/-- The score of token `n` and key `k` in batch `b` and head `h`: 128 lanes multiplied. -/
def rscore (b h n k : ℕ) : ℝ := ∑ x : Fin 128, Q (8192 * b + n) (128 * h + x.val) * K (256 * b + k) (128 * h + x.val)

/-- The values. -/
theorem v_read (hV : ∀ (t : Fin 1024) (x : Fin 512), x2 (ix2 t x) = V t.val x.val) (i : S4x256x4x128.Idx) :
    val_main_v5 x2 i = V (256 * (i 0).val + (i 1).val) (128 * (i 2).val + (i 3).val) := by
  rw [val_main_v5_apply, val_main_v4_apply]
  have h0 : (i 0).val < 4 := (i 0).isLt
  have h1 : (i 1).val < 256 := (i 1).isLt
  have h2 : (i 2).val < 4 := (i 2).isLt
  have h3 : (i 3).val < 128 := (i 3).isLt
  refine (read2 hV _).trans (congrArg₂ V ?_ ?_)
  · simp only [idx_main_v5]
    omega
  · simp only [idx_main_v5]
    omega

variable (hQ : ∀ (t : Fin 32768) (x : Fin 512), x0 (ix2 t x) = (Q t.val x.val : EReal)) (hK : ∀ (t : Fin 1024) (x : Fin 512), x1 (ix2 t x) = (K t.val x.val : EReal))

include hQ in
/-- The queries. -/
theorem q_read (i : S4x8192x4x128.Idx) : val_main_v1 x0 i = (Q (8192 * (i 0).val + (i 1).val) (128 * (i 2).val + (i 3).val) : EReal) := by
  rw [val_main_v1_apply, val_main_v0_apply]
  have h0 : (i 0).val < 4 := (i 0).isLt
  have h1 : (i 1).val < 8192 := (i 1).isLt
  have h2 : (i 2).val < 4 := (i 2).isLt
  have h3 : (i 3).val < 128 := (i 3).isLt
  refine (read2 (f := fun a b => (Q a b : EReal)) hQ _).trans (congrArg₂ (fun a b => (Q a b : EReal)) ?_ ?_)
  · simp only [idx_main_v1]
    omega
  · simp only [idx_main_v1]
    omega

include hK in
/-- The keys. -/
theorem k_read (i : S4x256x4x128.Idx) : val_main_v3 x1 i = (K (256 * (i 0).val + (i 1).val) (128 * (i 2).val + (i 3).val) : EReal) := by
  rw [val_main_v3_apply, val_main_v2_apply]
  have h0 : (i 0).val < 4 := (i 0).isLt
  have h1 : (i 1).val < 256 := (i 1).isLt
  have h2 : (i 2).val < 4 := (i 2).isLt
  have h3 : (i 3).val < 128 := (i 3).isLt
  refine (read2 (f := fun a b => (K a b : EReal)) hK _).trans (congrArg₂ (fun a b => (K a b : EReal)) ?_ ?_)
  · simp only [idx_main_v3]
    omega
  · simp only [idx_main_v3]
    omega

include hQ hK

/-- The scores. -/
theorem score_read (i : S4x4x8192x256.Idx) :
    val_main_v6 x0 x1 i = (rscore Q K (i 0).val (i 1).val (i 2).val (i 3).val : EReal) := by
  rw [val_main_v6_apply, rscore, coe_sum]
  refine Finset.sum_congr rfl fun k _ => ?_
  rw [q_read x0 Q hQ, k_read x1 K hK, EReal.coe_mul]

/-- A row's maximum is a real number. -/
theorem max_read (i : S4x4x8192.Idx) : ∃ ν : ℝ, val_main_v9 x0 x1 i = (ν : EReal) := by
  obtain ⟨ν, hν⟩ := exists_coe_fold (n := 256) (by norm_num) fun k => rscore Q K (i 0).val (i 1).val (i 2).val k.val
  refine ⟨ν, ?_⟩
  rw [val_main_v9_apply, val_main_v8_apply, ← hν]
  unfold val_main_v7
  have e : val_main_v6 x0 x1 = fun i => (rscore Q K (i 0).val (i 1).val (i 2).val (i 3).val : EReal) := funext fun i => score_read x0 x1 Q K hQ hK i
  rw [e]
  pointwise
  rw [show val_main_cst_0 (F := Ideal) (idx_main_v8 i) = ⊥ from negInf, show val_main_cst (F := Ideal) (Shape.Idx.first h_S_) = ⊥ from negInf]
  exact max_eq_right bot_le

/-- A row's softmax weights. -/
theorem weight_read (b h : Fin 4) (n : Fin 8192) (i : S4x4x8192x256.Idx) (e0 : (i 0).val = b.val) (e1 : (i 1).val = h.val) (e2 : (i 2).val = n.val) :
    val_main_v17 x0 x1 i = ((Real.exp (rscore Q K b h n (i 3).val) / ∑ k ∈ Finset.range 256, Real.exp (rscore Q K b h n k) : ℝ) : EReal) := by
  obtain ⟨ν, hν⟩ := max_read x0 x1 Q K hQ hK (ix3 b h n)
  have hM : ∀ i : S4x4x8192x256.Idx, (i 0).val = b.val → (i 1).val = h.val → (i 2).val = n.val →
      val_main_v13 x0 x1 i = Ideal.exp ((rscore Q K b h n (i 3).val : EReal) - (ν : EReal)) := by
    intro i e0 e1 e2
    rw [val_main_v13_apply, val_main_v12_apply, val_main_v11_apply, val_main_v10_apply, score_read x0 x1 Q K hQ hK, e0, e1, e2,
      show idx_main_v10 (idx_main_v11 i) = ix3 b h n from by
        funext a
        fin_cases a
        · exact Fin.ext e0
        · exact Fin.ext e1
        · exact Fin.ext e2, hν]
    rfl
  rw [val_main_v17_apply, val_main_v16_apply, val_main_v15_apply, val_main_v14_apply, hM i e0 e1 e2,
    show val_main_cst_1 (F := Ideal) (Shape.Idx.first h_S_) = 0 from Ideal.ofBits_zero_f32, zero_add,
    Finset.sum_congr rfl fun k _ => hM (idx_main_v14 (idx_main_v15 (idx_main_v16 i)) k) e0 e1 e2, ← weight_shift _ _ _ ν]
  exact softmax_weight (n := 256) (by norm_num) (rscore Q K b h n) (fun k => (rscore Q K b h n k.val : EReal)) (fun _ => rfl) ν ν rfl ⟨(i 3).val, (i 3).isLt⟩

/-- The reference's result is the kernel's. -/
theorem ref_eq (hV : ∀ (t : Fin 1024) (x : Fin 512), x2 (ix2 t x) = V t.val x.val) :
    val_main_v21 x0 x1 x2 = Cert.Kernel7Ideal.Mem.G Q K V := by
  funext i
  have b0 : (i 0).val < 32768 := (i 0).isLt
  have b1 : (i 1).val < 512 := (i 1).isLt
  rw [val_main_v21_apply, val_main_v20_apply, val_main_v19_apply, val_main_v18_apply]
  have c0 : (idx_main_v20 i 0).val = (i 0).val / 8192 := by simp only [idx_main_v20]; omega
  have c1 : (idx_main_v20 i 1).val = (i 0).val % 8192 := by simp only [idx_main_v20]; omega
  have c2 : (idx_main_v20 i 2).val = (i 1).val / 128 := by simp only [idx_main_v20]; omega
  have c3 : (idx_main_v20 i 3).val = (i 1).val % 128 := by simp only [idx_main_v20]; omega
  have e0 : 8192 * (idx_main_v20 i 0).val + (idx_main_v20 i 1).val = (i 0).val := by rw [c0, c1]; omega
  have e1 : 128 * (idx_main_v20 i 2).val + (idx_main_v20 i 3).val = (i 1).val := by rw [c2, c3]; omega
  have es : (fun k => ∑ x : Fin 128, Q (i 0).val (128 * ((i 1).val / 128) + x.val) * K (256 * ((i 0).val / 8192) + k) (128 * ((i 1).val / 128) + x.val))
      = rscore Q K (idx_main_v20 i 0).val (idx_main_v20 i 2).val (idx_main_v20 i 1).val := by
    funext k
    rw [rscore, e0, c0, c2]
  unfold Cert.Kernel7Ideal.Mem.G attn wsum
  rw [es, ← c0, ← e1]
  refine (Finset.sum_congr rfl fun k _ => ?_).trans (Fin.sum_univ_eq_sum_range (fun k => ((Real.exp (rscore Q K (idx_main_v20 i 0).val (idx_main_v20 i 2).val (idx_main_v20 i 1).val k)
      / ∑ k ∈ Finset.range 256, Real.exp (rscore Q K (idx_main_v20 i 0).val (idx_main_v20 i 2).val (idx_main_v20 i 1).val k) : ℝ) : EReal)
      * V (256 * (idx_main_v20 i 0).val + k) (128 * (idx_main_v20 i 2).val + (idx_main_v20 i 3).val)) 256)
  rw [v_read x2 V hV, weight_read x0 x1 Q K hQ hK (idx_main_v20 i 0) (idx_main_v20 i 2) (idx_main_v20 i 1) _ rfl rfl rfl, mul_comm]

end Cert.Reference7Ideal.Mem

end
-- ==== Proof.SampleMemClaim.lean ====
module

public import proofs.«01_k».proof.Defs
public import proofs.«01_k».proof.Proof.Finite
public import proofs.«01_k».proof.Proof.SampleMem
public import proofs.«01_k».proof.Proof.SampleMemRef
public import proofs.«01_k».proof.Proof.Gen.Kernel7Ideal
public import proofs.«01_k».proof.Proof.Gen.Reference7Ideal
public import proofs.«01_k».proof.Proof.Gen.Reference7Ideal.Run
public import Idealize.ShloMosaic.Lib.Quiescent
public import Idealize.ShloMosaic.Lib.Claim

@[expose] public section

set_option maxRecDepth 16384

noncomputable section

/-! The sample: the attention over the memory's keys: its kernel computes what its reference does. -/

namespace Cert.SampleMemClaim

open Idealize.ShloMosaic Idealize.SL.Sem Idealize.ShloMosaic.Tactic

/-- The side conditions of the precondition. -/
theorem facts : Cert.Pre_finite_sample.Facts where
  bitsLt_bf16_f32 := by decide
  bcast_S_S32768x512 := by decide
  bcast_S_S1024x512 := by decide

open Cert.Pre_finite_sample in
/-- The precondition: the queries and the keys are real numbers. -/
theorem real_of_pre [hf : Cert.Pre_finite_sample.Facts] (x0 : FVec Ideal S32768x512 .bf16) (x1 x2 : FVec Ideal S1024x512 .bf16)
    (h0 : (fn (F := Ideal) x0 x1 x2).1 = fun _ => 1#1) (h1 : (fn (F := Ideal) x0 x1 x2).2 = fun _ => 1#1) :
    (∀ i, ∃ r : ℝ, x0 i = (r : EReal)) ∧ ∀ i, ∃ r : ℝ, x1 i = (r : EReal) := by
  refine ⟨fun i => Cert.Finite.real_of_lt ?_, fun i => Cert.Finite.real_of_lt ?_⟩
  · have := congrFun h0 i
    rw [← Cert.Finite.posInf]
    exact this
  · have := congrFun h1 i
    rw [← Cert.Finite.posInf]
    exact this

/-- The memory attention's reference runs, keeps its arguments and ends with no semaphore up. -/
theorem frame_reference : Cert.quiescent_Reference7Ideal (hReference7Ideal := Cert.Reference7Ideal.Gen.facts) := fun m ρ _ =>
  (θ_run _ _ _).mono (fun r h => ⟨fun c => (h c).2, sem_eq_zero_of_no_sems (by decide) _⟩) (Cert.Reference7Ideal.Value.run m ρ)

/-- The entries of an array of `N` rows as a function of two numbers, `e` outside it. -/
def ext {α : Type} {N : ℕ} (e : α) (f : (⟨2, ![N, 512]⟩ : Shape).Idx → α) (t x : ℕ) : α :=
  if h : t < N ∧ x < 512 then f (ix2 ⟨t, h.1⟩ ⟨x, h.2⟩) else e

/-- Inside the array that function is its entries. -/
theorem ext_apply {α : Type} {N : ℕ} (e : α) (f : (⟨2, ![N, 512]⟩ : Shape).Idx → α) (t : Fin N) (x : Fin 512) : ext e f t.val x.val = f (ix2 t x) :=
  dif_pos ⟨t.isLt, x.isLt⟩

/-- The kernel's ideal reading computes what the reference does, for queries and keys that are real numbers and any values. -/
theorem algebraic : Cert.algebraic_Kernel7Ideal_Reference7Ideal_pre_finite_sample (hKernel7Ideal := Cert.Kernel7Ideal.Gen.facts)
    (hReference7Ideal := Cert.Reference7Ideal.Gen.facts) (hPre_finite_sample := facts) :=
  fun m ρ m' ρ' hpre hag => by
  have hr := fun c => real_of_pre (hf := facts) _ _ _ (hpre c).1 (hpre c).2
  choose Q hQ using fun c => (hr c).1
  choose K hK using fun c => (hr c).2
  have hQ' : ∀ (c : Dev Cert.Kernel7Ideal.nD) (t : Fin 32768) (x : Fin 512), m ((c.tc : Thread Cert.Kernel7Ideal.nD Cert.Kernel7Ideal.τ).loc Cert.Kernel7Ideal.main_arg0) (ix2 t x) = ((ext (N := 32768) 0 (Q c) t.val x.val : ℝ) : EReal) :=
    fun c t x => (hQ c (ix2 t x)).trans (congrArg Real.toEReal (ext_apply (N := 32768) 0 (Q c) t x).symm)
  have hK' : ∀ (c : Dev Cert.Kernel7Ideal.nD) (t : Fin 1024) (x : Fin 512), m ((c.tc : Thread Cert.Kernel7Ideal.nD Cert.Kernel7Ideal.τ).loc Cert.Kernel7Ideal.main_arg1) (ix2 t x) = ((ext (N := 1024) 0 (K c) t.val x.val : ℝ) : EReal) :=
    fun c t x => (hK c (ix2 t x)).trans (congrArg Real.toEReal (ext_apply (N := 1024) 0 (K c) t x).symm)
  have hV' : ∀ (c : Dev Cert.Kernel7Ideal.nD) (t : Fin 1024) (x : Fin 512), m ((c.tc : Thread Cert.Kernel7Ideal.nD Cert.Kernel7Ideal.τ).loc Cert.Kernel7Ideal.main_arg2) (ix2 t x) = ext (N := 1024) (0 : EReal) (m ((c.tc : Thread Cert.Kernel7Ideal.nD Cert.Kernel7Ideal.τ).loc Cert.Kernel7Ideal.main_arg2)) t.val x.val :=
    fun c t x => (ext_apply (α := EReal) (N := 1024) 0 (m ((c.tc : Thread Cert.Kernel7Ideal.nD Cert.Kernel7Ideal.τ).loc Cert.Kernel7Ideal.main_arg2)) t x).symm
  refine ⟨fun c => Cert.Kernel7Ideal.Mem.G (ext (N := 32768) 0 (Q c)) (ext (N := 1024) 0 (K c)) (ext (N := 1024) (0 : EReal) (m ((c.tc : Thread Cert.Kernel7Ideal.nD Cert.Kernel7Ideal.τ).loc Cert.Kernel7Ideal.main_arg2))),
    (θ_run _ _ _).mono (fun _ h c => ⟨(h c).1.trans (Cert.Kernel7Ideal.Mem.arr_eq m c _ _ _ (hQ' c) (hK' c) (hV' c)), (h c).2⟩) (Cert.Kernel7Ideal.Value.run_blocks m ρ),
    (θ_run _ _ _).mono (fun _ h c => ⟨(h c).1.trans ?_, (h c).2⟩) (Cert.Reference7Ideal.Value.run m' ρ')⟩
  refine (Cert.Reference7Ideal.Read.val_main_v21_eq _ _ _).trans ?_
  show Cert.Reference7Ideal.Read.val_main_v21 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) = _
  rw [(hag c).1, (hag c).2.1, (hag c).2.2]
  exact Cert.Reference7Ideal.Mem.ref_eq _ _ _ _ _ _ (hQ' c) (hK' c) (hV' c)

end Cert.SampleMemClaim

end
-- ==== Proof.SampleMlaTrip.lean ====
module

public import proofs.«01_k».proof.Proof.SoftmaxExt
public import proofs.«01_k».proof.Proof.Gen.Kernel8Ideal.Loops
public import Idealize.ShloMosaic.Lib.Pointwise.Tactic
public import Idealize.ShloMosaic.Lib.Pointwise
public import Idealize.ShloMosaic.Lib.Pipeline.Value
public import Idealize.ShloMosaic.Lib.WritesUnit

@[expose] public section

set_option maxRecDepth 16384

noncomputable section

namespace Cert.Kernel8Ideal.Mla

open Idealize.ShloMosaic Cert.Kernel8Ideal Cert.Kernel8Ideal.Gen Idealize.ShloMosaic.TcCoe Idealize.ShloMosaic.Tactic Cert.Softmax

/-- The word of `-∞`, the start of a row's maximum. -/
theorem negInf : Ideal.ofBits FTy.f32 0xFF800000#32 = ⊥ := by simp [Ideal.ofBits, Ideal.ieee]

section Payloads

variable (q : Vec Ideal S256x128 .bf16) (k : Vec Ideal S512x128 .bf16) (r : Fin 256)

/-- A score: the product of the query row with the key row. -/
theorem pay6_apply (j : Fin 512) : k0_pay6 q k (ix2 r j) = ∑ x, q (ix2 r x) * k (ix2 j x) := by
  unfold k0_pay6
  pointwise [dot_S256x128_S512x128_S256x512_1_1_0_0_n_n]

/-- The new maximum of a row. -/
theorem pay8_apply (m : Vec Ideal S1x256x1 .f32) :
    k0_pay8 q k m (ix2 r 0) = max (m (ix3 0 r 0)) (Finset.univ.fold max ⊥ fun x => k0_pay6 q k (ix2 r x)) := by
  unfold k0_pay8 k0_pay7
  pointwise
  rw [negInf]

/-- The new sum of a row. -/
theorem pay11_apply (m l : Vec Ideal S1x256x1 .f32) :
    k0_pay11 q k m l (ix3 0 r 0) = Ideal.exp (m (ix3 0 r 0) - k0_pay8 q k m (ix2 r 0)) * l (ix3 0 r 0)
      + ∑ x, Ideal.exp (k0_pay6 q k (ix2 r x) - k0_pay8 q k m (ix2 r 0)) := by
  unfold k0_pay11 k0_pay9 k0_pay10 k0_pay7
  pointwise

/-- The new weighted sum of a row. -/
theorem pay12_apply (v : Vec Ideal S512x128 .bf16) (m : Vec Ideal S1x256x1 .f32) (a : Vec Ideal S1x256x128 .f32) (d : Fin 128) :
    k0_pay12 q k v m a (ix3 0 r d) = Ideal.exp (m (ix3 0 r 0) - k0_pay8 q k m (ix2 r 0)) * a (ix3 0 r d)
      + ∑ x, Ideal.exp (k0_pay6 q k (ix2 r x) - k0_pay8 q k m (ix2 r 0)) * v (ix2 x d) := by
  unfold k0_pay12 k0_pay9 k0_pay10 k0_pay7
  pointwise [dot_S256x512_S512x128_S256x128_1_0_0_1_n_n]

/-- What the body stores: the weighted sums over the sum of the weights. -/
theorem pay5_apply (a : Vec Ideal S1x256x128 .f32) (l : Vec Ideal S1x256x1 .f32) (d : Fin 128) :
    k0_pay5 (F := Ideal) a l (ix2 r d) = Ideal.div (a (ix3 0 r d)) (l (ix3 0 r 0)) := by
  unfold k0_pay5
  pointwise

end Payloads

/-- The trip's tile of a whole array of keys or values: rows `512 k …`. -/
def tile (X : Vec Ideal S8192x128 .bf16) (k : Fin k0_t1_loop.trips) : Vec Ideal S512x128 .bf16 := fun j =>
  X (ix2 ⟨512 * k.val + (j 0).val, by
    have h : (j 0).val < 512 := (j 0).isLt
    have hk : k.val < 16 := Nat.lt_of_lt_of_le k.isLt k0_t1_abs.2.1
    omega⟩ (j 1))

/-- A load of the trip's rows of keys or values reads the trip's tile. -/
theorem ld_tile (X : Vec Ideal S8192x128 .bf16) (k : Fin k0_t1_loop.trips) :
    View.ld X (Rect.unit (s := S8192x128) (k0_off1 k) S512x128.size (k0_off1_inb k)) = tile X k := by
  funext j
  unfold tile
  refine congrArg X (funext fun a => Fin.ext ?_)
  match a with
  | ⟨0, _⟩ =>
    show k0_off1 k 0 + 1 * (j 0).val = 512 * k.val + (j 0).val
    rw [show k0_off1 k 0 = 512 * k.val from congrFun (k0_off1_eq k) 0, Nat.one_mul]
  | ⟨1, _⟩ =>
    show k0_off1 k 1 + 1 * (j 1).val = (j 1).val
    rw [show k0_off1 k 1 = 0 from congrFun (k0_off1_eq k) 1, Nat.one_mul, Nat.zero_add]

theorem zero3 : (![0, 0, 0] : Fin 3 → ℕ) = fun _ => 0 := by funext a; fin_cases a <;> rfl

variable (𝒱 : Variants) (c : Dev nD) (bd : Option 𝒱.V) (i : grid0.Coords) (arg3 : Memref sig .tc .smem S4 .f32) (harg3 : arg3.IsWhole) (arg4 : Memref sig .tc .vmem S4x64 .f32) (harg4 : arg4.IsWhole) (arg5 : Memref sig .tc .vmem S1x128 .f32) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S256x128 .bf16) (harg9 : arg9.IsWhole) (arg10 : Memref sig .tc .vmem S1x256x1 .f32) (harg10 : arg10.IsWhole) (arg11 : Memref sig .tc .vmem S1x256x1 .f32) (harg11 : arg11.IsWhole) (arg12 : Memref sig .tc .vmem S1x256x128 .f32) (harg12 : arg12.IsWhole) (v0 : Vec Ideal S256x128 .bf16) (X_arg7 : BufTy.Contents (Elt Ideal) arg7.view.ty) (X_arg8 : BufTy.Contents (Elt Ideal) arg8.view.ty)

section Trip

variable (k : Fin k0_t1_loop.trips) (f_arg10 : BufTy.Contents (Elt Ideal) arg10.view.ty) (f_arg11 : BufTy.Contents (Elt Ideal) arg11.view.ty) (f_arg12 : BufTy.Contents (Elt Ideal) arg12.view.ty)

/-- After the trip, the running maximum in row `r`. -/
theorem trip_m (r : Fin 256) :
    arg10.view.read (Elt Ideal) (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 arg12 harg12 v0 X_arg7 X_arg8 k).1 f_arg10 f_arg11 f_arg12)) (ix3 0 r 0)
      = k0_pay8 v0 (tile (arg7.view.read (Elt Ideal) X_arg7) k) (arg10.view.read (Elt Ideal) f_arg10) (ix2 r 0) := by
  unfold trip_k0_t1
  dsimp only
  sl_unfold_words
  rw [View.read_writes_cons_unit_of_mem _ _ _ _ _ _ (ix3 0 r 0) rfl (by intro a; fin_cases a <;> simp)]
  show k0_pay4 (k0_pay8 v0 (View.ld (arg7.view.read (Elt Ideal) X_arg7) (Rect.unit (s := S8192x128) (k0_off1 k) S512x128.size (k0_off1_inb k))) (View.ld (arg10.view.read (Elt Ideal) f_arg10) (Rect.unit (s := S1x256x1) ![0, 0, 0] S1x256x1.size inb_S1x256x1_S1x256x1_0_0_0))) (ix3 0 r 0) = _
  rw [ld_tile, View.ld_unit_zero zero3]
  unfold k0_pay4
  pointwise

/-- After the trip, the running sum in row `r`. -/
theorem trip_l (r : Fin 256) :
    arg11.view.read (Elt Ideal) (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 arg12 harg12 v0 X_arg7 X_arg8 k).2.1 f_arg10 f_arg11 f_arg12)) (ix3 0 r 0)
      = k0_pay11 v0 (tile (arg7.view.read (Elt Ideal) X_arg7) k) (arg10.view.read (Elt Ideal) f_arg10) (arg11.view.read (Elt Ideal) f_arg11) (ix3 0 r 0) := by
  unfold trip_k0_t1
  dsimp only
  sl_unfold_words
  rw [View.read_writes_cons_unit_of_mem _ _ _ _ _ _ (ix3 0 r 0) rfl (by intro a; fin_cases a <;> simp)]
  show k0_pay11 v0 (View.ld (arg7.view.read (Elt Ideal) X_arg7) (Rect.unit (s := S8192x128) (k0_off1 k) S512x128.size (k0_off1_inb k))) (View.ld (arg10.view.read (Elt Ideal) f_arg10) (Rect.unit (s := S1x256x1) ![0, 0, 0] S1x256x1.size inb_S1x256x1_S1x256x1_0_0_0)) (View.ld (arg11.view.read (Elt Ideal) f_arg11) (Rect.unit (s := S1x256x1) ![0, 0, 0] S1x256x1.size inb_S1x256x1_S1x256x1_0_0_0)) (ix3 0 r 0) = _
  rw [ld_tile, View.ld_unit_zero zero3, View.ld_unit_zero zero3]

/-- After the trip, the running weighted sum in row `r`. -/
theorem trip_a (r : Fin 256) (d : Fin 128) :
    arg12.view.read (Elt Ideal) (arg12.view.writes (Elt Ideal) f_arg12 ((trip_k0_t1 (F := Ideal) 𝒱 c bd i arg3 harg3 arg4 harg4 arg5 harg5 arg6 harg6 arg7 harg7 arg8 harg8 arg9 harg9 arg10 harg10 arg11 harg11 arg12 harg12 v0 X_arg7 X_arg8 k).2.2.1 f_arg10 f_arg11 f_arg12)) (ix3 0 r d)
      = k0_pay12 v0 (tile (arg7.view.read (Elt Ideal) X_arg7) k) (tile (arg8.view.read (Elt Ideal) X_arg8) k) (arg10.view.read (Elt Ideal) f_arg10) (arg12.view.read (Elt Ideal) f_arg12) (ix3 0 r d) := by
  unfold trip_k0_t1
  dsimp only
  sl_unfold_words
  rw [View.read_writes_cons_unit_of_mem _ _ _ _ _ _ (ix3 0 r d) rfl (by intro a; fin_cases a <;> simp)]
  show k0_pay12 v0 (View.ld (arg7.view.read (Elt Ideal) X_arg7) (Rect.unit (s := S8192x128) (k0_off1 k) S512x128.size (k0_off1_inb k))) (View.ld (arg8.view.read (Elt Ideal) X_arg8) (Rect.unit (s := S8192x128) (k0_off1 k) S512x128.size (k0_off1_inb k))) (View.ld (arg10.view.read (Elt Ideal) f_arg10) (Rect.unit (s := S1x256x1) ![0, 0, 0] S1x256x1.size inb_S1x256x1_S1x256x1_0_0_0)) (View.ld (arg12.view.read (Elt Ideal) f_arg12) (Rect.unit (s := S1x256x128) ![0, 0, 0] S1x256x128.size inb_S1x256x128_S1x256x128_0_0_0)) (ix3 0 r d) = _
  rw [ld_tile, ld_tile, View.ld_unit_zero zero3, View.ld_unit_zero zero3]

end Trip

variable (G_arg10 : BufTy.Contents (Elt Ideal) arg10.view.ty) (G_arg11 : BufTy.Contents (Elt Ideal) arg11.view.ty) (G_arg12 : BufTy.Contents (Elt Ideal) arg12.view.ty)

/-- The state of the three scratch arrays before trip `n`, in row `r`: that of the tiled softmax over the first `512 n` keys. -/
theorem pb_online (s : Fin 256 → ℕ → ℝ) (v : ℕ → Fin 128 → EReal) (μ : ℝ)
    (hs : ∀ r (k : Fin k0_t1_loop.trips) j, k0_pay6 v0 (tile (arg7.view.read (Elt Ideal) X_arg7) k) (ix2 r j) = (s r (512 * k.val + j.val) : EReal))
    (hv : ∀ (k : Fin k0_t1_loop.trips) (j : Fin 512) d, tile (arg8.view.read (Elt Ideal) X_arg8) k (ix2 j d) = v (512 * k.val + j.val) d)
    (h10 : ∀ r, arg10.view.read (Elt Ideal) G_arg10 (ix3 0 r 0) = (μ : EReal))
    (h11 : ∀ r, arg11.view.read (Elt Ideal) G_arg11 (ix3 0 r 0) = (0 : EReal))
    (h12 : ∀ r d, arg12.view.read (Elt Ideal) G_arg12 (ix3 0 r d) = (0 : EReal)) :
    ∀ (n : ℕ) (hn : n ≤ k0_t1_loop.trips) (r : Fin 256),
      OnlineExt (s r) v (512 * n)
        (arg10.view.read (Elt Ideal) (arg10.view.writes (Elt Ideal) G_arg10 (pb_k0_t1 (F := Ideal) 𝒱 c bd i arg3 harg3 arg4 harg4 arg5 harg5 arg6 harg6 arg7 harg7 arg8 harg8 arg9 harg9 arg10 harg10 arg11 harg11 arg12 harg12 v0 X_arg7 X_arg8 G_arg10 G_arg11 G_arg12 n).1) (ix3 0 r 0))
        (arg11.view.read (Elt Ideal) (arg11.view.writes (Elt Ideal) G_arg11 (pb_k0_t1 (F := Ideal) 𝒱 c bd i arg3 harg3 arg4 harg4 arg5 harg5 arg6 harg6 arg7 harg7 arg8 harg8 arg9 harg9 arg10 harg10 arg11 harg11 arg12 harg12 v0 X_arg7 X_arg8 G_arg10 G_arg11 G_arg12 n).2.1) (ix3 0 r 0))
        (fun d => arg12.view.read (Elt Ideal) (arg12.view.writes (Elt Ideal) G_arg12 (pb_k0_t1 (F := Ideal) 𝒱 c bd i arg3 harg3 arg4 harg4 arg5 harg5 arg6 harg6 arg7 harg7 arg8 harg8 arg9 harg9 arg10 harg10 arg11 harg11 arg12 harg12 v0 X_arg7 X_arg8 G_arg10 G_arg11 G_arg12 n).2.2) (ix3 0 r d)) := by
  intro n
  induction n with
  | zero => exact fun _ r => OnlineExt.zero _ _ μ (h10 r) (h11 r) (h12 r)
  | succ n ih =>
    intro hn r
    have hlt : n < k0_t1_loop.trips := hn
    have hih := ih hlt.le r
    have hsucc := pb_k0_t1_succ (F := Ideal) 𝒱 c bd i arg3 harg3 arg4 harg4 arg5 harg5 arg6 harg6 arg7 harg7 arg8 harg8 arg9 harg9 arg10 harg10 arg11 harg11 arg12 harg12 v0 X_arg7 X_arg8 G_arg10 G_arg11 G_arg12 ⟨n, hlt⟩
    dsimp only at hsucc
    rw [hsucc]
    clear hsucc ih
    dsimp only
    rw [View.writes_append, View.writes_append, View.writes_append]
    generalize hf10 : arg10.view.writes (Elt Ideal) G_arg10 (pb_k0_t1 (F := Ideal) 𝒱 c bd i arg3 harg3 arg4 harg4 arg5 harg5 arg6 harg6 arg7 harg7 arg8 harg8 arg9 harg9 arg10 harg10 arg11 harg11 arg12 harg12 v0 X_arg7 X_arg8 G_arg10 G_arg11 G_arg12 n).1 = f10 at hih ⊢
    generalize hf11 : arg11.view.writes (Elt Ideal) G_arg11 (pb_k0_t1 (F := Ideal) 𝒱 c bd i arg3 harg3 arg4 harg4 arg5 harg5 arg6 harg6 arg7 harg7 arg8 harg8 arg9 harg9 arg10 harg10 arg11 harg11 arg12 harg12 v0 X_arg7 X_arg8 G_arg10 G_arg11 G_arg12 n).2.1 = f11 at hih ⊢
    generalize hf12 : arg12.view.writes (Elt Ideal) G_arg12 (pb_k0_t1 (F := Ideal) 𝒱 c bd i arg3 harg3 arg4 harg4 arg5 harg5 arg6 harg6 arg7 harg7 arg8 harg8 arg9 harg9 arg10 harg10 arg11 harg11 arg12 harg12 v0 X_arg7 X_arg8 G_arg10 G_arg11 G_arg12 n).2.2 = f12 at hih ⊢
    rw [show 512 * (n + 1) = 512 * n + 512 from rfl]
    refine hih.step (fun j => k0_pay6 v0 (tile (arg7.view.read (Elt Ideal) X_arg7) ⟨n, hlt⟩) (ix2 r j))
      (fun j d => tile (arg8.view.read (Elt Ideal) X_arg8) ⟨n, hlt⟩ (ix2 j d)) (fun j => hs r ⟨n, hlt⟩ j) (fun j d => hv ⟨n, hlt⟩ j d) ?_ ?_ ?_
    · exact (trip_m ..).trans (pay8_apply ..)
    · refine (trip_l ..).trans ((pay11_apply ..).trans ?_)
      rw [← trip_m]
    · intro d
      refine (trip_a ..).trans ((pay12_apply ..).trans ?_)
      rw [← trip_m]

end Cert.Kernel8Ideal.Mla

end
-- ==== Proof.SampleMlaBlock.lean ====
module

public import proofs.«01_k».proof.Proof.SampleMlaTrip
public import proofs.«01_k».proof.Proof.Gen.Kernel8Ideal.Frame

@[expose] public section

set_option maxRecDepth 16384

noncomputable section

namespace Cert.Kernel8Ideal.Mla

open Idealize.ShloMosaic Cert.Kernel8Ideal Cert.Kernel8Ideal.Gen Idealize.ShloMosaic.TcCoe Idealize.ShloMosaic.Tactic Cert.Softmax

/-- The finite stand-in for the first maximum is a real. -/
theorem exists_start : ∃ μ : ℝ, Ideal.ofBits FTy.f32 0xF149F2CA#32 = (μ : EReal) := ⟨_, by simp [Ideal.ofBits, Ideal.ieee, -EReal.coe_mul]; rfl⟩

/-- The score of query row `r` and key `n`. -/
def score (Q : Fin 256 → Fin 128 → ℝ) (K : ℕ → Fin 128 → ℝ) (r : Fin 256) (n : ℕ) : ℝ := ∑ x : Fin 128, Q r x * K n x

/-- What a trip computes as a score is that score. -/
theorem pay6_score (Q : Fin 256 → Fin 128 → ℝ) (K : ℕ → Fin 128 → ℝ) (q : Vec Ideal S256x128 .bf16) (hq : ∀ r x, q (ix2 r x) = (Q r x : EReal))
    (k : Fin k0_t1_loop.trips) (kk : Vec Ideal S512x128 .bf16) (hk : ∀ j x, kk (ix2 j x) = (K (512 * k.val + j.val) x : EReal)) (r : Fin 256) (j : Fin 512) :
    k0_pay6 q kk (ix2 r j) = (score Q K r (512 * k.val + j.val) : EReal) := by
  rw [pay6_apply, score, coe_sum]
  exact Finset.sum_congr rfl fun x _ => by rw [hk, hq, EReal.coe_mul]

/-- A load of a whole scratch array, after the writes `L` over a first one `p`. -/
theorem readCov_whole {D : ℕ} {sp : Space} (v : View sig .tc sp (⟨3, ![1, 256, D]⟩ : Shape) .f32)
    (L : List (View.Piece (Elt Ideal) (⟨3, ![1, 256, D]⟩ : Shape) .f32)) (p) (inb) :
    v.readCov (L ++ [p]) (Rect.unit (s := (⟨3, ![1, 256, D]⟩ : Shape)) ![0, 0, 0] (![1, 256, D]) inb).toLoadRect
      = v.read (Elt Ideal) (v.writes (Elt Ideal) (v.writes (Elt Ideal) v.junk [p]) L) := by
  unfold View.readCov
  rw [View.writes_append]
  exact View.ld_unit_zero zero3 _ _

variable (c : Dev nD) (i : grid0.Coords) (arg3 : Memref sig .tc .smem S4 .f32) (harg3 : arg3.IsWhole) (arg4 : Memref sig .tc .vmem S4x64 .f32) (harg4 : arg4.IsWhole) (arg5 : Memref sig .tc .vmem S1x128 .f32) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S256x128 .bf16) (harg9 : arg9.IsWhole) (arg10 : Memref sig .tc .vmem S1x256x1 .f32) (harg10 : arg10.IsWhole) (arg11 : Memref sig .tc .vmem S1x256x1 .f32) (harg11 : arg11.IsWhole) (arg12 : Memref sig .tc .vmem S1x256x128 .f32) (harg12 : arg12.IsWhole)
    (x0 : Vec Ideal S4 .f32) (x1 : Vec Ideal S4x64 .f32) (x2 : Vec Ideal S1x128 .f32) (x3 : Vec Ideal S256x128 .bf16) (x4 : Vec Ideal S8192x128 .bf16) (x5 : Vec Ideal S8192x128 .bf16)

/-- The block a grid point leaves, from real queries and keys and any values: each row's values summed with the softmax
    weights of its scores. -/
theorem out_apply (Q : Fin 256 → Fin 128 → ℝ) (K : ℕ → Fin 128 → ℝ) (V : ℕ → Fin 128 → EReal)
    (hQ : ∀ r x, x3 (ix2 r x) = (Q r x : EReal)) (hK : ∀ (n : Fin 8192) x, x4 (ix2 n x) = (K n.val x : EReal))
    (hV : ∀ (n : Fin 8192) x, x5 (ix2 n x) = V n.val x) (r : Fin 256) (d : Fin 128) :
    out0_A_6 (F := Ideal) c i arg3 harg3 arg4 harg4 arg5 harg5 arg6 harg6 arg7 harg7 arg8 harg8 arg9 harg9 arg10 harg10 arg11 harg11 arg12 harg12 x0 x1 x2 x3 x4 x5 (ix2 r d) = wsum (score Q K r) V 8192 d := by
  unfold out0_A_6
  rw [View.read_writes_eq_canon _ _ _ (cover0_A_6 c i arg3 harg3 arg4 harg4 arg5 harg5 arg6 harg6 arg7 harg7 arg8 harg8 arg9 harg9 arg10 harg10 arg11 harg11 arg12 harg12 x0 x1 x2 x3 x4 x5)]
  unfold kernelRun0_A
  dsimp only
  sl_unfold_words
  have z2 : (![0, 0] : Fin 2 → ℕ) = fun _ => 0 := by funext a; fin_cases a <;> rfl
  have e3 : View.readAt (Elt Ideal) arg6.view (Rect.unit (s := S256x128) ![0, 0] S256x128.size inb_S256x128_S256x128_0_0).toLoadRect (harg6.unread x3) = x3 :=
    (View.ld_unit_zero z2 _ _).trans (harg6.read_unread x3)
  obtain ⟨μ, hμ⟩ := exists_start
  have hO := fun (v0 : Vec Ideal S256x128 .bf16) (hv0 : v0 = x3) =>
    pb_online Variants.none c none i arg3 harg3 arg4 harg4 arg5 harg5 arg6 harg6 arg7 harg7 arg8 harg8 arg9 harg9 arg10 harg10 arg11 harg11 arg12 harg12 v0 (harg7.unread x4) (harg8.unread x5)
      (arg10.view.writes (Elt Ideal) arg10.view.junk [⟨Rect.unit ![0, 0, 0] S1x256x1.size inb_S1x256x1_S1x256x1_0_0_0, k0_pay1 (F := Ideal)⟩])
      (arg11.view.writes (Elt Ideal) arg11.view.junk [⟨Rect.unit ![0, 0, 0] S1x256x1.size inb_S1x256x1_S1x256x1_0_0_0, k0_pay2 (F := Ideal)⟩])
      (arg12.view.writes (Elt Ideal) arg12.view.junk [⟨Rect.unit ![0, 0, 0] S1x256x128.size inb_S1x256x128_S1x256x128_0_0_0, k0_pay3 (F := Ideal)⟩])
      (fun r => score Q K r) V μ
      (fun r k j => by
        rw [hv0, harg7.read_unread]
        exact pay6_score Q K x3 hQ k _ (fun j x => hK ⟨_, _⟩ x) r j)
      (fun k j d => by rw [harg8.read_unread]; exact hV ⟨_, _⟩ d)
      (fun r => by
        rw [View.read_writes_cons_unit_of_mem _ _ _ _ _ _ (ix3 0 r 0) rfl (by intro a; fin_cases a <;> simp)]
        exact hμ)
      (fun r => by
        rw [View.read_writes_cons_unit_of_mem _ _ _ _ _ _ (ix3 0 r 0) rfl (by intro a; fin_cases a <;> simp)]
        exact Ideal.ofBits_zero_f32)
      (fun r d => by
        rw [View.read_writes_cons_unit_of_mem _ _ _ _ _ _ (ix3 0 r d) rfl (by intro a; fin_cases a <;> simp)]
        exact Ideal.ofBits_zero_f32)
      16 (by decide)
  refine (congrFun (View.canon_unit_zero z2 _ _) _).trans ((pay5_apply ..).trans ?_)
  exact (congrArg₂ Ideal.div (congrFun (readCov_whole _ _ _ _) (ix3 0 r d)) (congrFun (readCov_whole _ _ _ _) (ix3 0 r 0))).trans
    (OnlineExt.final (n := 8192) (by norm_num) (hO _ e3 r) d)

end Cert.Kernel8Ideal.Mla

end
-- ==== Proof.SampleMlaArray.lean ====
module

public import proofs.«01_k».proof.Proof.SampleMlaBlock
public import proofs.«01_k».proof.Proof.Gen.Kernel8Ideal.Value
public import Idealize.ShloMosaic.Lib.Pipeline.ValueKit

@[expose] public section

set_option maxRecDepth 16384

noncomputable section

namespace Cert.Kernel8Ideal.Mla

open Idealize.ShloMosaic Cert.Kernel8Ideal Cert.Kernel8Ideal.Gen Idealize.ShloMosaic.TcCoe Idealize.ShloMosaic.Tactic Cert.Softmax

/-- The score of query `n` and key `k` in batch `b` and head `h`, from the queries `Q` and the keys `K`: 128 lanes multiplied. -/
def rscore (Q K : ℕ → ℕ → ℝ) (b h n k : ℕ) : ℝ := ∑ x : Fin 128, Q (8192 * b + n) (128 * h + x.val) * K (8192 * b + k) (128 * h + x.val)

/-- The attention's result at batch `b`, query `n`, head `h` and lane `d`: the values, summed with the softmax of the scores. -/
def rout (Q K : ℕ → ℕ → ℝ) (V : ℕ → ℕ → EReal) (b h n d : ℕ) : EReal :=
  wsum (rscore Q K b h n) (fun k (_ : Unit) => V (8192 * b + k) (128 * h + d)) 8192 ()

variable (m : (ℓ : Loc nD τ sig) → Buf (Elt Ideal) ℓ)

theorem idx3 : ∀ t : Fin cfg0.N, win0_3.index t = ![32 * (grid0.coords t 0).val + (grid0.coords t 2).val, (grid0.coords t 1).val] := (by decide +kernel : ∀ t : Fin grid0.N, _)
theorem idx4 : ∀ t : Fin cfg0.N, win0_4.index t = ![(grid0.coords t 0).val, (grid0.coords t 1).val] := (by decide +kernel : ∀ t : Fin grid0.N, _)
theorem idx5 : ∀ t : Fin cfg0.N, win0_5.index t = ![(grid0.coords t 0).val, (grid0.coords t 1).val] := (by decide +kernel : ∀ t : Fin grid0.N, _)
theorem idx6 : ∀ t : Fin cfg0.N, win0_6.index t = ![32 * (grid0.coords t 0).val + (grid0.coords t 2).val, (grid0.coords t 1).val] := (by decide +kernel : ∀ t : Fin grid0.N, _)

/-- The result array. -/
def G (Q K : ℕ → ℕ → ℝ) (V : ℕ → ℕ → EReal) : S32768x512.Idx → EReal := fun i =>
  rout Q K V ((i 0).val / 8192) ((i 1).val / 128) ((i 0).val % 8192) ((i 1).val % 128)

/-- Two numbers under a two-dimensional index determine what it reads. -/
theorem read2 {α : Type} {X : S32768x512.Idx → α} {f : ℕ → ℕ → α} (h : ∀ (t : Fin 32768) (x : Fin 512), X (ix2 t x) = f t.val x.val) (i : S32768x512.Idx) :
    X i = f (i 0).val (i 1).val :=
  (congrArg X (by funext k; fin_cases k <;> rfl)).trans (h (i 0) (i 1))

/-- After the run the result array is `G` of the arguments. -/
theorem arr_eq (c : Dev nD) (Q K : ℕ → ℕ → ℝ) (V' : ℕ → ℕ → EReal)
    (hQ : ∀ (t : Fin 32768) (x : Fin 512), m ((c.tc : Thread nD τ).loc main_arg0) (ix2 t x) = (Q t.val x.val : EReal))
    (hK : ∀ (t : Fin 32768) (x : Fin 512), m ((c.tc : Thread nD τ).loc main_arg1) (ix2 t x) = (K t.val x.val : EReal))
    (hV : ∀ (t : Fin 32768) (x : Fin 512), m ((c.tc : Thread nD τ).loc main_arg2) (ix2 t x) = V' t.val x.val) :
    (dats m 0 c).arrAt 6 cfg0.N = G Q K V' := by
  refine (dats m 0 c).arrAt_eq_of_covers 6 _ (by decide +kernel) fun t hf y => ?_
  blk_simp
  rw [after0_6]
  unfold outsAt0
  have hQ' := read2 (f := fun a b => (Q a b : EReal)) hQ
  have hK' := read2 (f := fun a b => (K a b : EReal)) hK
  have hV' := read2 hV
  have e6 := idx6 t
  have c0 : (grid0.coords t 0).val < 4 := (grid0.coords t 0).isLt
  have c1 : (grid0.coords t 1).val < 4 := (grid0.coords t 1).isLt
  have c2 : (grid0.coords t 2).val < 32 := (grid0.coords t 2).isLt
  obtain ⟨r, d, rfl⟩ : ∃ (r : Fin 256) (d : Fin 128), y = ix2 r d := ⟨y 0, y 1, by funext a; fin_cases a <;> rfl⟩
  generalize hb : (grid0.coords t 0).val = b at *
  generalize hh : (grid0.coords t 1).val = h at *
  generalize ha : (grid0.coords t 2).val = a at *
  have hr := r.isLt
  have hd := d.isLt
  have E : G Q K V' ((win0_6.blk t).view.emb (ix2 r d)) = rout Q K V' b h (256 * a + r.val) d.val := by
    have f0 : (((win0_6.blk t).view.emb (ix2 r d)) 0).val = (32 * b + a) * 256 + r.val := by blk_simp [e6]
    have f1 : (((win0_6.blk t).view.emb (ix2 r d)) 1).val = h * 128 + d.val := by blk_simp [e6]
    unfold G
    congr 1
    · rw [f0]; omega
    · rw [f1]; omega
    · rw [f0]; omega
    · rw [f1]; omega
  rw [E]
  refine (out_apply _ _ _ _ _ _ _ _ _ _ _ _ _ _ _ _ _ _ _ _ _ _ _ _ _ _ _ _
    (fun r x => Q (8192 * b + (256 * a + r.val)) (128 * h + x.val)) (fun n x => K (8192 * b + n) (128 * h + x.val))
    (fun n x => V' (8192 * b + n) (128 * h + x.val)) ?_ ?_ ?_ r d).trans ?_
  · intro r x
    unfold iblk
    blk_simp
    rw [V_main_arg0, hQ']
    blk_simp [idx3 t]
    rw [hb, hh, ha]
    congr 2 <;> omega
  · intro r x
    unfold iblk
    blk_simp
    rw [V_main_arg1, hK']
    blk_simp [idx4 t]
    rw [hb, hh]
    congr 2 <;> omega
  · intro r x
    unfold iblk
    blk_simp
    rw [V_main_arg2, hV']
    blk_simp [idx5 t]
    rw [hb, hh]
    congr 1 <;> omega
  · rfl

end Cert.Kernel8Ideal.Mla

end
-- ==== Proof.SampleMlaRef.lean ====
module

public import proofs.«01_k».proof.Proof.SampleMlaArray
public import proofs.«01_k».proof.Proof.Gen.Reference8Ideal.Read

@[expose] public section

set_option maxRecDepth 16384

noncomputable section

namespace Cert.Reference8Ideal.Mla

open Idealize.ShloMosaic Cert.Reference8Ideal Cert.Reference8Ideal.Gen Cert.Reference8Ideal.Read Idealize.ShloMosaic.Tactic Cert.Softmax
open Cert.Kernel8Ideal.Mla (rscore rout negInf)

variable (x0 x1 x2 : (⟨S32768x512, .bf16⟩ : BufTy).Contents (Elt Ideal)) (Q K : ℕ → ℕ → ℝ) (V : ℕ → ℕ → EReal)

theorem read_at {f : ℕ → ℕ → EReal} {X : (⟨S32768x512, .bf16⟩ : BufTy).Contents (Elt Ideal)} (h : ∀ (t : Fin 32768) (x : Fin 512), X (ix2 t x) = f t.val x.val)
    (i : S32768x512.Idx) (t x : ℕ) (ht : (i 0).val = t) (hx : (i 1).val = x) : X i = f t x := by
  subst ht hx
  exact (congrArg X (show i = ix2 (i 0) (i 1) from by funext a; fin_cases a <;> rfl)).trans (h (i 0) (i 1))

/-- The values. -/
theorem v_read (hV : ∀ (t : Fin 32768) (x : Fin 512), x2 (ix2 t x) = V t.val x.val) (i : S4x8192x4x128.Idx) :
    val_main_v5 x2 i = V (8192 * (i 0).val + (i 1).val) (128 * (i 2).val + (i 3).val) := by
  rw [val_main_v5_apply, val_main_v4_apply]
  have h0 : (i 0).val < 4 := (i 0).isLt
  have h1 : (i 1).val < 8192 := (i 1).isLt
  have h2 : (i 2).val < 4 := (i 2).isLt
  have h3 : (i 3).val < 128 := (i 3).isLt
  refine read_at hV _ _ _ ?_ ?_
  · simp only [idx_main_v5]
    omega
  · simp only [idx_main_v5]
    omega

variable (hQ : ∀ (t : Fin 32768) (x : Fin 512), x0 (ix2 t x) = (Q t.val x.val : EReal)) (hK : ∀ (t : Fin 32768) (x : Fin 512), x1 (ix2 t x) = (K t.val x.val : EReal))

include hQ in
/-- The queries. -/
theorem q_read (i : S4x8192x4x128.Idx) : val_main_v1 x0 i = (Q (8192 * (i 0).val + (i 1).val) (128 * (i 2).val + (i 3).val) : EReal) := by
  rw [val_main_v1_apply, val_main_v0_apply]
  have h0 : (i 0).val < 4 := (i 0).isLt
  have h1 : (i 1).val < 8192 := (i 1).isLt
  have h2 : (i 2).val < 4 := (i 2).isLt
  have h3 : (i 3).val < 128 := (i 3).isLt
  refine read_at (f := fun a b => (Q a b : EReal)) hQ _ _ _ ?_ ?_
  · simp only [idx_main_v1]
    omega
  · simp only [idx_main_v1]
    omega

include hK in
/-- The keys. -/
theorem k_read (i : S4x8192x4x128.Idx) : val_main_v3 x1 i = (K (8192 * (i 0).val + (i 1).val) (128 * (i 2).val + (i 3).val) : EReal) := by
  rw [val_main_v3_apply, val_main_v2_apply]
  have h0 : (i 0).val < 4 := (i 0).isLt
  have h1 : (i 1).val < 8192 := (i 1).isLt
  have h2 : (i 2).val < 4 := (i 2).isLt
  have h3 : (i 3).val < 128 := (i 3).isLt
  refine read_at (f := fun a b => (K a b : EReal)) hK _ _ _ ?_ ?_
  · simp only [idx_main_v3]
    omega
  · simp only [idx_main_v3]
    omega

include hQ hK

/-- The scores. -/
theorem score_read (i : S4x4x8192x8192.Idx) :
    val_main_v6 x0 x1 i = (rscore Q K (i 0).val (i 1).val (i 2).val (i 3).val : EReal) := by
  rw [val_main_v6_apply, rscore, coe_sum]
  refine Finset.sum_congr rfl fun k _ => ?_
  rw [q_read x0 Q hQ, k_read x1 K hK, EReal.coe_mul]

/-- A row's maximum is a real number. -/
theorem max_read (i : S4x4x8192.Idx) : ∃ ν : ℝ, val_main_v9 x0 x1 i = (ν : EReal) := by
  obtain ⟨ν, hν⟩ := exists_coe_fold (n := 8192) (by norm_num) fun k => rscore Q K (i 0).val (i 1).val (i 2).val k.val
  refine ⟨ν, ?_⟩
  rw [val_main_v9_apply, val_main_v8_apply, ← hν]
  unfold val_main_v7
  have e : val_main_v6 x0 x1 = fun i => (rscore Q K (i 0).val (i 1).val (i 2).val (i 3).val : EReal) := funext fun i => score_read x0 x1 Q K hQ hK i
  rw [e]
  pointwise
  rw [show val_main_cst_0 (F := Ideal) (idx_main_v8 i) = ⊥ from negInf, show val_main_cst (F := Ideal) (Shape.Idx.first h_S_) = ⊥ from negInf]
  exact max_eq_right bot_le

/-- A row's softmax weights. -/
theorem weight_read (b h : Fin 4) (n : Fin 8192) (i : S4x4x8192x8192.Idx) (e0 : (i 0).val = b.val) (e1 : (i 1).val = h.val) (e2 : (i 2).val = n.val) :
    val_main_v17 x0 x1 i = ((Real.exp (rscore Q K b h n (i 3).val) / ∑ k ∈ Finset.range 8192, Real.exp (rscore Q K b h n k) : ℝ) : EReal) := by
  obtain ⟨ν, hν⟩ := max_read x0 x1 Q K hQ hK (ix3 b h n)
  have hM : ∀ i : S4x4x8192x8192.Idx, (i 0).val = b.val → (i 1).val = h.val → (i 2).val = n.val →
      val_main_v13 x0 x1 i = Ideal.exp ((rscore Q K b h n (i 3).val : EReal) - (ν : EReal)) := by
    intro i e0 e1 e2
    rw [val_main_v13_apply, val_main_v12_apply, val_main_v11_apply, val_main_v10_apply, score_read x0 x1 Q K hQ hK, e0, e1, e2,
      show idx_main_v10 (idx_main_v11 i) = ix3 b h n from by
        funext a
        fin_cases a
        · exact Fin.ext e0
        · exact Fin.ext e1
        · exact Fin.ext e2, hν]
    rfl
  rw [val_main_v17_apply, val_main_v16_apply, val_main_v15_apply, val_main_v14_apply, hM i e0 e1 e2,
    show val_main_cst_1 (F := Ideal) (Shape.Idx.first h_S_) = 0 from Ideal.ofBits_zero_f32, zero_add,
    Finset.sum_congr rfl fun k _ => hM (idx_main_v14 (idx_main_v15 (idx_main_v16 i)) k) e0 e1 e2, ← weight_shift _ _ _ ν]
  exact softmax_weight (n := 8192) (by norm_num) (rscore Q K b h n) (fun k => (rscore Q K b h n k.val : EReal)) (fun _ => rfl) ν ν rfl ⟨(i 3).val, (i 3).isLt⟩

/-- The reference's result is the kernel's. -/
theorem ref_eq (hV : ∀ (t : Fin 32768) (x : Fin 512), x2 (ix2 t x) = V t.val x.val) :
    val_main_v21 x0 x1 x2 = Cert.Kernel8Ideal.Mla.G Q K V := by
  funext i
  have b0 : (i 0).val < 32768 := (i 0).isLt
  have b1 : (i 1).val < 512 := (i 1).isLt
  rw [val_main_v21_apply, val_main_v20_apply, val_main_v19_apply, val_main_v18_apply]
  unfold Cert.Kernel8Ideal.Mla.G rout wsum
  have c0 : (idx_main_v20 i 0).val = (i 0).val / 8192 := by simp only [idx_main_v20]; omega
  have c1 : (idx_main_v20 i 1).val = (i 0).val % 8192 := by simp only [idx_main_v20]; omega
  have c2 : (idx_main_v20 i 2).val = (i 1).val / 128 := by simp only [idx_main_v20]; omega
  have c3 : (idx_main_v20 i 3).val = (i 1).val % 128 := by simp only [idx_main_v20]; omega
  rw [← c0, ← c1, ← c2, ← c3]
  refine (Finset.sum_congr rfl fun k _ => ?_).trans (Fin.sum_univ_eq_sum_range (fun k => ((Real.exp (rscore Q K (idx_main_v20 i 0).val (idx_main_v20 i 2).val (idx_main_v20 i 1).val k)
      / ∑ k ∈ Finset.range 8192, Real.exp (rscore Q K (idx_main_v20 i 0).val (idx_main_v20 i 2).val (idx_main_v20 i 1).val k) : ℝ) : EReal)
      * V (8192 * (idx_main_v20 i 0).val + k) (128 * (idx_main_v20 i 2).val + (idx_main_v20 i 3).val)) 8192)
  rw [v_read x2 V hV, weight_read x0 x1 Q K hQ hK (idx_main_v20 i 0) (idx_main_v20 i 2) (idx_main_v20 i 1) _ rfl rfl rfl, mul_comm]

end Cert.Reference8Ideal.Mla

end
-- ==== Proof.SampleMlaClaim.lean ====
module

public import proofs.«01_k».proof.Defs
public import proofs.«01_k».proof.Proof.Finite
public import proofs.«01_k».proof.Proof.SampleMlaArray
public import proofs.«01_k».proof.Proof.SampleMlaRef
public import proofs.«01_k».proof.Proof.Gen.Kernel8Ideal
public import proofs.«01_k».proof.Proof.Gen.Reference8Ideal
public import proofs.«01_k».proof.Proof.Gen.Reference8Ideal.Run
public import Idealize.ShloMosaic.Lib.Quiescent
public import Idealize.ShloMosaic.Lib.Claim

@[expose] public section

set_option maxRecDepth 16384

noncomputable section

/-! The plain attention: its kernel computes what its reference does. -/

namespace Cert.SampleMlaClaim

open Idealize.ShloMosaic Idealize.SL.Sem Idealize.ShloMosaic.Tactic

/-- The side conditions of the precondition. -/
theorem facts : Cert.Pre_finite_sample_scores.Facts where
  bitsLt_bf16_f32 := by decide
  bcast_S_S32768x512 := by decide

open Cert.Pre_finite_sample_scores in
/-- The precondition: the queries and the keys are real numbers. -/
theorem real_of_pre [hf : Cert.Pre_finite_sample_scores.Facts] (x0 x1 x2 : FVec Ideal S32768x512 .bf16)
    (h0 : (fn (F := Ideal) x0 x1 x2).1 = fun _ => 1#1) (h1 : (fn (F := Ideal) x0 x1 x2).2 = fun _ => 1#1) :
    (∀ i, ∃ r : ℝ, x0 i = (r : EReal)) ∧ ∀ i, ∃ r : ℝ, x1 i = (r : EReal) := by
  refine ⟨fun i => Cert.Finite.real_of_lt ?_, fun i => Cert.Finite.real_of_lt ?_⟩
  · have := congrFun h0 i
    rw [← Cert.Finite.posInf]
    exact this
  · have := congrFun h1 i
    rw [← Cert.Finite.posInf]
    exact this

/-- The plain attention's reference runs, keeps its arguments and ends with no semaphore up. -/
theorem frame_reference : Cert.quiescent_Reference8Ideal (hReference8Ideal := Cert.Reference8Ideal.Gen.facts) := fun m ρ _ =>
  (θ_run _ _ _).mono (fun r h => ⟨fun c => (h c).2, sem_eq_zero_of_no_sems (by decide) _⟩) (Cert.Reference8Ideal.Value.run m ρ)

/-- The entries of an array as a function of two numbers, `e` outside it. -/
def ext {α : Type} (e : α) (f : Cert.Kernel8Ideal.S32768x512.Idx → α) (t x : ℕ) : α :=
  if h : t < 32768 ∧ x < 512 then f (ix2 ⟨t, h.1⟩ ⟨x, h.2⟩) else e

/-- Inside the array that function is its entries. -/
theorem ext_apply {α : Type} (e : α) (f : Cert.Kernel8Ideal.S32768x512.Idx → α) (t : Fin 32768) (x : Fin 512) : ext e f t.val x.val = f (ix2 t x) :=
  dif_pos ⟨t.isLt, x.isLt⟩

/-- The kernel's ideal reading computes what the reference does, for queries and keys that are real numbers and any values. -/
theorem algebraic : Cert.algebraic_Kernel8Ideal_Reference8Ideal_pre_finite_sample_scores (hKernel8Ideal := Cert.Kernel8Ideal.Gen.facts)
    (hReference8Ideal := Cert.Reference8Ideal.Gen.facts) (hPre_finite_sample_scores := facts) :=
  fun m ρ m' ρ' hpre hag => by
  have hr := fun c => real_of_pre (hf := facts) _ _ _ (hpre c).1 (hpre c).2
  choose Q hQ using fun c => (hr c).1
  choose K hK using fun c => (hr c).2
  have hQ' : ∀ (c : Dev Cert.Kernel8Ideal.nD) (t : Fin 32768) (x : Fin 512), m ((c.tc : Thread Cert.Kernel8Ideal.nD Cert.Kernel8Ideal.τ).loc Cert.Kernel8Ideal.main_arg0) (ix2 t x) = ((ext 0 (Q c) t.val x.val : ℝ) : EReal) :=
    fun c t x => (hQ c (ix2 t x)).trans (congrArg Real.toEReal (ext_apply 0 (Q c) t x).symm)
  have hK' : ∀ (c : Dev Cert.Kernel8Ideal.nD) (t : Fin 32768) (x : Fin 512), m ((c.tc : Thread Cert.Kernel8Ideal.nD Cert.Kernel8Ideal.τ).loc Cert.Kernel8Ideal.main_arg1) (ix2 t x) = ((ext 0 (K c) t.val x.val : ℝ) : EReal) :=
    fun c t x => (hK c (ix2 t x)).trans (congrArg Real.toEReal (ext_apply 0 (K c) t x).symm)
  have hV' : ∀ (c : Dev Cert.Kernel8Ideal.nD) (t : Fin 32768) (x : Fin 512), m ((c.tc : Thread Cert.Kernel8Ideal.nD Cert.Kernel8Ideal.τ).loc Cert.Kernel8Ideal.main_arg2) (ix2 t x) = ext (0 : EReal) (m ((c.tc : Thread Cert.Kernel8Ideal.nD Cert.Kernel8Ideal.τ).loc Cert.Kernel8Ideal.main_arg2)) t.val x.val :=
    fun c t x => (ext_apply (α := EReal) 0 (m ((c.tc : Thread Cert.Kernel8Ideal.nD Cert.Kernel8Ideal.τ).loc Cert.Kernel8Ideal.main_arg2)) t x).symm
  refine ⟨fun c => Cert.Kernel8Ideal.Mla.G (ext 0 (Q c)) (ext 0 (K c)) (ext (0 : EReal) (m ((c.tc : Thread Cert.Kernel8Ideal.nD Cert.Kernel8Ideal.τ).loc Cert.Kernel8Ideal.main_arg2))),
    (θ_run _ _ _).mono (fun _ h c => ⟨(h c).1.trans (Cert.Kernel8Ideal.Mla.arr_eq m c _ _ _ (hQ' c) (hK' c) (hV' c)), (h c).2⟩) (Cert.Kernel8Ideal.Value.run_blocks m ρ),
    (θ_run _ _ _).mono (fun _ h c => ⟨(h c).1.trans ?_, (h c).2⟩) (Cert.Reference8Ideal.Value.run m' ρ')⟩
  refine (Cert.Reference8Ideal.Read.val_main_v21_eq _ _ _).trans ?_
  show Cert.Reference8Ideal.Read.val_main_v21 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) = _
  rw [(hag c).1, (hag c).2.1, (hag c).2.2]
  exact Cert.Reference8Ideal.Mla.ref_eq _ _ _ _ _ _ (hQ' c) (hK' c) (hV' c)

end Cert.SampleMlaClaim

end
-- ==== Proof.SampleTrip.lean ====
module

public import proofs.«01_k».proof.Proof.Gen.Kernel9Ideal.Loops
public import Idealize.ShloMosaic.Lib.Pointwise.Tactic
public import Idealize.ShloMosaic.Lib.Pointwise
public import Idealize.ShloMosaic.Lib.Pipeline.Value
public import Idealize.ShloMosaic.Lib.WritesUnit

@[expose] public section
set_option maxRecDepth 16384
noncomputable section
namespace Cert.Kernel9Ideal.Flash
open Idealize.ShloMosaic Cert.Kernel9Ideal Cert.Kernel9Ideal.Gen Idealize.ShloMosaic.TcCoe Idealize.ShloMosaic.Tactic

variable (𝒱 : Variants) (c : Dev nD) (bd : Option 𝒱.V) (i : grid0.Coords) (arg3 : Memref sig .tc .smem S4 .f32) (harg3 : arg3.IsWhole) (arg4 : Memref sig .tc .vmem S4x64 .f32) (harg4 : arg4.IsWhole) (arg5 : Memref sig .tc .vmem S1x128 .f32) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S256x128 .bf16) (harg9 : arg9.IsWhole) (arg10 : Memref sig .tc .vmem S2x256x1 .f32) (harg10 : arg10.IsWhole) (arg11 : Memref sig .tc .vmem S2x256x1 .f32) (harg11 : arg11.IsWhole) (arg12 : Memref sig .tc .vmem S2x256x128 .f32) (harg12 : arg12.IsWhole) (v0 : BitVec 32) (v1 : Vec Ideal S256x128 .bf16) (v24 : Elt Ideal .f32) (X_arg7 : BufTy.Contents (Elt Ideal) arg7.view.ty) (X_arg8 : BufTy.Contents (Elt Ideal) arg8.view.ty) (k : Fin k0_t1_loop.trips) (f_arg10 : BufTy.Contents (Elt Ideal) arg10.view.ty) (f_arg11 : BufTy.Contents (Elt Ideal) arg11.view.ty) (f_arg12 : BufTy.Contents (Elt Ideal) arg12.view.ty)

/-- The trip's tile of a whole array of keys or values: rows `512 k …`. -/
def tile (X : Vec Ideal S8192x128 .bf16) (k : Fin k0_t1_loop.trips) : Vec Ideal S512x128 .bf16 := fun j =>
  X (ix2 ⟨512 * k.val + (j 0).val, by
    have h : (j 0).val < 512 := (j 0).isLt
    have hk : k.val < 16 := Nat.lt_of_lt_of_le k.isLt k0_t1_abs.2.1
    omega⟩ (j 1))

/-- The slab `h` of a scratch array: the part that map `h` of the attention uses. -/
def slab {D : ℕ} (h : Fin 2) (X : Vec Ideal (⟨3, ![2, 256, D]⟩ : Shape) .f32) : Vec Ideal (⟨3, ![1, 256, D]⟩ : Shape) .f32 :=
  fun j => X (ix3 h (j 1) (j 2))

/-- The queries of map `h`: the other map's lanes are zero. -/
def maskq (h : Fin 2) (q : Vec Ideal S256x128 .bf16) : Vec Ideal S256x128 .bf16 := if h = 0 then k0_pay20 q else k0_pay21 q

/-- A load of the trip's rows of keys or values reads the trip's tile. -/
theorem ld_tile (X : Vec Ideal S8192x128 .bf16) (k : Fin k0_t1_loop.trips) :
    View.ld X (Rect.unit (s := S8192x128) (k0_off2 k) S512x128.size (k0_off2_inb k)) = tile X k := by
  funext j
  unfold tile
  refine congrArg X (funext fun a => Fin.ext ?_)
  match a with
  | ⟨0, _⟩ =>
    show k0_off2 k 0 + 1 * (j 0).val = 512 * k.val + (j 0).val
    rw [show k0_off2 k 0 = 512 * k.val from congrFun (k0_off2_eq k) 0, Nat.one_mul]
  | ⟨1, _⟩ =>
    show k0_off2 k 1 + 1 * (j 1).val = (j 1).val
    rw [show k0_off2 k 1 = 0 from congrFun (k0_off2_eq k) 1, Nat.one_mul, Nat.zero_add]

/-- A load of one map's slab of a scratch array reads that slab. -/
theorem ld_slab (D n : ℕ) (h : Fin 2) (hn : n = h.val) (X : Vec Ideal (⟨3, ![2, 256, D]⟩ : Shape) .f32) (inb) :
    View.ld (e' := .f32) X (Rect.unit (s := (⟨3, ![2, 256, D]⟩ : Shape)) ![n, 0, 0] (![1, 256, D]) inb) = slab h X := by
  subst hn
  funext j
  unfold slab
  refine congrArg X (funext fun a => Fin.ext ?_)
  match a with
  | ⟨0, _⟩ =>
    show h.val + 1 * (j 0).val = h.val
    have : (j 0).val < 1 := (j 0).isLt
    omega
  | ⟨1, _⟩ => show 0 + 1 * (j 1).val = (j 1).val; omega
  | ⟨2, _⟩ => show 0 + 1 * (j 2).val = (j 2).val; omega

/-- After the trip, the running maximum of map 0 in row `r`. -/
theorem trip_m0 (r : Fin 256) :
    arg10.view.read (Elt Ideal) (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 k).1 f_arg10 f_arg11 f_arg12)) (ix3 0 r 0)
      = k0_pay14 (maskq 0 v1) (tile (arg7.view.read (Elt Ideal) X_arg7) k) (k0_pay2 v0 v24 k0_pay25 0#32 1#32 k) (slab 0 (arg10.view.read (Elt Ideal) f_arg10)) (ix2 r 0) := by
  unfold trip_k0_t1
  dsimp only
  sl_unfold_words
  rw [View.read_writes_cons_unit_of_not_mem _ _ _ _ _ _ rfl 0 (Or.inl (Nat.zero_lt_one)),
    View.read_writes_cons_unit_of_mem _ _ _ _ _ _ (ix3 0 r 0) rfl (by intro a; fin_cases a <;> simp)]
  show k0_pay11 (k0_pay14 (k0_pay20 v1) (View.ld (arg7.view.read (Elt Ideal) X_arg7) (Rect.unit (s := S8192x128) (k0_off2 k) S512x128.size (k0_off2_inb k))) (k0_pay2 v0 v24 k0_pay25 0#32 1#32 k) (View.ld (arg10.view.read (Elt Ideal) f_arg10) (Rect.unit (s := S2x256x1) ![0, 0, 0] ![1, 256, 1] inb_S2x256x1_S1x256x1_0_0_0))) (ix3 0 r 0) = _
  rw [ld_tile, ld_slab 1 0 0 rfl]
  unfold maskq
  rw [if_pos rfl]
  unfold k0_pay11
  pointwise

/-- After the trip, the running sum of map 0 in row `r`. -/
theorem trip_l0 (r : Fin 256) :
    arg11.view.read (Elt Ideal) (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 k).2.1 f_arg10 f_arg11 f_arg12)) (ix3 0 r 0)
      = k0_pay17 (maskq 0 v1) (tile (arg7.view.read (Elt Ideal) X_arg7) k) (k0_pay2 v0 v24 k0_pay25 0#32 1#32 k) (slab 0 (arg10.view.read (Elt Ideal) f_arg10)) (slab 0 (arg11.view.read (Elt Ideal) f_arg11)) (ix3 0 r 0) := by
  unfold trip_k0_t1
  dsimp only
  sl_unfold_words
  rw [View.read_writes_cons_unit_of_not_mem _ _ _ _ _ _ rfl 0 (Or.inl (Nat.zero_lt_one)),
    View.read_writes_cons_unit_of_mem _ _ _ _ _ _ (ix3 0 r 0) rfl (by intro a; fin_cases a <;> simp)]
  show k0_pay17 (k0_pay20 v1) (View.ld (arg7.view.read (Elt Ideal) X_arg7) (Rect.unit (s := S8192x128) (k0_off2 k) S512x128.size (k0_off2_inb k))) (k0_pay2 v0 v24 k0_pay25 0#32 1#32 k) (View.ld (arg10.view.read (Elt Ideal) f_arg10) (Rect.unit (s := S2x256x1) ![0, 0, 0] ![1, 256, 1] inb_S2x256x1_S1x256x1_0_0_0)) (View.ld (arg11.view.read (Elt Ideal) f_arg11) (Rect.unit (s := S2x256x1) ![0, 0, 0] ![1, 256, 1] inb_S2x256x1_S1x256x1_0_0_0)) (ix3 0 r 0) = _
  rw [ld_tile, ld_slab 1 0 0 rfl, ld_slab 1 0 0 rfl]
  unfold maskq
  rw [if_pos rfl]

/-- After the trip, the running weighted sum of map 0 in row `r`. -/
theorem trip_a0 (r : Fin 256) (d : Fin 128) :
    arg12.view.read (Elt Ideal) (arg12.view.writes (Elt Ideal) f_arg12 ((trip_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 k).2.2.1 f_arg10 f_arg11 f_arg12)) (ix3 0 r d)
      = k0_pay26 (tile (arg8.view.read (Elt Ideal) X_arg8) k) (k0_pay18 (maskq 0 v1) (tile (arg7.view.read (Elt Ideal) X_arg7) k) (k0_pay2 v0 v24 k0_pay25 0#32 1#32 k) (slab 0 (arg10.view.read (Elt Ideal) f_arg10)) (slab 0 (arg12.view.read (Elt Ideal) f_arg12))) (k0_pay19 (maskq 0 v1) (tile (arg7.view.read (Elt Ideal) X_arg7) k) (k0_pay2 v0 v24 k0_pay25 0#32 1#32 k) (slab 0 (arg10.view.read (Elt Ideal) f_arg10))) (ix3 0 r d) := by
  unfold trip_k0_t1
  dsimp only
  sl_unfold_words
  rw [View.read_writes_cons_unit_of_not_mem _ _ _ _ _ _ rfl 0 (Or.inl (Nat.zero_lt_one)),
    View.read_writes_cons_unit_of_mem _ _ _ _ _ _ (ix3 0 r d) rfl (by intro a; fin_cases a <;> simp)]
  show k0_pay26 (View.ld (arg8.view.read (Elt Ideal) X_arg8) (Rect.unit (s := S8192x128) (k0_off2 k) S512x128.size (k0_off2_inb k))) (k0_pay18 (k0_pay20 v1) (View.ld (arg7.view.read (Elt Ideal) X_arg7) (Rect.unit (s := S8192x128) (k0_off2 k) S512x128.size (k0_off2_inb k))) (k0_pay2 v0 v24 k0_pay25 0#32 1#32 k) (View.ld (arg10.view.read (Elt Ideal) f_arg10) (Rect.unit (s := S2x256x1) ![0, 0, 0] ![1, 256, 1] inb_S2x256x1_S1x256x1_0_0_0)) (View.ld (arg12.view.read (Elt Ideal) f_arg12) (Rect.unit (s := S2x256x128) ![0, 0, 0] ![1, 256, 128] inb_S2x256x128_S1x256x128_0_0_0))) (k0_pay19 (k0_pay20 v1) (View.ld (arg7.view.read (Elt Ideal) X_arg7) (Rect.unit (s := S8192x128) (k0_off2 k) S512x128.size (k0_off2_inb k))) (k0_pay2 v0 v24 k0_pay25 0#32 1#32 k) (View.ld (arg10.view.read (Elt Ideal) f_arg10) (Rect.unit (s := S2x256x1) ![0, 0, 0] ![1, 256, 1] inb_S2x256x1_S1x256x1_0_0_0))) (ix3 0 r d) = _
  rw [ld_tile, ld_tile, ld_slab 1 0 0 rfl, ld_slab 128 0 0 rfl]
  unfold maskq
  rw [if_pos rfl]

/-- After the trip, the running maximum of map 1 in row `r`. -/
theorem trip_m1 (r : Fin 256) :
    arg10.view.read (Elt Ideal) (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 k).1 f_arg10 f_arg11 f_arg12)) (ix3 1 r 0)
      = k0_pay14 (maskq 1 v1) (tile (arg7.view.read (Elt Ideal) X_arg7) k) (k0_pay2 v0 v24 k0_pay25 0#32 1#32 k) (slab 1 (arg10.view.read (Elt Ideal) f_arg10)) (ix2 r 0) := by
  unfold trip_k0_t1
  dsimp only
  sl_unfold_words
  rw [View.read_writes_cons_unit_of_mem _ _ _ _ _ _ (ix3 0 r 0) rfl (by intro a; fin_cases a <;> simp)]
  show k0_pay27 (k0_pay14 (k0_pay21 v1) (View.ld (arg7.view.read (Elt Ideal) X_arg7) (Rect.unit (s := S8192x128) (k0_off2 k) S512x128.size (k0_off2_inb k))) (k0_pay2 v0 v24 k0_pay25 0#32 1#32 k) (View.ld (arg10.view.read (Elt Ideal) f_arg10) (Rect.unit (s := S2x256x1) ![1, 0, 0] ![1, 256, 1] inb_S2x256x1_S1x256x1_1_0_0))) (ix3 0 r 0) = _
  rw [ld_tile, ld_slab 1 1 1 rfl]
  unfold maskq
  rw [if_neg (by decide)]
  unfold k0_pay27
  pointwise

/-- After the trip, the running sum of map 1 in row `r`. -/
theorem trip_l1 (r : Fin 256) :
    arg11.view.read (Elt Ideal) (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 k).2.1 f_arg10 f_arg11 f_arg12)) (ix3 1 r 0)
      = k0_pay17 (maskq 1 v1) (tile (arg7.view.read (Elt Ideal) X_arg7) k) (k0_pay2 v0 v24 k0_pay25 0#32 1#32 k) (slab 1 (arg10.view.read (Elt Ideal) f_arg10)) (slab 1 (arg11.view.read (Elt Ideal) f_arg11)) (ix3 0 r 0) := by
  unfold trip_k0_t1
  dsimp only
  sl_unfold_words
  rw [View.read_writes_cons_unit_of_mem _ _ _ _ _ _ (ix3 0 r 0) rfl (by intro a; fin_cases a <;> simp)]
  show k0_pay17 (k0_pay21 v1) (View.ld (arg7.view.read (Elt Ideal) X_arg7) (Rect.unit (s := S8192x128) (k0_off2 k) S512x128.size (k0_off2_inb k))) (k0_pay2 v0 v24 k0_pay25 0#32 1#32 k) (View.ld (arg10.view.read (Elt Ideal) f_arg10) (Rect.unit (s := S2x256x1) ![1, 0, 0] ![1, 256, 1] inb_S2x256x1_S1x256x1_1_0_0)) (View.ld (arg11.view.read (Elt Ideal) f_arg11) (Rect.unit (s := S2x256x1) ![1, 0, 0] ![1, 256, 1] inb_S2x256x1_S1x256x1_1_0_0)) (ix3 0 r 0) = _
  rw [ld_tile, ld_slab 1 1 1 rfl, ld_slab 1 1 1 rfl]
  unfold maskq
  rw [if_neg (by decide)]

/-- After the trip, the running weighted sum of map 1 in row `r`. -/
theorem trip_a1 (r : Fin 256) (d : Fin 128) :
    arg12.view.read (Elt Ideal) (arg12.view.writes (Elt Ideal) f_arg12 ((trip_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 k).2.2.1 f_arg10 f_arg11 f_arg12)) (ix3 1 r d)
      = k0_pay26 (tile (arg8.view.read (Elt Ideal) X_arg8) k) (k0_pay18 (maskq 1 v1) (tile (arg7.view.read (Elt Ideal) X_arg7) k) (k0_pay2 v0 v24 k0_pay25 0#32 1#32 k) (slab 1 (arg10.view.read (Elt Ideal) f_arg10)) (slab 1 (arg12.view.read (Elt Ideal) f_arg12))) (k0_pay19 (maskq 1 v1) (tile (arg7.view.read (Elt Ideal) X_arg7) k) (k0_pay2 v0 v24 k0_pay25 0#32 1#32 k) (slab 1 (arg10.view.read (Elt Ideal) f_arg10))) (ix3 0 r d) := by
  unfold trip_k0_t1
  dsimp only
  sl_unfold_words
  rw [View.read_writes_cons_unit_of_mem _ _ _ _ _ _ (ix3 0 r d) rfl (by intro a; fin_cases a <;> simp)]
  show k0_pay26 (View.ld (arg8.view.read (Elt Ideal) X_arg8) (Rect.unit (s := S8192x128) (k0_off2 k) S512x128.size (k0_off2_inb k))) (k0_pay18 (k0_pay21 v1) (View.ld (arg7.view.read (Elt Ideal) X_arg7) (Rect.unit (s := S8192x128) (k0_off2 k) S512x128.size (k0_off2_inb k))) (k0_pay2 v0 v24 k0_pay25 0#32 1#32 k) (View.ld (arg10.view.read (Elt Ideal) f_arg10) (Rect.unit (s := S2x256x1) ![1, 0, 0] ![1, 256, 1] inb_S2x256x1_S1x256x1_1_0_0)) (View.ld (arg12.view.read (Elt Ideal) f_arg12) (Rect.unit (s := S2x256x128) ![1, 0, 0] ![1, 256, 128] inb_S2x256x128_S1x256x128_1_0_0))) (k0_pay19 (k0_pay21 v1) (View.ld (arg7.view.read (Elt Ideal) X_arg7) (Rect.unit (s := S8192x128) (k0_off2 k) S512x128.size (k0_off2_inb k))) (k0_pay2 v0 v24 k0_pay25 0#32 1#32 k) (View.ld (arg10.view.read (Elt Ideal) f_arg10) (Rect.unit (s := S2x256x1) ![1, 0, 0] ![1, 256, 1] inb_S2x256x1_S1x256x1_1_0_0))) (ix3 0 r d) = _
  rw [ld_tile, ld_tile, ld_slab 1 1 1 rfl, ld_slab 128 1 1 rfl]
  unfold maskq
  rw [if_neg (by decide)]

end Cert.Kernel9Ideal.Flash

end
-- ==== Proof.SampleRows.lean ====
module

public import proofs.«01_k».proof.Proof.SampleTrip
public import proofs.«01_k».proof.Proof.Softmax

@[expose] public section

set_option maxRecDepth 16384

noncomputable section

namespace Cert.Kernel9Ideal.Flash

open Idealize.ShloMosaic Cert.Kernel9Ideal Cert.Kernel9Ideal.Gen Idealize.ShloMosaic.TcCoe Idealize.ShloMosaic.Tactic Cert.Softmax

/-- The word of `-∞`, the start of a row's maximum. -/
theorem negInf : Ideal.ofBits FTy.f32 0xFF800000#32 = ⊥ := by simp [Ideal.ofBits, Ideal.ieee]

section Payloads

variable (q : Vec Ideal S256x128 .bf16) (k : Vec Ideal S512x128 .bf16) (b : FVec Ideal S256x512 .f32) (r : Fin 256)

/-- A score: the product of the query row with the key row, and the bias. -/
theorem pay12_apply (j : Fin 512) : k0_pay12 q k b (ix2 r j) = ∑ x, q (ix2 r x) * k (ix2 j x) + b (ix2 r j) := by
  unfold k0_pay12
  pointwise [dot_S256x128_S512x128_S256x512_1_1_0_0_n_n]

/-- The new maximum of a row. -/
theorem pay14_apply (m : Vec Ideal S1x256x1 .f32) :
    k0_pay14 q k b m (ix2 r 0) = max (m (ix3 0 r 0)) (Finset.univ.fold max ⊥ fun x => k0_pay12 q k b (ix2 r x)) := by
  unfold k0_pay14 k0_pay13
  pointwise
  rw [negInf]

/-- The new sum of a row. -/
theorem pay17_apply (m l : Vec Ideal S1x256x1 .f32) :
    k0_pay17 q k b m l (ix3 0 r 0) = Ideal.exp (m (ix3 0 r 0) - k0_pay14 q k b m (ix2 r 0)) * l (ix3 0 r 0)
      + ∑ x, Ideal.exp (k0_pay12 q k b (ix2 r x) - k0_pay14 q k b m (ix2 r 0)) := by
  unfold k0_pay17 k0_pay15 k0_pay16 k0_pay13
  pointwise

/-- The new weighted sum of a row. -/
theorem pay26_apply (v : Vec Ideal S512x128 .bf16) (m : Vec Ideal S1x256x1 .f32) (a : Vec Ideal S1x256x128 .f32) (d : Fin 128) :
    k0_pay26 v (k0_pay18 q k b m a) (k0_pay19 q k b m) (ix3 0 r d)
      = Ideal.exp (m (ix3 0 r 0) - k0_pay14 q k b m (ix2 r 0)) * a (ix3 0 r d)
      + ∑ x, Ideal.exp (k0_pay12 q k b (ix2 r x) - k0_pay14 q k b m (ix2 r 0)) * v (ix2 x d) := by
  unfold k0_pay26 k0_pay18 k0_pay19 k0_pay15 k0_pay16 k0_pay13
  pointwise [dot_S256x512_S512x128_S256x128_1_0_0_1_n_n]

end Payloads

variable (𝒱 : Variants) (c : Dev nD) (bd : Option 𝒱.V) (i : grid0.Coords) (arg3 : Memref sig .tc .smem S4 .f32) (harg3 : arg3.IsWhole) (arg4 : Memref sig .tc .vmem S4x64 .f32) (harg4 : arg4.IsWhole) (arg5 : Memref sig .tc .vmem S1x128 .f32) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S256x128 .bf16) (harg9 : arg9.IsWhole) (arg10 : Memref sig .tc .vmem S2x256x1 .f32) (harg10 : arg10.IsWhole) (arg11 : Memref sig .tc .vmem S2x256x1 .f32) (harg11 : arg11.IsWhole) (arg12 : Memref sig .tc .vmem S2x256x128 .f32) (harg12 : arg12.IsWhole) (v0 : BitVec 32) (v1 : Vec Ideal S256x128 .bf16) (v24 : Elt Ideal .f32) (X_arg7 : BufTy.Contents (Elt Ideal) arg7.view.ty) (X_arg8 : BufTy.Contents (Elt Ideal) arg8.view.ty) (G_arg10 : BufTy.Contents (Elt Ideal) arg10.view.ty) (G_arg11 : BufTy.Contents (Elt Ideal) arg11.view.ty) (G_arg12 : BufTy.Contents (Elt Ideal) arg12.view.ty)

/-- The state of the three scratch arrays before trip `n`, in row `r` of map `h`: that of the tiled softmax over the first
    `512 n` keys. -/
theorem pb_online (s : Fin 2 → Fin 256 → ℕ → ℝ) (v : ℕ → Fin 128 → ℝ) (μ : ℝ)
    (hs : ∀ h r (k : Fin k0_t1_loop.trips) j, k0_pay12 (maskq h v1) (tile (arg7.view.read (Elt Ideal) X_arg7) k) (k0_pay2 v0 v24 k0_pay25 0#32 1#32 k) (ix2 r j)
      = (s h r (512 * k.val + j.val) : EReal))
    (hv : ∀ (k : Fin k0_t1_loop.trips) (j : Fin 512) d, tile (arg8.view.read (Elt Ideal) X_arg8) k (ix2 j d) = (v (512 * k.val + j.val) d : EReal))
    (h10 : ∀ h r, arg10.view.read (Elt Ideal) G_arg10 (ix3 h r 0) = (μ : EReal))
    (h11 : ∀ h r, arg11.view.read (Elt Ideal) G_arg11 (ix3 h r 0) = (0 : EReal))
    (h12 : ∀ h r d, arg12.view.read (Elt Ideal) G_arg12 (ix3 h r d) = (0 : EReal)) :
    ∀ (n : ℕ) (hn : n ≤ k0_t1_loop.trips) (h : Fin 2) (r : Fin 256),
      Online (s h r) v (512 * n)
        (arg10.view.read (Elt Ideal) (arg10.view.writes (Elt Ideal) G_arg10 (pb_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 G_arg10 G_arg11 G_arg12 n).1) (ix3 h r 0))
        (arg11.view.read (Elt Ideal) (arg11.view.writes (Elt Ideal) G_arg11 (pb_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 G_arg10 G_arg11 G_arg12 n).2.1) (ix3 h r 0))
        (fun d => arg12.view.read (Elt Ideal) (arg12.view.writes (Elt Ideal) G_arg12 (pb_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 G_arg10 G_arg11 G_arg12 n).2.2) (ix3 h r d)) := by
  intro n
  induction n with
  | zero => exact fun _ h r => Online.zero _ _ μ (h10 h r) (h11 h r) (h12 h r)
  | succ n ih =>
    intro hn h r
    have hlt : n < k0_t1_loop.trips := hn
    have hih := ih hlt.le h r
    have hsucc := pb_k0_t1_succ (F := Ideal) 𝒱 c bd i arg3 harg3 arg4 harg4 arg5 harg5 arg6 harg6 arg7 harg7 arg8 harg8 arg9 harg9 arg10 harg10 arg11 harg11 arg12 harg12 v0 v1 v24 X_arg7 X_arg8 G_arg10 G_arg11 G_arg12 ⟨n, hlt⟩
    dsimp only at hsucc
    rw [hsucc]
    clear hsucc ih
    dsimp only
    rw [View.writes_append, View.writes_append, View.writes_append]
    generalize hf10 : arg10.view.writes (Elt Ideal) G_arg10 (pb_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 G_arg10 G_arg11 G_arg12 n).1 = f10 at hih ⊢
    generalize hf11 : arg11.view.writes (Elt Ideal) G_arg11 (pb_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 G_arg10 G_arg11 G_arg12 n).2.1 = f11 at hih ⊢
    generalize hf12 : arg12.view.writes (Elt Ideal) G_arg12 (pb_k0_t1 (F := Ideal) 𝒱 c bd i arg3 harg3 arg4 harg4 arg5 harg5 arg6 harg6 arg7 harg7 arg8 harg8 arg9 harg9 arg10 harg10 arg11 harg11 arg12 harg12 v0 v1 v24 X_arg7 X_arg8 G_arg10 G_arg11 G_arg12 n).2.2 = f12 at hih ⊢
    rw [show 512 * (n + 1) = 512 * n + 512 from rfl]
    refine hih.step (fun j => k0_pay12 (maskq h v1) (tile (arg7.view.read (Elt Ideal) X_arg7) ⟨n, hlt⟩) (k0_pay2 v0 v24 k0_pay25 0#32 1#32 ⟨n, hlt⟩) (ix2 r j))
      (fun j d => tile (arg8.view.read (Elt Ideal) X_arg8) ⟨n, hlt⟩ (ix2 j d)) (fun j => hs h r ⟨n, hlt⟩ j) (fun j d => hv ⟨n, hlt⟩ j d) ?_ ?_ ?_
    · fin_cases h
      · exact (trip_m0 ..).trans (pay14_apply ..)
      · exact (trip_m1 ..).trans (pay14_apply ..)
    · fin_cases h
      · refine (trip_l0 ..).trans ((pay17_apply ..).trans ?_)
        rw [← trip_m0]; rfl
      · refine (trip_l1 ..).trans ((pay17_apply ..).trans ?_)
        rw [← trip_m1]; rfl
    · intro d
      fin_cases h
      · refine (trip_a0 ..).trans ((pay26_apply ..).trans ?_)
        rw [← trip_m0]; rfl
      · refine (trip_a1 ..).trans ((pay26_apply ..).trans ?_)
        rw [← trip_m1]; rfl

end Cert.Kernel9Ideal.Flash

end
-- ==== Proof.SampleScores.lean ====
module

public import proofs.«01_k».proof.Proof.SampleRows

@[expose] public section

set_option maxRecDepth 16384

noncomputable section

namespace Cert.Kernel9Ideal.Flash

open Idealize.ShloMosaic Cert.Kernel9Ideal Cert.Kernel9Ideal.Gen Idealize.ShloMosaic.TcCoe Idealize.ShloMosaic.Tactic Cert.Softmax

theorem lane_slt : ∀ x : Fin 128, IntOp.cmpi .slt (BitVec.ofNat 32 x.val) 64#32 = if x.val / 64 = 0 then 1#1 else 0#1 := by decide
theorem lane_sge : ∀ x : Fin 128, IntOp.cmpi .sge (BitVec.ofNat 32 x.val) 64#32 = if x.val / 64 = 1 then 1#1 else 0#1 := by decide

/-- The query block of map `h`: the lanes of the other map are zero. -/
theorem maskq_apply (h : Fin 2) (q : Vec Ideal S256x128 .bf16) (r : Fin 256) (x : Fin 128) :
    maskq h q (ix2 r x) = if x.val / 64 = h.val then q (ix2 r x) else 0 := by
  fin_cases h
  · show k0_pay20 q (ix2 r x) = _
    unfold k0_pay20
    pointwise
    rw [lane_slt]
    by_cases hx : x.val / 64 = 0 <;> simp [Scalar.select, hx]
  · show k0_pay21 q (ix2 r x) = _
    unfold k0_pay21
    pointwise
    rw [lane_sge]
    by_cases hx : x.val / 64 = 1 <;> simp [Scalar.select, hx]

theorem toInt_diff (r : Fin 256) (j : Fin 512) : (IntOp.subi (BitVec.ofNat 32 r.val) (BitVec.ofNat 32 j.val)).toInt = (r.val : ℤ) - j.val := by
  have := r.isLt; have := j.isLt
  unfold IntOp.subi
  rw [BitVec.toInt_sub, BitVec.toInt_eq_toNat_bmod, BitVec.toInt_eq_toNat_bmod, BitVec.toNat_ofNat, BitVec.toNat_ofNat]
  simp only [Int.bmod_def]
  omega

theorem toInt_base (a : Fin 32) : ∀ k : Fin 16, (Scalar.subi (Scalar.muli (BitVec.ofNat 32 a.val) 256#32) (Scalar.muli (Scf.iv 0#32 1#32 k.val) 512#32)).toInt = 256 * (a.val : ℤ) - 512 * k.val := by
  revert a; decide

/-- The bias of query `256 a + r` and key `512 k + j`: minus the slope times their distance. -/
theorem pay2_apply (a : Fin 32) (sl : ℝ) (k : Fin k0_t1_loop.trips) (r : Fin 256) (j : Fin 512) :
    k0_pay2 (F := Ideal) (Scalar.muli (BitVec.ofNat 32 a.val) 256#32) (sl : EReal) k0_pay25 0#32 1#32 k (ix2 r j)
      = ((-sl * |((256 * a.val + r.val : ℕ) : ℝ) - ((512 * k.val + j.val : ℕ) : ℝ)| : ℝ) : EReal) := by
  unfold k0_pay2 k0_pay25
  pointwise
  have e1 : FloatOps.sitofp (F := Ideal) .f32 (IntOp.subi (BitVec.ofNat 32 r.val) (BitVec.ofNat 32 j.val)) = (((r.val : ℤ) - j.val : ℤ) : ℝ) := by
    rw [← toInt_diff]; rfl
  have e2 := toInt_base a ⟨k.val, k.isLt⟩
  dsimp only at e2
  rw [e1, e2, ← EReal.coe_add, Ideal.absf_def, ← EReal.coe_neg, ← EReal.coe_strictMono.monotone.map_max, ← EReal.coe_zero, ← EReal.coe_sub, ← EReal.coe_mul]
  congr 1
  rw [max_comm]
  push_cast
  rw [show max (-((r.val:ℝ) - j.val + (256 * a.val - 512 * k.val))) ((r.val:ℝ) - j.val + (256 * a.val - 512 * k.val)) = |((r.val:ℝ) - j.val + (256 * a.val - 512 * k.val))| from max_comm _ _]
  rw [zero_sub]
  congr 2
  ring

/-- The sum over the lanes of map `h`. -/
theorem sum_lanes (h : Fin 2) (f : Fin 128 → ℝ) :
    ∑ x, (if x.val / 64 = h.val then f x else 0) = ∑ x : Fin 64, f ⟨64 * h.val + x.val, by omega⟩ := by
  rw [show (Finset.univ : Finset (Fin 128)) = (Finset.univ : Finset (Fin (64 + 64))) from rfl, Fin.sum_univ_add (a := 64) (b := 64)]
  have hL : ∀ i : Fin 64, (Fin.castAdd 64 i).val / 64 = 0 := fun i => by show i.val / 64 = 0; omega
  have hR : ∀ i : Fin 64, (Fin.natAdd 64 i).val / 64 = 1 := fun i => by show (64 + i.val) / 64 = 1; omega
  simp only [hL, hR]
  fin_cases h
  · simp only [if_true, if_neg one_ne_zero, Finset.sum_const_zero, add_zero]
    refine Finset.sum_congr rfl fun x _ => congrArg f (Fin.ext ?_)
    show x.val = 64 * 0 + x.val
    omega
  · simp only [if_true, if_neg zero_ne_one, Finset.sum_const_zero, zero_add]
    rfl

/-- The score of query row `r` of block `a` and key `n` in map `h`. -/
def score (Q : Fin 256 → Fin 128 → ℝ) (K : ℕ → Fin 128 → ℝ) (sl : ℝ) (a : Fin 32) (h : Fin 2) (r : Fin 256) (n : ℕ) : ℝ :=
  ∑ x : Fin 64, Q r ⟨64 * h.val + x.val, by omega⟩ * K n ⟨64 * h.val + x.val, by omega⟩ + -sl * |((256 * a.val + r.val : ℕ) : ℝ) - (n : ℝ)|

/-- What a trip computes as a score is that score. -/
theorem pay12_score (Q : Fin 256 → Fin 128 → ℝ) (K : ℕ → Fin 128 → ℝ) (sl : ℝ) (a : Fin 32) (h : Fin 2) (r : Fin 256)
    (q : Vec Ideal S256x128 .bf16) (hq : ∀ r x, q (ix2 r x) = (Q r x : EReal)) (k : Fin k0_t1_loop.trips)
    (kk : Vec Ideal S512x128 .bf16) (hk : ∀ j x, kk (ix2 j x) = (K (512 * k.val + j.val) x : EReal)) (j : Fin 512) :
    k0_pay12 (maskq h q) kk (k0_pay2 (F := Ideal) (Scalar.muli (BitVec.ofNat 32 a.val) 256#32) (sl : EReal) k0_pay25 0#32 1#32 k) (ix2 r j)
      = (score Q K sl a h r (512 * k.val + j.val) : EReal) := by
  rw [pay12_apply, pay2_apply, score, EReal.coe_add, ← sum_lanes h fun x => Q r x * K (512 * k.val + j.val) x, coe_sum]
  congr 1
  refine Finset.sum_congr rfl fun x _ => ?_
  rw [maskq_apply, hk, hq]
  by_cases hx : x.val / 64 = h.val
  · rw [if_pos hx, if_pos hx, EReal.coe_mul]
  · rw [if_neg hx, if_neg hx, zero_mul, EReal.coe_zero]

end Cert.Kernel9Ideal.Flash

end
-- ==== Proof.SampleBlock.lean ====
module

public import proofs.«01_k».proof.Proof.SampleScores
public import proofs.«01_k».proof.Proof.Gen.Kernel9Ideal.Frame

@[expose] public section

set_option maxRecDepth 16384

noncomputable section

namespace Cert.Kernel9Ideal.Flash

open Idealize.ShloMosaic Cert.Kernel9Ideal Cert.Kernel9Ideal.Gen Idealize.ShloMosaic.TcCoe Idealize.ShloMosaic.Tactic Cert.Softmax

/-- The weight of the second map. -/
def lamOf (lam : Vec Ideal S4x64 .f32) : EReal :=
  Ideal.exp (∑ x, lam (ix2 0 x) * lam (ix2 1 x)) - Ideal.exp (∑ x, lam (ix2 2 x) * lam (ix2 3 x)) + Ideal.ofBits .f32 1045220557#32

/-- A row divided by its root mean square, scaled by `g` and the constant that closes the attention. -/
def normed (o g : Fin 128 → EReal) (d : Fin 128) : EReal :=
  o d * Ideal.rsqrt (Ideal.div (∑ x, o x * o x) (Ideal.ofBits .f32 1124073472#32) + Ideal.ofBits .f32 897988541#32) * g d
    * Ideal.ofBits .f32 1061997773#32

/-- Equal rows are normalised to equal rows. -/
theorem normed_congr {o o' g g' : Fin 128 → EReal} (ho : ∀ x, o x = o' x) (hg : ∀ x, g x = g' x) (d : Fin 128) : normed o g d = normed o' g' d := by
  rw [funext ho, funext hg]

/-- What the body stores: the difference of the two maps' quotients, normalised. -/
theorem pay1_apply (lam : Vec Ideal S4x64 .f32) (a0 : Vec Ideal S1x256x128 .f32) (l0 : Vec Ideal S1x256x1 .f32) (a1 : Vec Ideal S1x256x128 .f32) (l1 : Vec Ideal S1x256x1 .f32)
    (g : Vec Ideal S1x128 .f32) (r : Fin 256) (d : Fin 128) :
    k0_pay1 (F := Ideal) (k0_pay28 lam a0 l0 a1 l1) (k0_pay29 lam a0 l0 a1 l1) g (ix2 r d)
      = normed (fun x => Ideal.div (a0 (ix3 0 r x)) (l0 (ix3 0 r 0)) - lamOf lam * Ideal.div (a1 (ix3 0 r x)) (l1 (ix3 0 r 0))) (fun x => g (ix2 0 x)) d := by
  have h28 : ∀ x, k0_pay28 (F := Ideal) lam a0 l0 a1 l1 (ix2 r x) = Ideal.div (a0 (ix3 0 r x)) (l0 (ix3 0 r 0)) - lamOf lam * Ideal.div (a1 (ix3 0 r x)) (l1 (ix3 0 r 0)) := by
    intro x
    unfold k0_pay28
    pointwise
    rfl
  unfold k0_pay29 k0_pay1
  pointwise
  simp only [h28]
  rfl

/-- The finite stand-in for the first maximum is a real. -/
theorem exists_start : ∃ μ : ℝ, Ideal.ofBits FTy.f32 0xF149F2CA#32 = (μ : EReal) := ⟨_, by simp [Ideal.ofBits, Ideal.ieee, -EReal.coe_mul]; rfl⟩

/-- A load of one map's slab, after the writes `L` over a first one `p`. -/
theorem readCov_slab {D n : ℕ} {sp : Space} (h : Fin 2) (hn : n = h.val) (v : View sig .tc sp (⟨3, ![2, 256, D]⟩ : Shape) .f32)
    (L : List (View.Piece (Elt Ideal) (⟨3, ![2, 256, D]⟩ : Shape) .f32)) (p) (inb) :
    v.readCov (L ++ [p]) (Rect.unit (s := (⟨3, ![2, 256, D]⟩ : Shape)) ![n, 0, 0] (![1, 256, D]) inb).toLoadRect
      = slab h (v.read (Elt Ideal) (v.writes (Elt Ideal) (v.writes (Elt Ideal) v.junk [p]) L)) := by
  unfold View.readCov
  rw [View.writes_append]
  exact ld_slab D n h hn _ inb

variable (c : Dev nD) (i : grid0.Coords) (arg3 : Memref sig .tc .smem S4 .f32) (harg3 : arg3.IsWhole) (arg4 : Memref sig .tc .vmem S4x64 .f32) (harg4 : arg4.IsWhole) (arg5 : Memref sig .tc .vmem S1x128 .f32) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S256x128 .bf16) (harg9 : arg9.IsWhole) (arg10 : Memref sig .tc .vmem S2x256x1 .f32) (harg10 : arg10.IsWhole) (arg11 : Memref sig .tc .vmem S2x256x1 .f32) (harg11 : arg11.IsWhole) (arg12 : Memref sig .tc .vmem S2x256x128 .f32) (harg12 : arg12.IsWhole)
    (x0 : Vec Ideal S4 .f32) (x1 : Vec Ideal S4x64 .f32) (x2 : Vec Ideal S1x128 .f32) (x3 : Vec Ideal S256x128 .bf16) (x4 : Vec Ideal S8192x128 .bf16) (x5 : Vec Ideal S8192x128 .bf16)

/-- The block a grid point leaves, from real queries, keys and values: each row's two weighted averages, subtracted and
    normalised. -/
theorem out_apply (Q : Fin 256 → Fin 128 → ℝ) (K V : ℕ → Fin 128 → ℝ) (sl : ℝ) (hsl : x0 (ix1 (i 1)) = (sl : EReal))
    (hQ : ∀ r x, x3 (ix2 r x) = (Q r x : EReal)) (hK : ∀ (n : Fin 8192) x, x4 (ix2 n x) = (K n.val x : EReal))
    (hV : ∀ (n : Fin 8192) x, x5 (ix2 n x) = (V n.val x : EReal)) (r : Fin 256) (d : Fin 128) :
    out0_A_6 (F := Ideal) c i arg3 harg3 arg4 harg4 arg5 harg5 arg6 harg6 arg7 harg7 arg8 harg8 arg9 harg9 arg10 harg10 arg11 harg11 arg12 harg12 x0 x1 x2 x3 x4 x5 (ix2 r d)
      = normed (fun x => (wavg (score Q K sl (i 2) 0 r) V 8192 x : EReal) - lamOf x1 * (wavg (score Q K sl (i 2) 1 r) V 8192 x : EReal)) (fun x => x2 (ix2 0 x)) d := by
  unfold out0_A_6
  rw [View.read_writes_eq_canon _ _ _ (cover0_A_6 c i arg3 harg3 arg4 harg4 arg5 harg5 arg6 harg6 arg7 harg7 arg8 harg8 arg9 harg9 arg10 harg10 arg11 harg11 arg12 harg12 x0 x1 x2 x3 x4 x5)]
  unfold kernelRun0_A
  dsimp only
  sl_unfold_words
  have z2 : (![0, 0] : Fin 2 → ℕ) = fun _ => 0 := by funext a; fin_cases a <;> rfl
  have e1 : View.readAt (Elt Ideal) arg4.view (Rect.unit (s := S4x64) ![0, 0] S4x64.size inb_S4x64_S4x64_0_0).toLoadRect (harg4.unread x1) = x1 :=
    (View.ld_unit_zero z2 _ _).trans (harg4.read_unread x1)
  have e2 : View.readAt (Elt Ideal) arg5.view (Rect.unit (s := S1x128) ![0, 0] S1x128.size inb_S1x128_S1x128_0_0).toLoadRect (harg5.unread x2) = x2 :=
    (View.ld_unit_zero z2 _ _).trans (harg5.read_unread x2)
  have e3 : View.readAt (Elt Ideal) arg6.view (Rect.unit (s := S256x128) ![0, 0] S256x128.size inb_S256x128_S256x128_0_0).toLoadRect (harg6.unread x3) = x3 :=
    (View.ld_unit_zero z2 _ _).trans (harg6.read_unread x3)
  have e0 : ∀ (off : Fin 1 → ℕ) (inb : ∀ a, off a + S1.size a ≤ S4.size a) (j : S1.Idx), off = ![(i 1).val] →
      View.readAt (Elt Ideal) arg3.view (Rect.unit (s := S4) off S1.size inb).toLoadRect (harg3.unread x0) j = (sl : EReal) := by
    intro off inb j hoff
    subst hoff
    have h0 : View.readAt (Elt Ideal) arg3.view (Rect.unit (s := S4) ![(i 1).val] S1.size inb).toLoadRect (harg3.unread x0) j
        = View.ld x0 (Rect.unit (s := S4) ![(i 1).val] S1.size inb) j := by
      rw [View.readAt_eq_ld, harg3.read_unread]
    rw [h0, ← hsl]
    refine congrArg x0 (funext fun a => Fin.ext ?_)
    match a with
    | ⟨0, _⟩ =>
      show (i 1).val + 1 * (j 0).val = (i 1).val
      have : (j 0).val < 1 := (j 0).isLt
      omega
  obtain ⟨μ, hμ⟩ := exists_start
  have htile : ∀ (X : Vec Ideal S8192x128 .bf16) (W : ℕ → Fin 128 → ℝ) (hX : ∀ (n : Fin 8192) x, X (ix2 n x) = (W n.val x : EReal)) (k : Fin k0_t1_loop.trips)
      (j : Fin 512) (x : Fin 128), tile X k (ix2 j x) = (W (512 * k.val + j.val) x : EReal) := fun X W hX k j x => hX ⟨_, _⟩ x
  have hO := fun (v1 : Vec Ideal S256x128 .bf16) (hv1 : v1 = x3) (v24 : Elt Ideal .f32) (hv24 : v24 = (sl : EReal)) =>
    pb_online Variants.none c none i arg3 harg3 arg4 harg4 arg5 harg5 arg6 harg6 arg7 harg7 arg8 harg8 arg9 harg9 arg10 harg10 arg11 harg11 arg12 harg12
      (Scalar.muli (BitVec.ofNat 32 (i 2).val) 256#32) v1 v24 (harg7.unread x4) (harg8.unread x5)
      (arg10.view.writes (Elt Ideal) arg10.view.junk [⟨Rect.unit ![0, 0, 0] S2x256x1.size inb_S2x256x1_S2x256x1_0_0_0, k0_pay22 (F := Ideal)⟩])
      (arg11.view.writes (Elt Ideal) arg11.view.junk [⟨Rect.unit ![0, 0, 0] S2x256x1.size inb_S2x256x1_S2x256x1_0_0_0, k0_pay23 (F := Ideal)⟩])
      (arg12.view.writes (Elt Ideal) arg12.view.junk [⟨Rect.unit ![0, 0, 0] S2x256x128.size inb_S2x256x128_S2x256x128_0_0_0, k0_pay24 (F := Ideal)⟩])
      (fun h r => score Q K sl (i 2) h r) V μ
      (fun h r k j => by
        rw [hv1, hv24, harg7.read_unread]
        exact pay12_score Q K sl (i 2) h r x3 hQ k _ (htile x4 K hK k) j)
      (fun k j d => by rw [harg8.read_unread]; exact htile x5 V hV k j d)
      (fun h r => by
        rw [View.read_writes_cons_unit_of_mem _ _ _ _ _ _ (ix3 h r 0) rfl (by intro a; fin_cases a <;> simp)]
        exact hμ)
      (fun h r => by
        rw [View.read_writes_cons_unit_of_mem _ _ _ _ _ _ (ix3 h r 0) rfl (by intro a; fin_cases a <;> simp)]
        exact Ideal.ofBits_zero_f32)
      (fun h r d => by
        rw [View.read_writes_cons_unit_of_mem _ _ _ _ _ _ (ix3 h r d) rfl (by intro a; fin_cases a <;> simp)]
        exact Ideal.ofBits_zero_f32)
      16 (by decide)
  refine (congrFun (View.canon_unit_zero z2 _ _) _).trans ((pay1_apply ..).trans ?_)
  refine normed_congr (fun x => ?_) (fun x => congrFun e2 (ix2 0 x)) d
  exact congrArg₂ (fun u v : EReal => u - v)
    ((congrArg₂ Ideal.div (congrFun (readCov_slab 0 rfl _ _ _ _) (ix3 0 r x)) (congrFun (readCov_slab 0 rfl _ _ _ _) (ix3 0 r 0))).trans
      (Online.final (n := 8192) (by norm_num) (hO _ e3 _ (e0 _ _ _ (k0_off1_eq i)) 0 r) x))
    (congrArg₂ (fun u v : EReal => u * v) (congrArg lamOf e1)
    ((congrArg₂ Ideal.div (congrFun (readCov_slab 1 rfl _ _ _ _) (ix3 0 r x)) (congrFun (readCov_slab 1 rfl _ _ _ _) (ix3 0 r 0))).trans
      (Online.final (n := 8192) (by norm_num) (hO _ e3 _ (e0 _ _ _ (k0_off1_eq i)) 1 r) x)))

end Cert.Kernel9Ideal.Flash

end
-- ==== Proof.SampleArray.lean ====
module

public import proofs.«01_k».proof.Proof.SampleBlock
public import proofs.«01_k».proof.Proof.Gen.Kernel9Ideal.Value
public import Idealize.ShloMosaic.Lib.Pipeline.ValueKit

@[expose] public section

set_option maxRecDepth 16384

noncomputable section

namespace Cert.Kernel9Ideal.Flash

open Idealize.ShloMosaic Cert.Kernel9Ideal Cert.Kernel9Ideal.Gen Idealize.ShloMosaic.TcCoe Idealize.ShloMosaic.Tactic Cert.Softmax

/-- The slope of a head: `2 ^ (-2 (head + 1))`. -/
def slope (h : ℕ) : ℝ := (1 / 4 : ℝ) ^ (h + 1)

/-- The host's constant of slopes is the slopes. -/
theorem slopes_lit : ∀ h : Fin 4, Ideal.ofBits .f32 (lit0 h) = (slope h.val : EReal) := by
  intro h
  fin_cases h <;> simp [Ideal.ofBits, Ideal.ieee, slope, lit0, -EReal.coe_mul] <;> norm_num

/-- The score of query `n` and key `k` in batch `b`, head `h` and map `j`, from the projected tokens `P`: 64 lanes of
    queries and of keys multiplied, and minus the slope times the distance. -/
def rscore (P : ℕ → ℕ → ℝ) (b h j n k : ℕ) : ℝ :=
  ∑ x : Fin 64, P (8192 * b + n) (128 * h + 64 * j + x.val) * P (8192 * b + k) (512 + 128 * h + 64 * j + x.val) + -slope h * |(n : ℝ) - (k : ℝ)|

/-- The weighted average of the values with the softmax of the scores. -/
def rmap (P : ℕ → ℕ → ℝ) (b h j n d : ℕ) : ℝ :=
  wavg (rscore P b h j n) (fun k (_ : Unit) => P (8192 * b + k) (1024 + 128 * h + d)) 8192 ()

/-- The attention's result at batch `b`, query `n`, head `h` and lane `d`. -/
def rout (P : ℕ → ℕ → ℝ) (lam : Vec Ideal S4x64 .f32) (g : Fin 128 → EReal) (b h n : ℕ) (d : Fin 128) : EReal :=
  normed (fun x => (rmap P b h 0 n x.val : EReal) - lamOf lam * (rmap P b h 1 n x.val : EReal)) g d

variable (m : (ℓ : Loc nD τ sig) → Buf (Elt Ideal) ℓ)

theorem V_cst (c : Dev nD) (h : Fin 4) : V m c main_cst (ix1 h) = (slope h.val : EReal) := by
  have e : V m c main_cst = fun i : S4.Idx => FloatOps.ofBits (F := Ideal) .f32 (lit0 (S4.rowMajor i)) := by
    unfold V
    simp only [StableHlo.after_cons, StableHlo.after_nil]
    rw [StableHlo.reshape_result_ne', StableHlo.nullary_result']
    rfl
    decide
  rw [e, ← slopes_lit]
  fin_cases h <;> rfl

theorem V_v0 (c : Dev nD) (x : Fin 128) : V m c main_v0 (ix2 0 x) = m ((c.tc : Thread nD τ).loc main_arg2) (ix1 x) := by
  unfold V
  simp only [StableHlo.after_cons, StableHlo.after_nil]
  rw [StableHlo.reshape_result']
  show shapeCast S1x128 (fun i : S128.Idx => _) shapeCasts_S128_S1x128 (ix2 0 x) = _
  pointwise
  rw [StableHlo.nullary_result_ne' (r := main_arg2) (h := by decide)]

theorem idx0 : ∀ t : Fin cfg0.N, win0_0.index t = ![0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![32 * (grid0.coords t 0).val + (grid0.coords t 2).val, (grid0.coords t 1).val] := (by decide +kernel : ∀ t : Fin grid0.N, _)
theorem idx4 : ∀ t : Fin cfg0.N, win0_4.index t = ![(grid0.coords t 0).val, 4 + (grid0.coords t 1).val] := (by decide +kernel : ∀ t : Fin grid0.N, _)
theorem idx5 : ∀ t : Fin cfg0.N, win0_5.index t = ![(grid0.coords t 0).val, 8 + (grid0.coords t 1).val] := (by decide +kernel : ∀ t : Fin grid0.N, _)
theorem idx6 : ∀ t : Fin cfg0.N, win0_6.index t = ![32 * (grid0.coords t 0).val + (grid0.coords t 2).val, (grid0.coords t 1).val] := (by decide +kernel : ∀ t : Fin grid0.N, _)

/-- The result array. -/
def G (P : ℕ → ℕ → ℝ) (lam : Vec Ideal S4x64 .f32) (g : Fin 128 → EReal) : S32768x512.Idx → EReal := fun i =>
  rout P lam g ((i 0).val / 8192) ((i 1).val / 128) ((i 0).val % 8192) ⟨(i 1).val % 128, Nat.mod_lt _ (by decide)⟩

/-- After the run the result array is `G` of the arguments. -/
theorem arr_eq (c : Dev nD) (P : ℕ → ℕ → ℝ)
    (hP : ∀ (t : Fin 32768) (x : Fin 1536), m ((c.tc : Thread nD τ).loc main_arg0) (ix2 t x) = (P t.val x.val : EReal)) :
    (dats m 0 c).arrAt 6 cfg0.N = G P (m ((c.tc : Thread nD τ).loc main_arg1)) (fun x => m ((c.tc : Thread nD τ).loc main_arg2) (ix1 x)) := by
  refine (dats m 0 c).arrAt_eq_of_covers 6 _ (by decide +kernel) fun t hf y => ?_
  blk_simp
  rw [after0_6]
  unfold outsAt0
  have hP' : ∀ i : S32768x1536.Idx, m ((c.tc : Thread nD τ).loc main_arg0) i = (P (i 0).val (i 1).val : EReal) := fun i =>
    (congrArg (m ((c.tc : Thread nD τ).loc main_arg0)) (by funext k; fin_cases k <;> rfl)).trans (hP (i 0) (i 1))
  have e6 := idx6 t
  have c0 : (grid0.coords t 0).val < 4 := (grid0.coords t 0).isLt
  have c1 : (grid0.coords t 1).val < 4 := (grid0.coords t 1).isLt
  have c2 : (grid0.coords t 2).val < 32 := (grid0.coords t 2).isLt
  have y0 : (y 0).val < 256 := (y 0).isLt
  have y1 : (y 1).val < 128 := (y 1).isLt
  obtain ⟨r, d, rfl⟩ : ∃ (r : Fin 256) (d : Fin 128), y = ix2 r d := ⟨y 0, y 1, by funext a; fin_cases a <;> rfl⟩
  generalize hb : (grid0.coords t 0).val = b at *
  generalize hh : (grid0.coords t 1).val = h at *
  generalize ha : (grid0.coords t 2).val = a at *
  have E : G P (m ((c.tc : Thread nD τ).loc main_arg1)) (fun x => m ((c.tc : Thread nD τ).loc main_arg2) (ix1 x)) ((win0_6.blk t).view.emb (ix2 r d))
      = rout P (m ((c.tc : Thread nD τ).loc main_arg1)) (fun x => m ((c.tc : Thread nD τ).loc main_arg2) (ix1 x)) b h (256 * a + r.val) d := by
    have f0 : (((win0_6.blk t).view.emb (ix2 r d)) 0).val = (32 * b + a) * 256 + r.val := by blk_simp [e6]
    have f1 : (((win0_6.blk t).view.emb (ix2 r d)) 1).val = h * 128 + d.val := by blk_simp [e6]
    unfold G
    have hr := r.isLt
    have hd := d.isLt
    congr 1
    · rw [f0]; omega
    · rw [f1]; omega
    · rw [f0]; omega
    · exact Fin.ext (by show _ % 128 = _; rw [f1]; omega)
  rw [E]
  refine (out_apply _ _ _ _ _ _ _ _ _ _ _ _ _ _ _ _ _ _ _ _ _ _ _ _ _ _ _ _
    (fun r x => P (8192 * b + (256 * a + r.val)) (128 * h + x.val)) (fun n x => P (8192 * b + n) (512 + 128 * h + x.val))
    (fun n x => P (8192 * b + n) (1024 + 128 * h + x.val)) (slope h) ?_ ?_ ?_ ?_ r d).trans ?_
  · unfold iblk
    blk_simp
    rw [← hh, ← V_cst m c (grid0.coords t 1)]
    refine congrArg (V m c main_cst) (funext fun k => Fin.ext ?_)
    fin_cases k
    blk_simp [idx0 t]
  · intro r x
    unfold iblk
    blk_simp
    rw [V_main_arg0, hP']
    blk_simp [idx3 t]
    rw [hb, hh, ha]
    congr 2 <;> omega
  · intro r x
    unfold iblk
    blk_simp
    rw [V_main_arg0, hP']
    blk_simp [idx4 t]
    rw [hb, hh]
    congr 2 <;> omega
  · intro r x
    unfold iblk
    blk_simp
    rw [V_main_arg0, hP']
    blk_simp [idx5 t]
    rw [hb, hh]
    congr 2 <;> omega
  · have b1 : iblk m c 1 t = m ((c.tc : Thread nD τ).loc main_arg1) := by
      funext j
      unfold iblk
      blk_simp
      rw [V_main_arg1]
      refine congrArg (m ((c.tc : Thread nD τ).loc main_arg1)) (funext fun k => Fin.ext ?_)
      fin_cases k <;> blk_simp [idx1 t]
    have b2 : ∀ x, iblk m c 2 t (ix2 0 x) = m ((c.tc : Thread nD τ).loc main_arg2) (ix1 x) := by
      intro x
      rw [← V_v0 m c x]
      unfold iblk
      blk_simp
      refine congrArg (V m c main_v0) (funext fun k => Fin.ext ?_)
      fin_cases k <;> blk_simp [idx2 t]
    have hs : ∀ j : Fin 2, score (fun r x => P (8192 * b + (256 * a + r.val)) (128 * h + x.val))
        (fun n x => P (8192 * b + n) (512 + 128 * h + x.val)) (slope h) (grid0.coords t 2) j r = rscore P b h j.val (256 * a + r.val) := by
      intro j
      funext n
      unfold score rscore
      rw [ha]
      simp only [Nat.add_assoc]
    unfold rout rmap
    rw [b1, hs 0, hs 1]
    exact normed_congr (fun x => rfl) b2 d

end Cert.Kernel9Ideal.Flash

end
-- ==== Proof.SampleRefRead.lean ====
module

public import proofs.«01_k».proof.Proof.Softmax
public import proofs.«01_k».proof.Proof.SampleArray
public import proofs.«01_k».proof.Proof.Gen.Reference9Ideal.Read
public import Idealize.ShloMosaic.Lib.Pointwise.Tactic
public import Idealize.ShloMosaic.Lib.Pointwise

@[expose] public section

set_option maxRecDepth 16384

noncomputable section

namespace Cert.Reference9Ideal.Flash

open Idealize.ShloMosaic Cert.Reference9Ideal Cert.Reference9Ideal.Gen Cert.Reference9Ideal.Read Idealize.ShloMosaic.Tactic Cert.Softmax
open Cert.Kernel9Ideal.Flash (slope rscore rmap rout lamOf normed normed_congr negInf)

variable (x0 : (⟨S32768x1536, .bf16⟩ : BufTy).Contents (Elt Ideal)) (x1 : (⟨S4x64, .f32⟩ : BufTy).Contents (Elt Ideal))
  (x2 : (⟨S128, .f32⟩ : BufTy).Contents (Elt Ideal)) (P : ℕ → ℕ → ℝ)
  (hP : ∀ (t : Fin 32768) (x : Fin 1536), x0 (ix2 t x) = (P t.val x.val : EReal))

include hP

theorem read_P (i : S32768x1536.Idx) (t x : ℕ) (ht : (i 0).val = t) (hx : (i 1).val = x) : x0 i = (P t x : EReal) := by
  subst ht hx
  exact (congrArg x0 (show i = ix2 (i 0) (i 1) from by funext a; fin_cases a <;> rfl)).trans (hP (i 0) (i 1))

/-- The queries. -/
theorem q_read (i : S4x8192x4x2x64.Idx) :
    val_main_v3 x0 i = (P (8192 * (i 0).val + (i 1).val) (128 * (i 2).val + 64 * (i 3).val + (i 4).val) : EReal) := by
  rw [val_main_v3_apply, val_main_v2_apply, val_main_v1_apply, val_main_v0_apply]
  have h0 : (i 0).val < 4 := (i 0).isLt
  have h1 : (i 1).val < 8192 := (i 1).isLt
  have h2 : (i 2).val < 4 := (i 2).isLt
  have h3 : (i 3).val < 2 := (i 3).isLt
  have h4 : (i 4).val < 64 := (i 4).isLt
  refine read_P x0 P hP _ _ _ ?_ ?_
  · simp only [idx_main_v1, idx_main_v2, idx_main_v3]
    omega
  · simp only [idx_main_v1, idx_main_v2, idx_main_v3]
    omega

/-- The keys. -/
theorem k_read (i : S4x8192x4x2x64.Idx) :
    val_main_v5 x0 i = (P (8192 * (i 0).val + (i 1).val) (512 + 128 * (i 2).val + 64 * (i 3).val + (i 4).val) : EReal) := by
  rw [val_main_v5_apply, val_main_v4_apply, val_main_v1_apply, val_main_v0_apply]
  have h0 : (i 0).val < 4 := (i 0).isLt
  have h1 : (i 1).val < 8192 := (i 1).isLt
  have h2 : (i 2).val < 4 := (i 2).isLt
  have h3 : (i 3).val < 2 := (i 3).isLt
  have h4 : (i 4).val < 64 := (i 4).isLt
  refine read_P x0 P hP _ _ _ ?_ ?_
  · simp only [idx_main_v1, idx_main_v4, idx_main_v5]
    omega
  · simp only [idx_main_v1, idx_main_v4, idx_main_v5]
    omega

/-- The values. -/
theorem v_read (i : S4x8192x4x128.Idx) :
    val_main_v7 x0 i = (P (8192 * (i 0).val + (i 1).val) (1024 + 128 * (i 2).val + (i 3).val) : EReal) := by
  rw [val_main_v7_apply, val_main_v6_apply, val_main_v1_apply, val_main_v0_apply]
  have h0 : (i 0).val < 4 := (i 0).isLt
  have h1 : (i 1).val < 8192 := (i 1).isLt
  have h2 : (i 2).val < 4 := (i 2).isLt
  have h3 : (i 3).val < 128 := (i 3).isLt
  refine read_P x0 P hP _ _ _ ?_ ?_
  · simp only [idx_main_v1, idx_main_v6, idx_main_v7]
    omega
  · simp only [idx_main_v1, idx_main_v6, idx_main_v7]
    omega

omit hP in
/-- The slopes: two to the power `-8 (head + 1) / 4`. -/
theorem slope_read (i : S4.Idx) : val_main_v32 (F := Ideal) i = (slope (i 0).val : EReal) := by
  rw [val_main_v32_apply, val_main_v31_apply, val_main_v30_apply, val_main_v28_apply, val_main_v29_apply, val_main_v27_apply,
    val_main_v26_apply, val_main_v25_apply]
  have e2 : val_main_cst_2 (F := Ideal) (idx_main_v25 i) = ((1 : ℝ) : EReal) := by
    show Ideal.ofBits .f32 0x3F800000#32 = _
    simp [Ideal.ofBits, Ideal.ieee, -EReal.coe_mul]
    norm_num
  have e3 : val_main_cst_3 (F := Ideal) (idx_main_v27 i) = ((-8 : ℝ) : EReal) := by
    show Ideal.ofBits .f32 0xC1000000#32 = _
    simp [Ideal.ofBits, Ideal.ieee, -EReal.coe_mul]
    norm_num
  have e4 : val_main_cst_4 (F := Ideal) (idx_main_v29 i) = ((4 : ℝ) : EReal) := by
    show Ideal.ofBits .f32 0x40800000#32 = _
    simp [Ideal.ofBits, Ideal.ieee, -EReal.coe_mul]
    norm_num
  have e5 : val_main_cst_5 (F := Ideal) (idx_main_v31 i) = ((2 : ℝ) : EReal) := by
    show Ideal.ofBits .f32 0x40000000#32 = _
    simp [Ideal.ofBits, Ideal.ieee, -EReal.coe_mul]
    norm_num
  have e24 : val_main_v24 (F := Ideal) i = (((i 0).val : ℝ) : EReal) := by
    show (((BitVec.ofNat 32 (i 0).val).toInt : ℝ) : EReal) = _
    have h0 : (i 0).val < 4 := (i 0).isLt
    rw [show (BitVec.ofNat 32 (i 0).val).toInt = ((i 0).val : ℤ) from by
      rw [BitVec.toInt_eq_toNat_bmod, BitVec.toNat_ofNat, Int.bmod_def]; omega, Int.cast_natCast]
  rw [e2, e3, e4, e5, e24]
  show Ideal.pow ((2 : ℝ) : EReal) (Ideal.div (((-8 : ℝ) : EReal) * (((1 : ℝ) : EReal) + (((i 0).val : ℝ) : EReal))) ((4 : ℝ) : EReal)) = _
  rw [← EReal.coe_add, ← EReal.coe_mul, div_coe_coe _ (by norm_num), Ideal.pow_coe_coe]
  refine congrArg _ ?_
  show (2 : ℝ) ^ ((-8 * (1 + ((i 0).val : ℝ)) / 4 : ℝ)) = (1 / 4 : ℝ) ^ ((i 0).val + 1)
  rw [show (-8 * (1 + ((i 0).val : ℝ)) / 4 : ℝ) = (-2 : ℝ) * (((i 0).val + 1 : ℕ) : ℝ) from by push_cast; ring,
    Real.rpow_mul (by norm_num), Real.rpow_natCast]
  congr 1
  rw [Real.rpow_neg (by norm_num)]
  norm_num

omit hP in
/-- The distance of two positions, as the machine's integers have it. -/
theorem dist_read (n k : ℕ) (hn : n < 8192) (hk : k < 8192) :
    (IntOp.absi (IntOp.subi (BitVec.ofNat 32 n) (BitVec.ofNat 32 k))).toInt = |(n : ℤ) - (k : ℤ)| := by
  have e : (IntOp.subi (BitVec.ofNat 32 n) (BitVec.ofNat 32 k)).toInt = (n : ℤ) - k := by
    show (BitVec.ofNat 32 n - BitVec.ofNat 32 k).toInt = _
    rw [BitVec.toInt_sub, BitVec.toInt_eq_toNat_bmod, BitVec.toInt_eq_toNat_bmod, BitVec.toNat_ofNat, BitVec.toNat_ofNat,
      Int.bmod_def, Int.bmod_def, Int.bmod_def]
    omega
  unfold IntOp.absi
  rw [BitVec.msb_eq_toInt, e]
  split_ifs with h
  · have h' : (n : ℤ) - k < 0 := of_decide_eq_true h
    rw [BitVec.toInt_neg, e, abs_of_neg h', Int.bmod_def]
    omega
  · have h' : ¬ (n : ℤ) - k < 0 := fun c => h (decide_eq_true c)
    rw [e, abs_of_nonneg (by omega)]

omit hP in
/-- The bias: minus the slope times the distance. -/
theorem bias_read (i : S4x2x4x8192x8192.Idx) :
    val_main_v49 (F := Ideal) i = ((-slope (i 2).val * |((i 3).val : ℝ) - ((i 4).val : ℝ)| : ℝ) : EReal) := by
  rw [val_main_v49_apply, val_main_v48_apply, val_main_v47_apply, val_main_v45_apply, val_main_v36_apply, val_main_v35_apply,
    val_main_v46_apply, val_main_v44_apply, val_main_v43_apply, val_main_v42_apply, val_main_v41_apply, val_main_v39_apply,
    val_main_v40_apply, val_main_v37_apply, val_main_v38_apply, val_main_v33_apply, val_main_v33_apply, slope_read]
  have h3 : (i 3).val < 8192 := (i 3).isLt
  have h4 : (i 4).val < 8192 := (i 4).isLt
  refine Eq.trans (b := ((-slope (i 2).val : ℝ) : EReal) * ((|((i 3).val : ℝ) - ((i 4).val : ℝ)| : ℝ) : EReal)) ?_ (EReal.coe_mul _ _).symm
  refine congrArg (((-slope (i 2).val : ℝ) : EReal) * ·) ?_
  show (((IntOp.absi (IntOp.subi (BitVec.ofNat 32 (i 3).val) (BitVec.ofNat 32 (i 4).val))).toInt : ℝ) : EReal) = _
  rw [dist_read _ _ h3 h4]
  push_cast
  rfl

/-- The scores. -/
theorem score_read (i : S4x2x4x8192x8192.Idx) :
    val_main_v50 x0 i = (rscore P (i 0).val (i 2).val (i 1).val (i 3).val (i 4).val : EReal) := by
  rw [val_main_v50_apply, val_main_v34_apply, bias_read, rscore, EReal.coe_add, coe_sum]
  refine congrArg (· + _) (Finset.sum_congr rfl fun k _ => ?_)
  rw [q_read x0 P hP, k_read x0 P hP, EReal.coe_mul]

/-- A row's maximum is a real number. -/
theorem max_read (i : S4x2x4x8192.Idx) : ∃ ν : ℝ, val_main_v53 x0 i = (ν : EReal) := by
  obtain ⟨ν, hν⟩ := exists_coe_fold (n := 8192) (by norm_num) fun k => rscore P (i 0).val (i 2).val (i 1).val (i 3).val k.val
  refine ⟨ν, ?_⟩
  rw [val_main_v53_apply, val_main_v52_apply, ← hν]
  unfold val_main_v51
  have e : val_main_v50 x0 = fun i => (rscore P (i 0).val (i 2).val (i 1).val (i 3).val (i 4).val : EReal) := funext fun i => score_read x0 P hP i
  rw [e]
  pointwise
  rw [show val_main_cst_7 (F := Ideal) (idx_main_v52 i) = ⊥ from negInf, show val_main_cst_6 (F := Ideal) (Shape.Idx.first h_S_) = ⊥ from negInf]
  exact max_eq_right bot_le

/-- A row's softmax weights: the shifted exponentials over their sum. -/
theorem weight_read (b : Fin 4) (j : Fin 2) (h : Fin 4) (n : Fin 8192) :
    ∃ ν : ℝ, ∀ i : S4x2x4x8192x8192.Idx, (i 0).val = b.val → (i 1).val = j.val → (i 2).val = h.val → (i 3).val = n.val → val_main_v61 x0 i
      = ((Real.exp (rscore P b h j n (i 4).val - ν) / ∑ k ∈ Finset.range 8192, Real.exp (rscore P b h j n k - ν) : ℝ) : EReal) := by
  obtain ⟨ν, hν⟩ := max_read x0 P hP (ix4 b j h n)
  refine ⟨ν, fun i e0 e1 e2 e3 => ?_⟩
  have hM : ∀ i : S4x2x4x8192x8192.Idx, (i 0).val = b.val → (i 1).val = j.val → (i 2).val = h.val → (i 3).val = n.val →
      val_main_v57 x0 i = Ideal.exp ((rscore P b h j n (i 4).val : EReal) - (ν : EReal)) := by
    intro i e0 e1 e2 e3
    rw [val_main_v57_apply, val_main_v56_apply, val_main_v55_apply, val_main_v54_apply, score_read x0 P hP, e0, e1, e2, e3,
      show idx_main_v54 (idx_main_v55 i) = ix4 b j h n from by
        funext a
        fin_cases a
        · exact Fin.ext e0
        · exact Fin.ext e1
        · exact Fin.ext e2
        · exact Fin.ext e3, hν]
    rfl
  rw [val_main_v61_apply, val_main_v60_apply, val_main_v59_apply, val_main_v58_apply, hM i e0 e1 e2 e3,
    show val_main_cst_8 (F := Ideal) (Shape.Idx.first h_S_) = 0 from Ideal.ofBits_zero_f32, zero_add,
    Finset.sum_congr rfl fun k _ => hM (idx_main_v58 (idx_main_v59 (idx_main_v60 i)) k) e0 e1 e2 e3]
  exact softmax_weight (n := 8192) (by norm_num) (rscore P b h j n) (fun k => (rscore P b h j n k.val : EReal)) (fun _ => rfl) ν ν rfl ⟨(i 4).val, (i 4).isLt⟩

omit hP in
/-- The weight of the second map. -/
theorem lam_read (i : S_.Idx) : val_main_v23 (F := Ideal) x1 i = lamOf x1 := by
  have e1 : ∑ j : S64.Idx, val_main_v12 (F := Ideal) x1 j = ∑ x : Fin 64, x1 (ix2 0 x) * x1 (ix2 1 x) := by
    refine Fintype.sum_equiv ⟨fun j => j 0, fun x => ix1 x, fun j => by funext a; fin_cases a; rfl, fun x => rfl⟩ _ _ fun j => ?_
    rw [val_main_v12_apply, val_main_v9_apply, val_main_v8_apply, val_main_v11_apply, val_main_v10_apply]
    have h0 : (j 0).val < 64 := (j 0).isLt
    refine congrArg₂ (fun a b : S4x64.Idx => x1 a * x1 b) ?_ ?_ <;>
    · funext a
      fin_cases a
      · rfl
      · exact Fin.ext (Nat.mod_eq_of_lt h0)
  have e2 : ∑ j : S64.Idx, val_main_v19 (F := Ideal) x1 j = ∑ x : Fin 64, x1 (ix2 2 x) * x1 (ix2 3 x) := by
    refine Fintype.sum_equiv ⟨fun j => j 0, fun x => ix1 x, fun j => by funext a; fin_cases a; rfl, fun x => rfl⟩ _ _ fun j => ?_
    rw [val_main_v19_apply, val_main_v16_apply, val_main_v15_apply, val_main_v18_apply, val_main_v17_apply]
    have h0 : (j 0).val < 64 := (j 0).isLt
    refine congrArg₂ (fun a b : S4x64.Idx => x1 a * x1 b) ?_ ?_ <;>
    · funext a
      fin_cases a
      · rfl
      · exact Fin.ext (Nat.mod_eq_of_lt h0)
  rw [val_main_v23_apply, val_main_v22_apply, val_main_v14_apply, val_main_v21_apply, val_main_v13_apply, val_main_v20_apply, e1, e2,
    show val_main_cst (F := Ideal) (Shape.Idx.first h_S_) = 0 from Ideal.ofBits_zero_f32,
    show val_main_cst_0 (F := Ideal) (Shape.Idx.first h_S_) = 0 from Ideal.ofBits_zero_f32, zero_add, zero_add]
  rfl

omit hP in
/-- The weight of the second map is a real number where its four vectors are. -/
theorem lam_real (h1 : ∀ i, ∃ r : ℝ, x1 i = (r : EReal)) : ∃ l : ℝ, lamOf x1 = (l : EReal) := by
  choose r hr using h1
  obtain ⟨c, hc⟩ : ∃ c : ℝ, Ideal.ofBits .f32 1045220557#32 = (c : EReal) := ⟨_, by simp [Ideal.ofBits, Ideal.ieee, -EReal.coe_mul]; rfl⟩
  unfold lamOf
  rw [hc]
  simp only [hr, ← EReal.coe_mul, ← coe_sum, Ideal.exp_coe, ← EReal.coe_sub, ← EReal.coe_add]
  exact ⟨_, rfl⟩

/-- The difference of the two maps, applied to the values. -/
theorem out_read (h1 : ∀ i, ∃ r : ℝ, x1 i = (r : EReal)) (i : S4x8192x4x128.Idx) :
    val_main_v70 x0 x1 i = (rmap P (i 0).val (i 2).val 0 (i 1).val (i 3).val : EReal)
      - lamOf x1 * (rmap P (i 0).val (i 2).val 1 (i 1).val (i 3).val : EReal) := by
  obtain ⟨l, hl⟩ := lam_real x1 h1
  obtain ⟨ν0, hν0⟩ := weight_read x0 P hP (i 0) 0 (i 2) (i 1)
  obtain ⟨ν1, hν1⟩ := weight_read x0 P hP (i 0) 1 (i 2) (i 1)
  have h0 : (i 0).val < 4 := (i 0).isLt
  have h1 : (i 1).val < 8192 := (i 1).isLt
  have h2 : (i 2).val < 4 := (i 2).isLt
  rw [val_main_v70_apply, val_main_v69_apply, hl]
  set w0 : ℕ → ℝ := fun k => Real.exp (rscore P (i 0).val (i 2).val 0 (i 1).val k - ν0) / ∑ k ∈ Finset.range 8192, Real.exp (rscore P (i 0).val (i 2).val 0 (i 1).val k - ν0) with hw0
  set w1 : ℕ → ℝ := fun k => Real.exp (rscore P (i 0).val (i 2).val 1 (i 1).val k - ν1) / ∑ k ∈ Finset.range 8192, Real.exp (rscore P (i 0).val (i 2).val 1 (i 1).val k - ν1) with hw1
  have hk : ∀ k : Fin 8192, val_main_v7 (F := Ideal) x0 (lidx_main_v69 (idx_main_v70 i) k) * val_main_v68 (F := Ideal) x0 x1 (ridx_main_v69 (idx_main_v70 i) k)
      = ((w0 k.val * P (8192 * (i 0).val + k.val) (1024 + 128 * (i 2).val + (i 3).val)
          - l * (w1 k.val * P (8192 * (i 0).val + k.val) (1024 + 128 * (i 2).val + (i 3).val)) : ℝ) : EReal) := by
    intro k
    have hk := k.isLt
    rw [v_read x0 P hP, val_main_v68_apply, val_main_v67_apply, val_main_v66_apply, lam_read, hl, val_main_v63_apply, val_main_v62_apply,
      val_main_v65_apply, val_main_v64_apply, hν0 _ (by simp only [idx_main_v62, idx_main_v63, ridx_main_v69, idx_main_v70]; omega)
        (by rfl) (by simp only [idx_main_v62, idx_main_v63, ridx_main_v69, idx_main_v70]; omega)
        (by simp only [idx_main_v62, idx_main_v63, ridx_main_v69, idx_main_v70]; omega),
      hν1 _ (by simp only [idx_main_v64, idx_main_v65, ridx_main_v69, idx_main_v70]; omega)
        (by rfl) (by simp only [idx_main_v64, idx_main_v65, ridx_main_v69, idx_main_v70]; omega)
        (by simp only [idx_main_v64, idx_main_v65, ridx_main_v69, idx_main_v70]; omega)]
    have ek0 : (idx_main_v62 (idx_main_v63 (ridx_main_v69 (idx_main_v70 i) k)) 4).val = k.val := by
      simp only [idx_main_v62, idx_main_v63, ridx_main_v69, idx_main_v70]; omega
    rw [ek0]
    show (_ : EReal) * ((w0 k.val : EReal) - (l : EReal) * (w1 k.val : EReal)) = _
    rw [← EReal.coe_mul, ← EReal.coe_sub, ← EReal.coe_mul]
    refine congrArg _ ?_
    show P (8192 * (i 0).val + k.val) (1024 + 128 * (i 2).val + (i 3).val) * _ = _
    ring
  rw [Finset.sum_congr rfl fun k _ => hk k, ← coe_sum, Finset.sum_sub_distrib, ← Finset.mul_sum, ← EReal.coe_mul, ← EReal.coe_sub]
  refine congrArg _ (congrArg₂ (fun a b : ℝ => a - l * b) ?_ ?_)
  · exact sum_weight (n := 8192) (rscore P (i 0).val (i 2).val 0 (i 1).val) (fun k (_ : Unit) => P (8192 * (i 0).val + k) (1024 + 128 * (i 2).val + (i 3).val)) ν0 ()
  · exact sum_weight (n := 8192) (rscore P (i 0).val (i 2).val 1 (i 1).val) (fun k (_ : Unit) => P (8192 * (i 0).val + k) (1024 + 128 * (i 2).val + (i 3).val)) ν1 ()

/-- The reference's result is the kernel's. -/
theorem ref_eq (h1 : ∀ i, ∃ r : ℝ, x1 i = (r : EReal)) : val_main_v87 x0 x1 x2 = Cert.Kernel9Ideal.Flash.G P x1 (fun x => x2 (ix1 x)) := by
  funext i
  have b0 : (i 0).val < 32768 := (i 0).isLt
  have b1 : (i 1).val < 512 := (i 1).isLt
  rw [val_main_v87_apply, val_main_v86_apply, val_main_v85_apply, val_main_v84_apply, val_main_v83_apply, val_main_v82_apply, val_main_v81_apply,
    val_main_v80_apply, val_main_v79_apply, val_main_v78_apply, val_main_v77_apply, val_main_v76_apply, val_main_v75_apply, val_main_v74_apply,
    val_main_v73_apply, val_main_v72_apply, show val_main_cst_9 (F := Ideal) (Shape.Idx.first h_S_) = 0 from Ideal.ofBits_zero_f32, zero_add]
  simp only [val_main_v71_apply, out_read x0 x1 P hP h1]
  unfold Cert.Kernel9Ideal.Flash.G rout normed
  have c0 : (idx_main_v86 i 0).val = (i 0).val / 8192 := by simp only [idx_main_v86]; omega
  have c1 : (idx_main_v86 i 1).val = (i 0).val % 8192 := by simp only [idx_main_v86]; omega
  have c2 : (idx_main_v86 i 2).val = (i 1).val / 128 := by simp only [idx_main_v86]; omega
  have c3 : (idx_main_v86 i 3).val = (i 1).val % 128 := by simp only [idx_main_v86]; omega
  rw [← c0, ← c1, ← c2]
  have hx : idx_main_v81 (idx_main_v82 (idx_main_v86 i)) = ix1 ⟨(i 1).val % 128, Nat.mod_lt _ (by decide)⟩ := by
    funext a; fin_cases a; exact Fin.ext c3
  rw [hx]
  simp only [← c3]
  rfl

end Cert.Reference9Ideal.Flash
-- ==== Proof.SampleDiffClaim.lean ====
module

public import proofs.«01_k».proof.Defs
public import proofs.«01_k».proof.Proof.Finite
public import proofs.«01_k».proof.Proof.SampleArray
public import proofs.«01_k».proof.Proof.SampleRefRead
public import proofs.«01_k».proof.Proof.Gen.Kernel9Ideal
public import proofs.«01_k».proof.Proof.Gen.Reference9Ideal
public import proofs.«01_k».proof.Proof.Gen.Reference9Ideal.Run
public import Idealize.ShloMosaic.Lib.Quiescent
public import Idealize.ShloMosaic.Lib.Claim

@[expose] public section

set_option maxRecDepth 16384

noncomputable section

/-! The sample: the differential attention's kernel computes what its reference does. -/

namespace Cert.SampleDiffClaim

open Idealize.ShloMosaic Idealize.SL.Sem Idealize.ShloMosaic.Tactic

/-- The side conditions of the precondition. -/
theorem facts : Cert.Pre_finite_sample_inputs.Facts where
  bitsLt_bf16_f32 := by decide
  bcast_S_S32768x1536 := by decide
  bcast_S_S4x64 := by decide

open Cert.Pre_finite_sample_inputs in
/-- The precondition: the projected tokens and the four vectors are real numbers. -/
theorem real_of_pre [hf : Cert.Pre_finite_sample_inputs.Facts] (x0 : FVec Ideal S32768x1536 .bf16) (x1 : FVec Ideal S4x64 .f32) (x2 : FVec Ideal S128 .f32)
    (h0 : (fn (F := Ideal) x0 x1 x2).1 = fun _ => 1#1) (h1 : (fn (F := Ideal) x0 x1 x2).2 = fun _ => 1#1) :
    (∀ i, ∃ r : ℝ, x0 i = (r : EReal)) ∧ ∀ i, ∃ r : ℝ, x1 i = (r : EReal) := by
  refine ⟨fun i => Cert.Finite.real_of_lt ?_, fun i => Cert.Finite.real_of_lt ?_⟩
  · have := congrFun h0 i
    rw [← Cert.Finite.posInf]
    exact this
  · have := congrFun h1 i
    rw [← Cert.Finite.posInf]
    exact this

/-- The reference runs, keeps its arguments and ends with no semaphore up. -/
theorem frame_reference (m : (ℓ : Loc Cert.Reference9Ideal.nD Cert.Reference9Ideal.τ Cert.Reference9Ideal.sig) → Buf (Elt Ideal) ℓ)
    (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0) :=
  (θ_run _ _ _).mono (fun r h => ⟨fun c => (h c).2, sem_eq_zero_of_no_sems (by decide) _⟩) (Cert.Reference9Ideal.Value.run m ρ)

/-- The kernel's ideal reading computes what the reference does, for projected tokens and vectors that are real numbers. -/
theorem algebraic : Cert.algebraic_Kernel9Ideal_Reference9Ideal_pre_finite_sample_inputs (hKernel9Ideal := Cert.Kernel9Ideal.Gen.facts)
    (hReference9Ideal := Cert.Reference9Ideal.Gen.facts) (hPre_finite_sample_inputs := facts) :=
  fun m ρ m' ρ' hpre hag => by
  have hr := fun c => real_of_pre (hf := facts) _ _ _ (hpre c).1 (hpre c).2
  choose P0 hP0 using fun c => (hr c).1
  let P : Dev Cert.Kernel9Ideal.nD → ℕ → ℕ → ℝ := fun c t x => if h : t < 32768 ∧ x < 1536 then P0 c (ix2 ⟨t, h.1⟩ ⟨x, h.2⟩) else 0
  have hP : ∀ (c : Dev Cert.Kernel9Ideal.nD) (t : Fin 32768) (x : Fin 1536), m ((c.tc : Thread Cert.Kernel9Ideal.nD Cert.Kernel9Ideal.τ).loc Cert.Kernel9Ideal.main_arg0) (ix2 t x) = (P c t.val x.val : EReal) :=
    fun c t x => by
      rw [show P c t.val x.val = P0 c (ix2 t x) from dif_pos ⟨t.isLt, x.isLt⟩]
      exact hP0 c (ix2 t x)
  refine ⟨fun c => Cert.Kernel9Ideal.Flash.G (P c) (m ((c.tc : Thread Cert.Kernel9Ideal.nD Cert.Kernel9Ideal.τ).loc Cert.Kernel9Ideal.main_arg1))
      (fun x => m ((c.tc : Thread Cert.Kernel9Ideal.nD Cert.Kernel9Ideal.τ).loc Cert.Kernel9Ideal.main_arg2) (ix1 x)),
    (θ_run _ _ _).mono (fun _ h c => ⟨(h c).1.trans (Cert.Kernel9Ideal.Flash.arr_eq m c (P c) (hP c)), (h c).2⟩) (Cert.Kernel9Ideal.Value.run_blocks m ρ),
    (θ_run _ _ _).mono (fun _ h c => ⟨(h c).1.trans ?_, (h c).2⟩) (Cert.Reference9Ideal.Value.run m' ρ')⟩
  rw [Cert.Reference9Ideal.Read.val_main_v87_eq, (hag c).1, (hag c).2.1, (hag c).2.2]
  exact Cert.Reference9Ideal.Flash.ref_eq _ _ _ (P c) (hP c) (hr c).2

end Cert.SampleDiffClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Reference7Ideal.Read
public import proofs.«01_k».proof.Proof.Gen.Reference7Ideal.Run
public import proofs.«01_k».proof.Proof.Gen.Reference7Ideal
public import proofs.«01_k».proof.Proof.Gen.Kernel7Ideal.Value
public import proofs.«01_k».proof.Proof.Gen.Kernel7Ideal.Frame
public import proofs.«01_k».proof.Proof.Gen.Kernel7Ideal.Points
public import proofs.«01_k».proof.Proof.Gen.Kernel7Ideal.Launch
public import proofs.«01_k».proof.Proof.Gen.Kernel7Ideal.Skeleton
public import proofs.«01_k».proof.Proof.Gen.Kernel7Ideal
public import proofs.«01_k».proof.Proof.Gen.Kernel7.Frame
public import proofs.«01_k».proof.Proof.Gen.Kernel7.Points
public import proofs.«01_k».proof.Proof.Gen.Kernel7.Launch
public import proofs.«01_k».proof.Proof.Gen.Kernel7.Skeleton
public import proofs.«01_k».proof.Proof.Gen.Kernel7
public import proofs.«01_k».proof.Proof.Gen.Kernel8
public import proofs.«01_k».proof.Proof.Gen.Kernel8.Skeleton
public import proofs.«01_k».proof.Proof.Gen.Kernel8.Loops
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Loops
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Loops
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Loops
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Array
public import proofs.«01_k».proof.Proof.RefRead
public import proofs.«01_k».proof.Proof.Finite
public import proofs.«01_k».proof.Proof.MergeClaim
public import proofs.«01_k».proof.Proof.MlaClaim
public import proofs.«01_k».proof.Proof.ProjClaim
public import proofs.«01_k».proof.Proof.SampleMergeClaim
public import proofs.«01_k».proof.Proof.MemClaim
public import proofs.«01_k».proof.Proof.SampleMemClaim
public import proofs.«01_k».proof.Proof.SampleMlaClaim
public import proofs.«01_k».proof.Proof.SampleDiffClaim
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Idealize.ShloMosaic.Tactic

/-- The reference runs, keeps its arguments and ends with no semaphore up. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) _⟩) (Cert.ReferenceIdeal.Value.run m ρ)

/-- The kernel's ideal reading computes what the reference does, for projected tokens and vectors that are real numbers. -/
theorem algebraic : Cert.algebraic_KernelIdeal_ReferenceIdeal_pre_finite_inputs (hPre_finite_inputs := Cert.Finite.facts) :=
  fun m ρ m' ρ' hpre hag => by
  have hr := fun c => Cert.Finite.real_of_pre (hf := Cert.Finite.facts) _ _ _ (hpre c).1 (hpre c).2
  choose P0 hP0 using fun c => (hr c).1
  let P : Dev Cert.KernelIdeal.nD → ℕ → ℕ → ℝ := fun c t x => if h : t < 16384 ∧ x < 1536 then P0 c (ix2 ⟨t, h.1⟩ ⟨x, h.2⟩) else 0
  have hP : ∀ (c : Dev Cert.KernelIdeal.nD) (t : Fin 16384) (x : Fin 1536), m ((c.tc : Thread Cert.KernelIdeal.nD Cert.KernelIdeal.τ).loc Cert.KernelIdeal.main_arg0) (ix2 t x) = (P c t.val x.val : EReal) :=
    fun c t x => by
      rw [show P c t.val x.val = P0 c (ix2 t x) from dif_pos ⟨t.isLt, x.isLt⟩]
      exact hP0 c (ix2 t x)
  refine ⟨fun c => Cert.KernelIdeal.Flash.G (P c) (m ((c.tc : Thread Cert.KernelIdeal.nD Cert.KernelIdeal.τ).loc Cert.KernelIdeal.main_arg1))
      (fun x => m ((c.tc : Thread Cert.KernelIdeal.nD Cert.KernelIdeal.τ).loc Cert.KernelIdeal.main_arg2) (ix1 x)),
    (θ_run _ _ _).mono (fun _ h c => ⟨(h c).1.trans (Cert.KernelIdeal.Flash.arr_eq m c (P c) (hP c)), (h c).2⟩) (Cert.KernelIdeal.Value.run_blocks m ρ),
    (θ_run _ _ _).mono (fun _ h c => ⟨(h c).1.trans ?_, (h c).2⟩) (Cert.ReferenceIdeal.Value.run m' ρ')⟩
  rw [Cert.ReferenceIdeal.Read.val_main_v87_eq, (hag c).1, (hag c).2.1, (hag c).2.2]
  exact Cert.ReferenceIdeal.Flash.ref_eq _ _ _ (P c) (hP c) (hr c).2

/-- Everything claimed: for each program, its frames, and its ideal reading equal to its reference's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Finite.facts, Cert.MlaClaim.facts, Cert.MemClaim.facts, Cert.SampleMemClaim.facts, Cert.SampleMlaClaim.facts, Cert.SampleDiffClaim.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.Kernel2.Gen.frame m ρ, fun m ρ _ => Cert.Kernel2Ideal.Gen.frame m ρ, Cert.MergeClaim.frame_reference,
  fun m ρ _ => Cert.Kernel3.Gen.frame m ρ, fun m ρ _ => Cert.Kernel3Ideal.Gen.frame m ρ, fun m ρ _ => Cert.Kernel3Ideal.Gen.frame m ρ,
  Cert.MlaClaim.frame_reference, fun m ρ _ => Cert.MlaClaim.frame_reference m ρ trivial,
  fun m ρ _ => Cert.Kernel4.Gen.frame m ρ, fun m ρ _ => Cert.Kernel4Ideal.Gen.frame m ρ, Cert.ProjClaim.frame_reference,
  fun m ρ _ => Cert.Kernel5.Gen.frame m ρ, fun m ρ _ => Cert.Kernel5Ideal.Gen.frame m ρ, Cert.SampleMergeClaim.frame_reference,
  fun m ρ _ => Cert.Kernel6.Gen.frame m ρ, fun m ρ _ => Cert.Kernel6Ideal.Gen.frame m ρ, fun m ρ _ => Cert.Kernel6Ideal.Gen.frame m ρ,
  Cert.MemClaim.frame_reference, fun m ρ _ => Cert.MemClaim.frame_reference m ρ trivial,
  fun m ρ _ => Cert.Kernel7.Gen.frame m ρ, fun m ρ _ => Cert.Kernel7Ideal.Gen.frame m ρ, fun m ρ _ => Cert.Kernel7Ideal.Gen.frame m ρ,
  Cert.SampleMemClaim.frame_reference, fun m ρ _ => Cert.SampleMemClaim.frame_reference m ρ trivial,
  fun m ρ _ => Cert.Kernel8.Gen.frame m ρ, fun m ρ _ => Cert.Kernel8Ideal.Gen.frame m ρ, fun m ρ _ => Cert.Kernel8Ideal.Gen.frame m ρ,
  Cert.SampleMlaClaim.frame_reference, fun m ρ _ => Cert.SampleMlaClaim.frame_reference m ρ trivial,
  fun m ρ _ => Cert.Kernel9.Gen.frame m ρ, fun m ρ _ => Cert.Kernel9Ideal.Gen.frame m ρ, fun m ρ _ => Cert.Kernel9Ideal.Gen.frame m ρ,
  fun m ρ _ => Cert.SampleDiffClaim.frame_reference m ρ, fun m ρ _ => Cert.SampleDiffClaim.frame_reference m ρ,
  trivial, algebraic, trivial, Cert.MergeClaim.algebraic, trivial, Cert.MlaClaim.algebraic,
  trivial, Cert.ProjClaim.algebraic, trivial, Cert.SampleMergeClaim.algebraic,
  trivial, Cert.MemClaim.algebraic, trivial, Cert.SampleMemClaim.algebraic,
  trivial, Cert.SampleMlaClaim.algebraic, trivial, Cert.SampleDiffClaim.algebraic⟩

end Cert.Proof

end
